-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  IdealRules.named_const.Statement Cert.KernelIdeal.κ "q_scale" .f32 0x3E38AA3B#32 ((8⁻¹ * (Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v35) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  IdealRules.named_const.Statement Cert.Kernel4Ideal.κ "q_scale" .f32 0x3E38AA3B#32 ((8⁻¹ * (Real.log 2)⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)) (v4 : (c : Dev Cert.Kernel4Ideal.nD) → Buf (Elt Ideal) ((c.tc : Thread Cert.Kernel4Ideal.nD Cert.Kernel4Ideal.τ).loc Cert.Kernel4Ideal.main_v0_4)) (v5 : (c : Dev Cert.Kernel4Ideal.nD) → Buf (Elt Ideal) ((c.tc : Thread Cert.Kernel4Ideal.nD Cert.Kernel4Ideal.τ).loc Cert.Kernel4Ideal.main_v0_5)) (v6 : (c : Dev Cert.Kernel4Ideal.nD) → Buf (Elt Ideal) ((c.tc : Thread Cert.Kernel4Ideal.nD Cert.Kernel4Ideal.τ).loc Cert.Kernel4Ideal.main_v0_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_v0_4) = v4 c
          ∧ r.2.mem ((c.tc : Thread Cert.Kernel4Ideal.nD Cert.Kernel4Ideal.τ).loc Cert.Kernel4Ideal.main_v0_5) = v5 c
          ∧ r.2.mem ((c.tc : Thread Cert.Kernel4Ideal.nD Cert.Kernel4Ideal.τ).loc Cert.Kernel4Ideal.main_v0_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v37) = v0 c
          ∧ r.2.mem ((c.tc : Thread Cert.Reference4Ideal.nD Cert.Reference4Ideal.τ).loc Cert.Reference4Ideal.main_v38) = v1 c
          ∧ r.2.mem ((c.tc : Thread Cert.Reference4Ideal.nD Cert.Reference4Ideal.τ).loc Cert.Reference4Ideal.main_v39) = v2 c
          ∧ r.2.mem ((c.tc : Thread Cert.Reference4Ideal.nD Cert.Reference4Ideal.τ).loc Cert.Reference4Ideal.main_v20) = v3 c
          ∧ r.2.mem ((c.tc : Thread Cert.Reference4Ideal.nD Cert.Reference4Ideal.τ).loc Cert.Reference4Ideal.main_v22) = v4 c
          ∧ r.2.mem ((c.tc : Thread Cert.Reference4Ideal.nD Cert.Reference4Ideal.τ).loc Cert.Reference4Ideal.main_v23) = v5 c
          ∧ r.2.mem ((c.tc : Thread Cert.Reference4Ideal.nD Cert.Reference4Ideal.τ).loc Cert.Reference4Ideal.main_v24) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v22) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  IdealRules.named_const.Statement Cert.Kernel6Ideal.κ "q_scale" .f32 0x3E38AA3B#32 ((8⁻¹ * (Real.log 2)⁻¹ : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)) (v4 : (c : Dev Cert.Kernel6Ideal.nD) → Buf (Elt Ideal) ((c.tc : Thread Cert.Kernel6Ideal.nD Cert.Kernel6Ideal.τ).loc Cert.Kernel6Ideal.main_v0_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_v0_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v24) = v0 c
          ∧ r.2.mem ((c.tc : Thread Cert.Reference6Ideal.nD Cert.Reference6Ideal.τ).loc Cert.Reference6Ideal.main_v17) = v1 c
          ∧ r.2.mem ((c.tc : Thread Cert.Reference6Ideal.nD Cert.Reference6Ideal.τ).loc Cert.Reference6Ideal.main_v19) = v2 c
          ∧ r.2.mem ((c.tc : Thread Cert.Reference6Ideal.nD Cert.Reference6Ideal.τ).loc Cert.Reference6Ideal.main_v25) = v3 c
          ∧ r.2.mem ((c.tc : Thread Cert.Reference6Ideal.nD Cert.Reference6Ideal.τ).loc Cert.Reference6Ideal.main_v26) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v22) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S4x4096x8x64 : Shape := ⟨4, ![4, 4096, 8, 64]⟩
abbrev S4x16x8x64 : Shape := ⟨4, ![4, 16, 8, 64]⟩
abbrev S_ : Shape := ⟨0, ![]⟩

class Facts : Prop where
  bcast_S_S4x4096x8x64 : S_.BroadcastsInDim S4x4096x8x64 (![] : Fin 0 → Fin S4x4096x8x64.rank)
  reducesTo_S4x4096x8x64_S_d0_1_2_3 : S4x4096x8x64.ReducesTo [0, 1, 2, 3] S_
  h_S_ : 0 < S_.numel
  bcast_S_S4x16x8x64 : S_.BroadcastsInDim S4x16x8x64 (![] : Fin 0 → Fin S4x16x8x64.rank)
  reducesTo_S4x16x8x64_S_d0_1_2_3 : S4x16x8x64.ReducesTo [0, 1, 2, 3] S_

variable [Facts]

def fn {F : FTy → Type} [FloatOps F] (main_arg0 : FVec F S4x4096x8x64 .f32) (main_arg1 : FVec F S4x4096x8x64 .f32) (main_arg2 : FVec F S4x4096x8x64 .f32) (main_arg3 : FVec F S4x16x8x64 .f32) : IVec S_ 1 :=
  let main_v0 : FVec F S4x4096x8x64 .f32 := Host.absf main_arg0
  let main_cst : FVec F S_ .f32 := constant S_ .f32 0x7F800000#32
  let main_v1 : FVec F S4x4096x8x64 .f32 := broadcastInDim S4x4096x8x64 ![] bcast_S_S4x4096x8x64 main_cst
  let main_v2 : IVec S4x4096x8x64 1 := cmpf .olt main_v0 main_v1
  let main_c : IVec S_ 1 := constantI S_ 1 1#1
  let main_v3 : IVec S_ 1 := (fun x v => Host.reduce IntOp.andi x v reducesTo_S4x4096x8x64_S_d0_1_2_3 h_S_) main_v2 main_c
  let main_v4 : FVec F S4x4096x8x64 .f32 := Host.absf main_arg1
  let main_cst_0 : FVec F S_ .f32 := constant S_ .f32 0x7F800000#32
  let main_v5 : FVec F S4x4096x8x64 .f32 := broadcastInDim S4x4096x8x64 ![] bcast_S_S4x4096x8x64 main_cst_0
  let main_v6 : IVec S4x4096x8x64 1 := cmpf .olt main_v4 main_v5
  let main_c_1 : IVec S_ 1 := constantI S_ 1 1#1
  let main_v7 : IVec S_ 1 := (fun x v => Host.reduce IntOp.andi x v reducesTo_S4x4096x8x64_S_d0_1_2_3 h_S_) main_v6 main_c_1
  let main_v8 : IVec S_ 1 := andi main_v3 main_v7
  let main_v9 : FVec F S4x16x8x64 .f32 := Host.absf main_arg3
  let main_cst_2 : FVec F S_ .f32 := constant S_ .f32 0x7F800000#32
  let main_v10 : FVec F S4x16x8x64 .f32 := broadcastInDim S4x16x8x64 ![] bcast_S_S4x16x8x64 main_cst_2
  let main_v11 : IVec S4x16x8x64 1 := cmpf .olt main_v9 main_v10
  let main_c_3 : IVec S_ 1 := constantI S_ 1 1#1
  let main_v12 : IVec S_ 1 := (fun x v => Host.reduce IntOp.andi x v reducesTo_S4x16x8x64_S_d0_1_2_3 h_S_) main_v11 main_c_3
  let main_v13 : IVec S_ 1 := andi main_v8 main_v12
  main_v13
-- ==== Kernel.lean ====
abbrev S4x4096x8x64 : Shape := ⟨4, ![4, 4096, 8, 64]⟩
abbrev S4x16x8x64 : Shape := ⟨4, ![4, 16, 8, 64]⟩
abbrev S4x4096x512 : Shape := ⟨3, ![4, 4096, 512]⟩
abbrev S4x512x4096 : Shape := ⟨3, ![4, 512, 4096]⟩
abbrev S4x16x256x512 : Shape := ⟨4, ![4, 16, 256, 512]⟩
abbrev S4x16x256x8x64 : Shape := ⟨5, ![4, 16, 256, 8, 64]⟩
abbrev S4x16x8x64x256 : Shape := ⟨5, ![4, 16, 8, 64, 256]⟩
abbrev S_ : Shape := ⟨0, ![]⟩
abbrev S4x16x8x16x256 : Shape := ⟨5, ![4, 16, 8, 16, 256]⟩
abbrev S4x16x8x80x256 : Shape := ⟨5, ![4, 16, 8, 80, 256]⟩
abbrev S4x16x640x256 : Shape := ⟨4, ![4, 16, 640, 256]⟩
abbrev S4x16x512 : Shape := ⟨3, ![4, 16, 512]⟩
abbrev S1x128x512 : Shape := ⟨3, ![1, 128, 512]⟩
abbrev S1x16x256x128 : Shape := ⟨4, ![1, 16, 256, 128]⟩
abbrev S1x16x160x256 : Shape := ⟨4, ![1, 16, 160, 256]⟩
abbrev S1x16x128 : Shape := ⟨3, ![1, 16, 128]⟩
abbrev S1x512x128 : Shape := ⟨3, ![1, 512, 128]⟩
abbrev S2x16x512 : Shape := ⟨3, ![2, 16, 512]⟩
abbrev S2x18x256x512 : Shape := ⟨4, ![2, 18, 256, 512]⟩
abbrev S128x512 : Shape := ⟨2, ![128, 512]⟩
abbrev S16x128 : Shape := ⟨2, ![16, 128]⟩
abbrev S16x512 : Shape := ⟨2, ![16, 512]⟩
abbrev S512 : Shape := ⟨1, ![512]⟩
abbrev S1x512 : Shape := ⟨2, ![1, 512]⟩
abbrev S1x16x512 : Shape := ⟨3, ![1, 16, 512]⟩
abbrev S256x512 : Shape := ⟨2, ![256, 512]⟩
abbrev S1x1x256x128 : Shape := ⟨4, ![1, 1, 256, 128]⟩
abbrev S256x128 : Shape := ⟨2, ![256, 128]⟩
abbrev S1x1x256x512 : Shape := ⟨4, ![1, 1, 256, 512]⟩
abbrev S1x1x512 : Shape := ⟨3, ![1, 1, 512]⟩
abbrev S1x1x160x256 : Shape := ⟨4, ![1, 1, 160, 256]⟩
abbrev S160x256 : Shape := ⟨2, ![160, 256]⟩
abbrev S80x256 : Shape := ⟨2, ![80, 256]⟩
abbrev S80x512 : Shape := ⟨2, ![80, 512]⟩
abbrev S64x512 : Shape := ⟨2, ![64, 512]⟩
abbrev S512x128 : Shape := ⟨2, ![512, 128]⟩

abbrev nBuf : Space → Nat
  | .hbm => 17
  | .vmem => 12
  | .smem => 0
  | _ => 0

abbrev bufTy : (tb : Table) → Fin (tcTables nBuf tb) → BufTy
  | .hbm, ⟨0, _⟩ => ⟨S4x4096x8x64, .f32⟩
  | .hbm, ⟨1, _⟩ => ⟨S4x4096x8x64, .f32⟩
  | .hbm, ⟨2, _⟩ => ⟨S4x4096x8x64, .f32⟩
  | .hbm, ⟨3, _⟩ => ⟨S4x16x8x64, .f32⟩
  | .hbm, ⟨4, _⟩ => ⟨S4x4096x512, .f32⟩
  | .hbm, ⟨5, _⟩ => ⟨S4x512x4096, .f32⟩
  | .hbm, ⟨6, _⟩ => ⟨S4x16x256x512, .f32⟩
  | .hbm, ⟨7, _⟩ => ⟨S4x16x256x512, .bf16⟩
  | .hbm, ⟨8, _⟩ => ⟨S4x16x256x8x64, .f32⟩
  | .hbm, ⟨9, _⟩ => ⟨S4x16x8x64x256, .f32⟩
  | .hbm, ⟨10, _⟩ => ⟨S_, .f32⟩
  | .hbm, ⟨11, _⟩ => ⟨S4x16x8x16x256, .f32⟩
  | .hbm, ⟨12, _⟩ => ⟨S4x16x8x80x256, .f32⟩
  | .hbm, ⟨13, _⟩ => ⟨S4x16x640x256, .f32⟩
  | .hbm, ⟨14, _⟩ => ⟨S4x16x640x256, .bf16⟩
  | .hbm, ⟨15, _⟩ => ⟨S4x16x512, .f32⟩
  | .hbm, ⟨16, _⟩ => ⟨S4x4096x512, .bf16⟩
  | .local _ .vmem, ⟨0, _⟩ => ⟨S1x128x512, .f32⟩
  | .local _ .vmem, ⟨1, _⟩ => ⟨S1x128x512, .f32⟩
  | .local _ .vmem, ⟨2, _⟩ => ⟨S1x16x256x128, .bf16⟩
  | .local _ .vmem, ⟨3, _⟩ => ⟨S1x16x256x128, .bf16⟩
  | .local _ .vmem, ⟨4, _⟩ => ⟨S1x16x160x256, .bf16⟩
  | .local _ .vmem, ⟨5, _⟩ => ⟨S1x16x160x256, .bf16⟩
  | .local _ .vmem, ⟨6, _⟩ => ⟨S1x16x128, .f32⟩
  | .local _ .vmem, ⟨7, _⟩ => ⟨S1x16x128, .f32⟩
  | .local _ .vmem, ⟨8, _⟩ => ⟨S1x512x128, .bf16⟩
  | .local _ .vmem, ⟨9, _⟩ => ⟨S1x512x128, .bf16⟩
  | .local _ .vmem, ⟨10, _⟩ => ⟨S2x16x512, .f32⟩
  | .local _ .vmem, ⟨11, _⟩ => ⟨S2x18x256x512, .f32⟩
  | _, _ => ⟨S4x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 8], ![false, false, false]⟩

def k0_off1 (i : grid0.Coords) : Fin 4 → Nat :=
  let c0_61 : Index := 0#32
  let c2_i32 : BitVec 32 := 2#32
  let arg2 : BitVec 32 := BitVec.ofNat 32 (i 2).val
  let v0 : BitVec 32 := Scalar.muli c2_i32 arg2
  let v178 : Index := Scalar.indexCast v0
  let c0_62 : Index := 0#32
  let c0_63 : Index := 0#32
  ![0, v178.toNat, 0, 0]
def k0_off2 (i : grid0.Coords) : Fin 4 → Nat :=
  let c0_65 : Index := 0#32
  let c2_i32 : BitVec 32 := 2#32
  let arg2 : BitVec 32 := BitVec.ofNat 32 (i 2).val
  let v0 : BitVec 32 := Scalar.muli c2_i32 arg2
  let c1_i32 : BitVec 32 := 1#32
  let v183 : BitVec 32 := Scalar.addi v0 c1_i32
  let v184 : Index := Scalar.indexCast v183
  let c0_66 : Index := 0#32
  let c0_67 : Index := 0#32
  ![0, v184.toNat, 0, 0]
@[reducible] def k0_t1_loop (i : grid0.Coords) : Scf.Loop 32 :=
  let c0_i32_106 : BitVec 32 := 0#32
  let c2_i32 : BitVec 32 := 2#32
  let arg2 : BitVec 32 := BitVec.ofNat 32 (i 2).val
  let v0 : BitVec 32 := Scalar.muli c2_i32 arg2
  let c4_i32 : BitVec 32 := 4#32
  let v229 : BitVec 32 := Scalar.addi v0 c4_i32
  let c1_i32_98 : BitVec 32 := 1#32
  let v230 : BitVec 32 := Scalar.subi v229 c1_i32_98
  let c0_i32_100 : BitVec 32 := 0#32
  let v232 : BitVec 1 := Scalar.cmpi .sgt v230 c0_i32_100
  let v233 : BitVec 32 := Scalar.extui v232
  let c0_i32_101 : BitVec 32 := 0#32
  let v234 : BitVec 1 := Scalar.cmpi .slt v230 c0_i32_101
  let v235 : BitVec 32 := Scalar.extui v234
  let v236 : BitVec 32 := Scalar.subi v233 v235
  let c4_i32_99 : BitVec 32 := 4#32
  let c0_i32_102 : BitVec 32 := 0#32
  let v237 : BitVec 1 := Scalar.cmpi .sgt c4_i32_99 c0_i32_102
  let v238 : BitVec 32 := Scalar.extui v237
  let c0_i32_103 : BitVec 32 := 0#32
  let v239 : BitVec 1 := Scalar.cmpi .slt c4_i32_99 c0_i32_103
  let v240 : BitVec 32 := Scalar.extui v239
  let v241 : BitVec 32 := Scalar.subi v238 v240
  let v242 : BitVec 1 := Scalar.cmpi .ne v236 v241
  let v243 : BitVec 32 := Scalar.remsi v230 c4_i32_99
  let c0_i32_104 : BitVec 32 := 0#32
  let v244 : BitVec 1 := Scalar.cmpi .ne v243 c0_i32_104
  let v245 : BitVec 1 := Scalar.andi v242 v244
  let v231 : BitVec 32 := Scalar.divsi v230 c4_i32_99
  let c1_i32_105 : BitVec 32 := 1#32
  let v246 : BitVec 32 := Scalar.subi v231 c1_i32_105
  let v247 : BitVec 32 := Scalar.select v245 v246 v231
  let v248 : BitVec 32 := Scalar.subi v247 c0_i32_106
  let c1_i32_107 : BitVec 32 := 1#32
  let v250 : BitVec 32 := Scalar.divsi v248 c1_i32_107
  let v251 : BitVec 32 := Scalar.muli v250 c1_i32_107
  let v252 : BitVec 32 := Scalar.addi c0_i32_106 v251
  let c1_i32_108 : BitVec 32 := 1#32
  ⟨c0_i32_106, v252, c1_i32_108⟩
def k0_off3 (i : grid0.Coords) (k0_t1 : Fin (k0_t1_loop i).trips) (c0_i32_154 : BitVec 32) : Fin 4 → Nat :=
  let c0_155 : Index := 0#32
  let c4_i32_153 : BitVec 32 := 4#32
  let c0_i32_106 : BitVec 32 := 0#32
  let c1_i32_108 : BitVec 32 := 1#32
  let arg10 : BitVec 32 := Scf.iv c0_i32_106 c1_i32_108 k0_t1
  let v326 : BitVec 32 := Scalar.muli c4_i32_153 arg10
  let v327 : BitVec 32 := Scalar.addi v326 c0_i32_154
  let v328 : Index := Scalar.indexCast v327
  let c0_156 : Index := 0#32
  let c0_157 : Index := 0#32
  ![0, v328.toNat, 0, 0]
def k0_off4 (i : grid0.Coords) (k0_t1 : Fin (k0_t1_loop i).trips) (c0_i32_154 : BitVec 32) : Fin 3 → Nat :=
  let c0_159 : Index := 0#32
  let c4_i32_153 : BitVec 32 := 4#32
  let c0_i32_106 : BitVec 32 := 0#32
  let c1_i32_108 : BitVec 32 := 1#32
  let arg10 : BitVec 32 := Scf.iv c0_i32_106 c1_i32_108 k0_t1
  let v326 : BitVec 32 := Scalar.muli c4_i32_153 arg10
  let v327 : BitVec 32 := Scalar.addi v326 c0_i32_154
  let v332 : Index := Scalar.indexCast v327
  let c0_160 : Index := 0#32
  ![0, v332.toNat, 0]
def k0_off5 (i : grid0.Coords) (k0_t1 : Fin (k0_t1_loop i).trips) (c0_i32_154 : BitVec 32) : Fin 4 → Nat :=
  let c0_161 : Index := 0#32
  let c4_i32_153 : BitVec 32 := 4#32
  let c0_i32_106 : BitVec 32 := 0#32
  let c1_i32_108 : BitVec 32 := 1#32
  let arg10 : BitVec 32 := Scf.iv c0_i32_106 c1_i32_108 k0_t1
  let v326 : BitVec 32 := Scalar.muli c4_i32_153 arg10
  let v327 : BitVec 32 := Scalar.addi v326 c0_i32_154
  let v337 : Index := Scalar.indexCast v327
  let c0_162 : Index := 0#32
  let c0_163 : Index := 0#32
  ![0, v337.toNat, 0, 0]
def k0_off6 (i : grid0.Coords) (k0_t1 : Fin (k0_t1_loop i).trips) (c0_i32_154 : BitVec 32) : Fin 3 → Nat :=
  let c1_166 : Index := 1#32
  let c4_i32_153 : BitVec 32 := 4#32
  let c0_i32_106 : BitVec 32 := 0#32
  let c1_i32_108 : BitVec 32 := 1#32
  let arg10 : BitVec 32 := Scf.iv c0_i32_106 c1_i32_108 k0_t1
  let v326 : BitVec 32 := Scalar.muli c4_i32_153 arg10
  let v327 : BitVec 32 := Scalar.addi v326 c0_i32_154
  let v345 : Index := Scalar.indexCast v327
  let c0_167 : Index := 0#32
  ![1, v345.toNat, 0]
def k0_off7 (i : grid0.Coords) (k0_t1 : Fin (k0_t1_loop i).trips) (c0_i32_154 : BitVec 32) : Fin 4 → Nat :=
  let c1_168 : Index := 1#32
  let c4_i32_153 : BitVec 32 := 4#32
  let c0_i32_106 : BitVec 32 := 0#32
  let c1_i32_108 : BitVec 32 := 1#32
  let arg10 : BitVec 32 := Scf.iv c0_i32_106 c1_i32_108 k0_t1
  let v326 : BitVec 32 := Scalar.muli c4_i32_153 arg10
  let v327 : BitVec 32 := Scalar.addi v326 c0_i32_154
  let v350 : Index := Scalar.indexCast v327
  let c0_169 : Index := 0#32
  let c0_170 : Index := 0#32
  ![1, v350.toNat, 0, 0]
@[reducible] def k0_t2_loop (i : grid0.Coords) : Scf.Loop 32 :=
  let c0_i32_106 : BitVec 32 := 0#32
  let c2_i32 : BitVec 32 := 2#32
  let arg2 : BitVec 32 := BitVec.ofNat 32 (i 2).val
  let v0 : BitVec 32 := Scalar.muli c2_i32 arg2
  let c4_i32 : BitVec 32 := 4#32
  let v229 : BitVec 32 := Scalar.addi v0 c4_i32
  let c1_i32_98 : BitVec 32 := 1#32
  let v230 : BitVec 32 := Scalar.subi v229 c1_i32_98
  let c0_i32_100 : BitVec 32 := 0#32
  let v232 : BitVec 1 := Scalar.cmpi .sgt v230 c0_i32_100
  let v233 : BitVec 32 := Scalar.extui v232
  let c0_i32_101 : BitVec 32 := 0#32
  let v234 : BitVec 1 := Scalar.cmpi .slt v230 c0_i32_101
  let v235 : BitVec 32 := Scalar.extui v234
  let v236 : BitVec 32 := Scalar.subi v233 v235
  let c4_i32_99 : BitVec 32 := 4#32
  let c0_i32_102 : BitVec 32 := 0#32
  let v237 : BitVec 1 := Scalar.cmpi .sgt c4_i32_99 c0_i32_102
  let v238 : BitVec 32 := Scalar.extui v237
  let c0_i32_103 : BitVec 32 := 0#32
  let v239 : BitVec 1 := Scalar.cmpi .slt c4_i32_99 c0_i32_103
  let v240 : BitVec 32 := Scalar.extui v239
  let v241 : BitVec 32 := Scalar.subi v238 v240
  let v242 : BitVec 1 := Scalar.cmpi .ne v236 v241
  let v243 : BitVec 32 := Scalar.remsi v230 c4_i32_99
  let c0_i32_104 : BitVec 32 := 0#32
  let v244 : BitVec 1 := Scalar.cmpi .ne v243 c0_i32_104
  let v245 : BitVec 1 := Scalar.andi v242 v244
  let v231 : BitVec 32 := Scalar.divsi v230 c4_i32_99
  let c1_i32_105 : BitVec 32 := 1#32
  let v246 : BitVec 32 := Scalar.subi v231 c1_i32_105
  let v247 : BitVec 32 := Scalar.select v245 v246 v231
  let v248 : BitVec 32 := Scalar.subi v247 c0_i32_106
  let c1_i32_107 : BitVec 32 := 1#32
  let v250 : BitVec 32 := Scalar.divsi v248 c1_i32_107
  let v251 : BitVec 32 := Scalar.muli v250 c1_i32_107
  let v252 : BitVec 32 := Scalar.addi c0_i32_106 v251
  let v249 : BitVec 32 := Scalar.addi c0_i32_106 v248
  let c1_i32_109 : BitVec 32 := 1#32
  ⟨v252, v249, c1_i32_109⟩
def k0_off8 (i : grid0.Coords) (k0_t2 : Fin (k0_t2_loop i).trips) (c0_i32_154 : BitVec 32) : Fin 4 → Nat :=
  let c0_155 : Index := 0#32
  let c4_i32_153 : BitVec 32 := 4#32
  let c0_i32_106 : BitVec 32 := 0#32
  let c2_i32 : BitVec 32 := 2#32
  let arg2 : BitVec 32 := BitVec.ofNat 32 (i 2).val
  let v0 : BitVec 32 := Scalar.muli c2_i32 arg2
  let c4_i32 : BitVec 32 := 4#32
  let v229 : BitVec 32 := Scalar.addi v0 c4_i32
  let c1_i32_98 : BitVec 32 := 1#32
  let v230 : BitVec 32 := Scalar.subi v229 c1_i32_98
  let c0_i32_100 : BitVec 32 := 0#32
  let v232 : BitVec 1 := Scalar.cmpi .sgt v230 c0_i32_100
  let v233 : BitVec 32 := Scalar.extui v232
  let c0_i32_101 : BitVec 32 := 0#32
  let v234 : BitVec 1 := Scalar.cmpi .slt v230 c0_i32_101
  let v235 : BitVec 32 := Scalar.extui v234
  let v236 : BitVec 32 := Scalar.subi v233 v235
  let c4_i32_99 : BitVec 32 := 4#32
  let c0_i32_102 : BitVec 32 := 0#32
  let v237 : BitVec 1 := Scalar.cmpi .sgt c4_i32_99 c0_i32_102
  let v238 : BitVec 32 := Scalar.extui v237
  let c0_i32_103 : BitVec 32 := 0#32
  let v239 : BitVec 1 := Scalar.cmpi .slt c4_i32_99 c0_i32_103
  let v240 : BitVec 32 := Scalar.extui v239
  let v241 : BitVec 32 := Scalar.subi v238 v240
  let v242 : BitVec 1 := Scalar.cmpi .ne v236 v241
  let v243 : BitVec 32 := Scalar.remsi v230 c4_i32_99
  let c0_i32_104 : BitVec 32 := 0#32
  let v244 : BitVec 1 := Scalar.cmpi .ne v243 c0_i32_104
  let v245 : BitVec 1 := Scalar.andi v242 v244
  let v231 : BitVec 32 := Scalar.divsi v230 c4_i32_99
  let c1_i32_105 : BitVec 32 := 1#32
  let v246 : BitVec 32 := Scalar.subi v231 c1_i32_105
  let v247 : BitVec 32 := Scalar.select v245 v246 v231
  let v248 : BitVec 32 := Scalar.subi v247 c0_i32_106
  let c1_i32_107 : BitVec 32 := 1#32
  let v250 : BitVec 32 := Scalar.divsi v248 c1_i32_107
  let v251 : BitVec 32 := Scalar.muli v250 c1_i32_107
  let v252 : BitVec 32 := Scalar.addi c0_i32_106 v251
  let c1_i32_109 : BitVec 32 := 1#32
  let arg10 : BitVec 32 := Scf.iv v252 c1_i32_109 k0_t2
  let v326 : BitVec 32 := Scalar.muli c4_i32_153 arg10
  let v327 : BitVec 32 := Scalar.addi v326 c0_i32_154
  let v328 : Index := Scalar.indexCast v327
  let c0_156 : Index := 0#32
  let c0_157 : Index := 0#32
  ![0, v328.toNat, 0, 0]
def k0_off9 (i : grid0.Coords) (k0_t2 : Fin (k0_t2_loop i).trips) (c0_i32_154 : BitVec 32) : Fin 3 → Nat :=
  let c0_159 : Index := 0#32
  let c4_i32_153 : BitVec 32 := 4#32
  let c0_i32_106 : BitVec 32 := 0#32
  let c2_i32 : BitVec 32 := 2#32
  let arg2 : BitVec 32 := BitVec.ofNat 32 (i 2).val
  let v0 : BitVec 32 := Scalar.muli c2_i32 arg2
  let c4_i32 : BitVec 32 := 4#32
  let v229 : BitVec 32 := Scalar.addi v0 c4_i32
  let c1_i32_98 : BitVec 32 := 1#32
  let v230 : BitVec 32 := Scalar.subi v229 c1_i32_98
  let c0_i32_100 : BitVec 32 := 0#32
  let v232 : BitVec 1 := Scalar.cmpi .sgt v230 c0_i32_100
  let v233 : BitVec 32 := Scalar.extui v232
  let c0_i32_101 : BitVec 32 := 0#32
  let v234 : BitVec 1 := Scalar.cmpi .slt v230 c0_i32_101
  let v235 : BitVec 32 := Scalar.extui v234
  let v236 : BitVec 32 := Scalar.subi v233 v235
  let c4_i32_99 : BitVec 32 := 4#32
  let c0_i32_102 : BitVec 32 := 0#32
  let v237 : BitVec 1 := Scalar.cmpi .sgt c4_i32_99 c0_i32_102
  let v238 : BitVec 32 := Scalar.extui v237
  let c0_i32_103 : BitVec 32 := 0#32
  let v239 : BitVec 1 := Scalar.cmpi .slt c4_i32_99 c0_i32_103
  let v240 : BitVec 32 := Scalar.extui v239
  let v241 : BitVec 32 := Scalar.subi v238 v240
  let v242 : BitVec 1 := Scalar.cmpi .ne v236 v241
  let v243 : BitVec 32 := Scalar.remsi v230 c4_i32_99
  let c0_i32_104 : BitVec 32 := 0#32
  let v244 : BitVec 1 := Scalar.cmpi .ne v243 c0_i32_104
  let v245 : BitVec 1 := Scalar.andi v242 v244
  let v231 : BitVec 32 := Scalar.divsi v230 c4_i32_99
  let c1_i32_105 : BitVec 32 := 1#32
  let v246 : BitVec 32 := Scalar.subi v231 c1_i32_105
  let v247 : BitVec 32 := Scalar.select v245 v246 v231
  let v248 : BitVec 32 := Scalar.subi v247 c0_i32_106
  let c1_i32_107 : BitVec 32 := 1#32
  let v250 : BitVec 32 := Scalar.divsi v248 c1_i32_107
  let v251 : BitVec 32 := Scalar.muli v250 c1_i32_107
  let v252 : BitVec 32 := Scalar.addi c0_i32_106 v251
  let c1_i32_109 : BitVec 32 := 1#32
  let arg10 : BitVec 32 := Scf.iv v252 c1_i32_109 k0_t2
  let v326 : BitVec 32 := Scalar.muli c4_i32_153 arg10
  let v327 : BitVec 32 := Scalar.addi v326 c0_i32_154
  let v332 : Index := Scalar.indexCast v327
  let c0_160 : Index := 0#32
  ![0, v332.toNat, 0]
def k0_off10 (i : grid0.Coords) (k0_t2 : Fin (k0_t2_loop i).trips) (c0_i32_154 : BitVec 32) : Fin 4 → Nat :=
  let c0_161 : Index := 0#32
  let c4_i32_153 : BitVec 32 := 4#32
  let c0_i32_106 : BitVec 32 := 0#32
  let c2_i32 : BitVec 32 := 2#32
  let arg2 : BitVec 32 := BitVec.ofNat 32 (i 2).val
  let v0 : BitVec 32 := Scalar.muli c2_i32 arg2
  let c4_i32 : BitVec 32 := 4#32
  let v229 : BitVec 32 := Scalar.addi v0 c4_i32
  let c1_i32_98 : BitVec 32 := 1#32
  let v230 : BitVec 32 := Scalar.subi v229 c1_i32_98
  let c0_i32_100 : BitVec 32 := 0#32
  let v232 : BitVec 1 := Scalar.cmpi .sgt v230 c0_i32_100
  let v233 : BitVec 32 := Scalar.extui v232
  let c0_i32_101 : BitVec 32 := 0#32
  let v234 : BitVec 1 := Scalar.cmpi .slt v230 c0_i32_101
  let v235 : BitVec 32 := Scalar.extui v234
  let v236 : BitVec 32 := Scalar.subi v233 v235
  let c4_i32_99 : BitVec 32 := 4#32
  let c0_i32_102 : BitVec 32 := 0#32
  let v237 : BitVec 1 := Scalar.cmpi .sgt c4_i32_99 c0_i32_102
  let v238 : BitVec 32 := Scalar.extui v237
  let c0_i32_103 : BitVec 32 := 0#32
  let v239 : BitVec 1 := Scalar.cmpi .slt c4_i32_99 c0_i32_103
  let v240 : BitVec 32 := Scalar.extui v239
  let v241 : BitVec 32 := Scalar.subi v238 v240
  let v242 : BitVec 1 := Scalar.cmpi .ne v236 v241
  let v243 : BitVec 32 := Scalar.remsi v230 c4_i32_99
  let c0_i32_104 : BitVec 32 := 0#32
  let v244 : BitVec 1 := Scalar.cmpi .ne v243 c0_i32_104
  let v245 : BitVec 1 := Scalar.andi v242 v244
  let v231 : BitVec 32 := Scalar.divsi v230 c4_i32_99
  let c1_i32_105 : BitVec 32 := 1#32
  let v246 : BitVec 32 := Scalar.subi v231 c1_i32_105
  let v247 : BitVec 32 := Scalar.select v245 v246 v231
  let v248 : BitVec 32 := Scalar.subi v247 c0_i32_106
  let c1_i32_107 : BitVec 32 := 1#32
  let v250 : BitVec 32 := Scalar.divsi v248 c1_i32_107
  let v251 : BitVec 32 := Scalar.muli v250 c1_i32_107
  let v252 : BitVec 32 := Scalar.addi c0_i32_106 v251
  let c1_i32_109 : BitVec 32 := 1#32
  let arg10 : BitVec 32 := Scf.iv v252 c1_i32_109 k0_t2
  let v326 : BitVec 32 := Scalar.muli c4_i32_153 arg10
  let v327 : BitVec 32 := Scalar.addi v326 c0_i32_154
  let v337 : Index := Scalar.indexCast v327
  let c0_162 : Index := 0#32
  let c0_163 : Index := 0#32
  ![0, v337.toNat, 0, 0]
def k0_off11 (i : grid0.Coords) (k0_t2 : Fin (k0_t2_loop i).trips) (c0_i32_154 : BitVec 32) : Fin 3 → Nat :=
  let c1_166 : Index := 1#32
  let c4_i32_153 : BitVec 32 := 4#32
  let c0_i32_106 : BitVec 32 := 0#32
  let c2_i32 : BitVec 32 := 2#32
  let arg2 : BitVec 32 := BitVec.ofNat 32 (i 2).val
  let v0 : BitVec 32 := Scalar.muli c2_i32 arg2
  let c4_i32 : BitVec 32 := 4#32
  let v229 : BitVec 32 := Scalar.addi v0 c4_i32
  let c1_i32_98 : BitVec 32 := 1#32
  let v230 : BitVec 32 := Scalar.subi v229 c1_i32_98
  let c0_i32_100 : BitVec 32 := 0#32
  let v232 : BitVec 1 := Scalar.cmpi .sgt v230 c0_i32_100
  let v233 : BitVec 32 := Scalar.extui v232
  let c0_i32_101 : BitVec 32 := 0#32
  let v234 : BitVec 1 := Scalar.cmpi .slt v230 c0_i32_101
  let v235 : BitVec 32 := Scalar.extui v234
  let v236 : BitVec 32 := Scalar.subi v233 v235
  let c4_i32_99 : BitVec 32 := 4#32
  let c0_i32_102 : BitVec 32 := 0#32
  let v237 : BitVec 1 := Scalar.cmpi .sgt c4_i32_99 c0_i32_102
  let v238 : BitVec 32 := Scalar.extui v237
  let c0_i32_103 : BitVec 32 := 0#32
  let v239 : BitVec 1 := Scalar.cmpi .slt c4_i32_99 c0_i32_103
  let v240 : BitVec 32 := Scalar.extui v239
  let v241 : BitVec 32 := Scalar.subi v238 v240
  let v242 : BitVec 1 := Scalar.cmpi .ne v236 v241
  let v243 : BitVec 32 := Scalar.remsi v230 c4_i32_99
  let c0_i32_104 : BitVec 32 := 0#32
  let v244 : BitVec 1 := Scalar.cmpi .ne v243 c0_i32_104
  let v245 : BitVec 1 := Scalar.andi v242 v244
  let v231 : BitVec 32 := Scalar.divsi v230 c4_i32_99
  let c1_i32_105 : BitVec 32 := 1#32
  let v246 : BitVec 32 := Scalar.subi v231 c1_i32_105
  let v247 : BitVec 32 := Scalar.select v245 v246 v231
  let v248 : BitVec 32 := Scalar.subi v247 c0_i32_106
  let c1_i32_107 : BitVec 32 := 1#32
  let v250 : BitVec 32 := Scalar.divsi v248 c1_i32_107
  let v251 : BitVec 32 := Scalar.muli v250 c1_i32_107
  let v252 : BitVec 32 := Scalar.addi c0_i32_106 v251
  let c1_i32_109 : BitVec 32 := 1#32
  let arg10 : BitVec 32 := Scf.iv v252 c1_i32_109 k0_t2
  let v326 : BitVec 32 := Scalar.muli c4_i32_153 arg10
  let v327 : BitVec 32 := Scalar.addi v326 c0_i32_154
  let v345 : Index := Scalar.indexCast v327
  let c0_167 : Index := 0#32
  ![1, v345.toNat, 0]
def k0_off12 (i : grid0.Coords) (k0_t2 : Fin (k0_t2_loop i).trips) (c0_i32_154 : BitVec 32) : Fin 4 → Nat :=
  let c1_168 : Index := 1#32
  let c4_i32_153 : BitVec 32 := 4#32
  let c0_i32_106 : BitVec 32 := 0#32
  let c2_i32 : BitVec 32 := 2#32
  let arg2 : BitVec 32 := BitVec.ofNat 32 (i 2).val
  let v0 : BitVec 32 := Scalar.muli c2_i32 arg2
  let c4_i32 : BitVec 32 := 4#32
  let v229 : BitVec 32 := Scalar.addi v0 c4_i32
  let c1_i32_98 : BitVec 32 := 1#32
  let v230 : BitVec 32 := Scalar.subi v229 c1_i32_98
  let c0_i32_100 : BitVec 32 := 0#32
  let v232 : BitVec 1 := Scalar.cmpi .sgt v230 c0_i32_100
  let v233 : BitVec 32 := Scalar.extui v232
  let c0_i32_101 : BitVec 32 := 0#32
  let v234 : BitVec 1 := Scalar.cmpi .slt v230 c0_i32_101
  let v235 : BitVec 32 := Scalar.extui v234
  let v236 : BitVec 32 := Scalar.subi v233 v235
  let c4_i32_99 : BitVec 32 := 4#32
  let c0_i32_102 : BitVec 32 := 0#32
  let v237 : BitVec 1 := Scalar.cmpi .sgt c4_i32_99 c0_i32_102
  let v238 : BitVec 32 := Scalar.extui v237
  let c0_i32_103 : BitVec 32 := 0#32
  let v239 : BitVec 1 := Scalar.cmpi .slt c4_i32_99 c0_i32_103
  let v240 : BitVec 32 := Scalar.extui v239
  let v241 : BitVec 32 := Scalar.subi v238 v240
  let v242 : BitVec 1 := Scalar.cmpi .ne v236 v241
  let v243 : BitVec 32 := Scalar.remsi v230 c4_i32_99
  let c0_i32_104 : BitVec 32 := 0#32
  let v244 : BitVec 1 := Scalar.cmpi .ne v243 c0_i32_104
  let v245 : BitVec 1 := Scalar.andi v242 v244
  let v231 : BitVec 32 := Scalar.divsi v230 c4_i32_99
  let c1_i32_105 : BitVec 32 := 1#32
  let v246 : BitVec 32 := Scalar.subi v231 c1_i32_105
  let v247 : BitVec 32 := Scalar.select v245 v246 v231
  let v248 : BitVec 32 := Scalar.subi v247 c0_i32_106
  let c1_i32_107 : BitVec 32 := 1#32
  let v250 : BitVec 32 := Scalar.divsi v248 c1_i32_107
  let v251 : BitVec 32 := Scalar.muli v250 c1_i32_107
  let v252 : BitVec 32 := Scalar.addi c0_i32_106 v251
  let c1_i32_109 : BitVec 32 := 1#32
  let arg10 : BitVec 32 := Scf.iv v252 c1_i32_109 k0_t2
  let v326 : BitVec 32 := Scalar.muli c4_i32_153 arg10
  let v327 : BitVec 32 := Scalar.addi v326 c0_i32_154
  let v350 : Index := Scalar.indexCast v327
  let c0_169 : Index := 0#32
  let c0_170 : Index := 0#32
  ![1, v350.toNat, 0, 0]
def k0_off13 (i : grid0.Coords) (c0_i32_114 : BitVec 32) : Fin 4 → Nat :=
  let c0_115 : Index := 0#32
  let c2_i32 : BitVec 32 := 2#32
  let arg2 : BitVec 32 := BitVec.ofNat 32 (i 2).val
  let v0 : BitVec 32 := Scalar.muli c2_i32 arg2
  let v261 : BitVec 32 := Scalar.addi v0 c0_i32_114
  let v262 : Index := Scalar.indexCast v261
  let c0_116 : Index := 0#32
  let c0_117 : Index := 0#32
  ![0, v262.toNat, 0, 0]
@[reducible] def k0_t3_loop (i : grid0.Coords) : Scf.Loop 32 :=
  let c0_i32_146 : BitVec 32 := 0#32
  let c2_i32 : BitVec 32 := 2#32
  let arg2 : BitVec 32 := BitVec.ofNat 32 (i 2).val
  let v0 : BitVec 32 := Scalar.muli c2_i32 arg2
  let c4_i32 : BitVec 32 := 4#32
  let v229 : BitVec 32 := Scalar.addi v0 c4_i32
  let c1_i32_98 : BitVec 32 := 1#32
  let v230 : BitVec 32 := Scalar.subi v229 c1_i32_98
  let c0_i32_100 : BitVec 32 := 0#32
  let v232 : BitVec 1 := Scalar.cmpi .sgt v230 c0_i32_100
  let v233 : BitVec 32 := Scalar.extui v232
  let c0_i32_101 : BitVec 32 := 0#32
  let v234 : BitVec 1 := Scalar.cmpi .slt v230 c0_i32_101
  let v235 : BitVec 32 := Scalar.extui v234
  let v236 : BitVec 32 := Scalar.subi v233 v235
  let c4_i32_99 : BitVec 32 := 4#32
  let c0_i32_102 : BitVec 32 := 0#32
  let v237 : BitVec 1 := Scalar.cmpi .sgt c4_i32_99 c0_i32_102
  let v238 : BitVec 32 := Scalar.extui v237
  let c0_i32_103 : BitVec 32 := 0#32
  let v239 : BitVec 1 := Scalar.cmpi .slt c4_i32_99 c0_i32_103
  let v240 : BitVec 32 := Scalar.extui v239
  let v241 : BitVec 32 := Scalar.subi v238 v240
  let v242 : BitVec 1 := Scalar.cmpi .ne v236 v241
  let v243 : BitVec 32 := Scalar.remsi v230 c4_i32_99
  let c0_i32_104 : BitVec 32 := 0#32
  let v244 : BitVec 1 := Scalar.cmpi .ne v243 c0_i32_104
  let v245 : BitVec 1 := Scalar.andi v242 v244
  let v231 : BitVec 32 := Scalar.divsi v230 c4_i32_99
  let c1_i32_105 : BitVec 32 := 1#32
  let v246 : BitVec 32 := Scalar.subi v231 c1_i32_105
  let v247 : BitVec 32 := Scalar.select v245 v246 v231
  let v305 : BitVec 32 := Scalar.subi v247 c0_i32_146
  let c1_i32_147 : BitVec 32 := 1#32
  let v307 : BitVec 32 := Scalar.divsi v305 c1_i32_147
  let v308 : BitVec 32 := Scalar.muli v307 c1_i32_147
  let v309 : BitVec 32 := Scalar.addi c0_i32_146 v308
  let c1_i32_148 : BitVec 32 := 1#32
  ⟨c0_i32_146, v309, c1_i32_148⟩
def k0_off14 (i : grid0.Coords) (k0_t3 : Fin (k0_t3_loop i).trips) (c0_i32_154 : BitVec 32) : Fin 4 → Nat :=
  let c0_155 : Index := 0#32
  let c4_i32_153 : BitVec 32 := 4#32
  let c0_i32_146 : BitVec 32 := 0#32
  let c1_i32_148 : BitVec 32 := 1#32
  let arg10 : BitVec 32 := Scf.iv c0_i32_146 c1_i32_148 k0_t3
  let v326 : BitVec 32 := Scalar.muli c4_i32_153 arg10
  let v327 : BitVec 32 := Scalar.addi v326 c0_i32_154
  let v328 : Index := Scalar.indexCast v327
  let c0_156 : Index := 0#32
  let c0_157 : Index := 0#32
  ![0, v328.toNat, 0, 0]
def k0_off15 (i : grid0.Coords) (k0_t3 : Fin (k0_t3_loop i).trips) (c0_i32_154 : BitVec 32) : Fin 4 → Nat :=
  let c0_158 : Index := 0#32
  let c4_i32_153 : BitVec 32 := 4#32
  let c0_i32_146 : BitVec 32 := 0#32
  let c1_i32_148 : BitVec 32 := 1#32
  let arg10 : BitVec 32 := Scf.iv c0_i32_146 c1_i32_148 k0_t3
  let v326 : BitVec 32 := Scalar.muli c4_i32_153 arg10
  let v327 : BitVec 32 := Scalar.addi v326 c0_i32_154
  let v331 : Index := Scalar.indexCast v327
  let c0_159 : Index := 0#32
  let c0_160 : Index := 0#32
  ![0, v331.toNat, 0, 0]
def k0_off16 (i : grid0.Coords) (k0_t3 : Fin (k0_t3_loop i).trips) (c0_i32_154 : BitVec 32) : Fin 4 → Nat :=
  let c1_162 : Index := 1#32
  let c4_i32_153 : BitVec 32 := 4#32
  let c0_i32_146 : BitVec 32 := 0#32
  let c1_i32_148 : BitVec 32 := 1#32
  let arg10 : BitVec 32 := Scf.iv c0_i32_146 c1_i32_148 k0_t3
  let v326 : BitVec 32 := Scalar.muli c4_i32_153 arg10
  let v327 : BitVec 32 := Scalar.addi v326 c0_i32_154
  let v341 : Index := Scalar.indexCast v327
  let c0_163 : Index := 0#32
  let c0_164 : Index := 0#32
  ![1, v341.toNat, 0, 0]
@[reducible] def k0_t4_loop (i : grid0.Coords) : Scf.Loop 32 :=
  let c0_i32_146 : BitVec 32 := 0#32
  let c2_i32 : BitVec 32 := 2#32
  let arg2 : BitVec 32 := BitVec.ofNat 32 (i 2).val
  let v0 : BitVec 32 := Scalar.muli c2_i32 arg2
  let c4_i32 : BitVec 32 := 4#32
  let v229 : BitVec 32 := Scalar.addi v0 c4_i32
  let c1_i32_98 : BitVec 32 := 1#32
  let v230 : BitVec 32 := Scalar.subi v229 c1_i32_98
  let c0_i32_100 : BitVec 32 := 0#32
  let v232 : BitVec 1 := Scalar.cmpi .sgt v230 c0_i32_100
  let v233 : BitVec 32 := Scalar.extui v232
  let c0_i32_101 : BitVec 32 := 0#32
  let v234 : BitVec 1 := Scalar.cmpi .slt v230 c0_i32_101
  let v235 : BitVec 32 := Scalar.extui v234
  let v236 : BitVec 32 := Scalar.subi v233 v235
  let c4_i32_99 : BitVec 32 := 4#32
  let c0_i32_102 : BitVec 32 := 0#32
  let v237 : BitVec 1 := Scalar.cmpi .sgt c4_i32_99 c0_i32_102
  let v238 : BitVec 32 := Scalar.extui v237
  let c0_i32_103 : BitVec 32 := 0#32
  let v239 : BitVec 1 := Scalar.cmpi .slt c4_i32_99 c0_i32_103
  let v240 : BitVec 32 := Scalar.extui v239
  let v241 : BitVec 32 := Scalar.subi v238 v240
  let v242 : BitVec 1 := Scalar.cmpi .ne v236 v241
  let v243 : BitVec 32 := Scalar.remsi v230 c4_i32_99
  let c0_i32_104 : BitVec 32 := 0#32
  let v244 : BitVec 1 := Scalar.cmpi .ne v243 c0_i32_104
  let v245 : BitVec 1 := Scalar.andi v242 v244
  let v231 : BitVec 32 := Scalar.divsi v230 c4_i32_99
  let c1_i32_105 : BitVec 32 := 1#32
  let v246 : BitVec 32 := Scalar.subi v231 c1_i32_105
  let v247 : BitVec 32 := Scalar.select v245 v246 v231
  let v305 : BitVec 32 := Scalar.subi v247 c0_i32_146
  let c1_i32_147 : BitVec 32 := 1#32
  let v307 : BitVec 32 := Scalar.divsi v305 c1_i32_147
  let v308 : BitVec 32 := Scalar.muli v307 c1_i32_147
  let v309 : BitVec 32 := Scalar.addi c0_i32_146 v308
  let v306 : BitVec 32 := Scalar.addi c0_i32_146 v305
  let c1_i32_149 : BitVec 32 := 1#32
  ⟨v309, v306, c1_i32_149⟩
def k0_off17 (i : grid0.Coords) (k0_t4 : Fin (k0_t4_loop i).trips) (c0_i32_154 : BitVec 32) : Fin 4 → Nat :=
  let c0_155 : Index := 0#32
  let c4_i32_153 : BitVec 32 := 4#32
  let c0_i32_146 : BitVec 32 := 0#32
  let c2_i32 : BitVec 32 := 2#32
  let arg2 : BitVec 32 := BitVec.ofNat 32 (i 2).val
  let v0 : BitVec 32 := Scalar.muli c2_i32 arg2
  let c4_i32 : BitVec 32 := 4#32
  let v229 : BitVec 32 := Scalar.addi v0 c4_i32
  let c1_i32_98 : BitVec 32 := 1#32
  let v230 : BitVec 32 := Scalar.subi v229 c1_i32_98
  let c0_i32_100 : BitVec 32 := 0#32
  let v232 : BitVec 1 := Scalar.cmpi .sgt v230 c0_i32_100
  let v233 : BitVec 32 := Scalar.extui v232
  let c0_i32_101 : BitVec 32 := 0#32
  let v234 : BitVec 1 := Scalar.cmpi .slt v230 c0_i32_101
  let v235 : BitVec 32 := Scalar.extui v234
  let v236 : BitVec 32 := Scalar.subi v233 v235
  let c4_i32_99 : BitVec 32 := 4#32
  let c0_i32_102 : BitVec 32 := 0#32
  let v237 : BitVec 1 := Scalar.cmpi .sgt c4_i32_99 c0_i32_102
  let v238 : BitVec 32 := Scalar.extui v237
  let c0_i32_103 : BitVec 32 := 0#32
  let v239 : BitVec 1 := Scalar.cmpi .slt c4_i32_99 c0_i32_103
  let v240 : BitVec 32 := Scalar.extui v239
  let v241 : BitVec 32 := Scalar.subi v238 v240
  let v242 : BitVec 1 := Scalar.cmpi .ne v236 v241
  let v243 : BitVec 32 := Scalar.remsi v230 c4_i32_99
  let c0_i32_104 : BitVec 32 := 0#32
  let v244 : BitVec 1 := Scalar.cmpi .ne v243 c0_i32_104
  let v245 : BitVec 1 := Scalar.andi v242 v244
  let v231 : BitVec 32 := Scalar.divsi v230 c4_i32_99
  let c1_i32_105 : BitVec 32 := 1#32
  let v246 : BitVec 32 := Scalar.subi v231 c1_i32_105
  let v247 : BitVec 32 := Scalar.select v245 v246 v231
  let v305 : BitVec 32 := Scalar.subi v247 c0_i32_146
  let c1_i32_147 : BitVec 32 := 1#32
  let v307 : BitVec 32 := Scalar.divsi v305 c1_i32_147
  let v308 : BitVec 32 := Scalar.muli v307 c1_i32_147
  let v309 : BitVec 32 := Scalar.addi c0_i32_146 v308
  let c1_i32_149 : BitVec 32 := 1#32
  let arg10 : BitVec 32 := Scf.iv v309 c1_i32_149 k0_t4
  let v326 : BitVec 32 := Scalar.muli c4_i32_153 arg10
  let v327 : BitVec 32 := Scalar.addi v326 c0_i32_154
  let v328 : Index := Scalar.indexCast v327
  let c0_156 : Index := 0#32
  let c0_157 : Index := 0#32
  ![0, v328.toNat, 0, 0]
def k0_off18 (i : grid0.Coords) (k0_t4 : Fin (k0_t4_loop i).trips) (c0_i32_154 : BitVec 32) : Fin 4 → Nat :=
  let c0_158 : Index := 0#32
  let c4_i32_153 : BitVec 32 := 4#32
  let c0_i32_146 : BitVec 32 := 0#32
  let c2_i32 : BitVec 32 := 2#32
  let arg2 : BitVec 32 := BitVec.ofNat 32 (i 2).val
  let v0 : BitVec 32 := Scalar.muli c2_i32 arg2
  let c4_i32 : BitVec 32 := 4#32
  let v229 : BitVec 32 := Scalar.addi v0 c4_i32
  let c1_i32_98 : BitVec 32 := 1#32
  let v230 : BitVec 32 := Scalar.subi v229 c1_i32_98
  let c0_i32_100 : BitVec 32 := 0#32
  let v232 : BitVec 1 := Scalar.cmpi .sgt v230 c0_i32_100
  let v233 : BitVec 32 := Scalar.extui v232
  let c0_i32_101 : BitVec 32 := 0#32
  let v234 : BitVec 1 := Scalar.cmpi .slt v230 c0_i32_101
  let v235 : BitVec 32 := Scalar.extui v234
  let v236 : BitVec 32 := Scalar.subi v233 v235
  let c4_i32_99 : BitVec 32 := 4#32
  let c0_i32_102 : BitVec 32 := 0#32
  let v237 : BitVec 1 := Scalar.cmpi .sgt c4_i32_99 c0_i32_102
  let v238 : BitVec 32 := Scalar.extui v237
  let c0_i32_103 : BitVec 32 := 0#32
  let v239 : BitVec 1 := Scalar.cmpi .slt c4_i32_99 c0_i32_103
  let v240 : BitVec 32 := Scalar.extui v239
  let v241 : BitVec 32 := Scalar.subi v238 v240
  let v242 : BitVec 1 := Scalar.cmpi .ne v236 v241
  let v243 : BitVec 32 := Scalar.remsi v230 c4_i32_99
  let c0_i32_104 : BitVec 32 := 0#32
  let v244 : BitVec 1 := Scalar.cmpi .ne v243 c0_i32_104
  let v245 : BitVec 1 := Scalar.andi v242 v244
  let v231 : BitVec 32 := Scalar.divsi v230 c4_i32_99
  let c1_i32_105 : BitVec 32 := 1#32
  let v246 : BitVec 32 := Scalar.subi v231 c1_i32_105
  let v247 : BitVec 32 := Scalar.select v245 v246 v231
  let v305 : BitVec 32 := Scalar.subi v247 c0_i32_146
  let c1_i32_147 : BitVec 32 := 1#32
  let v307 : BitVec 32 := Scalar.divsi v305 c1_i32_147
  let v308 : BitVec 32 := Scalar.muli v307 c1_i32_147
  let v309 : BitVec 32 := Scalar.addi c0_i32_146 v308
  let c1_i32_149 : BitVec 32 := 1#32
  let arg10 : BitVec 32 := Scf.iv v309 c1_i32_149 k0_t4
  let v326 : BitVec 32 := Scalar.muli c4_i32_153 arg10
  let v327 : BitVec 32 := Scalar.addi v326 c0_i32_154
  let v331 : Index := Scalar.indexCast v327
  let c0_159 : Index := 0#32
  let c0_160 : Index := 0#32
  ![0, v331.toNat, 0, 0]
def k0_off19 (i : grid0.Coords) (k0_t4 : Fin (k0_t4_loop i).trips) (c0_i32_154 : BitVec 32) : Fin 4 → Nat :=
  let c1_162 : Index := 1#32
  let c4_i32_153 : BitVec 32 := 4#32
  let c0_i32_146 : BitVec 32 := 0#32
  let c2_i32 : BitVec 32 := 2#32
  let arg2 : BitVec 32 := BitVec.ofNat 32 (i 2).val
  let v0 : BitVec 32 := Scalar.muli c2_i32 arg2
  let c4_i32 : BitVec 32 := 4#32
  let v229 : BitVec 32 := Scalar.addi v0 c4_i32
  let c1_i32_98 : BitVec 32 := 1#32
  let v230 : BitVec 32 := Scalar.subi v229 c1_i32_98
  let c0_i32_100 : BitVec 32 := 0#32
  let v232 : BitVec 1 := Scalar.cmpi .sgt v230 c0_i32_100
  let v233 : BitVec 32 := Scalar.extui v232
  let c0_i32_101 : BitVec 32 := 0#32
  let v234 : BitVec 1 := Scalar.cmpi .slt v230 c0_i32_101
  let v235 : BitVec 32 := Scalar.extui v234
  let v236 : BitVec 32 := Scalar.subi v233 v235
  let c4_i32_99 : BitVec 32 := 4#32
  let c0_i32_102 : BitVec 32 := 0#32
  let v237 : BitVec 1 := Scalar.cmpi .sgt c4_i32_99 c0_i32_102
  let v238 : BitVec 32 := Scalar.extui v237
  let c0_i32_103 : BitVec 32 := 0#32
  let v239 : BitVec 1 := Scalar.cmpi .slt c4_i32_99 c0_i32_103
  let v240 : BitVec 32 := Scalar.extui v239
  let v241 : BitVec 32 := Scalar.subi v238 v240
  let v242 : BitVec 1 := Scalar.cmpi .ne v236 v241
  let v243 : BitVec 32 := Scalar.remsi v230 c4_i32_99
  let c0_i32_104 : BitVec 32 := 0#32
  let v244 : BitVec 1 := Scalar.cmpi .ne v243 c0_i32_104
  let v245 : BitVec 1 := Scalar.andi v242 v244
  let v231 : BitVec 32 := Scalar.divsi v230 c4_i32_99
  let c1_i32_105 : BitVec 32 := 1#32
  let v246 : BitVec 32 := Scalar.subi v231 c1_i32_105
  let v247 : BitVec 32 := Scalar.select v245 v246 v231
  let v305 : BitVec 32 := Scalar.subi v247 c0_i32_146
  let c1_i32_147 : BitVec 32 := 1#32
  let v307 : BitVec 32 := Scalar.divsi v305 c1_i32_147
  let v308 : BitVec 32 := Scalar.muli v307 c1_i32_147
  let v309 : BitVec 32 := Scalar.addi c0_i32_146 v308
  let c1_i32_149 : BitVec 32 := 1#32
  let arg10 : BitVec 32 := Scf.iv v309 c1_i32_149 k0_t4
  let v326 : BitVec 32 := Scalar.muli c4_i32_153 arg10
  let v327 : BitVec 32 := Scalar.addi v326 c0_i32_154
  let v341 : Index := Scalar.indexCast v327
  let c0_163 : Index := 0#32
  let c0_164 : Index := 0#32
  ![1, v341.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x160x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | "q_scale" => some ((8⁻¹ * (Real.log 2)⁻¹ : ℝ) : EReal)
  | _ => none
-- ==== ReferenceIdeal.lean ====
abbrev S4x4096x8x64 : Shape := ⟨4, ![4, 4096, 8, 64]⟩
abbrev S4x16x8x64 : Shape := ⟨4, ![4, 16, 8, 64]⟩
abbrev S4096 : Shape := ⟨1, ![4096]⟩
abbrev S_ : Shape := ⟨0, ![]⟩
abbrev S16 : Shape := ⟨1, ![16]⟩
abbrev S4x8x16x4096 : Shape := ⟨4, ![4, 8, 16, 4096]⟩
abbrev S4x4096x8x16 : Shape := ⟨4, ![4, 4096, 8, 16]⟩
abbrev S1x16 : Shape := ⟨2, ![1, 16]⟩
abbrev S4096x1 : Shape := ⟨2, ![4096, 1]⟩
abbrev S4096x16 : Shape := ⟨2, ![4096, 16]⟩
abbrev S1x4096x1x16 : Shape := ⟨4, ![1, 4096, 1, 16]⟩
abbrev S4x4096x8x3 : Shape := ⟨4, ![4, 4096, 8, 3]⟩
abbrev S4x4096x8x3x1 : Shape := ⟨5, ![4, 4096, 8, 3, 1]⟩
abbrev S1x1x1x1x16 : Shape := ⟨5, ![1, 1, 1, 1, 16]⟩
abbrev S4x4096x8x3x16 : Shape := ⟨5, ![4, 4096, 8, 3, 16]⟩
abbrev S1x4096 : Shape := ⟨2, ![1, 4096]⟩
abbrev S4096x4096 : Shape := ⟨2, ![4096, 4096]⟩
abbrev S4x4096x8x16x256 : Shape := ⟨5, ![4, 4096, 8, 16, 256]⟩
abbrev S4x4096x8x4096 : Shape := ⟨4, ![4, 4096, 8, 4096]⟩
abbrev S1x4096x1x4096 : Shape := ⟨4, ![1, 4096, 1, 4096]⟩
abbrev S4x8x4096x4096 : Shape := ⟨4, ![4, 8, 4096, 4096]⟩
abbrev S4x4096x8 : Shape := ⟨3, ![4, 4096, 8]⟩
abbrev S4x4096x8x1 : Shape := ⟨4, ![4, 4096, 8, 1]⟩
abbrev S4x8x64x4096 : Shape := ⟨4, ![4, 8, 64, 4096]⟩
abbrev S4x4096x512 : Shape := ⟨3, ![4, 4096, 512]⟩

abbrev nBuf : Space → Nat
  | .hbm => 79
  | .vmem => 0
  | .smem => 0
  | _ => 0

abbrev bufTy : (tb : Table) → Fin (tcTables nBuf tb) → BufTy
  | .hbm, ⟨0, _⟩ => ⟨S4x4096x8x64, .f32⟩
  | .hbm, ⟨1, _⟩ => ⟨S4x4096x8x64, .f32⟩
  | .hbm, ⟨2, _⟩ => ⟨S4x4096x8x64, .f32⟩
  | .hbm, ⟨3, _⟩ => ⟨S4x16x8x64, .f32⟩
  | .hbm, ⟨4, _⟩ => ⟨S4096, .i32⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S16, .i32⟩
  | .hbm, ⟨9, _⟩ => ⟨S4x8x16x4096, .f32⟩
  | .hbm, ⟨10, _⟩ => ⟨S4x4096x8x16, .f32⟩
  | .hbm, ⟨11, _⟩ => ⟨S1x16, .i32⟩
  | .hbm, ⟨12, _⟩ => ⟨S4096x1, .i32⟩
  | .hbm, ⟨13, _⟩ => ⟨S4096x16, .i32⟩
  | .hbm, ⟨14, _⟩ => ⟨S4096x16, .i32⟩
  | .hbm, ⟨15, _⟩ => ⟨S4096x16, .i1⟩
  | .hbm, ⟨16, _⟩ => ⟨S1x4096x1x16, .i1⟩
  | .hbm, ⟨17, _⟩ => ⟨S_, .f32⟩
  | .hbm, ⟨18, _⟩ => ⟨S_, .f32⟩
  | .hbm, ⟨19, _⟩ => ⟨S4x4096x8x16, .i1⟩
  | .hbm, ⟨20, _⟩ => ⟨S4x4096x8x16, .f32⟩
  | .hbm, ⟨21, _⟩ => ⟨S4x4096x8x16, .f32⟩
  | .hbm, ⟨22, _⟩ => ⟨S4x4096x8x3, .f32⟩
  | .hbm, ⟨23, _⟩ => ⟨S4x4096x8x3, .i32⟩
  | .hbm, ⟨24, _⟩ => ⟨S4x4096x8x3x1, .i32⟩
  | .hbm, ⟨25, _⟩ => ⟨S1x1x1x1x16, .i32⟩
  | .hbm, ⟨26, _⟩ => ⟨S4x4096x8x3x16, .i32⟩
  | .hbm, ⟨27, _⟩ => ⟨S4x4096x8x3x16, .i32⟩
  | .hbm, ⟨28, _⟩ => ⟨S4x4096x8x3x16, .i1⟩
  | .hbm, ⟨29, _⟩ => ⟨S_, .i1⟩
  | .hbm, ⟨30, _⟩ => ⟨S4x4096x8x16, .i1⟩
  | .hbm, ⟨31, _⟩ => ⟨S1x16, .i32⟩
  | .hbm, ⟨32, _⟩ => ⟨S4096x1, .i32⟩
  | .hbm, ⟨33, _⟩ => ⟨S4096x16, .i32⟩
  | .hbm, ⟨34, _⟩ => ⟨S4096x16, .i32⟩
  | .hbm, ⟨35, _⟩ => ⟨S4096x16, .i1⟩
  | .hbm, ⟨36, _⟩ => ⟨S1x4096x1x16, .i1⟩
  | .hbm, ⟨37, _⟩ => ⟨S4x4096x8x16, .i1⟩
  | .hbm, ⟨38, _⟩ => ⟨S4x4096x8x16, .i1⟩
  | .hbm, ⟨39, _⟩ => ⟨S1x4096x1x16, .i1⟩
  | .hbm, ⟨40, _⟩ => ⟨S4x4096x8x16, .i1⟩
  | .hbm, ⟨41, _⟩ => ⟨S4x4096x8x16, .i1⟩
  | .hbm, ⟨42, _⟩ => ⟨S1x4096, .i32⟩
  | .hbm, ⟨43, _⟩ => ⟨S4096x1, .i32⟩
  | .hbm, ⟨44, _⟩ => ⟨S4096x4096, .i32⟩
  | .hbm, ⟨45, _⟩ => ⟨S4096x4096, .i32⟩
  | .hbm, ⟨46, _⟩ => ⟨S4096x4096, .i1⟩
  | .hbm, ⟨47, _⟩ => ⟨S4x4096x8x16x256, .i1⟩
  | .hbm, ⟨48, _⟩ => ⟨S4x4096x8x4096, .i1⟩
  | .hbm, ⟨49, _⟩ => ⟨S1x4096x1x4096, .i1⟩
  | .hbm, ⟨50, _⟩ => ⟨S4x4096x8x4096, .i1⟩
  | .hbm, ⟨51, _⟩ => ⟨S4x4096x8x4096, .i1⟩
  | .hbm, ⟨52, _⟩ => ⟨S4x8x4096x4096, .f32⟩
  | .hbm, ⟨53, _⟩ => ⟨S4x4096x8x4096, .f32⟩
  | .hbm, ⟨54, _⟩ => ⟨S_, .f32⟩
  | .hbm, ⟨55, _⟩ => ⟨S4x4096x8x4096, .f32⟩
  | .hbm, ⟨56, _⟩ => ⟨S4x4096x8x4096, .f32⟩
  | .hbm, ⟨57, _⟩ => ⟨S_, .f32⟩
  | .hbm, ⟨58, _⟩ => ⟨S_, .f32⟩
  | .hbm, ⟨59, _⟩ => ⟨S4x4096x8x4096, .f32⟩
  | .hbm, ⟨60, _⟩ => ⟨S4x4096x8x4096, .f32⟩
  | .hbm, ⟨61, _⟩ => ⟨S_, .f32⟩
  | .hbm, ⟨62, _⟩ => ⟨S4x4096x8, .f32⟩
  | .hbm, ⟨63, _⟩ => ⟨S_, .f32⟩
  | .hbm, ⟨64, _⟩ => ⟨S4x4096x8, .f32⟩
  | .hbm, ⟨65, _⟩ => ⟨S4x4096x8, .f32⟩
  | .hbm, ⟨66, _⟩ => ⟨S4x4096x8x1, .f32⟩
  | .hbm, ⟨67, _⟩ => ⟨S4x4096x8x4096, .f32⟩
  | .hbm, ⟨68, _⟩ => ⟨S4x4096x8x4096, .f32⟩
  | .hbm, ⟨69, _⟩ => ⟨S4x4096x8x4096, .f32⟩
  | .hbm, ⟨70, _⟩ => ⟨S_, .f32⟩
  | .hbm, ⟨71, _⟩ => ⟨S4x4096x8, .f32⟩
  | .hbm, ⟨72, _⟩ => ⟨S4x4096x8x1, .f32⟩
  | .hbm, ⟨73, _⟩ => ⟨S4x4096x8x4096, .f32⟩
  | .hbm, ⟨74, _⟩ => ⟨S4x4096x8x4096, .f32⟩
  | .hbm, ⟨75, _⟩ => ⟨S4x8x64x4096, .f32⟩
  | .hbm, ⟨76, _⟩ => ⟨S4x4096x8x64, .f32⟩
  | .hbm, ⟨77, _⟩ => ⟨S4x4096x512, .f32⟩
  | .hbm, ⟨78, _⟩ => ⟨S4x4096x512, .bf16⟩
  | _, _ => ⟨S4x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v12 : Ref sig .tc := ⟨.hbm, 21, rfl⟩
abbrev main_values : Ref sig .tc := ⟨.hbm, 22, rfl⟩
abbrev main_indices : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_1 : Ref sig .tc := ⟨.hbm, 54, rfl⟩
abbrev main_v42 : Ref sig .tc := ⟨.hbm, 55, rfl⟩
abbrev main_v43 : Ref sig .tc := ⟨.hbm, 56, rfl⟩
abbrev main_cst_2 : Ref sig .tc := ⟨.hbm, 57, rfl⟩
abbrev main_call1_v0 : Ref sig .tc := ⟨.hbm, 58, rfl⟩
abbrev main_call1_v1 : Ref sig .tc := ⟨.hbm, 59, rfl⟩
abbrev main_v44 : Ref sig .tc := ⟨.hbm, 60, rfl⟩
abbrev main_cst_3 : Ref sig .tc := ⟨.hbm, 61, rfl⟩
abbrev main_v45 : Ref sig .tc := ⟨.hbm, 62, rfl⟩
abbrev main_cst_4 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_5 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩

abbrev nD : Nat := 1
abbrev τ : Topo := Topo.v7x

variable {F : FTy → Type} [FloatOps F]
-- ==== Kernel2.lean ====
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 6
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v19 : BitVec 1 := Scalar.cmpi .eq arg1 c1_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x2816, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S_, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x1024, .f32⟩
  | .hbm, ⟨38, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== Kernel3.lean ====
abbrev S16384x1024 : Shape := ⟨2, ![16384, 1024]⟩
abbrev S1x1024 : Shape := ⟨2, ![1, 1024]⟩
abbrev S1024x2048 : Shape := ⟨2, ![1024, 2048]⟩
abbrev S16384x512 : Shape := ⟨2, ![16384, 512]⟩
abbrev S512x1024 : Shape := ⟨2, ![512, 1024]⟩
abbrev S1024x1024 : Shape := ⟨2, ![1024, 1024]⟩
abbrev S512x512 : Shape := ⟨2, ![512, 512]⟩
abbrev S512 : Shape := ⟨1, ![512]⟩
abbrev S512x1 : Shape := ⟨2, ![512, 1]⟩
abbrev S512x2048 : Shape := ⟨2, ![512, 2048]⟩

abbrev nBuf : Space → Nat
  | .hbm => 9
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2048, .bf16⟩
  | .hbm, ⟨3, _⟩ => ⟨S16384x512, .bf16⟩
  | .hbm, ⟨4, _⟩ => ⟨S16384x512, .bf16⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S16384x1024 : Shape := ⟨2, ![16384, 1024]⟩
abbrev S1x1024 : Shape := ⟨2, ![1, 1024]⟩
abbrev S1024x2048 : Shape := ⟨2, ![1024, 2048]⟩
abbrev S16384x512 : Shape := ⟨2, ![16384, 512]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x2048 : Shape := ⟨2, ![16384, 2048]⟩

abbrev nBuf : Space → Nat
  | .hbm => 49
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2048, .bf16⟩
  | .hbm, ⟨3, _⟩ => ⟨S16384x512, .bf16⟩
  | .hbm, ⟨4, _⟩ => ⟨S16384x512, .bf16⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S1024x2048, .f32⟩
  | .hbm, ⟨9, _⟩ => ⟨S16384x512, .f32⟩
  | .hbm, ⟨10, _⟩ => ⟨S16384x512, .f32⟩
  | .hbm, ⟨11, _⟩ => ⟨S512x1024, .f32⟩
  | .hbm, ⟨12, _⟩ => ⟨S512x1024, .f32⟩
  | .hbm, ⟨13, _⟩ => ⟨S1024x1024, .f32⟩
  | .hbm, ⟨14, _⟩ => ⟨S1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S16384x2048, .f32⟩
  | .hbm, ⟨32, _⟩ => ⟨S16384x1024, .f32⟩
  | .hbm, ⟨33, _⟩ => ⟨S16384x1024, .f32⟩
  | .hbm, ⟨34, _⟩ => ⟨S16384x2048, .f32⟩
  | .hbm, ⟨35, _⟩ => ⟨S16384x2048, .f32⟩
  | .hbm, ⟨36, _⟩ => ⟨S_, .f32⟩
  | .hbm, ⟨37, _⟩ => ⟨S16384x2048, .f32⟩
  | .hbm, ⟨38, _⟩ => ⟨S16384x2048, .f32⟩
  | .hbm, ⟨39, _⟩ => ⟨S_, .f32⟩
  | .hbm, ⟨40, _⟩ => ⟨S16384x2048, .f32⟩
  | .hbm, ⟨41, _⟩ => ⟨S16384x2048, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Kernel4.lean ====
abbrev S16384x1024 : Shape := ⟨2, ![16384, 1024]⟩
abbrev S1x1024 : Shape := ⟨2, ![1, 1024]⟩
abbrev S1024x1536 : Shape := ⟨2, ![1024, 1536]⟩
abbrev S1024x384 : Shape := ⟨2, ![1024, 384]⟩
abbrev S4x512x4096 : Shape := ⟨3, ![4, 512, 4096]⟩
abbrev S16384x512 : Shape := ⟨2, ![16384, 512]⟩
abbrev S4x16x640x256 : Shape := ⟨4, ![4, 16, 640, 256]⟩
abbrev S16384x1536 : Shape := ⟨2, ![16384, 1536]⟩
abbrev S16384x384 : Shape := ⟨2, ![16384, 384]⟩
abbrev S512x1024 : Shape := ⟨2, ![512, 1024]⟩
abbrev S1x512x512 : Shape := ⟨3, ![1, 512, 512]⟩
abbrev S512x512 : Shape := ⟨2, ![512, 512]⟩
abbrev S1x2x640x256 : Shape := ⟨4, ![1, 2, 640, 256]⟩
abbrev S512x1536 : Shape := ⟨2, ![512, 1536]⟩
abbrev S512x384 : Shape := ⟨2, ![512, 384]⟩
abbrev S512 : Shape := ⟨1, ![512]⟩
abbrev S512x1 : Shape := ⟨2, ![512, 1]⟩
abbrev S1024x512 : Shape := ⟨2, ![1024, 512]⟩
abbrev S16x256 : Shape := ⟨2, ![16, 256]⟩
abbrev S256x512 : Shape := ⟨2, ![256, 512]⟩
abbrev S512x256 : Shape := ⟨2, ![512, 256]⟩
abbrev S64x256 : Shape := ⟨2, ![64, 256]⟩
abbrev S640x256 : Shape := ⟨2, ![640, 256]⟩
abbrev S1x1x640x256 : Shape := ⟨4, ![1, 1, 640, 256]⟩

abbrev nBuf : Space → Nat
  | .hbm => 12
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x1536, .bf16⟩
  | .hbm, ⟨3, _⟩ => ⟨S1024x1536, .bf16⟩
  | .hbm, ⟨4, _⟩ => ⟨S1024x384, .bf16⟩
  | .hbm, ⟨5, _⟩ => ⟨S4x512x4096, .bf16⟩
  | .hbm, ⟨6, _⟩ => ⟨S16384x512, .bf16⟩
  | .hbm, ⟨7, _⟩ => ⟨S4x16x640x256, .bf16⟩
  | .hbm, ⟨8, _⟩ => ⟨S16384x512, .f32⟩
  | .hbm, ⟨9, _⟩ => ⟨S16384x512, .f32⟩
  | .hbm, ⟨10, _⟩ => ⟨S16384x1536, .f32⟩
  | .hbm, ⟨11, _⟩ => ⟨S16384x384, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S1024x1536, .bf16⟩
  | .local _ .vmem, ⟨5, _⟩ => ⟨S1024x384, .bf16⟩
  | .local _ .vmem, ⟨6, _⟩ => ⟨S1x512x512, .bf16⟩
  | .local _ .vmem, ⟨7, _⟩ => ⟨S1x512x512, .bf16⟩
  | .local _ .vmem, ⟨8, _⟩ => ⟨S512x512, .bf16⟩
  | .local _ .vmem, ⟨9, _⟩ => ⟨S512x512, .bf16⟩
  | .local _ .vmem, ⟨10, _⟩ => ⟨S1x2x640x256, .bf16⟩
  | .local _ .vmem, ⟨11, _⟩ => ⟨S1x2x640x256, .bf16⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x1536, .f32⟩
  | .local _ .vmem, ⟨17, _⟩ => ⟨S512x1536, .f32⟩
  | .local _ .vmem, ⟨18, _⟩ => ⟨S512x384, .f32⟩
  | .local _ .vmem, ⟨19, _⟩ => ⟨S512x384, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev main_v0_6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x640x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel4Ideal.lean ====
variable {F : FTy → Type} [FloatOps F] [Named F]
def κ : String → Option EReal := fun
  | "q_scale" => some ((8⁻¹ * (Real.log 2)⁻¹ : ℝ) : EReal)
  | _ => none
-- ==== Reference4Ideal.lean ====
abbrev S16384x1024 : Shape := ⟨2, ![16384, 1024]⟩
abbrev S1x1024 : Shape := ⟨2, ![1, 1024]⟩
abbrev S1024x1536 : Shape := ⟨2, ![1024, 1536]⟩
abbrev S1024x384 : Shape := ⟨2, ![1024, 384]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x512 : Shape := ⟨2, ![1024, 512]⟩
abbrev S16384x512 : Shape := ⟨2, ![16384, 512]⟩
abbrev S16384x1536 : Shape := ⟨2, ![16384, 1536]⟩
abbrev S16384x384 : Shape := ⟨2, ![16384, 384]⟩
abbrev S4x4096x512 : Shape := ⟨3, ![4, 4096, 512]⟩
abbrev S4x512x4096 : Shape := ⟨3, ![4, 512, 4096]⟩
abbrev S4x16x256x8x64 : Shape := ⟨5, ![4, 16, 256, 8, 64]⟩
abbrev S4x16x8x64x256 : Shape := ⟨5, ![4, 16, 8, 64, 256]⟩
abbrev S4x16x8x16x256 : Shape := ⟨5, ![4, 16, 8, 16, 256]⟩
abbrev S4x16x8x80x256 : Shape := ⟨5, ![4, 16, 8, 80, 256]⟩
abbrev S4x16x640x256 : Shape := ⟨4, ![4, 16, 640, 256]⟩

abbrev nBuf : Space → Nat
  | .hbm => 51
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x1536, .bf16⟩
  | .hbm, ⟨3, _⟩ => ⟨S1024x1536, .bf16⟩
  | .hbm, ⟨4, _⟩ => ⟨S1024x384, .bf16⟩
  | .hbm, ⟨5, _⟩ => ⟨S1024x1536, .f32⟩
  | .hbm, ⟨6, _⟩ => ⟨S1024x1536, .f32⟩
  | .hbm, ⟨7, _⟩ => ⟨S1024x384, .f32⟩
  | .hbm, ⟨8, _⟩ => ⟨S1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S1024x512, .f32⟩
  | .hbm, ⟨26, _⟩ => ⟨S16384x512, .f32⟩
  | .hbm, ⟨27, _⟩ => ⟨S1024x512, .f32⟩
  | .hbm, ⟨28, _⟩ => ⟨S16384x512, .f32⟩
  | .hbm, ⟨29, _⟩ => ⟨S1024x512, .f32⟩
  | .hbm, ⟨30, _⟩ => ⟨S16384x512, .f32⟩
  | .hbm, ⟨31, _⟩ => ⟨S16384x1536, .f32⟩
  | .hbm, ⟨32, _⟩ => ⟨S16384x384, .f32⟩
  | .hbm, ⟨33, _⟩ => ⟨S_, .f32⟩
  | .hbm, ⟨34, _⟩ => ⟨S16384x512, .f32⟩
  | .hbm, ⟨35, _⟩ => ⟨S16384x512, .f32⟩
  | .hbm, ⟨36, _⟩ => ⟨S_, .f32⟩
  | .hbm, ⟨37, _⟩ => ⟨S_, .f32⟩
  | .hbm, ⟨38, _⟩ => ⟨S16384x512, .f32⟩
  | .hbm, ⟨39, _⟩ => ⟨S16384x512, .f32⟩
  | .hbm, ⟨40, _⟩ => ⟨S4x4096x512, .f32⟩
  | .hbm, ⟨41, _⟩ => ⟨S4x512x4096, .f32⟩
  | .hbm, ⟨42, _⟩ => ⟨S4x16x256x8x64, .f32⟩
  | .hbm, ⟨43, _⟩ => ⟨S4x16x8x64x256, .f32⟩
  | .hbm, ⟨44, _⟩ => ⟨S_, .f32⟩
  | .hbm, ⟨45, _⟩ => ⟨S4x16x8x16x256, .f32⟩
  | .hbm, ⟨46, _⟩ => ⟨S4x16x8x80x256, .f32⟩
  | .hbm, ⟨47, _⟩ => ⟨S4x16x640x256, .f32⟩
  | .hbm, ⟨48, _⟩ => ⟨S4x512x4096, .bf16⟩
  | .hbm, ⟨49, _⟩ => ⟨S16384x512, .bf16⟩
  | .hbm, ⟨50, _⟩ => ⟨S4x16x640x256, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Kernel5.lean ====
abbrev S16384x1024 : Shape := ⟨2, ![16384, 1024]⟩
abbrev S16384x8 : Shape := ⟨2, ![16384, 8]⟩
abbrev S1x1024 : Shape := ⟨2, ![1, 1024]⟩
abbrev S512x1024 : Shape := ⟨2, ![512, 1024]⟩
abbrev S512x8 : Shape := ⟨2, ![512, 8]⟩
abbrev S512x1 : Shape := ⟨2, ![512, 1]⟩
abbrev S512 : Shape := ⟨1, ![512]⟩

abbrev nBuf : Space → Nat
  | .hbm => 6
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x8, .f32⟩
  | .hbm, ⟨4, _⟩ => ⟨S1x1024, .f32⟩
  | .hbm, ⟨5, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x8, .f32⟩
  | .local _ .vmem, ⟨7, _⟩ => ⟨S512x8, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel5Ideal.lean ====
abbrev S16384x1024 : Shape := ⟨2, ![16384, 1024]⟩
abbrev S16384x8 : Shape := ⟨2, ![16384, 8]⟩
abbrev S1x1024 : Shape := ⟨2, ![1, 1024]⟩
abbrev S512x1024 : Shape := ⟨2, ![512, 1024]⟩
abbrev S512x8 : Shape := ⟨2, ![512, 8]⟩
abbrev S512x1 : Shape := ⟨2, ![512, 1]⟩
abbrev S512 : Shape := ⟨1, ![512]⟩

abbrev nBuf : Space → Nat
  | .hbm => 6
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x8, .f32⟩
  | .hbm, ⟨4, _⟩ => ⟨S1x1024, .f32⟩
  | .hbm, ⟨5, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x8, .f32⟩
  | .local _ .vmem, ⟨7, _⟩ => ⟨S512x8, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S16384x1024 : Shape := ⟨2, ![16384, 1024]⟩
abbrev S16384x8 : Shape := ⟨2, ![16384, 8]⟩
abbrev S1x1024 : Shape := ⟨2, ![1, 1024]⟩
abbrev S16384x2 : Shape := ⟨2, ![16384, 2]⟩
abbrev S16384x1 : Shape := ⟨2, ![16384, 1]⟩
abbrev S1024 : Shape := ⟨1, ![1024]⟩
abbrev S_ : Shape := ⟨0, ![]⟩
abbrev S16384 : Shape := ⟨1, ![16384]⟩

abbrev nBuf : Space → Nat
  | .hbm => 31
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x8, .f32⟩
  | .hbm, ⟨4, _⟩ => ⟨S1x1024, .f32⟩
  | .hbm, ⟨5, _⟩ => ⟨S16384x2, .f32⟩
  | .hbm, ⟨6, _⟩ => ⟨S16384x1, .f32⟩
  | .hbm, ⟨7, _⟩ => ⟨S16384x1024, .f32⟩
  | .hbm, ⟨8, _⟩ => ⟨S16384x1024, .f32⟩
  | .hbm, ⟨9, _⟩ => ⟨S16384x1, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S16384x1024, .f32⟩
  | .hbm, ⟨30, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel6.lean ====
abbrev S32x1024 : Shape := ⟨2, ![32, 1024]⟩
abbrev S1x1024 : Shape := ⟨2, ![1, 1024]⟩
abbrev S1024x1536 : Shape := ⟨2, ![1024, 1536]⟩
abbrev S1024x384 : Shape := ⟨2, ![1024, 384]⟩
abbrev S32x512 : Shape := ⟨2, ![32, 512]⟩
abbrev S32x1536 : Shape := ⟨2, ![32, 1536]⟩
abbrev S32x384 : Shape := ⟨2, ![32, 384]⟩
abbrev S32 : Shape := ⟨1, ![32]⟩
abbrev S32x1 : Shape := ⟨2, ![32, 1]⟩
abbrev S1024x512 : Shape := ⟨2, ![1024, 512]⟩

abbrev nBuf : Space → Nat
  | .hbm => 10
  | .vmem => 10
  | .smem => 0
  | _ => 0

abbrev bufTy : (tb : Table) → Fin (tcTables nBuf tb) → BufTy
  | .hbm, ⟨0, _⟩ => ⟨S32x1024, .f32⟩
  | .hbm, ⟨1, _⟩ => ⟨S1x1024, .f32⟩
  | .hbm, ⟨2, _⟩ => ⟨S1024x1536, .f32⟩
  | .hbm, ⟨3, _⟩ => ⟨S1024x1536, .f32⟩
  | .hbm, ⟨4, _⟩ => ⟨S1024x384, .f32⟩
  | .hbm, ⟨5, _⟩ => ⟨S32x512, .f32⟩
  | .hbm, ⟨6, _⟩ => ⟨S32x512, .f32⟩
  | .hbm, ⟨7, _⟩ => ⟨S32x512, .f32⟩
  | .hbm, ⟨8, _⟩ => ⟨S32x1536, .f32⟩
  | .hbm, ⟨9, _⟩ => ⟨S32x384, .f32⟩
  | .local _ .vmem, ⟨0, _⟩ => ⟨S32x1024, .f32⟩
  | .local _ .vmem, ⟨1, _⟩ => ⟨S1x1024, .f32⟩
  | .local _ .vmem, ⟨2, _⟩ => ⟨S1024x1536, .f32⟩
  | .local _ .vmem, ⟨3, _⟩ => ⟨S1024x1536, .f32⟩
  | .local _ .vmem, ⟨4, _⟩ => ⟨S1024x384, .f32⟩
  | .local _ .vmem, ⟨5, _⟩ => ⟨S32x512, .f32⟩
  | .local _ .vmem, ⟨6, _⟩ => ⟨S32x512, .f32⟩
  | .local _ .vmem, ⟨7, _⟩ => ⟨S32x512, .f32⟩
  | .local _ .vmem, ⟨8, _⟩ => ⟨S32x1536, .f32⟩
  | .local _ .vmem, ⟨9, _⟩ => ⟨S32x384, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S32x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S32x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S32x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Kernel6Ideal.lean ====
variable {F : FTy → Type} [FloatOps F] [Named F]
def κ : String → Option EReal := fun
  | "q_scale" => some ((8⁻¹ * (Real.log 2)⁻¹ : ℝ) : EReal)
  | _ => none
-- ==== Reference6Ideal.lean ====
abbrev S32x1024 : Shape := ⟨2, ![32, 1024]⟩
abbrev S1x1024 : Shape := ⟨2, ![1, 1024]⟩
abbrev S1024x1536 : Shape := ⟨2, ![1024, 1536]⟩
abbrev S1024x384 : Shape := ⟨2, ![1024, 384]⟩
abbrev S1024 : Shape := ⟨1, ![1024]⟩
abbrev S_ : Shape := ⟨0, ![]⟩
abbrev S32 : Shape := ⟨1, ![32]⟩
abbrev S32x1 : Shape := ⟨2, ![32, 1]⟩
abbrev S1024x512 : Shape := ⟨2, ![1024, 512]⟩
abbrev S32x512 : Shape := ⟨2, ![32, 512]⟩
abbrev S32x1536 : Shape := ⟨2, ![32, 1536]⟩
abbrev S32x384 : Shape := ⟨2, ![32, 384]⟩

abbrev nBuf : Space → Nat
  | .hbm => 37
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1x1024, .f32⟩
  | .hbm, ⟨2, _⟩ => ⟨S1024x1536, .f32⟩
  | .hbm, ⟨3, _⟩ => ⟨S1024x1536, .f32⟩
  | .hbm, ⟨4, _⟩ => ⟨S1024x384, .f32⟩
  | .hbm, ⟨5, _⟩ => ⟨S1024, .f32⟩
  | .hbm, ⟨6, _⟩ => ⟨S32x1024, .f32⟩
  | .hbm, ⟨7, _⟩ => ⟨S_, .f32⟩
  | .hbm, ⟨8, _⟩ => ⟨S32, .f32⟩
  | .hbm, ⟨9, _⟩ => ⟨S32x1, .f32⟩
  | .hbm, ⟨10, _⟩ => ⟨S_, .f32⟩
  | .hbm, ⟨11, _⟩ => ⟨S32x1, .f32⟩
  | .hbm, ⟨12, _⟩ => ⟨S32x1, .f32⟩
  | .hbm, ⟨13, _⟩ => ⟨S_, .f32⟩
  | .hbm, ⟨14, _⟩ => ⟨S32x1, .f32⟩
  | .hbm, ⟨15, _⟩ => ⟨S32x1, .f32⟩
  | .hbm, ⟨16, _⟩ => ⟨S32x1, .f32⟩
  | .hbm, ⟨17, _⟩ => ⟨S32x1024, .f32⟩
  | .hbm, ⟨18, _⟩ => ⟨S32x1024, .f32⟩
  | .hbm, ⟨19, _⟩ => ⟨S1x1024, .f32⟩
  | .hbm, ⟨20, _⟩ => ⟨S32x1024, .f32⟩
  | .hbm, ⟨21, _⟩ => ⟨S32x1024, .f32⟩
  | .hbm, ⟨22, _⟩ => ⟨S1024x512, .f32⟩
  | .hbm, ⟨23, _⟩ => ⟨S32x512, .f32⟩
  | .hbm, ⟨24, _⟩ => ⟨S1024x512, .f32⟩
  | .hbm, ⟨25, _⟩ => ⟨S32x512, .f32⟩
  | .hbm, ⟨26, _⟩ => ⟨S1024x512, .f32⟩
  | .hbm, ⟨27, _⟩ => ⟨S32x512, .f32⟩
  | .hbm, ⟨28, _⟩ => ⟨S_, .f32⟩
  | .hbm, ⟨29, _⟩ => ⟨S32x512, .f32⟩
  | .hbm, ⟨30, _⟩ => ⟨S32x512, .f32⟩
  | .hbm, ⟨31, _⟩ => ⟨S_, .f32⟩
  | .hbm, ⟨32, _⟩ => ⟨S_, .f32⟩
  | .hbm, ⟨33, _⟩ => ⟨S32x512, .f32⟩
  | .hbm, ⟨34, _⟩ => ⟨S32x512, .f32⟩
  | .hbm, ⟨35, _⟩ => ⟨S32x1536, .f32⟩
  | .hbm, ⟨36, _⟩ => ⟨S32x384, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Kernel7.lean ====
abbrev S32x1024 : Shape := ⟨2, ![32, 1024]⟩
abbrev S32x8 : Shape := ⟨2, ![32, 8]⟩
abbrev S1x1024 : Shape := ⟨2, ![1, 1024]⟩
abbrev S32x1 : Shape := ⟨2, ![32, 1]⟩
abbrev S32 : Shape := ⟨1, ![32]⟩

abbrev nBuf : Space → Nat
  | .hbm => 6
  | .vmem => 6
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S32x1024, .f32⟩
  | .hbm, ⟨3, _⟩ => ⟨S32x8, .f32⟩
  | .hbm, ⟨4, _⟩ => ⟨S1x1024, .f32⟩
  | .hbm, ⟨5, _⟩ => ⟨S32x1024, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S32x8, .f32⟩
  | .local _ .vmem, ⟨4, _⟩ => ⟨S1x1024, .f32⟩
  | .local _ .vmem, ⟨5, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== Reference7Ideal.lean ====
abbrev S32x1024 : Shape := ⟨2, ![32, 1024]⟩
abbrev S32x8 : Shape := ⟨2, ![32, 8]⟩
abbrev S1x1024 : Shape := ⟨2, ![1, 1024]⟩
abbrev S32x2 : Shape := ⟨2, ![32, 2]⟩
abbrev S32x1 : Shape := ⟨2, ![32, 1]⟩
abbrev S1024 : Shape := ⟨1, ![1024]⟩
abbrev S_ : Shape := ⟨0, ![]⟩
abbrev S32 : Shape := ⟨1, ![32]⟩

abbrev nBuf : Space → Nat
  | .hbm => 31
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S32x1024, .f32⟩
  | .hbm, ⟨3, _⟩ => ⟨S32x8, .f32⟩
  | .hbm, ⟨4, _⟩ => ⟨S1x1024, .f32⟩
  | .hbm, ⟨5, _⟩ => ⟨S32x2, .f32⟩
  | .hbm, ⟨6, _⟩ => ⟨S32x1, .f32⟩
  | .hbm, ⟨7, _⟩ => ⟨S32x1024, .f32⟩
  | .hbm, ⟨8, _⟩ => ⟨S32x1024, .f32⟩
  | .hbm, ⟨9, _⟩ => ⟨S32x1, .f32⟩
  | .hbm, ⟨10, _⟩ => ⟨S32x1024, .f32⟩
  | .hbm, ⟨11, _⟩ => ⟨S32x1024, .f32⟩
  | .hbm, ⟨12, _⟩ => ⟨S32x1024, .f32⟩
  | .hbm, ⟨13, _⟩ => ⟨S32x1024, .f32⟩
  | .hbm, ⟨14, _⟩ => ⟨S1024, .f32⟩
  | .hbm, ⟨15, _⟩ => ⟨S32x1024, .f32⟩
  | .hbm, ⟨16, _⟩ => ⟨S_, .f32⟩
  | .hbm, ⟨17, _⟩ => ⟨S32, .f32⟩
  | .hbm, ⟨18, _⟩ => ⟨S32x1, .f32⟩
  | .hbm, ⟨19, _⟩ => ⟨S_, .f32⟩
  | .hbm, ⟨20, _⟩ => ⟨S32x1, .f32⟩
  | .hbm, ⟨21, _⟩ => ⟨S32x1, .f32⟩
  | .hbm, ⟨22, _⟩ => ⟨S_, .f32⟩
  | .hbm, ⟨23, _⟩ => ⟨S32x1, .f32⟩
  | .hbm, ⟨24, _⟩ => ⟨S32x1, .f32⟩
  | .hbm, ⟨25, _⟩ => ⟨S32x1, .f32⟩
  | .hbm, ⟨26, _⟩ => ⟨S32x1024, .f32⟩
  | .hbm, ⟨27, _⟩ => ⟨S32x1024, .f32⟩
  | .hbm, ⟨28, _⟩ => ⟨S1x1024, .f32⟩
  | .hbm, ⟨29, _⟩ => ⟨S32x1024, .f32⟩
  | .hbm, ⟨30, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Proof.Body.lean ====
/-
  The prompt attention's kernel body, run once at symbolic operands: from the four staged inputs and the two scratch
  buffers at any contents, what it leaves in its output block.
-/
module

public import proofs.«01_k».proof.Proof.Gen.KernelIdeal.Frame
public import proofs.«01_k».proof.Proof.Gen.KernelIdeal.Loops
public import proofs.«01_k».proof.Proof.Gen.KernelIdeal.Skeleton
public import Idealize.ShloMosaic.Lib.LoopRemainder
public import Idealize.ShloMosaic.Lib.Tactic

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- A memref's elements held on core `c` at contents `f`. -/
abbrev at_ (c : Dev nD) {S : Shape} {e : EltTy} (M : Memref sig .tc .vmem S e) (f : BufTy.Contents (Elt F) M.view.ty) : sProp 𝕄 :=
  M.view.loc (c : Thread nD τ) ↦[M.view.set]{fullShare} f

set_option maxHeartbeats 0 in
/-- ONE POINT of the grid: the body from its operands to its return, what it writes in the output found by the run. -/
@[irreducible] def bodyRun (c : Dev nD) (i : grid0.Coords) (arg3 : Memref sig .tc .vmem S1x128x512 .f32) (harg3 : arg3.IsWhole) (arg4 : Memref sig .tc .vmem S1x16x256x128 .bf16) (harg4 : arg4.IsWhole) (arg5 : Memref sig .tc .vmem S1x16x160x256 .bf16) (harg5 : arg5.IsWhole) (arg6 : Memref sig .tc .vmem S1x16x128 .f32) (harg6 : arg6.IsWhole) (arg7 : Memref sig .tc .vmem S1x512x128 .bf16) (harg7 : arg7.IsWhole) (arg8 : Memref sig .tc .vmem S2x16x512 .f32) (harg8 : arg8.IsWhole) (arg9 : Memref sig .tc .vmem S2x18x256x512 .f32) (harg9 : arg9.IsWhole)
    (X3 : BufTy.Contents (Elt F) arg3.view.ty) (X4 : BufTy.Contents (Elt F) arg4.view.ty) (X5 : BufTy.Contents (Elt F) arg5.view.ty) (X6 : BufTy.Contents (Elt F) arg6.view.ty)
    (f8 : BufTy.Contents (Elt F) arg8.view.ty) (f9 : BufTy.Contents (Elt F) arg9.view.ty) :
    { L : List (View.Piece (Elt F) S1x512x128 .bf16) // ∀ (E : Set ℕ) (f7 : BufTy.Contents (Elt F) arg7.view.ty),
      iprop(at_ c arg3 X3 ∗ at_ c arg4 X4 ∗ at_ c arg5 X5 ∗ at_ c arg6 X6 ∗ at_ c arg7 f7 ∗ at_ c arg8 f8 ∗ at_ c arg9 f9)
      ⊢ wp frame (wpE (defs₀ (F := F)) Variants.none c none) E
          (cc0_moba_prompt i arg3 harg3 arg4 harg4 arg5 harg5 arg6 harg6 arg7 harg7 arg8 harg8 arg9 harg9)
          (fun _ => iprop(at_ c arg3 X3 ∗ at_ c arg4 X4 ∗ at_ c arg5 X5 ∗ at_ c arg6 X6
            ∗ at_ c arg7 (arg7.view.writes (Elt F) f7 L) ∗ (∃ f, at_ c arg8 f) ∗ (∃ f, at_ c arg9 f))) } := by
  refine ⟨?_, fun E f7 => ?run⟩
  case run =>
    simp only [cc0_moba_prompt_eq_skeleton]; unfold cc0_moba_prompt_skel
    simp only [k0_part11_eq_skeleton, k0_part12_eq_skeleton, k0_part13_eq_skeleton, k0_part14_eq_skeleton, k0_part15_eq_skeleton, k0_part16_eq_skeleton, k0_part17_eq_skeleton, k0_part18_eq_skeleton]
    iintro ⟨H3, H4, H5, H6, H7, H8, H9⟩
    sl_exec
    sl_step
    isplitl [H3]; · iexact H3
    isplitl [H4]; · iexact H4
    isplitl [H5]; · iexact H5
    isplitl [H6]; · iexact H6
    isplitl [H7]; · iexact H7
    isplitl [H8]; · iexists _; iexact H8
    iexists _; iexact H9

end Cert.KernelIdeal.Body

end
-- ==== Proof.Trips.lean ====
/-
  The two loops of the attention's kernel body in closed form: a trip of the first stores the scores of four key blocks
  for each head of the pair and takes their maximum; a trip of the second adds the four blocks' weighted values.
-/
module

public import proofs.«01_k».proof.Proof.Gen.KernelIdeal.Loops
public import proofs.«01_k».proof.Proof.Gen.KernelIdeal
public import Idealize.ShloMosaic.Lib.Pointwise
public import Idealize.ShloMosaic.Lib.WritesUnit
public import Idealize.ShloMosaic.Lib.Pipeline.ValueKit.Tiles

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI Idealize.SL.Sem

variable {F : FTy → Type} [FloatOps F] [Named F]

/-- The scores of one key block: its rows against the masked queries, plus the block's bias. -/
def scB (q : FVec F S128x512 .bf16) (kb : FVec F S1x1x256x128 .bf16) (b : FVec F S1x1x512 .f32) : FVec F S256x512 .f32 :=
  addf (matmul dot_S256x128_S128x512_S256x512_1_0_0_1_n_n none (shapeCast S256x128 kb shapeCasts_S1x1x256x128_S256x128) q (constant S256x512 .f32 0x00000000#32))
    (broadcastTo S256x512 (shapeCast S1x512 b shapeCasts_S1x1x512_S1x512) broadcasts_S1x512_S256x512)

/-- The same, as stored in the scratch. -/
def scP (q : FVec F S128x512 .bf16) (kb : FVec F S1x1x256x128 .bf16) (b : FVec F S1x1x512 .f32) : FVec F S1x1x256x512 .f32 :=
  shapeCast S1x1x256x512 (scB q kb b) shapeCasts_S256x512_S1x1x256x512

/-- The maximum of one block's scores over its keys. -/
def mxB (s : FVec F S256x512 .f32) : FVec F S1x512 .f32 :=
  shapeCast S1x512 (multiReduction .maximumf [0] S512 s 0xFF800000#32 reduces_S256x512_S512 (.inl rfl) rfl) shapeCasts_S512_S1x512

/-- The weights of one stored block of scores under the maximum `m`. -/
def wtB (m : FVec F S1x512 .f32) (sp : FVec F S1x1x256x512 .f32) : FVec F S256x512 .bf16 :=
  truncf .bf16 (exp2 (subf (shapeCast S256x512 sp shapeCasts_S1x1x256x512_S256x512) (broadcastTo S256x512 m broadcasts_S1x512_S256x512))) bitsLt_bf16_f32

/-- One block's values, weighted and summed: the pair's first head; -/
def avB0 (vb : FVec F S1x1x160x256 .bf16) (m : FVec F S1x512 .f32) (sp : FVec F S1x1x256x512 .f32) : FVec F S80x512 .f32 :=
  matmul dot_S80x256_S256x512_S80x512_1_0_0_1_n_n none (extractStridedSlice S80x256 ![0, 0] (shapeCast S160x256 vb shapeCasts_S1x1x160x256_S160x256) slices_S160x256_o0_0_S80x256)
    (wtB m sp) (constant S80x512 .f32 0x00000000#32)

/-- the second head. -/
def avB1 (vb : FVec F S1x1x160x256 .bf16) (m : FVec F S1x512 .f32) (sp : FVec F S1x1x256x512 .f32) : FVec F S80x512 .f32 :=
  matmul dot_S80x256_S256x512_S80x512_1_0_0_1_n_n none (extractStridedSlice S80x256 ![80, 0] (shapeCast S160x256 vb shapeCasts_S1x1x160x256_S160x256) slices_S160x256_o80_0_S80x256)
    (wtB m sp) (constant S80x512 .f32 0x00000000#32)

/-- Key block `j` of the staged keys; -/
def kblk (K : S1x16x256x128.Idx → Elt F .bf16) (j : ℕ) : FVec F S1x1x256x128 .bf16 := fun x => K (ix4 0 (Fin.ofNat 16 j) (x 2) (x 3))
/-- value block `j` of the staged values; -/
def vblk (V : S1x16x160x256.Idx → Elt F .bf16) (j : ℕ) : FVec F S1x1x160x256 .bf16 := fun x => V (ix4 0 (Fin.ofNat 16 j) (x 2) (x 3))
/-- the bias row of head `h` and block `j`; -/
def brow (b : S2x16x512.Idx → Elt F .f32) (h : Fin 2) (j : ℕ) : FVec F S1x1x512 .f32 := fun x => b (ix3 h (Fin.ofNat 16 j) (x 2))
/-- slab `j` of head `h` of the scores' scratch. -/
def sblk (s : S2x18x256x512.Idx → Elt F .f32) (h : Fin 2) (j : ℕ) : FVec F S1x1x256x512 .f32 := fun x => s (ix4 h (Fin.ofNat 18 j) (x 2) (x 3))

theorem load_k {sig : RefSig} {κ : Kind} {sp : Space} (v : View sig κ sp S1x16x256x128 .bf16) (X : v.ty.Contents (Elt F)) (j : ℕ) (hj : j < 16) {off : Fin 4 → ℕ} (hoff : off = ![0, j, 0, 0])
    (inb : ∀ a, off a + S1x1x256x128.size a ≤ S1x16x256x128.size a) :
    v.readAt (Elt F) (Rect.unit (s := S1x16x256x128) off S1x1x256x128.size inb).toLoadRect X = kblk (v.read (Elt F) X) j := by
  subst hoff
  funext x
  refine congrArg (v.read (Elt F) X) (funext fun a => Fin.ext ?_)
  have h0 : (x 0).val < 1 := (x 0).isLt
  have h1 : (x 1).val < 1 := (x 1).isLt
  fin_cases a
  · show 0 + 1 * (x 0).val = 0; omega
  · show j + 1 * (x 1).val = j % 16; omega
  · show 0 + 1 * (x 2).val = (x 2).val; omega
  · show 0 + 1 * (x 3).val = (x 3).val; omega

theorem load_v {sig : RefSig} {κ : Kind} {sp : Space} (v : View sig κ sp S1x16x160x256 .bf16) (X : v.ty.Contents (Elt F)) (j : ℕ) (hj : j < 16) {off : Fin 4 → ℕ} (hoff : off = ![0, j, 0, 0])
    (inb : ∀ a, off a + S1x1x160x256.size a ≤ S1x16x160x256.size a) :
    v.readAt (Elt F) (Rect.unit (s := S1x16x160x256) off S1x1x160x256.size inb).toLoadRect X = vblk (v.read (Elt F) X) j := by
  subst hoff
  funext x
  refine congrArg (v.read (Elt F) X) (funext fun a => Fin.ext ?_)
  have h0 : (x 0).val < 1 := (x 0).isLt
  have h1 : (x 1).val < 1 := (x 1).isLt
  fin_cases a
  · show 0 + 1 * (x 0).val = 0; omega
  · show j + 1 * (x 1).val = j % 16; omega
  · show 0 + 1 * (x 2).val = (x 2).val; omega
  · show 0 + 1 * (x 3).val = (x 3).val; omega

theorem load_b {sig : RefSig} {κ : Kind} {sp : Space} (v : View sig κ sp S2x16x512 .f32) (X : v.ty.Contents (Elt F)) (h : Fin 2) (j : ℕ) (hj : j < 16) {off : Fin 3 → ℕ} (hoff : off = ![h.val, j, 0])
    (inb : ∀ a, off a + S1x1x512.size a ≤ S2x16x512.size a) :
    v.readAt (Elt F) (Rect.unit (s := S2x16x512) off S1x1x512.size inb).toLoadRect X = brow (v.read (Elt F) X) h j := by
  subst hoff
  funext x
  refine congrArg (v.read (Elt F) X) (funext fun a => Fin.ext ?_)
  have h0 : (x 0).val < 1 := (x 0).isLt
  have h1 : (x 1).val < 1 := (x 1).isLt
  fin_cases a
  · show h.val + 1 * (x 0).val = h.val; omega
  · show j + 1 * (x 1).val = j % 16; omega
  · show 0 + 1 * (x 2).val = (x 2).val; omega

/-- The place of an element of slab `j` of head `h`. -/
theorem emb_s (h : Fin 2) (j : ℕ) (hj : j < 18) {off : Fin 4 → ℕ} (hoff : off = ![h.val, j, 0, 0])
    (inb : ∀ a, off a + S1x1x256x512.size a ≤ S2x18x256x512.size a) (x : (Rect.unit (s := S2x18x256x512) off S1x1x256x512.size inb).shape.Idx) :
    (Rect.unit (s := S2x18x256x512) off S1x1x256x512.size inb).emb x = ix4 h (Fin.ofNat 18 j) (x 2) (x 3) := by
  subst hoff
  refine funext fun a => Fin.ext ?_
  have h0 : (x 0).val < 1 := (x 0).isLt
  have h1 : (x 1).val < 1 := (x 1).isLt
  fin_cases a
  · show h.val + 1 * (x 0).val = h.val; omega
  · show j + 1 * (x 1).val = j % 18; omega
  · show 0 + 1 * (x 2).val = (x 2).val; omega
  · show 0 + 1 * (x 3).val = (x 3).val; omega

/-- The elements of slab `j` of head `h` are the scratch's at those coordinates. -/
theorem mem_s (h : Fin 2) (j : ℕ) (hj : j < 18) {off : Fin 4 → ℕ} (hoff : off = ![h.val, j, 0, 0])
    (inb : ∀ a, off a + S1x1x256x512.size a ≤ S2x18x256x512.size a) (y : S2x18x256x512.Idx) (h0 : (y 0).val = h.val) (h1 : (y 1).val = j) :
    y ∈ (Rect.unit (s := S2x18x256x512) off S1x1x256x512.size inb).set := by
  subst hoff
  rw [Rect.mem_set_unit]
  intro a
  have h2 : (y 2).val < 256 := (y 2).isLt
  have h3 : (y 3).val < 512 := (y 3).isLt
  fin_cases a
  · show h.val ≤ (y 0).val ∧ (y 0).val < h.val + 1; omega
  · show j ≤ (y 1).val ∧ (y 1).val < j + 1; omega
  · show 0 ≤ (y 2).val ∧ (y 2).val < 0 + 256; omega
  · show 0 ≤ (y 3).val ∧ (y 3).val < 0 + 512; omega

theorem load_s {sig : RefSig} {κ : Kind} {sp : Space} (v : View sig κ sp S2x18x256x512 .f32) (X : v.ty.Contents (Elt F)) (h : Fin 2) (j : ℕ) (hj : j < 18) {off : Fin 4 → ℕ} (hoff : off = ![h.val, j, 0, 0])
    (inb : ∀ a, off a + S1x1x256x512.size a ≤ S2x18x256x512.size a) :
    v.readAt (Elt F) (Rect.unit (s := S2x18x256x512) off S1x1x256x512.size inb).toLoadRect X = sblk (v.read (Elt F) X) h j :=
  funext fun x => congrArg (v.read (Elt F) X) (emb_s h j hj hoff inb x)

/-- The maxima of head `h` after `n` trips from `m`. -/
def mxN (q : FVec F S128x512 .bf16) (K : S1x16x256x128.Idx → Elt F .bf16) (b : S2x16x512.Idx → Elt F .f32) (h : Fin 2) (m : FVec F S1x512 .f32) : ℕ → FVec F S1x512 .f32
  | 0 => m
  | n + 1 => maximumf (maximumf (maximumf (maximumf (mxN q K b h m n) (mxB (scB q (kblk K (4 * n + 0)) (brow b h (4 * n + 0))))) (mxB (scB q (kblk K (4 * n + 1)) (brow b h (4 * n + 1)))))
      (mxB (scB q (kblk K (4 * n + 2)) (brow b h (4 * n + 2))))) (mxB (scB q (kblk K (4 * n + 3)) (brow b h (4 * n + 3))))

/-- The weighted values after `n` trips from `a`: the pair's first head; -/
def avN0 (V : S1x16x160x256.Idx → Elt F .bf16) (m : FVec F S1x512 .f32) (s : S2x18x256x512.Idx → Elt F .f32) (a : FVec F S80x512 .f32) : ℕ → FVec F S80x512 .f32
  | 0 => a
  | n + 1 => addf (addf (addf (addf (avN0 V m s a n) (avB0 (vblk V (4 * n + 0)) m (sblk s 0 (4 * n + 0)))) (avB0 (vblk V (4 * n + 1)) m (sblk s 0 (4 * n + 1))))
      (avB0 (vblk V (4 * n + 2)) m (sblk s 0 (4 * n + 2)))) (avB0 (vblk V (4 * n + 3)) m (sblk s 0 (4 * n + 3)))

/-- the second head. -/
def avN1 (V : S1x16x160x256.Idx → Elt F .bf16) (m : FVec F S1x512 .f32) (s : S2x18x256x512.Idx → Elt F .f32) (a : FVec F S80x512 .f32) : ℕ → FVec F S80x512 .f32
  | 0 => a
  | n + 1 => addf (addf (addf (addf (avN1 V m s a n) (avB1 (vblk V (4 * n + 0)) m (sblk s 1 (4 * n + 0)))) (avB1 (vblk V (4 * n + 1)) m (sblk s 1 (4 * n + 1))))
      (avB1 (vblk V (4 * n + 2)) m (sblk s 1 (4 * n + 2)))) (avB1 (vblk V (4 * n + 3)) m (sblk s 1 (4 * n + 3)))

/-- The two heads' masked queries as one family. -/
def qsel (q0 q1 : FVec F S128x512 .bf16) (h : Fin 2) : FVec F S128x512 .bf16 := if h = 0 then q0 else q1

set_option maxHeartbeats 400000 in
/-- ONE TRIP of the score loop: what it yields; -/
theorem tripR1_eq (c : Dev nD) (i : grid0.Coords) (arg3 : Memref sig .tc .vmem S1x128x512 .f32) (harg3 : arg3.IsWhole) (arg4 : Memref sig .tc .vmem S1x16x256x128 .bf16) (harg4 : arg4.IsWhole) (arg5 : Memref sig .tc .vmem S1x16x160x256 .bf16) (harg5 : arg5.IsWhole) (arg6 : Memref sig .tc .vmem S1x16x128 .f32) (harg6 : arg6.IsWhole) (arg7 : Memref sig .tc .vmem S1x512x128 .bf16) (harg7 : arg7.IsWhole) (arg8 : Memref sig .tc .vmem S2x16x512 .f32) (harg8 : arg8.IsWhole) (arg9 : Memref sig .tc .vmem S2x18x256x512 .f32) (harg9 : arg9.IsWhole) (v0 : BitVec 32) (v24 : FVec F S128x512 .bf16) (v93 : FVec F S128x512 .bf16) (v196 : FVec F S1x512 .f32) (v225 : FVec F S1x512 .f32) (v227 : BitVec 32) (c4 : BitVec 32) (v228 : BitVec 32) (v233 : BitVec 32) (v235 : BitVec 32) (X4 : BufTy.Contents (Elt F) arg4.view.ty) (X8 : BufTy.Contents (Elt F) arg8.view.ty) (k : Fin (k0_t1_loop i).trips) (acc : FVec F S1x512 .f32 × FVec F S1x512 .f32) (n : ℕ) (hn : k.val = n) :
    tripR_k0_t1 (F := F) Variants.none c none i arg3 harg3 arg4 harg4 arg5 harg5 arg6 harg6 arg7 harg7 arg8 harg8 arg9 harg9 v0 v24 v93 v196 v225 v227 c4 v228 v233 v235 X4 X8 k acc
      = (mxN v24 (arg4.view.read (Elt F) X4) (arg8.view.read (Elt F) X8) 0 acc.1 0 |> fun a => maximumf (maximumf (maximumf (maximumf a
            (mxB (scB v24 (kblk (arg4.view.read (Elt F) X4) (4 * n + 0)) (brow (arg8.view.read (Elt F) X8) 0 (4 * n + 0)))))
            (mxB (scB v24 (kblk (arg4.view.read (Elt F) X4) (4 * n + 1)) (brow (arg8.view.read (Elt F) X8) 0 (4 * n + 1)))))
            (mxB (scB v24 (kblk (arg4.view.read (Elt F) X4) (4 * n + 2)) (brow (arg8.view.read (Elt F) X8) 0 (4 * n + 2)))))
            (mxB (scB v24 (kblk (arg4.view.read (Elt F) X4) (4 * n + 3)) (brow (arg8.view.read (Elt F) X8) 0 (4 * n + 3)))),
          maximumf (maximumf (maximumf (maximumf acc.2
            (mxB (scB v93 (kblk (arg4.view.read (Elt F) X4) (4 * n + 0)) (brow (arg8.view.read (Elt F) X8) 1 (4 * n + 0)))))
            (mxB (scB v93 (kblk (arg4.view.read (Elt F) X4) (4 * n + 1)) (brow (arg8.view.read (Elt F) X8) 1 (4 * n + 1)))))
            (mxB (scB v93 (kblk (arg4.view.read (Elt F) X4) (4 * n + 2)) (brow (arg8.view.read (Elt F) X8) 1 (4 * n + 2)))))
            (mxB (scB v93 (kblk (arg4.view.read (Elt F) X4) (4 * n + 3)) (brow (arg8.view.read (Elt F) X8) 1 (4 * n + 3))))) := by
  subst hn
  have hk : k.val < 4 := Nat.lt_of_lt_of_le k.isLt (k0_t1_abs i).2.1
  rw [← load_k arg4.view X4 (4 * k.val + 0) (by omega) (k0_off3_eq i k 0) (k0_off3_inb i k 0),
    ← load_k arg4.view X4 (4 * k.val + 1) (by omega) (k0_off3_eq i k 1) (k0_off3_inb i k 1),
    ← load_k arg4.view X4 (4 * k.val + 2) (by omega) (k0_off3_eq i k 2) (k0_off3_inb i k 2),
    ← load_k arg4.view X4 (4 * k.val + 3) (by omega) (k0_off3_eq i k 3) (k0_off3_inb i k 3),
    ← load_b arg8.view X8 0 (4 * k.val + 0) (by omega) (k0_off4_eq i k 0) (k0_off4_inb i k 0),
    ← load_b arg8.view X8 0 (4 * k.val + 1) (by omega) (k0_off4_eq i k 1) (k0_off4_inb i k 1),
    ← load_b arg8.view X8 0 (4 * k.val + 2) (by omega) (k0_off4_eq i k 2) (k0_off4_inb i k 2),
    ← load_b arg8.view X8 0 (4 * k.val + 3) (by omega) (k0_off4_eq i k 3) (k0_off4_inb i k 3),
    ← load_b arg8.view X8 1 (4 * k.val + 0) (by omega) (k0_off6_eq i k 0) (k0_off6_inb i k 0),
    ← load_b arg8.view X8 1 (4 * k.val + 1) (by omega) (k0_off6_eq i k 1) (k0_off6_inb i k 1),
    ← load_b arg8.view X8 1 (4 * k.val + 2) (by omega) (k0_off6_eq i k 2) (k0_off6_inb i k 2),
    ← load_b arg8.view X8 1 (4 * k.val + 3) (by omega) (k0_off6_eq i k 3) (k0_off6_inb i k 3)]
  unfold tripR_k0_t1 trip_k0_t1
  rfl

set_option maxHeartbeats 400000 in
/-- what it stores, last store first. -/
theorem tripL1_eq (c : Dev nD) (i : grid0.Coords) (arg3 : Memref sig .tc .vmem S1x128x512 .f32) (harg3 : arg3.IsWhole) (arg4 : Memref sig .tc .vmem S1x16x256x128 .bf16) (harg4 : arg4.IsWhole) (arg5 : Memref sig .tc .vmem S1x16x160x256 .bf16) (harg5 : arg5.IsWhole) (arg6 : Memref sig .tc .vmem S1x16x128 .f32) (harg6 : arg6.IsWhole) (arg7 : Memref sig .tc .vmem S1x512x128 .bf16) (harg7 : arg7.IsWhole) (arg8 : Memref sig .tc .vmem S2x16x512 .f32) (harg8 : arg8.IsWhole) (arg9 : Memref sig .tc .vmem S2x18x256x512 .f32) (harg9 : arg9.IsWhole) (v0 : BitVec 32) (v24 : FVec F S128x512 .bf16) (v93 : FVec F S128x512 .bf16) (v196 : FVec F S1x512 .f32) (v225 : FVec F S1x512 .f32) (v227 : BitVec 32) (c4 : BitVec 32) (v228 : BitVec 32) (v233 : BitVec 32) (v235 : BitVec 32) (X4 : BufTy.Contents (Elt F) arg4.view.ty) (X8 : BufTy.Contents (Elt F) arg8.view.ty) (k : Fin (k0_t1_loop i).trips) (acc : FVec F S1x512 .f32 × FVec F S1x512 .f32) :
    tripL_k0_t1 (F := F) Variants.none c none i arg3 harg3 arg4 harg4 arg5 harg5 arg6 harg6 arg7 harg7 arg8 harg8 arg9 harg9 v0 v24 v93 v196 v225 v227 c4 v228 v233 v235 X4 X8 k acc
      = [⟨Rect.unit (s := S2x18x256x512) (k0_off7 i k 3#32) S1x1x256x512.size (k0_off7_inb i k 3), scP v93 (kblk (arg4.view.read (Elt F) X4) (4 * k.val + 3)) (brow (arg8.view.read (Elt F) X8) 1 (4 * k.val + 3))⟩,
         ⟨Rect.unit (s := S2x18x256x512) (k0_off5 i k 3#32) S1x1x256x512.size (k0_off5_inb i k 3), scP v24 (kblk (arg4.view.read (Elt F) X4) (4 * k.val + 3)) (brow (arg8.view.read (Elt F) X8) 0 (4 * k.val + 3))⟩,
         ⟨Rect.unit (s := S2x18x256x512) (k0_off7 i k 2#32) S1x1x256x512.size (k0_off7_inb i k 2), scP v93 (kblk (arg4.view.read (Elt F) X4) (4 * k.val + 2)) (brow (arg8.view.read (Elt F) X8) 1 (4 * k.val + 2))⟩,
         ⟨Rect.unit (s := S2x18x256x512) (k0_off5 i k 2#32) S1x1x256x512.size (k0_off5_inb i k 2), scP v24 (kblk (arg4.view.read (Elt F) X4) (4 * k.val + 2)) (brow (arg8.view.read (Elt F) X8) 0 (4 * k.val + 2))⟩,
         ⟨Rect.unit (s := S2x18x256x512) (k0_off7 i k 1#32) S1x1x256x512.size (k0_off7_inb i k 1), scP v93 (kblk (arg4.view.read (Elt F) X4) (4 * k.val + 1)) (brow (arg8.view.read (Elt F) X8) 1 (4 * k.val + 1))⟩,
         ⟨Rect.unit (s := S2x18x256x512) (k0_off5 i k 1#32) S1x1x256x512.size (k0_off5_inb i k 1), scP v24 (kblk (arg4.view.read (Elt F) X4) (4 * k.val + 1)) (brow (arg8.view.read (Elt F) X8) 0 (4 * k.val + 1))⟩,
         ⟨Rect.unit (s := S2x18x256x512) (k0_off7 i k 0#32) S1x1x256x512.size (k0_off7_inb i k 0), scP v93 (kblk (arg4.view.read (Elt F) X4) (4 * k.val + 0)) (brow (arg8.view.read (Elt F) X8) 1 (4 * k.val + 0))⟩,
         ⟨Rect.unit (s := S2x18x256x512) (k0_off5 i k 0#32) S1x1x256x512.size (k0_off5_inb i k 0), scP v24 (kblk (arg4.view.read (Elt F) X4) (4 * k.val + 0)) (brow (arg8.view.read (Elt F) X8) 0 (4 * k.val + 0))⟩] := by
  have hk : k.val < 4 := Nat.lt_of_lt_of_le k.isLt (k0_t1_abs i).2.1
  rw [← load_k arg4.view X4 (4 * k.val + 0) (by omega) (k0_off3_eq i k 0) (k0_off3_inb i k 0),
    ← load_k arg4.view X4 (4 * k.val + 1) (by omega) (k0_off3_eq i k 1) (k0_off3_inb i k 1),
    ← load_k arg4.view X4 (4 * k.val + 2) (by omega) (k0_off3_eq i k 2) (k0_off3_inb i k 2),
    ← load_k arg4.view X4 (4 * k.val + 3) (by omega) (k0_off3_eq i k 3) (k0_off3_inb i k 3),
    ← load_b arg8.view X8 0 (4 * k.val + 0) (by omega) (k0_off4_eq i k 0) (k0_off4_inb i k 0),
    ← load_b arg8.view X8 0 (4 * k.val + 1) (by omega) (k0_off4_eq i k 1) (k0_off4_inb i k 1),
    ← load_b arg8.view X8 0 (4 * k.val + 2) (by omega) (k0_off4_eq i k 2) (k0_off4_inb i k 2),
    ← load_b arg8.view X8 0 (4 * k.val + 3) (by omega) (k0_off4_eq i k 3) (k0_off4_inb i k 3),
    ← load_b arg8.view X8 1 (4 * k.val + 0) (by omega) (k0_off6_eq i k 0) (k0_off6_inb i k 0),
    ← load_b arg8.view X8 1 (4 * k.val + 1) (by omega) (k0_off6_eq i k 1) (k0_off6_inb i k 1),
    ← load_b arg8.view X8 1 (4 * k.val + 2) (by omega) (k0_off6_eq i k 2) (k0_off6_inb i k 2),
    ← load_b arg8.view X8 1 (4 * k.val + 3) (by omega) (k0_off6_eq i k 3) (k0_off6_inb i k 3)]
  unfold tripL_k0_t1 trip_k0_t1
  rfl

set_option maxHeartbeats 400000 in
/-- ONE TRIP of the value loop. -/
theorem tripR3_eq (c : Dev nD) (i : grid0.Coords) (arg3 : Memref sig .tc .vmem S1x128x512 .f32) (harg3 : arg3.IsWhole) (arg4 : Memref sig .tc .vmem S1x16x256x128 .bf16) (harg4 : arg4.IsWhole) (arg5 : Memref sig .tc .vmem S1x16x160x256 .bf16) (harg5 : arg5.IsWhole) (arg6 : Memref sig .tc .vmem S1x16x128 .f32) (harg6 : arg6.IsWhole) (arg7 : Memref sig .tc .vmem S1x512x128 .bf16) (harg7 : arg7.IsWhole) (arg8 : Memref sig .tc .vmem S2x16x512 .f32) (harg8 : arg8.IsWhole) (arg9 : Memref sig .tc .vmem S2x18x256x512 .f32) (harg9 : arg9.IsWhole) (m0 : FVec F S1x512 .f32) (m1 : FVec F S1x512 .f32) (c0 : BitVec 32) (X5 : BufTy.Contents (Elt F) arg5.view.ty) (X9 : BufTy.Contents (Elt F) arg9.view.ty) (k : Fin (k0_t3_loop i).trips) (acc : FVec F S80x512 .f32 × FVec F S80x512 .f32) :
    tripR_k0_t3 (F := F) Variants.none c none i arg3 harg3 arg4 harg4 arg5 harg5 arg6 harg6 arg7 harg7 arg8 harg8 arg9 harg9 m0 m1 c0 X5 X9 k acc
      = (addf (addf (addf (addf acc.1
            (avB0 (vblk (arg5.view.read (Elt F) X5) (4 * k.val + 0)) m0 (sblk (arg9.view.read (Elt F) X9) 0 (4 * k.val + 0))))
            (avB0 (vblk (arg5.view.read (Elt F) X5) (4 * k.val + 1)) m0 (sblk (arg9.view.read (Elt F) X9) 0 (4 * k.val + 1))))
            (avB0 (vblk (arg5.view.read (Elt F) X5) (4 * k.val + 2)) m0 (sblk (arg9.view.read (Elt F) X9) 0 (4 * k.val + 2))))
            (avB0 (vblk (arg5.view.read (Elt F) X5) (4 * k.val + 3)) m0 (sblk (arg9.view.read (Elt F) X9) 0 (4 * k.val + 3))),
          addf (addf (addf (addf acc.2
            (avB1 (vblk (arg5.view.read (Elt F) X5) (4 * k.val + 0)) m1 (sblk (arg9.view.read (Elt F) X9) 1 (4 * k.val + 0))))
            (avB1 (vblk (arg5.view.read (Elt F) X5) (4 * k.val + 1)) m1 (sblk (arg9.view.read (Elt F) X9) 1 (4 * k.val + 1))))
            (avB1 (vblk (arg5.view.read (Elt F) X5) (4 * k.val + 2)) m1 (sblk (arg9.view.read (Elt F) X9) 1 (4 * k.val + 2))))
            (avB1 (vblk (arg5.view.read (Elt F) X5) (4 * k.val + 3)) m1 (sblk (arg9.view.read (Elt F) X9) 1 (4 * k.val + 3)))) := by
  have hk : k.val < 4 := Nat.lt_of_lt_of_le k.isLt (k0_t3_abs i).2.1
  rw [← load_v arg5.view X5 (4 * k.val + 0) (by omega) (k0_off14_eq i k 0) (k0_off14_inb i k 0),
    ← load_v arg5.view X5 (4 * k.val + 1) (by omega) (k0_off14_eq i k 1) (k0_off14_inb i k 1),
    ← load_v arg5.view X5 (4 * k.val + 2) (by omega) (k0_off14_eq i k 2) (k0_off14_inb i k 2),
    ← load_v arg5.view X5 (4 * k.val + 3) (by omega) (k0_off14_eq i k 3) (k0_off14_inb i k 3),
    ← load_s arg9.view X9 0 (4 * k.val + 0) (by omega) (k0_off15_eq i k 0) (k0_off15_inb i k 0),
    ← load_s arg9.view X9 0 (4 * k.val + 1) (by omega) (k0_off15_eq i k 1) (k0_off15_inb i k 1),
    ← load_s arg9.view X9 0 (4 * k.val + 2) (by omega) (k0_off15_eq i k 2) (k0_off15_inb i k 2),
    ← load_s arg9.view X9 0 (4 * k.val + 3) (by omega) (k0_off15_eq i k 3) (k0_off15_inb i k 3),
    ← load_s arg9.view X9 1 (4 * k.val + 0) (by omega) (k0_off16_eq i k 0) (k0_off16_inb i k 0),
    ← load_s arg9.view X9 1 (4 * k.val + 1) (by omega) (k0_off16_eq i k 1) (k0_off16_inb i k 1),
    ← load_s arg9.view X9 1 (4 * k.val + 2) (by omega) (k0_off16_eq i k 2) (k0_off16_inb i k 2),
    ← load_s arg9.view X9 1 (4 * k.val + 3) (by omega) (k0_off16_eq i k 3) (k0_off16_inb i k 3)]
  unfold tripR_k0_t3 trip_k0_t3
  rfl

/-- What the scores' scratch holds: slabs 0 to 15 a block's scores each, slabs 16 and 17 the pair's own two blocks'. -/
def scrG (q0 q1 : FVec F S128x512 .bf16) (K : S1x16x256x128.Idx → Elt F .bf16) (b : S2x16x512.Idx → Elt F .f32) (o : Fin 2 → Fin 2 → FVec F S256x512 .f32) : S2x18x256x512.Idx → Elt F .f32 :=
  fun y => if (y 1).val < 16 then scB (qsel q0 q1 (y 0)) (kblk K (y 1).val) (brow b (y 0) (y 1).val) (ix2 (y 2) (y 3))
    else o (y 0) (if (y 1).val = 16 then 0 else 1) (ix2 (y 2) (y 3))

theorem scP_apply (q : FVec F S128x512 .bf16) (kb : FVec F S1x1x256x128 .bf16) (b : FVec F S1x1x512 .f32) (x : S1x1x256x512.Idx) :
    scP q kb b x = scB q kb b (ix2 (x 2) (x 3)) := by
  unfold scP
  pointwise

theorem scrG_lt (q0 q1 : FVec F S128x512 .bf16) (K : S1x16x256x128.Idx → Elt F .bf16) (b : S2x16x512.Idx → Elt F .f32) (o : Fin 2 → Fin 2 → FVec F S256x512 .f32) (h : Fin 2) (j : ℕ) (hj : j < 16) (r : Fin 256) (l : Fin 512) :
    scrG q0 q1 K b o (ix4 h (Fin.ofNat 18 j) r l) = scB (qsel q0 q1 h) (kblk K j) (brow b h j) (ix2 r l) := by
  have e : (Fin.ofNat 18 j).val = j := Nat.mod_eq_of_lt (by omega)
  show (if (Fin.ofNat 18 j).val < 16 then scB (qsel q0 q1 h) (kblk K (Fin.ofNat 18 j).val) (brow b h (Fin.ofNat 18 j).val) (ix2 r l) else _) = _
  rw [e, if_pos hj]

/-- A stored block is the scratch's slab. -/
theorem scP_scrG (q0 q1 : FVec F S128x512 .bf16) (K : S1x16x256x128.Idx → Elt F .bf16) (b : S2x16x512.Idx → Elt F .f32) (o : Fin 2 → Fin 2 → FVec F S256x512 .f32)
    (h : Fin 2) (j : ℕ) (hj : j < 16) {off : Fin 4 → ℕ} (hoff : off = ![h.val, j, 0, 0]) (inb : ∀ a, off a + S1x1x256x512.size a ≤ S2x18x256x512.size a)
    (x : (Rect.unit (s := S2x18x256x512) off S1x1x256x512.size inb).shape.Idx) :
    scP (qsel q0 q1 h) (kblk K j) (brow b h j) x = scrG q0 q1 K b o ((Rect.unit (s := S2x18x256x512) off S1x1x256x512.size inb).emb x) := by
  rw [emb_s h j (by omega) hoff inb x]
  exact (scP_apply _ _ _ x).trans (scrG_lt q0 q1 _ _ o h j hj (x 2) (x 3)).symm

set_option maxHeartbeats 1000000 in
theorem tripL1_ok (c : Dev nD) (i : grid0.Coords) (arg3 : Memref sig .tc .vmem S1x128x512 .f32) (harg3 : arg3.IsWhole) (arg4 : Memref sig .tc .vmem S1x16x256x128 .bf16) (harg4 : arg4.IsWhole) (arg5 : Memref sig .tc .vmem S1x16x160x256 .bf16) (harg5 : arg5.IsWhole) (arg6 : Memref sig .tc .vmem S1x16x128 .f32) (harg6 : arg6.IsWhole) (arg7 : Memref sig .tc .vmem S1x512x128 .bf16) (harg7 : arg7.IsWhole) (arg8 : Memref sig .tc .vmem S2x16x512 .f32) (harg8 : arg8.IsWhole) (arg9 : Memref sig .tc .vmem S2x18x256x512 .f32) (harg9 : arg9.IsWhole) (v0 : BitVec 32) (v24 : FVec F S128x512 .bf16) (v93 : FVec F S128x512 .bf16) (v196 : FVec F S1x512 .f32) (v225 : FVec F S1x512 .f32) (v227 : BitVec 32) (c4 : BitVec 32) (v228 : BitVec 32) (v233 : BitVec 32) (v235 : BitVec 32) (X4 : BufTy.Contents (Elt F) arg4.view.ty) (X8 : BufTy.Contents (Elt F) arg8.view.ty) (o : Fin 2 → Fin 2 → FVec F S256x512 .f32) (k : Fin (k0_t1_loop i).trips) (acc : FVec F S1x512 .f32 × FVec F S1x512 .f32) :
    ∀ p ∈ tripL_k0_t1 (F := F) Variants.none c none i arg3 harg3 arg4 harg4 arg5 harg5 arg6 harg6 arg7 harg7 arg8 harg8 arg9 harg9 v0 v24 v93 v196 v225 v227 c4 v228 v233 v235 X4 X8 k acc, ∀ x : p.1.shape.Idx,
      p.2 x = scrG v24 v93 (arg4.view.read (Elt F) X4) (arg8.view.read (Elt F) X8) o (p.1.emb x) := by
  have hk : k.val < 4 := Nat.lt_of_lt_of_le k.isLt (k0_t1_abs i).2.1
  rw [tripL1_eq]
  refine List.forall_mem_cons.2 ⟨fun x => scP_scrG v24 v93 _ _ o 1 (4 * k.val + 3) (by omega) (k0_off7_eq i k 3) (k0_off7_inb i k 3) x, ?_⟩
  refine List.forall_mem_cons.2 ⟨fun x => scP_scrG v24 v93 _ _ o 0 (4 * k.val + 3) (by omega) (k0_off5_eq i k 3) (k0_off5_inb i k 3) x, ?_⟩
  refine List.forall_mem_cons.2 ⟨fun x => scP_scrG v24 v93 _ _ o 1 (4 * k.val + 2) (by omega) (k0_off7_eq i k 2) (k0_off7_inb i k 2) x, ?_⟩
  refine List.forall_mem_cons.2 ⟨fun x => scP_scrG v24 v93 _ _ o 0 (4 * k.val + 2) (by omega) (k0_off5_eq i k 2) (k0_off5_inb i k 2) x, ?_⟩
  refine List.forall_mem_cons.2 ⟨fun x => scP_scrG v24 v93 _ _ o 1 (4 * k.val + 1) (by omega) (k0_off7_eq i k 1) (k0_off7_inb i k 1) x, ?_⟩
  refine List.forall_mem_cons.2 ⟨fun x => scP_scrG v24 v93 _ _ o 0 (4 * k.val + 1) (by omega) (k0_off5_eq i k 1) (k0_off5_inb i k 1) x, ?_⟩
  refine List.forall_mem_cons.2 ⟨fun x => scP_scrG v24 v93 _ _ o 1 (4 * k.val + 0) (by omega) (k0_off7_eq i k 0) (k0_off7_inb i k 0) x, ?_⟩
  refine List.forall_mem_cons.2 ⟨fun x => scP_scrG v24 v93 _ _ o 0 (4 * k.val + 0) (by omega) (k0_off5_eq i k 0) (k0_off5_inb i k 0) x, ?_⟩
  exact fun p hp => absurd hp List.not_mem_nil

set_option maxHeartbeats 1000000 in
theorem tripL1_cover (c : Dev nD) (i : grid0.Coords) (arg3 : Memref sig .tc .vmem S1x128x512 .f32) (harg3 : arg3.IsWhole) (arg4 : Memref sig .tc .vmem S1x16x256x128 .bf16) (harg4 : arg4.IsWhole) (arg5 : Memref sig .tc .vmem S1x16x160x256 .bf16) (harg5 : arg5.IsWhole) (arg6 : Memref sig .tc .vmem S1x16x128 .f32) (harg6 : arg6.IsWhole) (arg7 : Memref sig .tc .vmem S1x512x128 .bf16) (harg7 : arg7.IsWhole) (arg8 : Memref sig .tc .vmem S2x16x512 .f32) (harg8 : arg8.IsWhole) (arg9 : Memref sig .tc .vmem S2x18x256x512 .f32) (harg9 : arg9.IsWhole) (v0 : BitVec 32) (v24 : FVec F S128x512 .bf16) (v93 : FVec F S128x512 .bf16) (v196 : FVec F S1x512 .f32) (v225 : FVec F S1x512 .f32) (v227 : BitVec 32) (c4 : BitVec 32) (v228 : BitVec 32) (v233 : BitVec 32) (v235 : BitVec 32) (X4 : BufTy.Contents (Elt F) arg4.view.ty) (X8 : BufTy.Contents (Elt F) arg8.view.ty) (k : Fin (k0_t1_loop i).trips) (acc : FVec F S1x512 .f32 × FVec F S1x512 .f32)
    (y : S2x18x256x512.Idx) (u : ℕ) (hu : u < 4) (hyu : (y 1).val = 4 * k.val + u) :
    ∃ p ∈ tripL_k0_t1 (F := F) Variants.none c none i arg3 harg3 arg4 harg4 arg5 harg5 arg6 harg6 arg7 harg7 arg8 harg8 arg9 harg9 v0 v24 v93 v196 v225 v227 c4 v228 v233 v235 X4 X8 k acc, y ∈ p.1.set := by
  have hk : k.val < 4 := Nat.lt_of_lt_of_le k.isLt (k0_t1_abs i).2.1
  have hy0 : (y 0).val < 2 := (y 0).isLt
  rw [tripL1_eq]
  rcases (show (y 0).val = 0 ∨ (y 0).val = 1 by omega) with h0 | h0
  · rcases (show u = 0 ∨ u = 1 ∨ u = 2 ∨ u = 3 by omega) with rfl | rfl | rfl | rfl
    · exact ⟨_, List.Mem.tail _ (List.Mem.tail _ (List.Mem.tail _ (List.Mem.tail _ (List.Mem.tail _ (List.Mem.tail _ (List.Mem.tail _ (List.Mem.head _))))))), mem_s 0 _ (by omega) (k0_off5_eq i k 0) (k0_off5_inb i k 0) y h0 hyu⟩
    · exact ⟨_, List.Mem.tail _ (List.Mem.tail _ (List.Mem.tail _ (List.Mem.tail _ (List.Mem.tail _ (List.Mem.head _))))), mem_s 0 _ (by omega) (k0_off5_eq i k 1) (k0_off5_inb i k 1) y h0 hyu⟩
    · exact ⟨_, List.Mem.tail _ (List.Mem.tail _ (List.Mem.tail _ (List.Mem.head _))), mem_s 0 _ (by omega) (k0_off5_eq i k 2) (k0_off5_inb i k 2) y h0 hyu⟩
    · exact ⟨_, List.Mem.tail _ (List.Mem.head _), mem_s 0 _ (by omega) (k0_off5_eq i k 3) (k0_off5_inb i k 3) y h0 hyu⟩
  · rcases (show u = 0 ∨ u = 1 ∨ u = 2 ∨ u = 3 by omega) with rfl | rfl | rfl | rfl
    · exact ⟨_, List.Mem.tail _ (List.Mem.tail _ (List.Mem.tail _ (List.Mem.tail _ (List.Mem.tail _ (List.Mem.tail _ (List.Mem.head _)))))), mem_s 1 _ (by omega) (k0_off7_eq i k 0) (k0_off7_inb i k 0) y h0 hyu⟩
    · exact ⟨_, List.Mem.tail _ (List.Mem.tail _ (List.Mem.tail _ (List.Mem.tail _ (List.Mem.head _)))), mem_s 1 _ (by omega) (k0_off7_eq i k 1) (k0_off7_inb i k 1) y h0 hyu⟩
    · exact ⟨_, List.Mem.tail _ (List.Mem.tail _ (List.Mem.head _)), mem_s 1 _ (by omega) (k0_off7_eq i k 2) (k0_off7_inb i k 2) y h0 hyu⟩
    · exact ⟨_, List.Mem.head _, mem_s 1 _ (by omega) (k0_off7_eq i k 3) (k0_off7_inb i k 3) y h0 hyu⟩

/-- THE SCORE LOOP before trip `n`: the maxima so far, -/
theorem st1_fst (c : Dev nD) (i : grid0.Coords) (arg3 : Memref sig .tc .vmem S1x128x512 .f32) (harg3 : arg3.IsWhole) (arg4 : Memref sig .tc .vmem S1x16x256x128 .bf16) (harg4 : arg4.IsWhole) (arg5 : Memref sig .tc .vmem S1x16x160x256 .bf16) (harg5 : arg5.IsWhole) (arg6 : Memref sig .tc .vmem S1x16x128 .f32) (harg6 : arg6.IsWhole) (arg7 : Memref sig .tc .vmem S1x512x128 .bf16) (harg7 : arg7.IsWhole) (arg8 : Memref sig .tc .vmem S2x16x512 .f32) (harg8 : arg8.IsWhole) (arg9 : Memref sig .tc .vmem S2x18x256x512 .f32) (harg9 : arg9.IsWhole) (v0 : BitVec 32) (v24 : FVec F S128x512 .bf16) (v93 : FVec F S128x512 .bf16) (v196 : FVec F S1x512 .f32) (v225 : FVec F S1x512 .f32) (v227 : BitVec 32) (c4 : BitVec 32) (v228 : BitVec 32) (v233 : BitVec 32) (v235 : BitVec 32) (X4 : BufTy.Contents (Elt F) arg4.view.ty) (X8 : BufTy.Contents (Elt F) arg8.view.ty) (init : FVec F S1x512 .f32 × FVec F S1x512 .f32) : ∀ n : ℕ, n ≤ (k0_t1_loop i).trips →
    (st_k0_t1 (F := F) Variants.none c none i arg3 harg3 arg4 harg4 arg5 harg5 arg6 harg6 arg7 harg7 arg8 harg8 arg9 harg9 v0 v24 v93 v196 v225 v227 c4 v228 v233 v235 X4 X8 init n).1
        = (mxN v24 (arg4.view.read (Elt F) X4) (arg8.view.read (Elt F) X8) 0 init.1 n, mxN v93 (arg4.view.read (Elt F) X4) (arg8.view.read (Elt F) X8) 1 init.2 n)
  | 0, _ => rfl
  | n + 1, hn => by
    have e := st_k0_t1_succ (F := F) Variants.none c none i arg3 harg3 arg4 harg4 arg5 harg5 arg6 harg6 arg7 harg7 arg8 harg8 arg9 harg9 v0 v24 v93 v196 v225 v227 c4 v228 v233 v235 X4 X8 init (⟨n, hn⟩ : Fin (k0_t1_loop i).trips)
    refine (congrArg Prod.fst e).trans ((tripR1_eq c i arg3 harg3 arg4 harg4 arg5 harg5 arg6 harg6 arg7 harg7 arg8 harg8 arg9 harg9 v0 v24 v93 v196 v225 v227 c4 v228 v233 v235 X4 X8 ⟨n, hn⟩ _ n rfl).trans ?_)
    rw [st1_fst c i arg3 harg3 arg4 harg4 arg5 harg5 arg6 harg6 arg7 harg7 arg8 harg8 arg9 harg9 v0 v24 v93 v196 v225 v227 c4 v228 v233 v235 X4 X8 init n (by omega)]
    rfl

/-- and in the scratch the scores of the blocks so far. -/
theorem st1_ok (c : Dev nD) (i : grid0.Coords) (arg3 : Memref sig .tc .vmem S1x128x512 .f32) (harg3 : arg3.IsWhole) (arg4 : Memref sig .tc .vmem S1x16x256x128 .bf16) (harg4 : arg4.IsWhole) (arg5 : Memref sig .tc .vmem S1x16x160x256 .bf16) (harg5 : arg5.IsWhole) (arg6 : Memref sig .tc .vmem S1x16x128 .f32) (harg6 : arg6.IsWhole) (arg7 : Memref sig .tc .vmem S1x512x128 .bf16) (harg7 : arg7.IsWhole) (arg8 : Memref sig .tc .vmem S2x16x512 .f32) (harg8 : arg8.IsWhole) (arg9 : Memref sig .tc .vmem S2x18x256x512 .f32) (harg9 : arg9.IsWhole) (v0 : BitVec 32) (v24 : FVec F S128x512 .bf16) (v93 : FVec F S128x512 .bf16) (v196 : FVec F S1x512 .f32) (v225 : FVec F S1x512 .f32) (v227 : BitVec 32) (c4 : BitVec 32) (v228 : BitVec 32) (v233 : BitVec 32) (v235 : BitVec 32) (X4 : BufTy.Contents (Elt F) arg4.view.ty) (X8 : BufTy.Contents (Elt F) arg8.view.ty) (init : FVec F S1x512 .f32 × FVec F S1x512 .f32) (o : Fin 2 → Fin 2 → FVec F S256x512 .f32) : ∀ n : ℕ, n ≤ (k0_t1_loop i).trips →
    ∀ p ∈ (st_k0_t1 (F := F) Variants.none c none i arg3 harg3 arg4 harg4 arg5 harg5 arg6 harg6 arg7 harg7 arg8 harg8 arg9 harg9 v0 v24 v93 v196 v225 v227 c4 v228 v233 v235 X4 X8 init n).2, ∀ x : p.1.shape.Idx,
        p.2 x = scrG v24 v93 (arg4.view.read (Elt F) X4) (arg8.view.read (Elt F) X8) o (p.1.emb x)
  | 0, _ => fun p hp => absurd hp List.not_mem_nil
  | n + 1, hn => by
    have e := congrArg Prod.snd (st_k0_t1_succ (F := F) Variants.none c none i arg3 harg3 arg4 harg4 arg5 harg5 arg6 harg6 arg7 harg7 arg8 harg8 arg9 harg9 v0 v24 v93 v196 v225 v227 c4 v228 v233 v235 X4 X8 init (⟨n, hn⟩ : Fin (k0_t1_loop i).trips))
    intro p hp
    have hp' := (congrArg (p ∈ ·) e).mp hp
    rcases List.mem_append.1 hp' with h | h
    · exact tripL1_ok c i arg3 harg3 arg4 harg4 arg5 harg5 arg6 harg6 arg7 harg7 arg8 harg8 arg9 harg9 v0 v24 v93 v196 v225 v227 c4 v228 v233 v235 X4 X8 o ⟨n, hn⟩ _ p h
    · exact st1_ok c i arg3 harg3 arg4 harg4 arg5 harg5 arg6 harg6 arg7 harg7 arg8 harg8 arg9 harg9 v0 v24 v93 v196 v225 v227 c4 v228 v233 v235 X4 X8 init o n (by omega) p h

theorem st1_cover (c : Dev nD) (i : grid0.Coords) (arg3 : Memref sig .tc .vmem S1x128x512 .f32) (harg3 : arg3.IsWhole) (arg4 : Memref sig .tc .vmem S1x16x256x128 .bf16) (harg4 : arg4.IsWhole) (arg5 : Memref sig .tc .vmem S1x16x160x256 .bf16) (harg5 : arg5.IsWhole) (arg6 : Memref sig .tc .vmem S1x16x128 .f32) (harg6 : arg6.IsWhole) (arg7 : Memref sig .tc .vmem S1x512x128 .bf16) (harg7 : arg7.IsWhole) (arg8 : Memref sig .tc .vmem S2x16x512 .f32) (harg8 : arg8.IsWhole) (arg9 : Memref sig .tc .vmem S2x18x256x512 .f32) (harg9 : arg9.IsWhole) (v0 : BitVec 32) (v24 : FVec F S128x512 .bf16) (v93 : FVec F S128x512 .bf16) (v196 : FVec F S1x512 .f32) (v225 : FVec F S1x512 .f32) (v227 : BitVec 32) (c4 : BitVec 32) (v228 : BitVec 32) (v233 : BitVec 32) (v235 : BitVec 32) (X4 : BufTy.Contents (Elt F) arg4.view.ty) (X8 : BufTy.Contents (Elt F) arg8.view.ty) (init : FVec F S1x512 .f32 × FVec F S1x512 .f32) : ∀ n : ℕ, n ≤ (k0_t1_loop i).trips →
    ∀ y : S2x18x256x512.Idx, (y 1).val < 4 * n → ∃ p ∈ (st_k0_t1 (F := F) Variants.none c none i arg3 harg3 arg4 harg4 arg5 harg5 arg6 harg6 arg7 harg7 arg8 harg8 arg9 harg9 v0 v24 v93 v196 v225 v227 c4 v228 v233 v235 X4 X8 init n).2, y ∈ p.1.set
  | 0, _ => fun y hy => absurd hy (by omega)
  | n + 1, hn => by
    have e := congrArg Prod.snd (st_k0_t1_succ (F := F) Variants.none c none i arg3 harg3 arg4 harg4 arg5 harg5 arg6 harg6 arg7 harg7 arg8 harg8 arg9 harg9 v0 v24 v93 v196 v225 v227 c4 v228 v233 v235 X4 X8 init (⟨n, hn⟩ : Fin (k0_t1_loop i).trips))
    intro y hy
    refine (congrArg (fun L => ∃ p ∈ L, y ∈ p.1.set) e).mpr ?_
    by_cases hlt : (y 1).val < 4 * n
    · obtain ⟨p, hp, hm⟩ := st1_cover c i arg3 harg3 arg4 harg4 arg5 harg5 arg6 harg6 arg7 harg7 arg8 harg8 arg9 harg9 v0 v24 v93 v196 v225 v227 c4 v228 v233 v235 X4 X8 init n (by omega) y hlt
      exact ⟨p, List.mem_append_right _ hp, hm⟩
    · obtain ⟨p, hp, hm⟩ := tripL1_cover c i arg3 harg3 arg4 harg4 arg5 harg5 arg6 harg6 arg7 harg7 arg8 harg8 arg9 harg9 v0 v24 v93 v196 v225 v227 c4 v228 v233 v235 X4 X8 ⟨n, hn⟩ (st_k0_t1 (F := F) Variants.none c none i arg3 harg3 arg4 harg4 arg5 harg5 arg6 harg6 arg7 harg7 arg8 harg8 arg9 harg9 v0 v24 v93 v196 v225 v227 c4 v228 v233 v235 X4 X8 init n).1 y ((y 1).val - 4 * n) (by omega) (by simp only; omega)
      exact ⟨p, List.mem_append_left _ hp, hm⟩

set_option maxHeartbeats 400000 in
/-- THE VALUE LOOP before trip `n`, where the scratch reads `s` in the slabs it loads. -/
theorem st3_eq (c : Dev nD) (i : grid0.Coords) (arg3 : Memref sig .tc .vmem S1x128x512 .f32) (harg3 : arg3.IsWhole) (arg4 : Memref sig .tc .vmem S1x16x256x128 .bf16) (harg4 : arg4.IsWhole) (arg5 : Memref sig .tc .vmem S1x16x160x256 .bf16) (harg5 : arg5.IsWhole) (arg6 : Memref sig .tc .vmem S1x16x128 .f32) (harg6 : arg6.IsWhole) (arg7 : Memref sig .tc .vmem S1x512x128 .bf16) (harg7 : arg7.IsWhole) (arg8 : Memref sig .tc .vmem S2x16x512 .f32) (harg8 : arg8.IsWhole) (arg9 : Memref sig .tc .vmem S2x18x256x512 .f32) (harg9 : arg9.IsWhole) (m0 : FVec F S1x512 .f32) (m1 : FVec F S1x512 .f32) (c0 : BitVec 32) (X5 : BufTy.Contents (Elt F) arg5.view.ty) (X9 : BufTy.Contents (Elt F) arg9.view.ty) (init : FVec F S80x512 .f32 × FVec F S80x512 .f32) (s : S2x18x256x512.Idx → Elt F .f32)
    (hs : ∀ y : S2x18x256x512.Idx, (y 1).val < 4 * (k0_t3_loop i).trips → arg9.view.read (Elt F) X9 y = s y) : ∀ n : ℕ, n ≤ (k0_t3_loop i).trips →
    st_k0_t3 (F := F) Variants.none c none i arg3 harg3 arg4 harg4 arg5 harg5 arg6 harg6 arg7 harg7 arg8 harg8 arg9 harg9 m0 m1 c0 X5 X9 init n
      = (avN0 (arg5.view.read (Elt F) X5) m0 s init.1 n, avN1 (arg5.view.read (Elt F) X5) m1 s init.2 n)
  | 0, _ => rfl
  | n + 1, hn => by
    have h1 := st3_eq c i arg3 harg3 arg4 harg4 arg5 harg5 arg6 harg6 arg7 harg7 arg8 harg8 arg9 harg9 m0 m1 c0 X5 X9 init s hs n (by omega)
    have hk : n < 4 := Nat.lt_of_lt_of_le hn (k0_t3_abs i).2.1
    have e := st_k0_t3_succ (F := F) Variants.none c none i arg3 harg3 arg4 harg4 arg5 harg5 arg6 harg6 arg7 harg7 arg8 harg8 arg9 harg9 m0 m1 c0 X5 X9 init (⟨n, hn⟩ : Fin (k0_t3_loop i).trips)
    rw [show (⟨n, hn⟩ : Fin (k0_t3_loop i).trips).val + 1 = n + 1 from rfl] at e
    rw [e, tripR3_eq, h1]
    have hsb : ∀ (h : Fin 2) (u : ℕ), u < 4 → sblk (arg9.view.read (Elt F) X9) h (4 * n + u) = sblk s h (4 * n + u) := by
      intro h u hu
      refine funext fun x => hs _ ?_
      show (4 * n + u) % 18 < _
      omega
    dsimp only
    rw [hsb 0 0 (by omega), hsb 0 1 (by omega), hsb 0 2 (by omega), hsb 0 3 (by omega), hsb 1 0 (by omega), hsb 1 1 (by omega), hsb 1 2 (by omega), hsb 1 3 (by omega)]
    rfl

end Cert.KernelIdeal.Body

end
-- ==== Proof.Out.lean ====
/-
  What the attention's kernel body leaves in its output block at one grid point, as a function of the point and of the
  four staged blocks alone: the queries of the two heads, the bias of the key blocks, the pair's own blocks, the running
  maxima and the weighted values, named one by one.
-/
module

public import proofs.«01_k».proof.Proof.Body
public import proofs.«01_k».proof.Proof.Trips

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI Idealize.SL.Sem

variable {F : FTy → Type} [FloatOps F] [Named F]

theorem read_whole {sig : RefSig} {κ : Kind} {sp : Space} {s : Shape} {e : EltTy} (v : View sig κ sp s e) (X : v.ty.Contents (Elt F)) {off : Fin s.rank → ℕ} (h : ∀ a, off a = 0)
    (inb : ∀ a, off a + s.size a ≤ s.size a) : v.readAt (Elt F) (Rect.unit (s := s) off s.size inb).toLoadRect X = v.read (Elt F) X :=
  funext fun x => congrArg (v.read (Elt F) X) (funext fun a => Fin.ext (by show off a + 1 * (x a).val = (x a).val; rw [h]; omega))

/-- The head pair's queries with the other head's rows zeroed: the first head's, -/
def qh0 (x3 : FVec F S1x128x512 .f32) : FVec F S128x512 .bf16 := k0_pay79 x3
/-- the second head's. -/
def qh1 (x3 : FVec F S1x128x512 .f32) : FVec F S128x512 .bf16 := k0_pay88 (k0_pay74 x3) (iota .tc S128x512 32 [0] iota_S128x512_d0_w32)
/-- Row and column numbers. -/
def row16 : IVec S16x512 32 := iota .tc S16x512 32 [0] iota_S16x512_d0_w32
def row256 : IVec S256x512 32 := iota .tc S256x512 32 [0] iota_S256x512_d0_w32
def col256 : IVec S256x512 32 := iota .tc S256x512 32 [1] iota_S256x512_d1_w32
/-- The first of the two key blocks of the point's own positions. -/
def b0w (i : grid0.Coords) : BitVec 32 := Scalar.muli 2#32 (BitVec.ofNat 32 (i 2).val)
/-- The first own block's bias for the later queries, first head; -/
def ob0 (i : grid0.Coords) (x3 : FVec F S1x128x512 .f32) (x6 : FVec F S1x16x128 .f32) : FVec F S1x512 .f32 := k0_pay85 (b0w i) row16 (k0_pay78 i) (k0_pay80 i x3 x6) k0_pay81 (k0_pay82 i x3 x6) k0_pay83
/-- the bias of the earlier blocks, first head. -/
def eb0 (i : grid0.Coords) (x3 : FVec F S1x128x512 .f32) (x6 : FVec F S1x16x128 .f32) : FVec F S1x16x512 .f32 := k0_pay87 (k0_pay84 row16 (k0_pay78 i) (k0_pay80 i x3 x6) k0_pay81 (k0_pay82 i x3 x6) k0_pay83) (k0_pay86 (b0w i) row16)
/-- The second head's selection after its first round: the bias, the gate scores left, and the second choice. -/
def sel10 (i : grid0.Coords) (x3 : FVec F S1x128x512 .f32) (x6 : FVec F S1x16x128 .f32) : FVec F S16x512 .f32 := k0_pay91 (k0_pay74 x3) (iota .tc S128x512 32 [0] iota_S128x512_d0_w32) (k0_pay76 x6) (k0_pay77 x6) row16 (k0_pay78 i)
def sel11 (i : grid0.Coords) (x3 : FVec F S1x128x512 .f32) (x6 : FVec F S1x16x128 .f32) : FVec F S16x512 .f32 := k0_pay92 (k0_pay74 x3) (iota .tc S128x512 32 [0] iota_S128x512_d0_w32) (k0_pay76 x6) (k0_pay77 x6) row16 (k0_pay78 i)
def sel12 (i : grid0.Coords) (x3 : FVec F S1x128x512 .f32) (x6 : FVec F S1x16x128 .f32) : IVec S512 32 := k0_pay93 (k0_pay74 x3) (iota .tc S128x512 32 [0] iota_S128x512_d0_w32) (k0_pay76 x6) (k0_pay77 x6) row16 (k0_pay78 i)
/-- The first own block's bias for the later queries, second head; -/
def ob1 (i : grid0.Coords) (x3 : FVec F S1x128x512 .f32) (x6 : FVec F S1x16x128 .f32) : FVec F S1x512 .f32 := k0_pay95 (b0w i) row16 (k0_pay78 i) (sel10 i x3 x6) (sel11 i x3 x6) (sel12 i x3 x6)
/-- the bias of the earlier blocks, second head. -/
def eb1 (i : grid0.Coords) (x3 : FVec F S1x128x512 .f32) (x6 : FVec F S1x16x128 .f32) : FVec F S1x16x512 .f32 := k0_pay96 (b0w i) row16 (k0_pay78 i) (sel10 i x3 x6) (sel11 i x3 x6) (sel12 i x3 x6)
/-- The bias of both heads. -/
def bias (i : grid0.Coords) (x3 : FVec F S1x128x512 .f32) (x6 : FVec F S1x16x128 .f32) : S2x16x512.Idx → Elt F .f32 := fun y =>
  if (y 0).val = 0 then eb0 i x3 x6 (ix3 0 (y 1) (y 2)) else eb1 i x3 x6 (ix3 0 (y 1) (y 2))
/-- The scores of the two own blocks, for each head. -/
def own00 (i : grid0.Coords) (x3 : FVec F S1x128x512 .f32) (x4 : FVec F S1x16x256x128 .bf16) (x6 : FVec F S1x16x128 .f32) : FVec F S256x512 .f32 := k0_pay100 (qh0 x3) (ob0 i x3 x6) row256 col256 k0_pay97 (kblk x4 (2 * (i 2).val))
def own01 (i : grid0.Coords) (x3 : FVec F S1x128x512 .f32) (x4 : FVec F S1x16x256x128 .bf16) : FVec F S256x512 .f32 := k0_pay101 (qh0 x3) k0_pay98 bodyRun.sl.cst_57 (kblk x4 (2 * (i 2).val + 1))
def own10 (i : grid0.Coords) (x3 : FVec F S1x128x512 .f32) (x4 : FVec F S1x16x256x128 .bf16) (x6 : FVec F S1x16x128 .f32) : FVec F S256x512 .f32 := k0_pay107 (qh1 x3) (ob1 i x3 x6) k0_pay97 (k0_pay105 row256 col256) bodyRun.sl.cst_78 k0_pay106 (kblk x4 (2 * (i 2).val))
def own11 (i : grid0.Coords) (x3 : FVec F S1x128x512 .f32) (x4 : FVec F S1x16x256x128 .bf16) : FVec F S256x512 .f32 := k0_pay108 (qh1 x3) (k0_pay99 k0_pay98 bodyRun.sl.cst_57) (kblk x4 (2 * (i 2).val + 1))
def own (i : grid0.Coords) (x3 : FVec F S1x128x512 .f32) (x4 : FVec F S1x16x256x128 .bf16) (x6 : FVec F S1x16x128 .f32) (h a : Fin 2) : FVec F S256x512 .f32 :=
  if h = 0 then (if a = 0 then own00 i x3 x4 x6 else own01 i x3 x4) else (if a = 0 then own10 i x3 x4 x6 else own11 i x3 x4)
/-- The maxima over the own blocks. -/
def om0 (i : grid0.Coords) (x3 : FVec F S1x128x512 .f32) (x4 : FVec F S1x16x256x128 .bf16) (x6 : FVec F S1x16x128 .f32) : FVec F S1x512 .f32 := k0_pay104 (qh0 x3) (ob0 i x3 x6) row256 col256 k0_pay97 k0_pay98 bodyRun.sl.cst_57 (kblk x4 (2 * (i 2).val)) (kblk x4 (2 * (i 2).val + 1))
def om1 (i : grid0.Coords) (x3 : FVec F S1x128x512 .f32) (x4 : FVec F S1x16x256x128 .bf16) (x6 : FVec F S1x16x128 .f32) : FVec F S1x512 .f32 := k0_pay111 (qh1 x3) (ob1 i x3 x6) k0_pay97 (k0_pay99 k0_pay98 bodyRun.sl.cst_57) (k0_pay105 row256 col256) bodyRun.sl.cst_78 k0_pay106 (kblk x4 (2 * (i 2).val)) (kblk x4 (2 * (i 2).val + 1))
/-- The scores' scratch. -/
def scr (i : grid0.Coords) (x3 : FVec F S1x128x512 .f32) (x4 : FVec F S1x16x256x128 .bf16) (x6 : FVec F S1x16x128 .f32) : S2x18x256x512.Idx → Elt F .f32 := scrG (qh0 x3) (qh1 x3) x4 (bias i x3 x6) (own i x3 x4 x6)
/-- The number of trips of each loop. -/
def nT (i : grid0.Coords) : ℕ := (2 * (i 2).val + 3) / 4
/-- The maxima. -/
def mx0 (i : grid0.Coords) (x3 : FVec F S1x128x512 .f32) (x4 : FVec F S1x16x256x128 .bf16) (x6 : FVec F S1x16x128 .f32) : FVec F S1x512 .f32 := mxN (qh0 x3) x4 (bias i x3 x6) 0 (om0 i x3 x4 x6) (nT i)
def mx1 (i : grid0.Coords) (x3 : FVec F S1x128x512 .f32) (x4 : FVec F S1x16x256x128 .bf16) (x6 : FVec F S1x16x128 .f32) : FVec F S1x512 .f32 := mxN (qh1 x3) x4 (bias i x3 x6) 1 (om1 i x3 x4 x6) (nT i)
/-- The own blocks' weighted values. -/
def oa0 (i : grid0.Coords) (x3 : FVec F S1x128x512 .f32) (x4 : FVec F S1x16x256x128 .bf16) (x5 : FVec F S1x16x160x256 .bf16) (x6 : FVec F S1x16x128 .f32) : FVec F S80x512 .f32 :=
  k0_pay124 (k0_pay122 (mx0 i x3 x4 x6) (sblk (scr i x3 x4 x6) 0 16) (vblk x5 (2 * (i 2).val))) (k0_pay123 (mx0 i x3 x4 x6) (sblk (scr i x3 x4 x6) 0 17)) (vblk x5 (2 * (i 2).val + 1))
def oa1 (i : grid0.Coords) (x3 : FVec F S1x128x512 .f32) (x4 : FVec F S1x16x256x128 .bf16) (x5 : FVec F S1x16x160x256 .bf16) (x6 : FVec F S1x16x128 .f32) : FVec F S80x512 .f32 :=
  k0_pay125 (mx1 i x3 x4 x6) (sblk (scr i x3 x4 x6) 1 16) (vblk x5 (2 * (i 2).val)) (sblk (scr i x3 x4 x6) 1 17) (vblk x5 (2 * (i 2).val + 1))
/-- THE OUTPUT BLOCK. -/
def outP (i : grid0.Coords) (x3 : FVec F S1x128x512 .f32) (x4 : FVec F S1x16x256x128 .bf16) (x5 : FVec F S1x16x160x256 .bf16) (x6 : FVec F S1x16x128 .f32) : FVec F S1x512x128 .bf16 :=
  k0_pay7 (avN0 x5 (mx0 i x3 x4 x6) (scr i x3 x4 x6) (oa0 i x3 x4 x5 x6) (nT i)) (avN1 x5 (mx1 i x3 x4 x6) (scr i x3 x4 x6) (oa1 i x3 x4 x5 x6) (nT i))

theorem trips1 : ∀ i : grid0.Coords, (k0_t1_loop i).trips = nT i := by decide +kernel
theorem trips3 : ∀ i : grid0.Coords, (k0_t3_loop i).trips = nT i := by decide +kernel

section
variable {c : Dev nD} {i : grid0.Coords} {arg3 : Memref sig .tc .vmem S1x128x512 .f32} {harg3 : arg3.IsWhole} {arg4 : Memref sig .tc .vmem S1x16x256x128 .bf16} {harg4 : arg4.IsWhole} {arg5 : Memref sig .tc .vmem S1x16x160x256 .bf16} {harg5 : arg5.IsWhole} {arg6 : Memref sig .tc .vmem S1x16x128 .f32} {harg6 : arg6.IsWhole} {arg7 : Memref sig .tc .vmem S1x512x128 .bf16} {harg7 : arg7.IsWhole} {arg8 : Memref sig .tc .vmem S2x16x512 .f32} {harg8 : arg8.IsWhole} {arg9 : Memref sig .tc .vmem S2x18x256x512 .f32} {harg9 : arg9.IsWhole}
  {X3 : BufTy.Contents (Elt F) arg3.view.ty} {X4 : BufTy.Contents (Elt F) arg4.view.ty} {X5 : BufTy.Contents (Elt F) arg5.view.ty} {X6 : BufTy.Contents (Elt F) arg6.view.ty}

theorem r3_eq : bodyRun.sl.r_3 arg3 X3 = qh0 (arg3.view.read (Elt F) X3) := by
  unfold bodyRun.sl.r_3 qh0
  rw [read_whole arg3.view X3 (by decide)]

theorem r9_eq : bodyRun.sl.r_9 arg3 X3 = qh1 (arg3.view.read (Elt F) X3) := by
  unfold bodyRun.sl.r_9 bodyRun.sl.r bodyRun.sl.v6 qh1
  rw [read_whole arg3.view X3 (by decide)]

theorem r7_eq : bodyRun.sl.r_7 i arg3 arg6 X3 X6 = ob0 i (arg3.view.read (Elt F) X3) (arg6.view.read (Elt F) X6) := by
  unfold bodyRun.sl.r_7 bodyRun.sl.r_4 bodyRun.sl.r_5 bodyRun.sl.v13 ob0
  rw [read_whole arg3.view X3 (by decide), read_whole arg6.view X6 (by decide)]
  rfl

theorem r6_eq : k0_pay87 (bodyRun.sl.r_6 i arg3 arg6 X3 X6) (bodyRun.sl.r_8 i) = eb0 i (arg3.view.read (Elt F) X3) (arg6.view.read (Elt F) X6) := by
  unfold bodyRun.sl.r_6 bodyRun.sl.r_8 bodyRun.sl.r_4 bodyRun.sl.r_5 bodyRun.sl.v13 eb0
  rw [read_whole arg3.view X3 (by decide), read_whole arg6.view X6 (by decide)]
  rfl

theorem r10_eq : bodyRun.sl.r_10 i arg3 arg6 X3 X6 = sel10 i (arg3.view.read (Elt F) X3) (arg6.view.read (Elt F) X6) := by
  unfold bodyRun.sl.r_10 bodyRun.sl.r bodyRun.sl.r_1 bodyRun.sl.r_2 bodyRun.sl.v6 bodyRun.sl.v13 sel10
  rw [read_whole arg3.view X3 (by decide), read_whole arg6.view X6 (by decide)]
  rfl

theorem r11_eq : bodyRun.sl.r_11 i arg3 arg6 X3 X6 = sel11 i (arg3.view.read (Elt F) X3) (arg6.view.read (Elt F) X6) := by
  unfold bodyRun.sl.r_11 bodyRun.sl.r bodyRun.sl.r_1 bodyRun.sl.r_2 bodyRun.sl.v6 bodyRun.sl.v13 sel11
  rw [read_whole arg3.view X3 (by decide), read_whole arg6.view X6 (by decide)]
  rfl

theorem r12_eq : bodyRun.sl.r_12 i arg3 arg6 X3 X6 = sel12 i (arg3.view.read (Elt F) X3) (arg6.view.read (Elt F) X6) := by
  unfold bodyRun.sl.r_12 bodyRun.sl.r bodyRun.sl.r_1 bodyRun.sl.r_2 bodyRun.sl.v6 bodyRun.sl.v13 sel12
  rw [read_whole arg3.view X3 (by decide), read_whole arg6.view X6 (by decide)]
  rfl

theorem r13_eq : bodyRun.sl.r_13 i arg3 arg6 X3 X6 = ob1 i (arg3.view.read (Elt F) X3) (arg6.view.read (Elt F) X6) := by
  unfold bodyRun.sl.r_13 ob1
  rw [r10_eq, r11_eq, r12_eq]
  rfl

theorem ld1_eq : arg4.view.readAt (Elt F) (Rect.unit (s := S1x16x256x128) (k0_off1 i) S1x1x256x128.size (k0_off1_inb i)).toLoadRect X4 = kblk (arg4.view.read (Elt F) X4) (2 * (i 2).val) :=
  load_k arg4.view X4 _ (by have h : (i 2).val < 8 := (i 2).isLt; omega) (k0_off1_eq i) _

theorem ld2_eq : arg4.view.readAt (Elt F) (Rect.unit (s := S1x16x256x128) (k0_off2 i) S1x1x256x128.size (k0_off2_inb i)).toLoadRect X4 = kblk (arg4.view.read (Elt F) X4) (2 * (i 2).val + 1) :=
  load_k arg4.view X4 _ (by have h : (i 2).val < 8 := (i 2).isLt; omega) (k0_off2_eq i) _

theorem ld13_eq (u : Fin 2) : arg5.view.readAt (Elt F) (Rect.unit (s := S1x16x160x256) (k0_off13 i (BitVec.ofNat 32 u.val)) S1x1x160x256.size (k0_off13_inb i u)).toLoadRect X5 = vblk (arg5.view.read (Elt F) X5) (2 * (i 2).val + u.val) :=
  load_v arg5.view X5 _ (by have h : (i 2).val < 8 := (i 2).isLt; have h' := u.isLt; omega) (k0_off13_eq i u) _

theorem r15_eq : bodyRun.sl.r_15 i arg3 arg4 arg6 X3 X4 X6 = om0 i (arg3.view.read (Elt F) X3) (arg4.view.read (Elt F) X4) (arg6.view.read (Elt F) X6) := by
  unfold bodyRun.sl.r_15 om0
  rw [r3_eq, r7_eq, ld1_eq, ld2_eq]
  rfl

theorem r16_eq : bodyRun.sl.r_16 i arg3 arg4 arg6 X3 X4 X6 = om1 i (arg3.view.read (Elt F) X3) (arg4.view.read (Elt F) X4) (arg6.view.read (Elt F) X6) := by
  unfold bodyRun.sl.r_16 bodyRun.sl.r_14 om1
  rw [r9_eq, r13_eq, ld1_eq, ld2_eq]
  rfl

/-- What the bias' scratch reads after its two stores. -/
theorem bias_read : arg8.view.read (Elt F) (arg8.view.writes (Elt F) arg8.view.junk (bodyRun.sl.H8_2 i arg3 arg6 X3 X6)) = bias i (arg3.view.read (Elt F) X3) (arg6.view.read (Elt F) X6) := by
  funext y
  refine View.read_writes_apply_of_pieces (v := arg8.view) (f := arg8.view.junk) (bias i (arg3.view.read (Elt F) X3) (arg6.view.read (Elt F) X6)) _ ?_ y ?_
  · unfold bodyRun.sl.H8_2
    rw [r6_eq, r10_eq, r11_eq, r12_eq]
    refine List.forall_mem_cons.2 ⟨fun x => ?_, List.forall_mem_cons.2 ⟨fun x => ?_, fun p hp => absurd hp List.not_mem_nil⟩⟩
    · have h0 : (x 0).val < 1 := (x 0).isLt
      have e : (Rect.unit (s := S2x16x512) ![1, 0, 0] S1x16x512.size inb_S2x16x512_S1x16x512_1_0_0).emb x = ix3 1 (x 1) (x 2) := by
        refine funext fun a => Fin.ext ?_
        fin_cases a
        · show 1 + 1 * (x 0).val = 1; omega
        · show 0 + 1 * (x 1).val = (x 1).val; omega
        · show 0 + 1 * (x 2).val = (x 2).val; omega
      rw [e]
      refine congrArg (eb1 i (arg3.view.read (Elt F) X3) (arg6.view.read (Elt F) X6)) (funext fun a => Fin.ext ?_)
      fin_cases a
      · show (x 0).val = 0; omega
      · rfl
      · rfl
    · have h0 : (x 0).val < 1 := (x 0).isLt
      have e : (Rect.unit (s := S2x16x512) ![0, 0, 0] S1x16x512.size inb_S2x16x512_S1x16x512_0_0_0).emb x = ix3 0 (x 1) (x 2) := by
        refine funext fun a => Fin.ext ?_
        fin_cases a
        · show 0 + 1 * (x 0).val = 0; omega
        · show 0 + 1 * (x 1).val = (x 1).val; omega
        · show 0 + 1 * (x 2).val = (x 2).val; omega
      rw [e]
      refine congrArg (eb0 i (arg3.view.read (Elt F) X3) (arg6.view.read (Elt F) X6)) (funext fun a => Fin.ext ?_)
      fin_cases a
      · show (x 0).val = 0; omega
      · rfl
      · rfl
  · have h0 : (y 0).val < 2 := (y 0).isLt
    have h1 : (y 1).val < 16 := (y 1).isLt
    have h2 : (y 2).val < 512 := (y 2).isLt
    unfold bodyRun.sl.H8_2
    rcases (show (y 0).val = 0 ∨ (y 0).val = 1 by omega) with h | h
    · refine ⟨_, List.Mem.tail _ (List.Mem.head _), ?_⟩
      rw [Rect.mem_set_unit]
      intro a
      fin_cases a
      · show 0 ≤ (y 0).val ∧ (y 0).val < 0 + 1; omega
      · show 0 ≤ (y 1).val ∧ (y 1).val < 0 + 16; omega
      · show 0 ≤ (y 2).val ∧ (y 2).val < 0 + 512; omega
    · refine ⟨_, List.Mem.head _, ?_⟩
      rw [Rect.mem_set_unit]
      intro a
      fin_cases a
      · show 1 ≤ (y 0).val ∧ (y 0).val < 1 + 1; omega
      · show 0 ≤ (y 1).val ∧ (y 1).val < 0 + 16; omega
      · show 0 ≤ (y 2).val ∧ (y 2).val < 0 + 512; omega

/-- An own block as stored is the scratch's slab 16 or 17. -/
theorem own_scrG (q0 q1 : FVec F S128x512 .bf16) (K : S1x16x256x128.Idx → Elt F .bf16) (b : S2x16x512.Idx → Elt F .f32) (o : Fin 2 → Fin 2 → FVec F S256x512 .f32)
    (h a : Fin 2) {off : Fin 4 → ℕ} (hoff : off = ![h.val, 16 + a.val, 0, 0]) (inb : ∀ a, off a + S1x1x256x512.size a ≤ S2x18x256x512.size a)
    (x : (Rect.unit (s := S2x18x256x512) off S1x1x256x512.size inb).shape.Idx) :
    (shapeCast S1x1x256x512 (o h a) shapeCasts_S256x512_S1x1x256x512 : FVec F S1x1x256x512 .f32) x = scrG q0 q1 K b o ((Rect.unit (s := S2x18x256x512) off S1x1x256x512.size inb).emb x) := by
  have ha := a.isLt
  rw [emb_s h (16 + a.val) (by omega) hoff inb x]
  have e1 : (shapeCast S1x1x256x512 (o h a) shapeCasts_S256x512_S1x1x256x512 : FVec F S1x1x256x512 .f32) x = o h a (ix2 (x 2) (x 3)) := by pointwise
  have e : (Fin.ofNat 18 (16 + a.val)).val = 16 + a.val := Nat.mod_eq_of_lt (by omega)
  refine e1.trans ?_
  show _ = (if (Fin.ofNat 18 (16 + a.val)).val < 16 then _ else o h (if (Fin.ofNat 18 (16 + a.val)).val = 16 then 0 else 1) (ix2 (x 2) (x 3)))
  rw [e, if_neg (by omega)]
  have e2 : (if 16 + a.val = 16 then (0 : Fin 2) else 1) = a := by fin_cases a <;> rfl
  rw [e2]

theorem st_ok : ∀ p ∈ (st_k0_t1 (F := F) Variants.none c none i arg3 harg3 arg4 harg4 arg5 harg5 arg6 harg6 arg7 harg7 arg8 harg8 arg9 harg9 (bodyRun.sl.v0 i) (bodyRun.sl.r_3 arg3 X3) (bodyRun.sl.r_9 arg3 X3) (bodyRun.sl.r_15 i arg3 arg4 arg6 X3 X4 X6) (bodyRun.sl.r_16 i arg3 arg4 arg6 X3 X4 X6)
    (bodyRun.sl.v230 i) (4#32) (bodyRun.sl.v231 i) (bodyRun.sl.v233 i) (bodyRun.sl.v235 i) X4 (arg8.view.writes (Elt F) arg8.view.junk (bodyRun.sl.H8_2 i arg3 arg6 X3 X6)) (bodyRun.sl.r_15 i arg3 arg4 arg6 X3 X4 X6, bodyRun.sl.r_16 i arg3 arg4 arg6 X3 X4 X6) (k0_t1_loop i).trips).2 ++ [⟨Rect.unit (s := S2x18x256x512) ![1, 17, 0, 0] S1x1x256x512.size inb_S2x18x256x512_S1x1x256x512_1_17_0_0, k0_pay110 (bodyRun.sl.r_9 arg3 X3) bodyRun.sl.r_14 (arg4.view.readAt (Elt F) (Rect.unit (s := S1x16x256x128) (k0_off2 i) S1x1x256x128.size (k0_off2_inb i)).toLoadRect X4)⟩,
      ⟨Rect.unit (s := S2x18x256x512) ![1, 16, 0, 0] S1x1x256x512.size inb_S2x18x256x512_S1x1x256x512_1_16_0_0, k0_pay109 (bodyRun.sl.r_9 arg3 X3) (bodyRun.sl.r_13 i arg3 arg6 X3 X6) k0_pay97 (k0_pay105 bodyRun.sl.v159 bodyRun.sl.v160) bodyRun.sl.cst_78 k0_pay106 (arg4.view.readAt (Elt F) (Rect.unit (s := S1x16x256x128) (k0_off1 i) S1x1x256x128.size (k0_off1_inb i)).toLoadRect X4)⟩,
      ⟨Rect.unit (s := S2x18x256x512) ![0, 17, 0, 0] S1x1x256x512.size inb_S2x18x256x512_S1x1x256x512_0_17_0_0, k0_pay103 (bodyRun.sl.r_3 arg3 X3) k0_pay98 bodyRun.sl.cst_57 (arg4.view.readAt (Elt F) (Rect.unit (s := S1x16x256x128) (k0_off2 i) S1x1x256x128.size (k0_off2_inb i)).toLoadRect X4)⟩,
      ⟨Rect.unit (s := S2x18x256x512) ![0, 16, 0, 0] S1x1x256x512.size inb_S2x18x256x512_S1x1x256x512_0_16_0_0, k0_pay102 (bodyRun.sl.r_3 arg3 X3) (bodyRun.sl.r_7 i arg3 arg6 X3 X6) bodyRun.sl.v159 bodyRun.sl.v160 k0_pay97 (arg4.view.readAt (Elt F) (Rect.unit (s := S1x16x256x128) (k0_off1 i) S1x1x256x128.size (k0_off1_inb i)).toLoadRect X4)⟩], ∀ x : p.1.shape.Idx, p.2 x = scr i (arg3.view.read (Elt F) X3) (arg4.view.read (Elt F) X4) (arg6.view.read (Elt F) X6) (p.1.emb x) := by
  have key : ∀ p ∈ ([⟨Rect.unit (s := S2x18x256x512) ![1, 17, 0, 0] S1x1x256x512.size inb_S2x18x256x512_S1x1x256x512_1_17_0_0, k0_pay110 (bodyRun.sl.r_9 arg3 X3) bodyRun.sl.r_14 (arg4.view.readAt (Elt F) (Rect.unit (s := S1x16x256x128) (k0_off2 i) S1x1x256x128.size (k0_off2_inb i)).toLoadRect X4)⟩,
      ⟨Rect.unit (s := S2x18x256x512) ![1, 16, 0, 0] S1x1x256x512.size inb_S2x18x256x512_S1x1x256x512_1_16_0_0, k0_pay109 (bodyRun.sl.r_9 arg3 X3) (bodyRun.sl.r_13 i arg3 arg6 X3 X6) k0_pay97 (k0_pay105 bodyRun.sl.v159 bodyRun.sl.v160) bodyRun.sl.cst_78 k0_pay106 (arg4.view.readAt (Elt F) (Rect.unit (s := S1x16x256x128) (k0_off1 i) S1x1x256x128.size (k0_off1_inb i)).toLoadRect X4)⟩,
      ⟨Rect.unit (s := S2x18x256x512) ![0, 17, 0, 0] S1x1x256x512.size inb_S2x18x256x512_S1x1x256x512_0_17_0_0, k0_pay103 (bodyRun.sl.r_3 arg3 X3) k0_pay98 bodyRun.sl.cst_57 (arg4.view.readAt (Elt F) (Rect.unit (s := S1x16x256x128) (k0_off2 i) S1x1x256x128.size (k0_off2_inb i)).toLoadRect X4)⟩,
      ⟨Rect.unit (s := S2x18x256x512) ![0, 16, 0, 0] S1x1x256x512.size inb_S2x18x256x512_S1x1x256x512_0_16_0_0, k0_pay102 (bodyRun.sl.r_3 arg3 X3) (bodyRun.sl.r_7 i arg3 arg6 X3 X6) bodyRun.sl.v159 bodyRun.sl.v160 k0_pay97 (arg4.view.readAt (Elt F) (Rect.unit (s := S1x16x256x128) (k0_off1 i) S1x1x256x128.size (k0_off1_inb i)).toLoadRect X4)⟩] : List (View.Piece (Elt F) S2x18x256x512 .f32)), ∀ x : p.1.shape.Idx, p.2 x = scr i (arg3.view.read (Elt F) X3) (arg4.view.read (Elt F) X4) (arg6.view.read (Elt F) X6) (p.1.emb x) := by
    rw [r3_eq, r9_eq, r13_eq, r7_eq, ld1_eq, ld2_eq]
    refine List.forall_mem_cons.2 ⟨fun x => own_scrG (qh0 (arg3.view.read (Elt F) X3)) (qh1 (arg3.view.read (Elt F) X3)) (arg4.view.read (Elt F) X4) (bias i (arg3.view.read (Elt F) X3) (arg6.view.read (Elt F) X6)) (own i (arg3.view.read (Elt F) X3) (arg4.view.read (Elt F) X4) (arg6.view.read (Elt F) X6)) 1 1 rfl inb_S2x18x256x512_S1x1x256x512_1_17_0_0 x, ?_⟩
    refine List.forall_mem_cons.2 ⟨fun x => own_scrG (qh0 (arg3.view.read (Elt F) X3)) (qh1 (arg3.view.read (Elt F) X3)) (arg4.view.read (Elt F) X4) (bias i (arg3.view.read (Elt F) X3) (arg6.view.read (Elt F) X6)) (own i (arg3.view.read (Elt F) X3) (arg4.view.read (Elt F) X4) (arg6.view.read (Elt F) X6)) 1 0 rfl inb_S2x18x256x512_S1x1x256x512_1_16_0_0 x, ?_⟩
    refine List.forall_mem_cons.2 ⟨fun x => own_scrG (qh0 (arg3.view.read (Elt F) X3)) (qh1 (arg3.view.read (Elt F) X3)) (arg4.view.read (Elt F) X4) (bias i (arg3.view.read (Elt F) X3) (arg6.view.read (Elt F) X6)) (own i (arg3.view.read (Elt F) X3) (arg4.view.read (Elt F) X4) (arg6.view.read (Elt F) X6)) 0 1 rfl inb_S2x18x256x512_S1x1x256x512_0_17_0_0 x, ?_⟩
    refine List.forall_mem_cons.2 ⟨fun x => own_scrG (qh0 (arg3.view.read (Elt F) X3)) (qh1 (arg3.view.read (Elt F) X3)) (arg4.view.read (Elt F) X4) (bias i (arg3.view.read (Elt F) X3) (arg6.view.read (Elt F) X6)) (own i (arg3.view.read (Elt F) X3) (arg4.view.read (Elt F) X4) (arg6.view.read (Elt F) X6)) 0 0 rfl inb_S2x18x256x512_S1x1x256x512_0_16_0_0 x, ?_⟩
    exact fun p hp => absurd hp List.not_mem_nil
  intro p hp
  rcases List.mem_append.1 hp with h | h
  · have e := st1_ok (F := F) c i arg3 harg3 arg4 harg4 arg5 harg5 arg6 harg6 arg7 harg7 arg8 harg8 arg9 harg9 (bodyRun.sl.v0 i) (bodyRun.sl.r_3 arg3 X3) (bodyRun.sl.r_9 arg3 X3) (bodyRun.sl.r_15 i arg3 arg4 arg6 X3 X4 X6) (bodyRun.sl.r_16 i arg3 arg4 arg6 X3 X4 X6)
      (bodyRun.sl.v230 i) (4#32) (bodyRun.sl.v231 i) (bodyRun.sl.v233 i) (bodyRun.sl.v235 i) X4 (arg8.view.writes (Elt F) arg8.view.junk (bodyRun.sl.H8_2 i arg3 arg6 X3 X6)) (bodyRun.sl.r_15 i arg3 arg4 arg6 X3 X4 X6, bodyRun.sl.r_16 i arg3 arg4 arg6 X3 X4 X6)
      (own i (arg3.view.read (Elt F) X3) (arg4.view.read (Elt F) X4) (arg6.view.read (Elt F) X6)) (k0_t1_loop i).trips le_rfl p h
    intro x
    refine (e x).trans ?_
    rw [bias_read, r3_eq, r9_eq]
    rfl
  · refine key p h

theorem st_cover (y : S2x18x256x512.Idx) (hy : (y 1).val < 4 * nT i ∨ 16 ≤ (y 1).val) : ∃ p ∈ (st_k0_t1 (F := F) Variants.none c none i arg3 harg3 arg4 harg4 arg5 harg5 arg6 harg6 arg7 harg7 arg8 harg8 arg9 harg9 (bodyRun.sl.v0 i) (bodyRun.sl.r_3 arg3 X3) (bodyRun.sl.r_9 arg3 X3) (bodyRun.sl.r_15 i arg3 arg4 arg6 X3 X4 X6) (bodyRun.sl.r_16 i arg3 arg4 arg6 X3 X4 X6)
    (bodyRun.sl.v230 i) (4#32) (bodyRun.sl.v231 i) (bodyRun.sl.v233 i) (bodyRun.sl.v235 i) X4 (arg8.view.writes (Elt F) arg8.view.junk (bodyRun.sl.H8_2 i arg3 arg6 X3 X6)) (bodyRun.sl.r_15 i arg3 arg4 arg6 X3 X4 X6, bodyRun.sl.r_16 i arg3 arg4 arg6 X3 X4 X6) (k0_t1_loop i).trips).2 ++ [⟨Rect.unit (s := S2x18x256x512) ![1, 17, 0, 0] S1x1x256x512.size inb_S2x18x256x512_S1x1x256x512_1_17_0_0, k0_pay110 (bodyRun.sl.r_9 arg3 X3) bodyRun.sl.r_14 (arg4.view.readAt (Elt F) (Rect.unit (s := S1x16x256x128) (k0_off2 i) S1x1x256x128.size (k0_off2_inb i)).toLoadRect X4)⟩,
      ⟨Rect.unit (s := S2x18x256x512) ![1, 16, 0, 0] S1x1x256x512.size inb_S2x18x256x512_S1x1x256x512_1_16_0_0, k0_pay109 (bodyRun.sl.r_9 arg3 X3) (bodyRun.sl.r_13 i arg3 arg6 X3 X6) k0_pay97 (k0_pay105 bodyRun.sl.v159 bodyRun.sl.v160) bodyRun.sl.cst_78 k0_pay106 (arg4.view.readAt (Elt F) (Rect.unit (s := S1x16x256x128) (k0_off1 i) S1x1x256x128.size (k0_off1_inb i)).toLoadRect X4)⟩,
      ⟨Rect.unit (s := S2x18x256x512) ![0, 17, 0, 0] S1x1x256x512.size inb_S2x18x256x512_S1x1x256x512_0_17_0_0, k0_pay103 (bodyRun.sl.r_3 arg3 X3) k0_pay98 bodyRun.sl.cst_57 (arg4.view.readAt (Elt F) (Rect.unit (s := S1x16x256x128) (k0_off2 i) S1x1x256x128.size (k0_off2_inb i)).toLoadRect X4)⟩,
      ⟨Rect.unit (s := S2x18x256x512) ![0, 16, 0, 0] S1x1x256x512.size inb_S2x18x256x512_S1x1x256x512_0_16_0_0, k0_pay102 (bodyRun.sl.r_3 arg3 X3) (bodyRun.sl.r_7 i arg3 arg6 X3 X6) bodyRun.sl.v159 bodyRun.sl.v160 k0_pay97 (arg4.view.readAt (Elt F) (Rect.unit (s := S1x16x256x128) (k0_off1 i) S1x1x256x128.size (k0_off1_inb i)).toLoadRect X4)⟩], y ∈ p.1.set := by
  rcases hy with hy | hy
  · obtain ⟨p, hp, hm⟩ := st1_cover (F := F) c i arg3 harg3 arg4 harg4 arg5 harg5 arg6 harg6 arg7 harg7 arg8 harg8 arg9 harg9 (bodyRun.sl.v0 i) (bodyRun.sl.r_3 arg3 X3) (bodyRun.sl.r_9 arg3 X3) (bodyRun.sl.r_15 i arg3 arg4 arg6 X3 X4 X6) (bodyRun.sl.r_16 i arg3 arg4 arg6 X3 X4 X6)
      (bodyRun.sl.v230 i) (4#32) (bodyRun.sl.v231 i) (bodyRun.sl.v233 i) (bodyRun.sl.v235 i) X4 (arg8.view.writes (Elt F) arg8.view.junk (bodyRun.sl.H8_2 i arg3 arg6 X3 X6)) (bodyRun.sl.r_15 i arg3 arg4 arg6 X3 X4 X6, bodyRun.sl.r_16 i arg3 arg4 arg6 X3 X4 X6)
      (k0_t1_loop i).trips le_rfl y (by rw [trips1]; exact hy)
    exact ⟨p, List.mem_append_left _ hp, hm⟩
  · have h0 : (y 0).val < 2 := (y 0).isLt
    have h1 : (y 1).val < 18 := (y 1).isLt
    rcases (show (y 0).val = 0 ∨ (y 0).val = 1 by omega) with h | h <;> rcases (show (y 1).val = 16 ∨ (y 1).val = 17 by omega) with h' | h'
    · exact ⟨_, List.mem_append_right _ (List.Mem.tail _ (List.Mem.tail _ (List.Mem.tail _ (List.Mem.head _)))), mem_s 0 16 (by omega) rfl inb_S2x18x256x512_S1x1x256x512_0_16_0_0 y h h'⟩
    · exact ⟨_, List.mem_append_right _ (List.Mem.tail _ (List.Mem.tail _ (List.Mem.head _))), mem_s 0 17 (by omega) rfl inb_S2x18x256x512_S1x1x256x512_0_17_0_0 y h h'⟩
    · exact ⟨_, List.mem_append_right _ (List.Mem.tail _ (List.Mem.head _)), mem_s 1 16 (by omega) rfl inb_S2x18x256x512_S1x1x256x512_1_16_0_0 y h h'⟩
    · exact ⟨_, List.mem_append_right _ (List.Mem.head _), mem_s 1 17 (by omega) rfl inb_S2x18x256x512_S1x1x256x512_1_17_0_0 y h h'⟩

/-- What the scores' scratch reads once the score loop is over, whatever it held before. -/
theorem st_read (f9 : BufTy.Contents (Elt F) arg9.view.ty) (y : S2x18x256x512.Idx) (hy : (y 1).val < 4 * nT i ∨ 16 ≤ (y 1).val) :
    arg9.view.read (Elt F) (arg9.view.writes (Elt F) f9 ((st_k0_t1 (F := F) Variants.none c none i arg3 harg3 arg4 harg4 arg5 harg5 arg6 harg6 arg7 harg7 arg8 harg8 arg9 harg9 (bodyRun.sl.v0 i) (bodyRun.sl.r_3 arg3 X3) (bodyRun.sl.r_9 arg3 X3) (bodyRun.sl.r_15 i arg3 arg4 arg6 X3 X4 X6) (bodyRun.sl.r_16 i arg3 arg4 arg6 X3 X4 X6)
    (bodyRun.sl.v230 i) (4#32) (bodyRun.sl.v231 i) (bodyRun.sl.v233 i) (bodyRun.sl.v235 i) X4 (arg8.view.writes (Elt F) arg8.view.junk (bodyRun.sl.H8_2 i arg3 arg6 X3 X6)) (bodyRun.sl.r_15 i arg3 arg4 arg6 X3 X4 X6, bodyRun.sl.r_16 i arg3 arg4 arg6 X3 X4 X6) (k0_t1_loop i).trips).2 ++ [⟨Rect.unit (s := S2x18x256x512) ![1, 17, 0, 0] S1x1x256x512.size inb_S2x18x256x512_S1x1x256x512_1_17_0_0, k0_pay110 (bodyRun.sl.r_9 arg3 X3) bodyRun.sl.r_14 (arg4.view.readAt (Elt F) (Rect.unit (s := S1x16x256x128) (k0_off2 i) S1x1x256x128.size (k0_off2_inb i)).toLoadRect X4)⟩,
      ⟨Rect.unit (s := S2x18x256x512) ![1, 16, 0, 0] S1x1x256x512.size inb_S2x18x256x512_S1x1x256x512_1_16_0_0, k0_pay109 (bodyRun.sl.r_9 arg3 X3) (bodyRun.sl.r_13 i arg3 arg6 X3 X6) k0_pay97 (k0_pay105 bodyRun.sl.v159 bodyRun.sl.v160) bodyRun.sl.cst_78 k0_pay106 (arg4.view.readAt (Elt F) (Rect.unit (s := S1x16x256x128) (k0_off1 i) S1x1x256x128.size (k0_off1_inb i)).toLoadRect X4)⟩,
      ⟨Rect.unit (s := S2x18x256x512) ![0, 17, 0, 0] S1x1x256x512.size inb_S2x18x256x512_S1x1x256x512_0_17_0_0, k0_pay103 (bodyRun.sl.r_3 arg3 X3) k0_pay98 bodyRun.sl.cst_57 (arg4.view.readAt (Elt F) (Rect.unit (s := S1x16x256x128) (k0_off2 i) S1x1x256x128.size (k0_off2_inb i)).toLoadRect X4)⟩,
      ⟨Rect.unit (s := S2x18x256x512) ![0, 16, 0, 0] S1x1x256x512.size inb_S2x18x256x512_S1x1x256x512_0_16_0_0, k0_pay102 (bodyRun.sl.r_3 arg3 X3) (bodyRun.sl.r_7 i arg3 arg6 X3 X6) bodyRun.sl.v159 bodyRun.sl.v160 k0_pay97 (arg4.view.readAt (Elt F) (Rect.unit (s := S1x16x256x128) (k0_off1 i) S1x1x256x128.size (k0_off1_inb i)).toLoadRect X4)⟩])) y = scr i (arg3.view.read (Elt F) X3) (arg4.view.read (Elt F) X4) (arg6.view.read (Elt F) X6) y :=
  View.read_writes_apply_of_pieces (v := arg9.view) (f := f9) (scr i (arg3.view.read (Elt F) X3) (arg4.view.read (Elt F) X4) (arg6.view.read (Elt F) X6)) _ st_ok y (st_cover y hy)

theorem st_fst : (st_k0_t1 (F := F) Variants.none c none i arg3 harg3 arg4 harg4 arg5 harg5 arg6 harg6 arg7 harg7 arg8 harg8 arg9 harg9 (bodyRun.sl.v0 i) (bodyRun.sl.r_3 arg3 X3) (bodyRun.sl.r_9 arg3 X3) (bodyRun.sl.r_15 i arg3 arg4 arg6 X3 X4 X6) (bodyRun.sl.r_16 i arg3 arg4 arg6 X3 X4 X6)
    (bodyRun.sl.v230 i) (4#32) (bodyRun.sl.v231 i) (bodyRun.sl.v233 i) (bodyRun.sl.v235 i) X4 (arg8.view.writes (Elt F) arg8.view.junk (bodyRun.sl.H8_2 i arg3 arg6 X3 X6)) (bodyRun.sl.r_15 i arg3 arg4 arg6 X3 X4 X6, bodyRun.sl.r_16 i arg3 arg4 arg6 X3 X4 X6) (k0_t1_loop i).trips).1 = (mx0 i (arg3.view.read (Elt F) X3) (arg4.view.read (Elt F) X4) (arg6.view.read (Elt F) X6), mx1 i (arg3.view.read (Elt F) X3) (arg4.view.read (Elt F) X4) (arg6.view.read (Elt F) X6)) := by
  refine (st1_fst (F := F) c i arg3 harg3 arg4 harg4 arg5 harg5 arg6 harg6 arg7 harg7 arg8 harg8 arg9 harg9 (bodyRun.sl.v0 i) (bodyRun.sl.r_3 arg3 X3) (bodyRun.sl.r_9 arg3 X3) (bodyRun.sl.r_15 i arg3 arg4 arg6 X3 X4 X6) (bodyRun.sl.r_16 i arg3 arg4 arg6 X3 X4 X6)
      (bodyRun.sl.v230 i) (4#32) (bodyRun.sl.v231 i) (bodyRun.sl.v233 i) (bodyRun.sl.v235 i) X4 (arg8.view.writes (Elt F) arg8.view.junk (bodyRun.sl.H8_2 i arg3 arg6 X3 X6)) (bodyRun.sl.r_15 i arg3 arg4 arg6 X3 X4 X6, bodyRun.sl.r_16 i arg3 arg4 arg6 X3 X4 X6)
      (k0_t1_loop i).trips le_rfl).trans ?_
  rw [bias_read, r3_eq, r9_eq, r15_eq, r16_eq, trips1]
  rfl

theorem slab_eq (h a : Fin 2) {off : Fin 4 → ℕ} (hoff : off = ![h.val, 16 + a.val, 0, 0]) (inb : ∀ a, off a + S1x1x256x512.size a ≤ S2x18x256x512.size a) :
    arg9.view.readCov ((st_k0_t1 (F := F) Variants.none c none i arg3 harg3 arg4 harg4 arg5 harg5 arg6 harg6 arg7 harg7 arg8 harg8 arg9 harg9 (bodyRun.sl.v0 i) (bodyRun.sl.r_3 arg3 X3) (bodyRun.sl.r_9 arg3 X3) (bodyRun.sl.r_15 i arg3 arg4 arg6 X3 X4 X6) (bodyRun.sl.r_16 i arg3 arg4 arg6 X3 X4 X6)
    (bodyRun.sl.v230 i) (4#32) (bodyRun.sl.v231 i) (bodyRun.sl.v233 i) (bodyRun.sl.v235 i) X4 (arg8.view.writes (Elt F) arg8.view.junk (bodyRun.sl.H8_2 i arg3 arg6 X3 X6)) (bodyRun.sl.r_15 i arg3 arg4 arg6 X3 X4 X6, bodyRun.sl.r_16 i arg3 arg4 arg6 X3 X4 X6) (k0_t1_loop i).trips).2 ++ [⟨Rect.unit (s := S2x18x256x512) ![1, 17, 0, 0] S1x1x256x512.size inb_S2x18x256x512_S1x1x256x512_1_17_0_0, k0_pay110 (bodyRun.sl.r_9 arg3 X3) bodyRun.sl.r_14 (arg4.view.readAt (Elt F) (Rect.unit (s := S1x16x256x128) (k0_off2 i) S1x1x256x128.size (k0_off2_inb i)).toLoadRect X4)⟩,
      ⟨Rect.unit (s := S2x18x256x512) ![1, 16, 0, 0] S1x1x256x512.size inb_S2x18x256x512_S1x1x256x512_1_16_0_0, k0_pay109 (bodyRun.sl.r_9 arg3 X3) (bodyRun.sl.r_13 i arg3 arg6 X3 X6) k0_pay97 (k0_pay105 bodyRun.sl.v159 bodyRun.sl.v160) bodyRun.sl.cst_78 k0_pay106 (arg4.view.readAt (Elt F) (Rect.unit (s := S1x16x256x128) (k0_off1 i) S1x1x256x128.size (k0_off1_inb i)).toLoadRect X4)⟩,
      ⟨Rect.unit (s := S2x18x256x512) ![0, 17, 0, 0] S1x1x256x512.size inb_S2x18x256x512_S1x1x256x512_0_17_0_0, k0_pay103 (bodyRun.sl.r_3 arg3 X3) k0_pay98 bodyRun.sl.cst_57 (arg4.view.readAt (Elt F) (Rect.unit (s := S1x16x256x128) (k0_off2 i) S1x1x256x128.size (k0_off2_inb i)).toLoadRect X4)⟩,
      ⟨Rect.unit (s := S2x18x256x512) ![0, 16, 0, 0] S1x1x256x512.size inb_S2x18x256x512_S1x1x256x512_0_16_0_0, k0_pay102 (bodyRun.sl.r_3 arg3 X3) (bodyRun.sl.r_7 i arg3 arg6 X3 X6) bodyRun.sl.v159 bodyRun.sl.v160 k0_pay97 (arg4.view.readAt (Elt F) (Rect.unit (s := S1x16x256x128) (k0_off1 i) S1x1x256x128.size (k0_off1_inb i)).toLoadRect X4)⟩]) (Rect.unit (s := S2x18x256x512) off S1x1x256x512.size inb).toLoadRect = sblk (scr i (arg3.view.read (Elt F) X3) (arg4.view.read (Elt F) X4) (arg6.view.read (Elt F) X6)) h (16 + a.val) := by
  have ha := a.isLt
  refine (load_s arg9.view _ h (16 + a.val) (by omega) hoff inb).trans (funext fun x => ?_)
  refine st_read _ _ (Or.inr ?_)
  show 16 ≤ (16 + a.val) % 18
  omega

theorem r17_eq : bodyRun.sl.r_17 c i arg3 harg3 arg4 harg4 arg5 harg5 arg6 harg6 arg7 harg7 arg8 harg8 arg9 harg9 X3 X4 X6 = mx0 i (arg3.view.read (Elt F) X3) (arg4.view.read (Elt F) X4) (arg6.view.read (Elt F) X6) := by
  unfold bodyRun.sl.r_17
  exact congrArg Prod.fst st_fst

theorem r18_eq : bodyRun.sl.r_18 c i arg3 harg3 arg4 harg4 arg5 harg5 arg6 harg6 arg7 harg7 arg8 harg8 arg9 harg9 X3 X4 X6 = mx1 i (arg3.view.read (Elt F) X3) (arg4.view.read (Elt F) X4) (arg6.view.read (Elt F) X6) := by
  unfold bodyRun.sl.r_18
  exact congrArg Prod.snd st_fst

theorem v255_eq : bodyRun.sl.v255 c i arg3 harg3 arg4 harg4 arg5 harg5 arg6 harg6 arg7 harg7 arg8 harg8 arg9 harg9 X3 X4 X6 = sblk (scr i (arg3.view.read (Elt F) X3) (arg4.view.read (Elt F) X4) (arg6.view.read (Elt F) X6)) 0 16 := by
  unfold bodyRun.sl.v255
  exact slab_eq 0 0 rfl _

theorem v267_eq : bodyRun.sl.v267 c i arg3 harg3 arg4 harg4 arg5 harg5 arg6 harg6 arg7 harg7 arg8 harg8 arg9 harg9 X3 X4 X6 = sblk (scr i (arg3.view.read (Elt F) X3) (arg4.view.read (Elt F) X4) (arg6.view.read (Elt F) X6)) 0 17 := by
  unfold bodyRun.sl.v267
  exact slab_eq 0 1 rfl _

theorem v280_eq : bodyRun.sl.v280 c i arg3 harg3 arg4 harg4 arg5 harg5 arg6 harg6 arg7 harg7 arg8 harg8 arg9 harg9 X3 X4 X6 = sblk (scr i (arg3.view.read (Elt F) X3) (arg4.view.read (Elt F) X4) (arg6.view.read (Elt F) X6)) 1 16 := by
  unfold bodyRun.sl.v280
  exact slab_eq 1 0 rfl _

theorem v292_eq : bodyRun.sl.v292 c i arg3 harg3 arg4 harg4 arg5 harg5 arg6 harg6 arg7 harg7 arg8 harg8 arg9 harg9 X3 X4 X6 = sblk (scr i (arg3.view.read (Elt F) X3) (arg4.view.read (Elt F) X4) (arg6.view.read (Elt F) X6)) 1 17 := by
  unfold bodyRun.sl.v292
  exact slab_eq 1 1 rfl _

theorem r19_eq : bodyRun.sl.r_19 c i arg3 harg3 arg4 harg4 arg5 harg5 arg6 harg6 arg7 harg7 arg8 harg8 arg9 harg9 X3 X4 X5 X6 = k0_pay122 (mx0 i (arg3.view.read (Elt F) X3) (arg4.view.read (Elt F) X4) (arg6.view.read (Elt F) X6)) (sblk (scr i (arg3.view.read (Elt F) X3) (arg4.view.read (Elt F) X4) (arg6.view.read (Elt F) X6)) 0 16) (vblk (arg5.view.read (Elt F) X5) (2 * (i 2).val)) := by
  unfold bodyRun.sl.r_19
  have e0 : arg5.view.readAt (Elt F) (Rect.unit (s := S1x16x160x256) (k0_off13 i 0#32) S1x1x160x256.size (k0_off13_inb i 0)).toLoadRect X5 = vblk (arg5.view.read (Elt F) X5) (2 * (i 2).val) := ld13_eq 0
  rw [e0, v255_eq]
  exact congrArg (fun m : FVec F S1x512 .f32 => k0_pay122 m (sblk (scr i (arg3.view.read (Elt F) X3) (arg4.view.read (Elt F) X4) (arg6.view.read (Elt F) X6)) 0 16) (vblk (arg5.view.read (Elt F) X5) (2 * (i 2).val))) (congrArg Prod.fst st_fst)

theorem r20_eq : bodyRun.sl.r_20 c i arg3 harg3 arg4 harg4 arg5 harg5 arg6 harg6 arg7 harg7 arg8 harg8 arg9 harg9 X3 X4 X6 = k0_pay123 (mx0 i (arg3.view.read (Elt F) X3) (arg4.view.read (Elt F) X4) (arg6.view.read (Elt F) X6)) (sblk (scr i (arg3.view.read (Elt F) X3) (arg4.view.read (Elt F) X4) (arg6.view.read (Elt F) X6)) 0 17) := by
  unfold bodyRun.sl.r_20
  rw [v267_eq]
  exact congrArg (fun m : FVec F S1x512 .f32 => k0_pay123 m (sblk (scr i (arg3.view.read (Elt F) X3) (arg4.view.read (Elt F) X4) (arg6.view.read (Elt F) X6)) 0 17)) (congrArg Prod.fst st_fst)

theorem init3_eq : (bodyRun.sl.r_21 c i arg3 harg3 arg4 harg4 arg5 harg5 arg6 harg6 arg7 harg7 arg8 harg8 arg9 harg9 X3 X4 X5 X6, bodyRun.sl.r_22 c i arg3 harg3 arg4 harg4 arg5 harg5 arg6 harg6 arg7 harg7 arg8 harg8 arg9 harg9 X3 X4 X5 X6)
    = (oa0 i (arg3.view.read (Elt F) X3) (arg4.view.read (Elt F) X4) (arg5.view.read (Elt F) X5) (arg6.view.read (Elt F) X6), oa1 i (arg3.view.read (Elt F) X3) (arg4.view.read (Elt F) X4) (arg5.view.read (Elt F) X5) (arg6.view.read (Elt F) X6)) := by
  have e0 : arg5.view.readAt (Elt F) (Rect.unit (s := S1x16x160x256) (k0_off13 i 0#32) S1x1x160x256.size (k0_off13_inb i 0)).toLoadRect X5 = vblk (arg5.view.read (Elt F) X5) (2 * (i 2).val) := ld13_eq 0
  have e1 : arg5.view.readAt (Elt F) (Rect.unit (s := S1x16x160x256) (k0_off13 i 1#32) S1x1x160x256.size (k0_off13_inb i 1)).toLoadRect X5 = vblk (arg5.view.read (Elt F) X5) (2 * (i 2).val + 1) := ld13_eq 1
  unfold bodyRun.sl.r_21 bodyRun.sl.r_22
  rw [r19_eq, r20_eq, r18_eq, v280_eq, v292_eq, e0, e1]
  rfl

/-- The value loop's outcome. -/
theorem st3_fin (f9 : BufTy.Contents (Elt F) arg9.view.ty) (c0 : BitVec 32) (init : FVec F S80x512 .f32 × FVec F S80x512 .f32)
    (hinit : init = (oa0 i (arg3.view.read (Elt F) X3) (arg4.view.read (Elt F) X4) (arg5.view.read (Elt F) X5) (arg6.view.read (Elt F) X6), oa1 i (arg3.view.read (Elt F) X3) (arg4.view.read (Elt F) X4) (arg5.view.read (Elt F) X5) (arg6.view.read (Elt F) X6))) :
    st_k0_t3 (F := F) Variants.none c none i arg3 harg3 arg4 harg4 arg5 harg5 arg6 harg6 arg7 harg7 arg8 harg8 arg9 harg9 (bodyRun.sl.r_17 c i arg3 harg3 arg4 harg4 arg5 harg5 arg6 harg6 arg7 harg7 arg8 harg8 arg9 harg9 X3 X4 X6) (bodyRun.sl.r_18 c i arg3 harg3 arg4 harg4 arg5 harg5 arg6 harg6 arg7 harg7 arg8 harg8 arg9 harg9 X3 X4 X6) c0 X5
        (arg9.view.writes (Elt F) f9 ((st_k0_t1 (F := F) Variants.none c none i arg3 harg3 arg4 harg4 arg5 harg5 arg6 harg6 arg7 harg7 arg8 harg8 arg9 harg9 (bodyRun.sl.v0 i) (bodyRun.sl.r_3 arg3 X3) (bodyRun.sl.r_9 arg3 X3) (bodyRun.sl.r_15 i arg3 arg4 arg6 X3 X4 X6) (bodyRun.sl.r_16 i arg3 arg4 arg6 X3 X4 X6)
    (bodyRun.sl.v230 i) (4#32) (bodyRun.sl.v231 i) (bodyRun.sl.v233 i) (bodyRun.sl.v235 i) X4 (arg8.view.writes (Elt F) arg8.view.junk (bodyRun.sl.H8_2 i arg3 arg6 X3 X6)) (bodyRun.sl.r_15 i arg3 arg4 arg6 X3 X4 X6, bodyRun.sl.r_16 i arg3 arg4 arg6 X3 X4 X6) (k0_t1_loop i).trips).2 ++ [⟨Rect.unit (s := S2x18x256x512) ![1, 17, 0, 0] S1x1x256x512.size inb_S2x18x256x512_S1x1x256x512_1_17_0_0, k0_pay110 (bodyRun.sl.r_9 arg3 X3) bodyRun.sl.r_14 (arg4.view.readAt (Elt F) (Rect.unit (s := S1x16x256x128) (k0_off2 i) S1x1x256x128.size (k0_off2_inb i)).toLoadRect X4)⟩,
      ⟨Rect.unit (s := S2x18x256x512) ![1, 16, 0, 0] S1x1x256x512.size inb_S2x18x256x512_S1x1x256x512_1_16_0_0, k0_pay109 (bodyRun.sl.r_9 arg3 X3) (bodyRun.sl.r_13 i arg3 arg6 X3 X6) k0_pay97 (k0_pay105 bodyRun.sl.v159 bodyRun.sl.v160) bodyRun.sl.cst_78 k0_pay106 (arg4.view.readAt (Elt F) (Rect.unit (s := S1x16x256x128) (k0_off1 i) S1x1x256x128.size (k0_off1_inb i)).toLoadRect X4)⟩,
      ⟨Rect.unit (s := S2x18x256x512) ![0, 17, 0, 0] S1x1x256x512.size inb_S2x18x256x512_S1x1x256x512_0_17_0_0, k0_pay103 (bodyRun.sl.r_3 arg3 X3) k0_pay98 bodyRun.sl.cst_57 (arg4.view.readAt (Elt F) (Rect.unit (s := S1x16x256x128) (k0_off2 i) S1x1x256x128.size (k0_off2_inb i)).toLoadRect X4)⟩,
      ⟨Rect.unit (s := S2x18x256x512) ![0, 16, 0, 0] S1x1x256x512.size inb_S2x18x256x512_S1x1x256x512_0_16_0_0, k0_pay102 (bodyRun.sl.r_3 arg3 X3) (bodyRun.sl.r_7 i arg3 arg6 X3 X6) bodyRun.sl.v159 bodyRun.sl.v160 k0_pay97 (arg4.view.readAt (Elt F) (Rect.unit (s := S1x16x256x128) (k0_off1 i) S1x1x256x128.size (k0_off1_inb i)).toLoadRect X4)⟩])) init (k0_t3_loop i).trips
      = (avN0 (arg5.view.read (Elt F) X5) (mx0 i (arg3.view.read (Elt F) X3) (arg4.view.read (Elt F) X4) (arg6.view.read (Elt F) X6)) (scr i (arg3.view.read (Elt F) X3) (arg4.view.read (Elt F) X4) (arg6.view.read (Elt F) X6)) (oa0 i (arg3.view.read (Elt F) X3) (arg4.view.read (Elt F) X4) (arg5.view.read (Elt F) X5) (arg6.view.read (Elt F) X6)) (nT i),
         avN1 (arg5.view.read (Elt F) X5) (mx1 i (arg3.view.read (Elt F) X3) (arg4.view.read (Elt F) X4) (arg6.view.read (Elt F) X6)) (scr i (arg3.view.read (Elt F) X3) (arg4.view.read (Elt F) X4) (arg6.view.read (Elt F) X6)) (oa1 i (arg3.view.read (Elt F) X3) (arg4.view.read (Elt F) X4) (arg5.view.read (Elt F) X5) (arg6.view.read (Elt F) X6)) (nT i)) := by
  subst hinit
  refine (st3_eq (F := F) c i arg3 harg3 arg4 harg4 arg5 harg5 arg6 harg6 arg7 harg7 arg8 harg8 arg9 harg9 (bodyRun.sl.r_17 c i arg3 harg3 arg4 harg4 arg5 harg5 arg6 harg6 arg7 harg7 arg8 harg8 arg9 harg9 X3 X4 X6) (bodyRun.sl.r_18 c i arg3 harg3 arg4 harg4 arg5 harg5 arg6 harg6 arg7 harg7 arg8 harg8 arg9 harg9 X3 X4 X6) c0 X5 _ _
    (scr i (arg3.view.read (Elt F) X3) (arg4.view.read (Elt F) X4) (arg6.view.read (Elt F) X6)) (fun y hy => st_read f9 y (Or.inl (by rw [trips3] at hy; exact hy))) (k0_t3_loop i).trips le_rfl).trans ?_
  rw [r17_eq, r18_eq, trips3]

end

set_option maxHeartbeats 1000000 in
/-- THE BODY'S ONE STORE into the output block. -/
theorem bodyRun_out (c : Dev nD) (i : grid0.Coords) (arg3 : Memref sig .tc .vmem S1x128x512 .f32) (harg3 : arg3.IsWhole) (arg4 : Memref sig .tc .vmem S1x16x256x128 .bf16) (harg4 : arg4.IsWhole) (arg5 : Memref sig .tc .vmem S1x16x160x256 .bf16) (harg5 : arg5.IsWhole) (arg6 : Memref sig .tc .vmem S1x16x128 .f32) (harg6 : arg6.IsWhole) (arg7 : Memref sig .tc .vmem S1x512x128 .bf16) (harg7 : arg7.IsWhole) (arg8 : Memref sig .tc .vmem S2x16x512 .f32) (harg8 : arg8.IsWhole) (arg9 : Memref sig .tc .vmem S2x18x256x512 .f32) (harg9 : arg9.IsWhole)
    (X3 : BufTy.Contents (Elt F) arg3.view.ty) (X4 : BufTy.Contents (Elt F) arg4.view.ty) (X5 : BufTy.Contents (Elt F) arg5.view.ty) (X6 : BufTy.Contents (Elt F) arg6.view.ty)
    (f8 : BufTy.Contents (Elt F) arg8.view.ty) (f9 : BufTy.Contents (Elt F) arg9.view.ty) :
    (bodyRun (F := F) c i arg3 harg3 arg4 harg4 arg5 harg5 arg6 harg6 arg7 harg7 arg8 harg8 arg9 harg9 X3 X4 X5 X6 f8 f9).1
      = [⟨Rect.unit (s := S1x512x128) ![0, 0, 0] S1x512x128.size inb_S1x512x128_S1x512x128_0_0_0, outP i (arg3.view.read (Elt F) X3) (arg4.view.read (Elt F) X4) (arg5.view.read (Elt F) X5) (arg6.view.read (Elt F) X6)⟩] := by
  unfold bodyRun
  dsimp only
  have h := st3_fin (F := F) (c := c) (i := i) (arg7 := arg7) (harg3 := harg3) (harg4 := harg4) (harg5 := harg5) (harg6 := harg6) (harg7 := harg7) (arg8 := arg8) (harg8 := harg8) (arg9 := arg9) (harg9 := harg9) (X3 := X3) (X4 := X4) (X5 := X5) (X6 := X6) f9 0#32
    _ (init3_eq (F := F) (c := c) (i := i) (arg7 := arg7) (harg3 := harg3) (harg4 := harg4) (harg5 := harg5) (harg6 := harg6) (harg7 := harg7) (arg8 := arg8) (harg8 := harg8) (arg9 := arg9) (harg9 := harg9) (X3 := X3) (X4 := X4) (X5 := X5) (X6 := X6))
  refine congrArg (fun o => [(⟨Rect.unit (s := S1x512x128) ![0, 0, 0] S1x512x128.size inb_S1x512x128_S1x512x128_0_0_0, o⟩ : View.Piece (Elt F) S1x512x128 .bf16)])
    (congrArg₂ k0_pay7 (congrArg Prod.fst h) (congrArg Prod.snd h))

end Cert.KernelIdeal.Body

end
-- ==== Proof.Run.lean ====
/-
  The run of the attention's pipelined call: its body's triple at every grid point, the launch, and the frame.
-/
module

public import proofs.«01_k».proof.Proof.Out
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A store of the whole output block reads back as what was stored. -/
theorem out_read {sp : Space} (v : View sig .tc sp S1x512x128 .bf16) (f : v.ty.Contents (Elt F)) (o : FVec F S1x512x128 .bf16) :
    v.read (Elt F) (v.writes (Elt F) f [⟨Rect.unit (s := S1x512x128) ![0, 0, 0] S1x512x128.size inb_S1x512x128_S1x512x128_0_0_0, o⟩]) = o := by
  have e : ∀ x : S1x512x128.Idx, (Rect.unit (s := S1x512x128) ![0, 0, 0] S1x512x128.size inb_S1x512x128_S1x512x128_0_0_0).emb x = x := fun x => by
    refine funext fun a => Fin.ext ?_
    fin_cases a
    · show 0 + 1 * (x 0).val = (x 0).val; omega
    · show 0 + 1 * (x 1).val = (x 1).val; omega
    · show 0 + 1 * (x 2).val = (x 2).val; omega
  funext y
  refine View.read_writes_apply_of_pieces (v := v) (f := f) o _ ?_ y ⟨_, List.Mem.head _, ?_⟩
  · refine List.forall_mem_cons.2 ⟨fun x => ?_, fun p hp => absurd hp List.not_mem_nil⟩
    exact (congrArg o (e x)).symm
  · rw [Rect.mem_set_unit]
    intro a
    fin_cases a
    · exact ⟨Nat.zero_le _, (Nat.zero_add _).symm ▸ (y 0).isLt⟩
    · exact ⟨Nat.zero_le _, (Nat.zero_add _).symm ▸ (y 1).isLt⟩
    · exact ⟨Nat.zero_le _, (Nat.zero_add _).symm ▸ (y 2).isLt⟩

set_option maxHeartbeats 1000000 in
/-- THE BODY'S TRIPLE on whole staging blocks and the two scratch buffers at any contents. -/
theorem sound_kernel (c : Dev nD) (E : Set ℕ) (i : grid0.Coords) (arg3 : Memref sig .tc .vmem S1x128x512 .f32) (harg3 : arg3.IsWhole) (arg4 : Memref sig .tc .vmem S1x16x256x128 .bf16) (harg4 : arg4.IsWhole) (arg5 : Memref sig .tc .vmem S1x16x160x256 .bf16) (harg5 : arg5.IsWhole) (arg6 : Memref sig .tc .vmem S1x16x128 .f32) (harg6 : arg6.IsWhole) (arg7 : Memref sig .tc .vmem S1x512x128 .bf16) (harg7 : arg7.IsWhole) (arg8 : Memref sig .tc .vmem S2x16x512 .f32) (harg8 : arg8.IsWhole) (arg9 : Memref sig .tc .vmem S2x18x256x512 .f32) (harg9 : arg9.IsWhole)
    (x3 : FVec F S1x128x512 .f32) (x4 : FVec F S1x16x256x128 .bf16) (x5 : FVec F S1x16x160x256 .bf16) (x6 : FVec F S1x16x128 .f32) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d) ∗ (∃ f, at_ c arg8 f) ∗ (∃ f, at_ c arg9 f)
        ∗ (iprop(owns (c : Thread nD τ) arg3 fullShare x3 ∗ owns (c : Thread nD τ) arg4 fullShare x4 ∗ owns (c : Thread nD τ) arg5 fullShare x5 ∗ owns (c : Thread nD τ) arg6 fullShare x6
          ∗ owns (c : Thread nD τ) arg7 fullShare (outP i x3 x4 x5 x6) ∗ (∃ f, at_ c arg8 f) ∗ (∃ f, at_ c arg9 f)) -∗ K ⟨⟩))
      ⊢ wp frame (wpE (defs₀ (F := F)) Variants.none c none) E (cc0_moba_prompt i arg3 harg3 arg4 harg4 arg5 harg5 arg6 harg6 arg7 harg7 arg8 harg8 arg9 harg9) K := by
  unfold owns
  iintro ⟨⟨%f3, %hf3, H3⟩, ⟨%f4, %hf4, H4⟩, ⟨%f5, %hf5, H5⟩, ⟨%f6, %hf6, H6⟩, ⟨%d7, %f7, -, H7⟩, ⟨%f8, H8⟩, ⟨%f9, H9⟩, Hk⟩
  subst hf3 hf4 hf5 hf6
  iapply (wp_wand_r Idealize.ShloMosaic.frame (wpE (defs₀ (F := F)) Variants.none (c : Thread nD τ) none) E)
  isplitl [H3 H4 H5 H6 H7 H8 H9]
  · iapply ((bodyRun (F := F) c i arg3 harg3 arg4 harg4 arg5 harg5 arg6 harg6 arg7 harg7 arg8 harg8 arg9 harg9 f3 f4 f5 f6 f8 f9).2 E f7)
    isplitl [H3]; · iexact H3
    isplitl [H4]; · iexact H4
    isplitl [H5]; · iexact H5
    isplitl [H6]; · iexact H6
    isplitl [H7]; · iexact H7
    isplitl [H8]; · iexact H8
    iexact H9
  · rw [bodyRun_out]
    iintro %a ⟨H3, H4, H5, H6, H7, H8, H9⟩
    iapply Hk
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists _; isplitr
      swap; · iexact H7
      ipureintro
      exact out_read _ _ _
    isplitl [H8]; · iexact H8
    iexact H9

/-- The proof data of the pipeline on core `c`: the arrays as the call finds them; after the body each input's block as it
    was and the output's block at `outP` of the four. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outP (grid0.coords t) (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outP (grid0.coords t) (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The invariant: the two scratch buffers at some contents, and the generator register. -/
theorem inv_eq (c : Dev nD) : (Pipeline.ΦA spec0 c : sProp 𝕄)
    = iprop(((∃ f, at_ c (Memref.whole cc0_scratch0) f) ∗ (∃ f, at_ c (Memref.whole cc0_scratch1) f)) ∗ ∃ r, prngReg c r) := by
  unfold Pipeline.ΦA
  rw [scopedRest0_eq]
  unfold at_
  simp only [Memref.view_whole, View.set_whole]

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = Pipeline.ΦA spec0 c from rfl,
    show (dats m 0 c).Φ t.castSucc = Pipeline.ΦA spec0 c from rfl,
    show (dats m 0 c).owesAt () t.succ = (dats m 0 c).owesAt () t.castSucc from rfl,
    after0_0, after0_1, after0_2, after0_3, after0_4, inv_eq]
  iintro ⟨⟨⟨HS0, HS1⟩, Hr⟩, Ho, ⟨%d0, H0⟩, ⟨%d1, H1⟩, ⟨%d2, H2⟩, ⟨%d3, H3⟩, ⟨%d4, H4⟩⟩
  iapply (sound_kernel c Set.univ (grid0.coords t) _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, H4, HS0, HS1⟩
  isplitl [HS0 HS1 Hr]
  · isplitl [HS0 HS1]
    · isplitl [HS0]; · iexact HS0
      iexact HS1
    · iexact Hr
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- THE LAUNCH: every fair run of the program ends with each window's array at what the proof data says and every counter
    at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Body

end
-- ==== Proof.Frames.lean ====
/-
  The runs without their values: the kernel in words and in extended reals, and the reference, each ends with its
  arguments unchanged and every counter at zero; and the two named constants.
-/
module

public import proofs.«01_k».proof.Defs
public import proofs.«01_k».proof.Proof.Run
public import proofs.«01_k».proof.Proof.BitsRun
public import proofs.«01_k».proof.Proof.Gen.ReferenceIdeal
public import proofs.«01_k».proof.Proof.Gen.ReferenceIdeal.Run

@[expose] public section

noncomputable section

namespace Cert.Proof

open Idealize.ShloMosaic Idealize.ShloMosaic.TcCoe Idealize.SL.Sem

theorem frame_kernel : Cert.quiescent_Kernel (hKernel := Cert.Kernel.Gen.facts) := fun m g _ =>
  Cert.Kernel.Body.frame_main (F := Bits) m g

theorem frame_kernelIdeal : Cert.quiescent_KernelIdeal (hKernelIdeal := Cert.KernelIdeal.Gen.facts) := fun m g _ =>
  Cert.KernelIdeal.Body.frame_main (F := Ideal) m g

theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

theorem preserves : Cert.preserves_Kernel_KernelIdeal :=
  ⟨IdealRules.named_const.statement Cert.KernelIdeal.κ "q_scale" .f32 0x3E38AA3B#32 ((8⁻¹ * (Real.log 2)⁻¹ : ℝ) : EReal) rfl,
   IdealRules.named_const.statement Cert.KernelIdeal.κ "mask" .f32 0xF149F2CA#32 ⊥ rfl⟩

end Cert.Proof

end
-- ==== Proof.Pick.lean ====
/-
  Picking the three greatest of a list with ties settled by position: three rounds of "the first place that
  holds the maximum, then overwritten" and a stable sort choose the same places, among the places whose value is
  not the least one.
-/
module

public import Idealize.ShloMosaic.Lib.SortFacts
public import Mathlib.Data.EReal.Basic

@[expose] public section

noncomputable section

namespace Cert.Pick

open Idealize.ShloMosaic

variable {n : ℕ}

/-- Place `a` comes before place `b`: it holds more, or as much at a lower place. -/
def Before (g : Fin n → EReal) (a b : Fin n) : Prop := g b < g a ∨ (g a = g b ∧ a < b)

theorem before_irrefl (g : Fin n → EReal) (a : Fin n) : ¬ Before g a a := by
  rintro (h | ⟨_, h⟩) <;> exact lt_irrefl _ h

theorem before_trans {g : Fin n → EReal} {a b c : Fin n} (h : Before g a b) (h' : Before g b c) : Before g a c := by
  rcases h with h | ⟨e, h⟩ <;> rcases h' with h' | ⟨e', h'⟩
  · exact Or.inl (h'.trans h)
  · exact Or.inl (e' ▸ h)
  · exact Or.inl (e ▸ h')
  · exact Or.inr ⟨e.trans e', h.trans h'⟩

theorem before_total (g : Fin n → EReal) {a b : Fin n} (h : a ≠ b) : Before g a b ∨ Before g b a := by
  rcases lt_trichotomy (g a) (g b) with h1 | h1 | h1
  · exact Or.inr (Or.inl h1)
  · rcases lt_or_gt_of_ne h with h2 | h2
    · exact Or.inl (Or.inr ⟨h1, h2⟩)
    · exact Or.inr (Or.inr ⟨h1.symm, h2⟩)
  · exact Or.inl (Or.inl h1)

/-- How many places come before place `b`. -/
def rank (g : Fin n → EReal) (b : Fin n) : ℕ := by
  classical exact (Finset.univ.filter fun a => Before g a b).card

theorem rank_lt {g : Fin n → EReal} {a b : Fin n} (h : Before g a b) : rank g a < rank g b := by
  classical
  unfold rank
  refine Finset.card_lt_card ⟨fun c hc => ?_, fun hs => ?_⟩
  · simp only [Finset.mem_filter, Finset.mem_univ, true_and] at hc ⊢
    exact before_trans hc h
  · have : a ∈ Finset.univ.filter fun c => Before g c a := hs (by simpa using h)
    exact before_irrefl g a (by simpa using this)

theorem rank_injective (g : Fin n → EReal) : Function.Injective (rank g) := by
  intro a b h
  by_contra hne
  rcases before_total g hne with h1 | h1
  · exact absurd h (rank_lt h1).ne
  · exact absurd h (rank_lt h1).ne'

/-- Two lists in the same order have the same ranks. -/
theorem rank_congr {g g' : Fin n → EReal} (h : ∀ a b, g a < g b ↔ g' a < g' b) : rank g = rank g' := by
  have hb : ∀ a b, Before g a b ↔ Before g' a b := by
    intro a b
    have he : g a = g b ↔ g' a = g' b := by
      rw [le_antisymm_iff, le_antisymm_iff, ← not_lt, ← not_lt, ← not_lt, ← not_lt, h, h]
    unfold Before
    rw [h, he]
  classical
  funext b
  unfold rank
  exact congrArg Finset.card (Finset.filter_congr fun a _ => hb a b)

/-- What a round sees: the places already taken hold the least value. -/
def shown (g : Fin n → EReal) (S : Fin n → Prop) (a : Fin n) : EReal := by
  classical exact if S a then ⊥ else g a

theorem shown_pos {g : Fin n → EReal} {S : Fin n → Prop} {a : Fin n} (h : S a) : shown g S a = ⊥ := by
  classical exact if_pos h

theorem shown_neg {g : Fin n → EReal} {S : Fin n → Prop} {a : Fin n} (h : ¬ S a) : shown g S a = g a := by
  classical exact if_neg h

/-- One more round: `p` is the first place that holds the maximum of what the round sees. -/
theorem round {g : Fin n → EReal} {S : Fin n → Prop} {k : ℕ} (hS : ∀ j, ⊥ < g j → (S j ↔ rank g j < k)) {p : Fin n}
    (hmax : ∀ a, shown g S a ≤ shown g S p) (hfst : ∀ a, shown g S a = shown g S p → p ≤ a) (j : Fin n)
    (hj : ⊥ < g j) : (S j ∨ j = p) ↔ rank g j < k + 1 := by
  classical
  have hp : ⊥ < g p → ¬ S p → rank g p ≤ k := by
    intro hgp hSp
    have hsub : (Finset.univ.filter fun a => Before g a p).image (rank g) ⊆ Finset.range k := by
      intro x hx
      obtain ⟨a, ha, rfl⟩ := Finset.mem_image.1 hx
      have hb : Before g a p := by simpa using ha
      have hga : ⊥ < g a := by
        rcases hb with h | ⟨h, _⟩
        · exact hgp.trans h
        · exact h ▸ hgp
      rw [Finset.mem_range, ← hS a hga]
      by_contra hSa
      have h1 := hmax a
      rw [shown_neg hSa, shown_neg hSp] at h1
      rcases hb with h | ⟨h, h2⟩
      · exact absurd h1 (not_le.2 h)
      · exact absurd (hfst a (by rw [shown_neg hSa, shown_neg hSp, h])) (not_le.2 h2)
    have := Finset.card_le_card hsub
    rw [Finset.card_image_of_injective _ (rank_injective g), Finset.card_range] at this
    exact this
  constructor
  · rintro (h | rfl)
    · exact ((hS j hj).1 h).trans (Nat.lt_succ_self k)
    · by_cases h : S j
      · exact ((hS j hj).1 h).trans (Nat.lt_succ_self k)
      · exact Nat.lt_succ_of_le (hp hj h)
  · intro h
    by_cases hSj : S j
    · exact Or.inl hSj
    · right
      have hjk : rank g j = k := le_antisymm (Nat.le_of_lt_succ h) (not_lt.1 fun h' => hSj ((hS j hj).2 h'))
      have hgt : ⊥ < shown g S p := lt_of_lt_of_le (by rw [shown_neg hSj]; exact hj) (hmax j)
      have hSp : ¬ S p := fun h' => by rw [shown_pos h'] at hgt; exact lt_irrefl _ hgt
      rw [shown_neg hSp] at hgt
      have hpk : rank g p = k := le_antisymm (hp hgt hSp) (not_lt.1 fun h' => hSp ((hS p hgt).2 h'))
      exact rank_injective g (hjk.trans hpk.symm)

/-- A stable sort of places in increasing order by a comparison is the sort by any comparison that agrees with it
    on a later place against an earlier one. -/
theorem stableSort_eq {R R' : Fin n → Fin n → Bool} (l : List (Fin n)) (hl : l.Pairwise (· < ·))
    (h : ∀ a b, a < b → R b a = R' b a) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.1 hb))

theorem sortedFrom_eq {R R' : Fin n → Fin n → Bool} (h : ∀ a b, a < b → R b a = R' b a) :
    sortedFrom R = sortedFrom R' := by
  have e : sortPositions n R = sortPositions n R' := stableSort_eq _ (List.pairwise_lt_finRange n) h
  funext k
  unfold sortedFrom
  rw [List.get_of_eq e]
  rfl

/-- The stable sort by "greater": place `t` of the result holds the place of rank `t`. -/
theorem rank_sorted (g : Fin n → EReal) (t : Fin n) {R : Fin n → Fin n → Bool} (hR : ∀ a b, R a b = true ↔ g b < g a) :
    rank g (sortedFrom R t) = t := by
  classical
  let B : Fin n → Fin n → Bool := fun a b => decide (Before g a b)
  have hB : ∀ a b, B a b = true ↔ Before g a b := fun a b => decide_eq_true_iff
  have hB' : ∀ a b, B a b = false ↔ ¬ Before g a b := fun a b => decide_eq_false_iff_not
  have e : sortedFrom R = sortedFrom B := sortedFrom_eq fun a b hab => by
    rw [Bool.eq_iff_iff, hR, hB]
    refine ⟨Or.inl, ?_⟩
    rintro (h | ⟨_, h⟩)
    · exact h
    · exact absurd h (not_lt.2 hab.le)
  rw [e]
  have hord : ∀ i j : Fin n, i < j → Before g (sortedFrom B i) (sortedFrom B j) := by
    intro i j hij
    have hno := sortedFrom_noInversion B B ?_ (fun a b h => h) ?_ i j hij
    · rcases before_total g (a := sortedFrom B i) (b := sortedFrom B j)
        (fun h => hij.ne (sortedFrom_injective B h)) with h | h
      · exact h
      · exact absurd h ((hB' _ _).1 hno)
    · intro a b h
      rw [hB']
      exact fun h' => before_irrefl g a (before_trans ((hB a b).1 h) h')
    · intro a b c h h'
      rw [hB'] at h h' ⊢
      intro hac
      by_cases hab : a = b
      · exact h' (hab ▸ hac)
      by_cases hbc : b = c
      · exact h (hbc ▸ hac)
      exact before_irrefl g a (before_trans hac (before_trans ((before_total g hbc).resolve_left h')
        ((before_total g hab).resolve_left h)))
  unfold rank
  have : (Finset.univ.filter fun a => Before g a (sortedFrom B t)) = (Finset.univ.filter fun i => i < t).image (sortedFrom B) := by
    ext a
    obtain ⟨i, rfl⟩ := sortedFrom_surjective B a
    simp only [Finset.mem_filter, Finset.mem_univ, true_and, Finset.mem_image]
    constructor
    · intro h
      refine ⟨i, ?_, rfl⟩
      rcases lt_trichotomy i t with h1 | h1 | h1
      · exact h1
      · exact absurd (h1 ▸ h) (before_irrefl g _)
      · exact absurd (before_trans h (hord t i h1)) (before_irrefl g _)
    · rintro ⟨i', h1, h2⟩
      rw [← h2]
      exact hord i' t h1
  rw [this, Finset.card_image_of_injective _ (sortedFrom_injective B), ← Fin.card_Iio t]
  exact congrArg Finset.card (Finset.ext fun i => by simp)

end Cert.Pick

end
-- ==== Proof.Soft.lean ====
/-
  A softmax taken with base two, its sum kept beside the weighted sum and divided out at the end, is the softmax
  taken with base e and divided before the weighted sum.
-/
module

public import Idealize.ShloMosaic.PureOps.Ideal
public import Mathlib.Analysis.SpecialFunctions.Pow.Real

@[expose] public section

noncomputable section

namespace Cert.Soft

open Idealize.ShloMosaic

/-- A finite sum of extended reals, scaled by a nonnegative real, term by term. -/
theorem sum_mul_coe {ι : Type} (s : Finset ι) (f : ι → EReal) {c : ℝ} (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- `m` is the maximum of `t`. -/
def IsMax {ι : Type} (t : ι → EReal) (m : EReal) : Prop := (∀ k, t k ≤ m) ∧ ∃ k, t k = m

/-- The scores `x` at scale `c` on the places attended, the least value on the others. -/
def score {ι : Type} (A : ι → Prop) (x : ι → ℝ) (c : ℝ) (k : ι) : EReal := by
  classical exact if A k then ((x k * c : ℝ) : EReal) else ⊥

theorem score_pos {ι : Type} {A : ι → Prop} (x : ι → ℝ) (c : ℝ) {k : ι} (h : A k) : score A x c k = ((x k * c : ℝ) : EReal) := by
  classical exact if_pos h

theorem score_neg {ι : Type} {A : ι → Prop} (x : ι → ℝ) (c : ℝ) {k : ι} (h : ¬ A k) : score A x c k = ⊥ := by
  classical exact if_neg h

theorem max_eq {ι : Type} {A : ι → Prop} {x : ι → ℝ} {c : ℝ} (hc : 0 < c) {m : EReal} (hm : IsMax (score A x c) m)
    {k0 : ι} (h0 : A k0) : ∃ k, A k ∧ (∀ a, A a → x a ≤ x k) ∧ m = ((x k * c : ℝ) : EReal) := by
  obtain ⟨hle, k, hk⟩ := hm
  have hA : A k := by
    by_contra h
    rw [score_neg x c h] at hk
    have := hle k0
    rw [score_pos x c h0, ← hk] at this
    exact absurd (le_bot_iff.1 this) (EReal.coe_ne_bot _)
  rw [score_pos x c hA] at hk
  refine ⟨k, hA, fun a ha => ?_, hk.symm⟩
  have := hle a
  rw [score_pos x c ha, ← hk, EReal.coe_le_coe_iff] at this
  exact le_of_mul_le_mul_right this hc

theorem max_same {ι : Type} {A : ι → Prop} {x : ι → ℝ} {c c' : ℝ} (hc : 0 < c) (hc' : 0 < c') {m m' : EReal}
    (hm : IsMax (score A x c) m) (hm' : IsMax (score A x c') m') {k0 : ι} (h0 : A k0) :
    ∃ X : ℝ, m = ((X * c : ℝ) : EReal) ∧ m' = ((X * c' : ℝ) : EReal) := by
  obtain ⟨k, hA, h, e⟩ := max_eq hc hm h0
  obtain ⟨k', hA', h', e'⟩ := max_eq hc' hm' h0
  have : x k = x k' := le_antisymm (h' k hA) (h k' hA')
  exact ⟨x k, e, this ▸ e'⟩

/-- The weight of a place, in either base. -/
theorem weight {ι : Type} (A : ι → Prop) (x : ι → ℝ) (X : ℝ) (k : ι) : ∃ w : ℝ, 0 ≤ w ∧ (A k → 0 < w)
    ∧ Ideal.exp2 (score A x (8⁻¹ * (Real.log 2)⁻¹) k - ((X * (8⁻¹ * (Real.log 2)⁻¹) : ℝ) : EReal)) = (w : EReal)
    ∧ Ideal.exp (score A x 8⁻¹ k - ((X * 8⁻¹ : ℝ) : EReal)) = (w : EReal) := by
  by_cases h : A k
  · refine ⟨Real.exp ((x k - X) * 8⁻¹), (Real.exp_pos _).le, fun _ => Real.exp_pos _, ?_, ?_⟩
    · rw [score_pos x _ h, ← EReal.coe_sub, Ideal.exp2_coe]
      have h2 : Real.log 2 ≠ 0 := (Real.log_pos (by norm_num)).ne'
      refine congrArg ((↑) : ℝ → EReal) ((Real.rpow_def_of_pos (by norm_num) _).trans (congrArg Real.exp ?_))
      field_simp
    · rw [score_pos x _ h, ← EReal.coe_sub, Ideal.exp_coe]
      congr 2
      ring
  · refine ⟨0, le_refl _, fun h' => absurd h' h, ?_, ?_⟩
    · rw [score_neg x _ h, EReal.bot_sub, Ideal.exp2_bot]; rfl
    · rw [score_neg x _ h, EReal.bot_sub, Ideal.exp_bot]; rfl

/-- THE SOFTMAX: at scale `1 / (8 log 2)` in base two, divided at the end, and at scale `1 / 8` in base e, divided first. -/
theorem softmax {n : ℕ} (A : Fin n → Prop) (x : Fin n → ℝ) (v : Fin n → EReal) {k0 : Fin n} (h0 : A k0) {m m' : EReal}
    (hm : IsMax (score A x (8⁻¹ * (Real.log 2)⁻¹)) m) (hm' : IsMax (score A x 8⁻¹) m') :
    Ideal.div (∑ k, v k * Ideal.exp2 (score A x (8⁻¹ * (Real.log 2)⁻¹) k - m))
        (∑ k, 1 * Ideal.exp2 (score A x (8⁻¹ * (Real.log 2)⁻¹) k - m))
      = ∑ k, v k * Ideal.div (Ideal.exp (score A x 8⁻¹ k - m')) (∑ k', Ideal.exp (score A x 8⁻¹ k' - m')) := by
  have hl : 0 < Real.log 2 := Real.log_pos (by norm_num)
  obtain ⟨X, rfl, rfl⟩ := max_same (by positivity) (by norm_num) hm hm' h0
  choose w hw hwA h2 he using weight A x X
  simp only [h2, he, one_mul]
  rw [← coe_sum]
  have hL : 0 < ∑ k, w k := Finset.sum_pos' (fun k _ => hw k) ⟨k0, Finset.mem_univ _, hwA k0 h0⟩
  rw [Ideal.div_coe hL.ne', sum_mul_coe _ _ (by positivity)]
  refine Finset.sum_congr rfl fun k _ => ?_
  rw [Ideal.div_coe hL.ne', mul_assoc]

theorem fold_max {ι : Type} [Fintype ι] [Nonempty ι] (f : ι → EReal) : IsMax f (Finset.fold max ⊥ f Finset.univ) := by
  constructor
  · exact fun k => (Finset.le_fold_max _).2 (Or.inr ⟨k, Finset.mem_univ _, le_refl _⟩)
  · obtain ⟨k, _, hk⟩ := Finset.exists_max_image Finset.univ f Finset.univ_nonempty
    refine ⟨k, le_antisymm ((Finset.le_fold_max _).2 (Or.inr ⟨k, Finset.mem_univ _, le_refl _⟩)) ?_⟩
    exact (Finset.fold_max_le _).2 ⟨bot_le, fun x hx => hk x hx⟩

end Cert.Soft

end
-- ==== Proof.KPick.lean ====
/-
  The kernel's choice of key blocks: three rounds, each taking the first row that holds the column's maximum.
-/
module

public import proofs.«01_k».proof.Proof.Out
public import proofs.«01_k».proof.Proof.Pick
public import proofs.«01_k».proof.Proof.Soft
public import Idealize.ShloMosaic.Lib.WordArith
public import Idealize.ShloMosaic.Lib.WordCmp

@[expose] public section

set_option maxRecDepth 16384

noncomputable section

namespace Cert.KernelIdeal.Body

open Cert Cert.KernelIdeal Cert.KernelIdeal.Gen
open Idealize.ShloMosaic Idealize.ShloMosaic.TcCoe Idealize.ShloMosaic.Tactic

/-- The first row that holds each column's maximum. -/
def firstMax (g : FVec Ideal S16x512 .f32) : IVec S512 32 :=
  multiReductionI .minsi [0] S512
    (select (cmpf .oeq g (broadcastTo S16x512 (shapeCast S1x512 (multiReduction .maximumf [0] S512 g 0xFF800000#32 reduces_S16x512_S512 (.inl rfl) rfl) shapeCasts_S512_S1x512) broadcasts_S1x512_S16x512)) row16 (broadcast S16x512 16#32))
    2147483647#32 reduces_S16x512_S512 rfl

/-- The rows so chosen, as a mask. -/
def pickv (f : IVec S512 32) : IVec S16x512 1 := cmpi .eq row16 (broadcastTo S16x512 (shapeCast S1x512 f shapeCasts_S512_S1x512) broadcasts_S1x512_S16x512)

/-- A round's bias and the scores it leaves. -/
def nextB (past : IVec S16x512 1) (B g : FVec Ideal S16x512 .f32) : FVec Ideal S16x512 .f32 := select (andi (pickv (firstMax g)) past) (broadcast S16x512 (Scalar.ofBits .f32 0x00000000#32)) B
def nextG (g : FVec Ideal S16x512 .f32) : FVec Ideal S16x512 .f32 := select (pickv (firstMax g)) (broadcast S16x512 (Scalar.ofBits .f32 0xFF800000#32)) g

/-- The bias after three rounds. -/
def rounds (past : IVec S16x512 1) (g : FVec Ideal S16x512 .f32) : FVec Ideal S16x512 .f32 :=
  nextB past (nextB past (nextB past (broadcast S16x512 (Named.named κ "mask" 0xF149F2CA#32)) g) (nextG g)) (nextG (nextG g))

theorem pay84_eq (i : grid0.Coords) (x3 : FVec Ideal S1x128x512 .f32) (x6 : FVec Ideal S1x16x128 .f32) :
    k0_pay84 row16 (k0_pay78 i) (k0_pay80 i x3 x6) k0_pay81 (k0_pay82 (F := Ideal) i x3 x6) k0_pay83 = rounds (k0_pay78 i) (k0_pay80 i x3 x6) := rfl

/-- The second head's gate scores. -/
def gate1 (i : grid0.Coords) (x3 : FVec Ideal S1x128x512 .f32) (x6 : FVec Ideal S1x16x128 .f32) : FVec Ideal S16x512 .f32 :=
  k0_pay89 (k0_pay74 x3) (iota .tc S128x512 32 [0] iota_S128x512_d0_w32) (k0_pay76 x6) (k0_pay77 x6) (k0_pay78 i)

theorem pay94_eq (i : grid0.Coords) (x3 : FVec Ideal S1x128x512 .f32) (x6 : FVec Ideal S1x16x128 .f32) :
    k0_pay94 row16 (k0_pay78 i) (sel10 i x3 x6) (sel11 i x3 x6) (sel12 i x3 x6) = rounds (k0_pay78 i) (gate1 i x3 x6) := rfl

theorem negInf : Ideal.ofBits .f32 0xFF800000#32 = (⊥ : EReal) := by
  simp [Ideal.ofBits, Ideal.ieee]

theorem fold_minsi {ι : Type} [Fintype ι] [Nonempty ι] (fn : ι → ℕ) (h : ∀ j, fn j ≤ 16) :
    ∃ n, Finset.fold IntOp.minsi 2147483647#32 (fun j => BitVec.ofNat 32 (fn j)) Finset.univ = BitVec.ofNat 32 n ∧ (∀ j, n ≤ fn j) ∧ ∃ j, fn j = n := by
  classical
  have hm : ∀ a b : ℕ, a ≤ 2147483647 → b ≤ 2147483647 → IntOp.minsi (BitVec.ofNat 32 a) (BitVec.ofNat 32 b) = BitVec.ofNat 32 (min a b) := by
    intro a b ha hb
    apply BitVec.eq_of_toNat_eq
    have ea : (BitVec.ofNat 32 a).toNat = a := by rw [BitVec.toNat_ofNat]; exact Nat.mod_eq_of_lt (by omega)
    have eb : (BitVec.ofNat 32 b).toNat = b := by rw [BitVec.toNat_ofNat]; exact Nat.mod_eq_of_lt (by omega)
    rw [WordArith.toNat_minsi_of_lt _ _ (by omega) (by omega), ea, eb, BitVec.toNat_ofNat]
    exact (Nat.mod_eq_of_lt (by omega)).symm
  have key : ∀ s : Finset ι, ∃ n, n ≤ 2147483647 ∧ Finset.fold IntOp.minsi 2147483647#32 (fun j => BitVec.ofNat 32 (fn j)) s = BitVec.ofNat 32 n ∧ (∀ j ∈ s, n ≤ fn j) ∧ (n = 2147483647 ∨ ∃ j, fn j = n) := by
    intro s
    induction s using Finset.induction_on with
    | empty => exact ⟨2147483647, le_refl _, rfl, fun j hj => absurd hj (Finset.notMem_empty j), Or.inl rfl⟩
    | insert a s ha ih =>
      obtain ⟨n, hn, e, hl, hx⟩ := ih
      have h16 := h a
      refine ⟨min (fn a) n, by omega, ?_, ?_, ?_⟩
      · rw [Finset.fold_insert ha, e, hm _ _ (by omega) hn]
      · intro j hj
        rcases Finset.mem_insert.1 hj with rfl | hj
        · exact min_le_left _ _
        · exact (min_le_right _ _).trans (hl j hj)
      · rcases le_total (fn a) n with hle | hle
        · exact Or.inr ⟨a, (min_eq_left hle).symm⟩
        · rw [min_eq_right hle]
          exact hx
  obtain ⟨n, _, e, hl, hx⟩ := key Finset.univ
  obtain ⟨j0⟩ := ‹Nonempty ι›
  have := hl j0 (Finset.mem_univ _)
  have := h j0
  exact ⟨n, e, fun j => hl j (Finset.mem_univ _), hx.resolve_left (by omega)⟩

theorem firstMax_at (g : FVec Ideal S16x512 .f32) (l : Fin 512) :
    ∃ p : Fin 16, firstMax g (ix1 l) = BitVec.ofNat 32 p.val ∧ (∀ a : Fin 16, (g (ix2 a l) : EReal) ≤ g (ix2 p l)) ∧ ∀ a : Fin 16, (g (ix2 a l) : EReal) = g (ix2 p l) → p ≤ a := by
  pointwise [firstMax, row16]
  rw [negInf]
  obtain ⟨hM, k, hk⟩ := Soft.fold_max (ι := Fin 16) fun x => (g (ix2 x l) : EReal)
  generalize Finset.fold max (⊥ : EReal) (fun x : Fin 16 => (g (ix2 x l) : EReal)) Finset.univ = M at hM hk ⊢
  have e : (fun x : Fin 16 => if (g (ix2 x l) : EReal) = M then BitVec.ofNat 32 x.val else 16#32)
      = fun x : Fin 16 => BitVec.ofNat 32 (if (g (ix2 x l) : EReal) = M then x.val else 16) := by
    funext x
    split <;> rfl
  obtain ⟨n, hn, hl, p, hp⟩ := fold_minsi (fun x : Fin 16 => if (g (ix2 x l) : EReal) = M then x.val else 16) (fun j => by split <;> omega)
  have hnk := hl k
  rw [if_pos hk] at hnk
  have hpM : (g (ix2 p l) : EReal) = M := by
    by_contra hne
    rw [if_neg hne] at hp
    omega
  rw [if_pos hpM] at hp
  refine ⟨p, ?_, fun a => hpM ▸ hM a, fun a ha => ?_⟩
  · rw [hp]
    exact (congrArg (fun f => Finset.fold IntOp.minsi 2147483647#32 f Finset.univ) e).trans hn
  · have := hl a
    rw [if_pos (ha.trans hpM)] at this
    show p.val ≤ a.val
    omega

theorem pickv_at (f : IVec S512 32) (j : Fin 16) (l : Fin 512) (p : Fin 16) (h : f (ix1 l) = BitVec.ofNat 32 p.val) : pickv f (ix2 j l) = 1#1 ↔ j = p := by
  pointwise [pickv, row16]
  rw [h, WordCmp.cmpi_eq_ofNat_eq_one_iff (by omega) (by omega), Fin.ext_iff]

/-- What `k` rounds leave of the column `l` with gate scores `G`. -/
def Inv (past : IVec S16x512 1) (l : Fin 512) (G : Fin 16 → EReal) (k : ℕ) (B g : FVec Ideal S16x512 .f32) : Prop :=
  ∃ S : Fin 16 → Prop, (∀ j, ⊥ < G j → (S j ↔ Pick.rank G j < k)) ∧ (∀ j, g (ix2 j l) = Pick.shown G S j)
    ∧ ∀ j, (past (ix2 j l) = 1#1 ∧ S j → B (ix2 j l) = (0 : EReal)) ∧ (¬ (past (ix2 j l) = 1#1 ∧ S j) → B (ix2 j l) = (⊥ : EReal))

theorem zero_bits : Ideal.ofBits .f32 0x00000000#32 = (0 : EReal) := by
  simp [Ideal.ofBits, Ideal.ieee]

theorem Inv.next {past : IVec S16x512 1} {l : Fin 512} {G : Fin 16 → EReal} {k : ℕ} {B g : FVec Ideal S16x512 .f32}
    (h : Inv past l G k B g) : Inv past l G (k + 1) (nextB past B g) (nextG g) := by
  obtain ⟨S, hS, hg, hB⟩ := h
  obtain ⟨p, hp, hmax, hfst⟩ := firstMax_at g l
  have hpick := fun j => pickv_at (firstMax g) j l p hp
  have hand : ∀ x y : BitVec 1, IntOp.andi x y = 1#1 ↔ x = 1#1 ∧ y = 1#1 := by decide
  simp only [hg] at hmax hfst
  refine ⟨fun j => S j ∨ j = p, Pick.round hS hmax hfst, fun j => ?_, fun j => ?_⟩
  · show Scalar.select (pickv (firstMax g) (ix2 j l)) (Ideal.ofBits .f32 0xFF800000#32 : EReal) (g (ix2 j l)) = _
    by_cases hj : j = p
    · rw [(hpick j).2 hj, Pick.shown_pos (Or.inr hj), negInf]
      rfl
    · refine (if_neg (fun e => hj ((hpick j).1 e))).trans ?_
      rw [hg j]
      by_cases hs : S j
      · rw [Pick.shown_pos hs, Pick.shown_pos (Or.inl hs)]
      · rw [Pick.shown_neg hs, Pick.shown_neg (fun o => o.elim hs hj)]
  · have e : nextB past B g (ix2 j l) = Scalar.select (IntOp.andi (pickv (firstMax g) (ix2 j l)) (past (ix2 j l))) (Ideal.ofBits .f32 0x00000000#32 : EReal) (B (ix2 j l)) := rfl
    rw [e, zero_bits]
    by_cases hb : IntOp.andi (pickv (firstMax g) (ix2 j l)) (past (ix2 j l)) = 1#1
    · have hb' := (hand _ _).1 hb
      refine ⟨fun _ => if_pos hb, fun hn => absurd ⟨hb'.2, Or.inr ((hpick j).1 hb'.1)⟩ hn⟩
    · have e2 : Scalar.select (IntOp.andi (pickv (firstMax g) (ix2 j l)) (past (ix2 j l))) (0 : EReal) (B (ix2 j l)) = B (ix2 j l) := if_neg hb
      rw [e2]
      have hiff : (past (ix2 j l) = 1#1 ∧ (S j ∨ j = p)) ↔ (past (ix2 j l) = 1#1 ∧ S j) := by
        constructor
        · rintro ⟨h1, h2 | h2⟩
          · exact ⟨h1, h2⟩
          · exact absurd ((hand _ _).2 ⟨(hpick j).2 h2, h1⟩) hb
        · exact fun ⟨h1, h2⟩ => ⟨h1, Or.inl h2⟩
      rw [hiff]
      exact hB j

/-- THE BIAS AFTER THE ROUNDS: zero at the past rows of rank below three, minus infinity elsewhere. -/
theorem rounds_at {past : IVec S16x512 1} {l : Fin 512} {G : Fin 16 → EReal} {g : FVec Ideal S16x512 .f32} (hg : ∀ j, g (ix2 j l) = G j)
    (hp : ∀ j : Fin 16, past (ix2 j l) = 1#1 → ⊥ < G j) (j : Fin 16) :
    (past (ix2 j l) = 1#1 ∧ Pick.rank G j < 3 → rounds past g (ix2 j l) = (0 : EReal))
      ∧ (¬ (past (ix2 j l) = 1#1 ∧ Pick.rank G j < 3) → rounds past g (ix2 j l) = (⊥ : EReal)) := by
  have h0 : Inv past l G 0 (broadcast S16x512 (Named.named κ "mask" 0xF149F2CA#32)) g :=
    ⟨fun _ => False, fun j _ => ⟨False.elim, fun h => absurd h (Nat.not_lt_zero _)⟩, fun j => (hg j).trans (Pick.shown_neg id).symm,
      fun j => ⟨fun h => h.2.elim, fun _ => rfl⟩⟩
  obtain ⟨S, hS, _, hB⟩ := h0.next.next.next
  have hiff : (past (ix2 j l) = 1#1 ∧ Pick.rank G j < 3) ↔ (past (ix2 j l) = 1#1 ∧ S j) :=
    ⟨fun h => ⟨h.1, (hS j (hp j h.1)).2 h.2⟩, fun h => ⟨h.1, (hS j (hp j h.1)).1 h.2⟩⟩
  rw [hiff]
  exact hB j

end Cert.KernelIdeal.Body

end
-- ==== Proof.Spec.lean ====
/-
  The attention as mathematics: which keys a query attends to, and its scores.
-/
module

public import proofs.«01_k».proof.Proof.Pick
public import proofs.«01_k».proof.Proof.Soft
public import Idealize.ShloMosaic.Lib.Pointwise

@[expose] public section

noncomputable section

namespace Cert.Spec

open Idealize.ShloMosaic

/-- The shape of queries, keys and values, and of the blocks' mean keys. -/
abbrev SQ : Shape := ⟨4, ![4, 4096, 8, 64]⟩
abbrev SM : Shape := ⟨4, ![4, 16, 8, 64]⟩

/-- The gate of block `n` for the query at `p`: its mean key's product with the query, if the block is past. -/
def gate (q : SQ.Idx → ℝ) (km : SM.Idx → ℝ) (b : Fin 4) (p : Fin 4096) (H : Fin 8) (n : Fin 16) : EReal :=
  if n.val < p.val / 256 then ((∑ d : Fin 64, km (ix4 b n H d) * q (ix4 b p H d) : ℝ) : EReal) else ⊥

/-- Block `n` is one of the three past blocks with the greatest gates. -/
def Sel (q : SQ.Idx → ℝ) (km : SM.Idx → ℝ) (b : Fin 4) (p : Fin 4096) (H : Fin 8) (n : Fin 16) : Prop :=
  n.val < p.val / 256 ∧ Pick.rank (gate q km b p H) n < 3

/-- The query at `p` attends to the key at `k`: in a selected block or its own, and not later. -/
def Att (q : SQ.Idx → ℝ) (km : SM.Idx → ℝ) (b : Fin 4) (p : Fin 4096) (H : Fin 8) (k : Fin 4096) : Prop :=
  (Sel q km b p H ⟨k.val / 256, by omega⟩ ∨ k.val / 256 = p.val / 256) ∧ k.val ≤ p.val

/-- The product of the key at `k` and the query at `p`. -/
def qk (q k : SQ.Idx → ℝ) (b : Fin 4) (p : Fin 4096) (H : Fin 8) (j : Fin 4096) : ℝ :=
  ∑ d : Fin 64, k (ix4 b j H d) * q (ix4 b p H d)

theorem att_self (q : SQ.Idx → ℝ) (km : SM.Idx → ℝ) (b : Fin 4) (p : Fin 4096) (H : Fin 8) : Att q km b p H p :=
  ⟨Or.inr rfl, le_refl _⟩

/-- An extended-real array that holds reals. -/
def up {s : Shape} (x : s.Idx → ℝ) (i : s.Idx) : EReal := (x i : EReal)

theorem sum_up {n : ℕ} (f g : Fin n → ℝ) : ∑ d, (f d : EReal) * (g d : EReal) = ((∑ d, f d * g d : ℝ) : EReal) := by
  rw [Soft.coe_sum]
  exact Finset.sum_congr rfl fun d _ => (EReal.coe_mul _ _).symm

end Cert.Spec

end
-- ==== Proof.KScore.lean ====
/-
  The kernel's scores at a grid point, in terms of the attention: which keys each query attends, and with what score.
-/
module

public import proofs.«01_k».proof.Proof.KPick
public import proofs.«01_k».proof.Proof.Spec

@[expose] public section

set_option maxRecDepth 16384

noncomputable section

namespace Cert.KernelIdeal.Body

open Cert Cert.KernelIdeal Cert.KernelIdeal.Gen
open Idealize.ShloMosaic Idealize.ShloMosaic.TcCoe Idealize.ShloMosaic.Tactic

/-- The queries' scale. -/
abbrev qs : ℝ := 8⁻¹ * (Real.log 2)⁻¹

theorem qs_pos : 0 < qs := mul_pos (by norm_num) (inv_pos.2 (Real.log_pos (by norm_num)))

/-- The position of the point's query `l`, a key's position, and a row of the head pair. -/
def pos (i : grid0.Coords) (l : Fin 512) : Fin 4096 := ⟨(i 2).val * 512 + l.val, by have h : (i 2).val < 8 := (i 2).isLt; omega⟩
def key (j : Fin 16) (r : Fin 256) : Fin 4096 := ⟨j.val * 256 + r.val, by omega⟩
def hrow (h : Fin 2) (d : Fin 64) : Fin 128 := ⟨h.val * 64 + d.val, by omega⟩

theorem sum_head (f : Fin 128 → EReal) (h : Fin 2) (hf : ∀ row : Fin 128, row.val / 64 ≠ h.val → f row = 0) : ∑ row, f row = ∑ d, f (hrow h d) := by
  rw [Fin.sum_univ_tiles 2 64 rfl f, Finset.sum_eq_single h]
  · rfl
  · intro j _ hj
    refine Finset.sum_eq_zero fun t _ => hf _ ?_
    have : j.val ≠ h.val := fun e => hj (Fin.ext e)
    show (j.val * 64 + t.val) / 64 ≠ _
    omega
  · exact fun hn => absurd (Finset.mem_univ _) hn

/-- The masked queries of head `h`. -/
abbrev qh (h : Fin 2) (x3 : FVec Ideal S1x128x512 .f32) : FVec Ideal S128x512 .bf16 := qsel (qh0 x3) (qh1 x3) h

theorem pay74_at (x3 : FVec Ideal S1x128x512 .f32) (row : Fin 128) (l : Fin 512) : (k0_pay74 x3 : FVec Ideal S128x512 .bf16) (ix2 row l) = (x3 (ix3 0 row l) : EReal) * (qs : EReal) := by
  pointwise [k0_pay74]
  rfl

theorem zero_bits16 : Ideal.ofBits .bf16 0x0000#16 = (0 : EReal) := by
  simp [Ideal.ofBits, Ideal.ieee]

theorem select_iff {α : Type} {c : BitVec 1} {P : Prop} [Decidable P] (h : c = 1#1 ↔ P) (x y : α) : Scalar.select c x y = if P then x else y := by
  by_cases hP : P
  · rw [if_pos hP, h.2 hP]
    rfl
  · rw [if_neg hP]
    exact if_neg fun e => hP (h.1 e)

theorem word_lo : ∀ row : Fin 128, IntOp.andi (IntOp.cmpi .sge (BitVec.ofNat 32 row.val) 0#32) (IntOp.cmpi .slt (BitVec.ofNat 32 row.val) 64#32) = 1#1 ↔ row.val / 64 = 0 := by
  decide +kernel

theorem word_hi : ∀ row : Fin 128, IntOp.andi (IntOp.cmpi .sge (BitVec.ofNat 32 row.val) 64#32) (IntOp.cmpi .slt (BitVec.ofNat 32 row.val) 128#32) = 1#1 ↔ row.val / 64 = 1 := by
  decide +kernel

theorem word_half : ∀ l : Fin 512, IntOp.cmpi .sge (BitVec.ofNat 32 l.val) 256#32 = BitVec.ofBool (decide (256 ≤ l.val)) := by
  decide +kernel

theorem word_past : ∀ (j : Fin 16) (t : Fin 8) (c : Bool),
    IntOp.cmpi .slt (BitVec.ofNat 32 j.val) (IntOp.addi (Scalar.muli 2#32 (BitVec.ofNat 32 t.val)) (BitVec.setWidth 32 (BitVec.ofBool c))) = 1#1 ↔ j.val < 2 * t.val + (if c then 1 else 0) := by
  decide +kernel

theorem qh0_at (x3 : FVec Ideal S1x128x512 .f32) (row : Fin 128) (l : Fin 512) : (qh0 x3 : FVec Ideal S128x512 .bf16) (ix2 row l) = if row.val / 64 = 0 then (x3 (ix3 0 row l) : EReal) * (qs : EReal) else 0 := by
  pointwise [qh0, k0_pay79, pay74_at]
  exact select_iff (word_lo row) _ _

theorem qh1_at (x3 : FVec Ideal S1x128x512 .f32) (row : Fin 128) (l : Fin 512) : (qh1 x3 : FVec Ideal S128x512 .bf16) (ix2 row l) = if row.val / 64 = 1 then (x3 (ix3 0 row l) : EReal) * (qs : EReal) else 0 := by
  pointwise [qh1, k0_pay88, pay74_at]
  exact select_iff (word_hi row) _ _

theorem past_at (i : grid0.Coords) (j : Fin 16) (l : Fin 512) : k0_pay78 i (ix2 j l) = 1#1 ↔ j.val < (pos i l).val / 256 := by
  pointwise [k0_pay78]
  rw [word_half l, word_past j (i 2) (decide (256 ≤ l.val))]
  show _ ↔ j.val < ((i 2).val * 512 + l.val) / 256
  by_cases h : 256 ≤ l.val
  · rw [decide_eq_true h]
    simp only [if_true]
    omega
  · rw [decide_eq_false h]
    simp only [Bool.false_eq_true, if_false]
    omega

theorem gate0_raw (i : grid0.Coords) (x3 : FVec Ideal S1x128x512 .f32) (x6 : FVec Ideal S1x16x128 .f32) (j : Fin 16) (l : Fin 512) :
    (k0_pay80 i x3 x6 : FVec Ideal S16x512 .f32) (ix2 j l) = Scalar.select (k0_pay78 i (ix2 j l))
      ((∑ row : Fin 128, (x6 (ix3 0 j row) : EReal) * (qh0 x3 (ix2 row l))) + ∑ row : Fin 128, ((x6 (ix3 0 j row) : EReal) - x6 (ix3 0 j row)) * (qh0 x3 (ix2 row l))) (⊥ : EReal) := by
  have hq : k0_pay79 x3 = qh0 x3 := rfl
  unfold k0_pay80
  rw [hq]
  generalize k0_pay78 i = w
  generalize qh0 x3 = y
  pointwise [k0_pay76, k0_pay77, k0_pay75]
  rw [negInf]

theorem gate1_raw (i : grid0.Coords) (x3 : FVec Ideal S1x128x512 .f32) (x6 : FVec Ideal S1x16x128 .f32) (j : Fin 16) (l : Fin 512) :
    (gate1 i x3 x6 : FVec Ideal S16x512 .f32) (ix2 j l) = Scalar.select (k0_pay78 i (ix2 j l))
      ((∑ row : Fin 128, (x6 (ix3 0 j row) : EReal) * (qh1 x3 (ix2 row l))) + ∑ row : Fin 128, ((x6 (ix3 0 j row) : EReal) - x6 (ix3 0 j row)) * (qh1 x3 (ix2 row l))) (⊥ : EReal) := by
  have hq : k0_pay88 (k0_pay74 x3) (iota .tc S128x512 32 [0] iota_S128x512_d0_w32) = qh1 x3 := rfl
  unfold gate1 k0_pay89
  rw [hq]
  generalize k0_pay78 i = w
  generalize qh1 x3 = y
  pointwise [k0_pay76, k0_pay77, k0_pay75]
  rw [negInf]

theorem qh_at (h : Fin 2) (x3 : FVec Ideal S1x128x512 .f32) (row : Fin 128) (l : Fin 512) :
    (qh h x3 : FVec Ideal S128x512 .bf16) (ix2 row l) = if row.val / 64 = h.val then (x3 (ix3 0 row l) : EReal) * (qs : EReal) else 0 := by
  match h with
  | 0 => exact qh0_at x3 row l
  | 1 => exact qh1_at x3 row l

/-- The gate scores of head `h`. -/
def gk (h : Fin 2) (i : grid0.Coords) (x3 : FVec Ideal S1x128x512 .f32) (x6 : FVec Ideal S1x16x128 .f32) : FVec Ideal S16x512 .f32 := if h = 0 then k0_pay80 i x3 x6 else gate1 i x3 x6

theorem gk_raw (h : Fin 2) (i : grid0.Coords) (x3 : FVec Ideal S1x128x512 .f32) (x6 : FVec Ideal S1x16x128 .f32) (j : Fin 16) (l : Fin 512) :
    (gk h i x3 x6 : FVec Ideal S16x512 .f32) (ix2 j l) = Scalar.select (k0_pay78 i (ix2 j l))
      ((∑ row : Fin 128, (x6 (ix3 0 j row) : EReal) * (qh h x3 (ix2 row l))) + ∑ row : Fin 128, ((x6 (ix3 0 j row) : EReal) - x6 (ix3 0 j row)) * (qh h x3 (ix2 row l))) (⊥ : EReal) := by
  match h with
  | 0 => exact gate0_raw i x3 x6 j l
  | 1 => exact gate1_raw i x3 x6 j l

/-- What the staged blocks hold for head `h` of the pair: the queries, keys and mean keys of head `H` of batch `b`. -/
structure Blk (i : grid0.Coords) (h : Fin 2) (b : Fin 4) (H : Fin 8) (q kk : Spec.SQ.Idx → ℝ) (km : Spec.SM.Idx → ℝ)
    (x3 : FVec Ideal S1x128x512 .f32) (x4 : FVec Ideal S1x16x256x128 .bf16) (x6 : FVec Ideal S1x16x128 .f32) : Prop where
  hq : ∀ (d : Fin 64) (l : Fin 512), (x3 (ix3 0 (hrow h d) l) : EReal) = (q (ix4 b (pos i l) H d) : EReal)
  hk : ∀ (j : Fin 16) (r : Fin 256) (d : Fin 64), (x4 (ix4 0 j r (hrow h d)) : EReal) = (kk (ix4 b (key j r) H d) : EReal)
  hm : ∀ (j : Fin 16) (d : Fin 64), (x6 (ix3 0 j (hrow h d)) : EReal) = (km (ix4 b j H d) : EReal)

section
variable {i : grid0.Coords} {h : Fin 2} {b : Fin 4} {H : Fin 8} {q kk : Spec.SQ.Idx → ℝ} {km : Spec.SM.Idx → ℝ}
  {x3 : FVec Ideal S1x128x512 .f32} {x4 : FVec Ideal S1x16x256x128 .bf16} {x6 : FVec Ideal S1x16x128 .f32}

theorem hrow_div (h : Fin 2) (d : Fin 64) : (hrow h d).val / 64 = h.val := by
  show (h.val * 64 + d.val) / 64 = _
  omega

/-- A product with the masked queries keeps the head's own rows. -/
theorem Blk.dot (B : Blk i h b H q kk km x3 x4 x6) (f : Fin 128 → EReal) (g : Fin 64 → ℝ) (hf : ∀ d, f (hrow h d) = (g d : EReal)) (l : Fin 512) :
    ∑ row : Fin 128, f row * (qh h x3 (ix2 row l) : EReal) = (((∑ d, g d * q (ix4 b (pos i l) H d)) * qs : ℝ) : EReal) := by
  rw [sum_head _ h]
  · rw [Finset.sum_mul, Soft.coe_sum]
    refine Finset.sum_congr rfl fun d _ => ?_
    rw [qh_at, if_pos (hrow_div h d), hf, B.hq, ← EReal.coe_mul, ← EReal.coe_mul, mul_assoc]
  · intro row hr
    rw [qh_at, if_neg hr, mul_zero]

theorem Blk.gate_at (B : Blk i h b H q kk km x3 x4 x6) (j : Fin 16) (l : Fin 512) :
    (gk h i x3 x6 (ix2 j l) : EReal) = if j.val < (pos i l).val / 256 then (((∑ d : Fin 64, km (ix4 b j H d) * q (ix4 b (pos i l) H d)) * qs : ℝ) : EReal) else ⊥ := by
  rw [gk_raw, select_iff (past_at i j l), B.dot _ (fun d => km (ix4 b j H d)) (fun d => B.hm j d),
    B.dot _ (fun _ => 0) (fun d => by rw [B.hm, ← EReal.coe_sub, sub_self])]
  simp only [zero_mul, Finset.sum_const_zero, EReal.coe_zero, add_zero]

/-- The bias after the rounds is the reference's selection. -/
theorem Blk.bias_at (B : Blk i h b H q kk km x3 x4 x6) (j : Fin 16) (l : Fin 512) :
    (Spec.Sel q km b (pos i l) H j → (rounds (k0_pay78 i) (gk h i x3 x6) (ix2 j l) : EReal) = 0)
      ∧ (¬ Spec.Sel q km b (pos i l) H j → (rounds (k0_pay78 i) (gk h i x3 x6) (ix2 j l) : EReal) = ⊥) := by
  have hr := rounds_at (past := k0_pay78 i) (l := l) (g := gk h i x3 x6) (fun j => B.gate_at j l)
    (fun j hj => by rw [if_pos ((past_at i j l).1 hj)]; exact EReal.bot_lt_coe _) j
  rw [past_at, Pick.rank_congr (g' := Spec.gate q km b (pos i l) H)] at hr
  · exact hr
  · intro a c
    unfold Spec.gate
    by_cases ha : a.val < (pos i l).val / 256 <;> by_cases hc : c.val < (pos i l).val / 256
    · rw [if_pos ha, if_pos hc, if_pos ha, if_pos hc, EReal.coe_lt_coe_iff, EReal.coe_lt_coe_iff]
      exact mul_lt_mul_iff_left₀ qs_pos
    · rw [if_neg hc, if_neg hc]
      exact iff_of_false not_lt_bot not_lt_bot
    · rw [if_neg ha, if_pos hc, if_neg ha, if_pos hc]
      exact iff_of_true (EReal.bot_lt_coe _) (EReal.bot_lt_coe _)
    · rw [if_neg hc, if_neg hc]
      exact iff_of_false not_lt_bot not_lt_bot

end

end Cert.KernelIdeal.Body

end
-- ==== Proof.KSlab.lean ====
/-
  The scores the kernel stores, block by block: each is the attention's score of its key, or minus infinity.
-/
module

public import proofs.«01_k».proof.Proof.KScore

@[expose] public section

set_option maxRecDepth 16384

noncomputable section

namespace Cert.KernelIdeal.Body

open Cert Cert.KernelIdeal Cert.KernelIdeal.Gen
open Idealize.ShloMosaic Idealize.ShloMosaic.TcCoe Idealize.ShloMosaic.Tactic

theorem word_lt : ∀ (j : Fin 16) (t : Fin 8), IntOp.cmpi .slt (BitVec.ofNat 32 j.val) (Scalar.muli 2#32 (BitVec.ofNat 32 t.val)) = 1#1 ↔ j.val < 2 * t.val := by
  decide +kernel

theorem word_eq : ∀ (j : Fin 16) (t : Fin 8), IntOp.cmpi .eq (BitVec.ofNat 32 j.val) (Scalar.muli 2#32 (BitVec.ofNat 32 t.val)) = 1#1 ↔ j.val = 2 * t.val := by
  decide +kernel

theorem word_lt256 : ∀ (l : Fin 512), IntOp.cmpi .slt (BitVec.ofNat 32 l.val) 256#32 = 1#1 ↔ l.val < 256 := by
  decide +kernel

/-- The two own blocks of a point. -/
def own0 (i : grid0.Coords) : Fin 16 := ⟨2 * (i 2).val, by have h : (i 2).val < 8 := (i 2).isLt; omega⟩
def own1 (i : grid0.Coords) : Fin 16 := ⟨2 * (i 2).val + 1, by have h : (i 2).val < 8 := (i 2).isLt; omega⟩

theorem eb_raw (w : BitVec 32) (R : FVec Ideal S16x512 .f32) (j : Fin 16) (l : Fin 512) :
    (k0_pay87 R (k0_pay86 w row16) : FVec Ideal S1x16x512 .f32) (ix3 0 j l) = Scalar.select (IntOp.cmpi .slt (BitVec.ofNat 32 j.val) w) (R (ix2 j l) : EReal) ⊥ := by
  pointwise [k0_pay87, k0_pay86, row16]
  rfl

theorem bias_raw (h : Fin 2) (i : grid0.Coords) (x3 : FVec Ideal S1x128x512 .f32) (x6 : FVec Ideal S1x16x128 .f32) (j : Fin 16) (l : Fin 512) :
    (bias i x3 x6 (ix3 h j l) : EReal) = if j.val < 2 * (i 2).val then (rounds (k0_pay78 i) (gk h i x3 x6) (ix2 j l) : EReal) else ⊥ := by
  rw [← select_iff (word_lt j (i 2))]
  match h with
  | 0 => exact eb_raw (b0w i) (rounds (k0_pay78 i) (k0_pay80 i x3 x6)) j l
  | 1 => exact eb_raw (b0w i) (rounds (k0_pay78 i) (gate1 i x3 x6)) j l

/-- The sum over the rows that keeps the row `w`. -/
def rowAt (w : BitVec 32) (R : FVec Ideal S16x512 .f32) : FVec Ideal S1x512 .f32 :=
  shapeCast S1x512 (multiReduction .add [0] S512 (select (cmpi .eq row16 (broadcast S16x512 w)) R (broadcast S16x512 (Scalar.ofBits .f32 0x00000000#32))) 0x00000000#32 reduces_S16x512_S512 (.inl rfl) rfl) shapeCasts_S512_S1x512

theorem rowAt_at (i : grid0.Coords) (R : FVec Ideal S16x512 .f32) (l : Fin 512) : (rowAt (b0w i) R (ix2 0 l) : EReal) = R (ix2 (own0 i) l) := by
  have e : (rowAt (b0w i) R (ix2 0 l) : EReal) = ∑ j : Fin 16, Scalar.select (IntOp.cmpi .eq (BitVec.ofNat 32 j.val) (b0w i)) (R (ix2 j l) : EReal) 0 := by
    pointwise [rowAt, row16]
  rw [e, Finset.sum_eq_single (own0 i)]
  · exact (select_iff (word_eq (own0 i) (i 2)) _ _).trans (if_pos rfl)
  · intro j _ hj
    exact (select_iff (word_eq j (i 2)) _ _).trans (if_neg fun hn => hj (Fin.ext hn))
  · exact fun hn => absurd (Finset.mem_univ _) hn

/-- The first own block's bias for the later queries, by head. -/
def ob (h : Fin 2) (i : grid0.Coords) (x3 : FVec Ideal S1x128x512 .f32) (x6 : FVec Ideal S1x16x128 .f32) : FVec Ideal S1x512 .f32 := if h = 0 then ob0 i x3 x6 else ob1 i x3 x6

theorem ob_at (h : Fin 2) (i : grid0.Coords) (x3 : FVec Ideal S1x128x512 .f32) (x6 : FVec Ideal S1x16x128 .f32) (l : Fin 512) :
    (ob h i x3 x6 (ix2 0 l) : EReal) = rounds (k0_pay78 i) (gk h i x3 x6) (ix2 (own0 i) l) := by
  match h with
  | 0 => exact rowAt_at i (rounds (k0_pay78 i) (k0_pay80 i x3 x6)) l
  | 1 => exact rowAt_at i (rounds (k0_pay78 i) (gate1 i x3 x6)) l

/-- The scores of the first own block, -/
def ownA (qv : FVec Ideal S128x512 .bf16) (o : FVec Ideal S1x512 .f32) (kb : FVec Ideal S1x1x256x128 .bf16) : FVec Ideal S256x512 .f32 := k0_pay100 qv o row256 col256 k0_pay97 kb
/-- and of the second. -/
def ownB (qv : FVec Ideal S128x512 .bf16) (kb : FVec Ideal S1x1x256x128 .bf16) : FVec Ideal S256x512 .f32 := k0_pay101 qv k0_pay98 bodyRun.sl.cst_57 kb

theorem own_eq0 (h : Fin 2) (i : grid0.Coords) (x3 : FVec Ideal S1x128x512 .f32) (x4 : FVec Ideal S1x16x256x128 .bf16) (x6 : FVec Ideal S1x16x128 .f32) :
    own i x3 x4 x6 h 0 = ownA (qh h x3) (ob h i x3 x6) (kblk (F := Ideal) x4 (2 * (i 2).val)) := by
  match h with
  | 0 => rfl
  | 1 => rfl

theorem own_eq1 (h : Fin 2) (i : grid0.Coords) (x3 : FVec Ideal S1x128x512 .f32) (x4 : FVec Ideal S1x16x256x128 .bf16) (x6 : FVec Ideal S1x16x128 .f32) :
    own i x3 x4 x6 h 1 = ownB (qh h x3) (kblk (F := Ideal) x4 (2 * (i 2).val + 1)) := by
  match h with
  | 0 => rfl
  | 1 => rfl

theorem scB_raw (qv : FVec Ideal S128x512 .bf16) (kb : FVec Ideal S1x1x256x128 .bf16) (bb : FVec Ideal S1x1x512 .f32) (r : Fin 256) (l : Fin 512) :
    (scB qv kb bb (ix2 r l) : EReal) = (∑ row : Fin 128, (kb (ix4 0 0 r row) : EReal) * qv (ix2 row l)) + bb (ix3 0 0 l) := by
  pointwise [scB]

theorem word_not : ∀ (l : Fin 512), IntOp.xori (IntOp.cmpi .slt (BitVec.ofNat 32 l.val) 256#32) 1#1 = 1#1 ↔ 256 ≤ l.val := by
  decide +kernel

theorem word_sub : ∀ (l : Fin 512), 256 ≤ l.val → IntOp.subi (BitVec.ofNat 32 l.val) 256#32 = BitVec.ofNat 32 (l.val - 256) := by
  decide +kernel

theorem word_after (r : Fin 256) (l : Fin 512) : IntOp.andi (IntOp.xori (IntOp.cmpi .slt (BitVec.ofNat 32 l.val) 256#32) 1#1)
    (IntOp.cmpi .sle (BitVec.ofNat 32 r.val) (IntOp.subi (BitVec.ofNat 32 l.val) 256#32)) = 1#1 ↔ 256 ≤ l.val ∧ r.val ≤ l.val - 256 := by
  have hand : ∀ x y : BitVec 1, IntOp.andi x y = 1#1 ↔ x = 1#1 ∧ y = 1#1 := by decide
  rw [hand, word_not]
  refine and_congr_right fun h => ?_
  rw [word_sub l h, WordCmp.cmpi_sle_ofNat_eq_one_iff (by omega) (by omega)]

theorem ownA_raw (qv : FVec Ideal S128x512 .bf16) (o : FVec Ideal S1x512 .f32) (kb : FVec Ideal S1x1x256x128 .bf16) (r : Fin 256) (l : Fin 512) :
    (ownA qv o kb (ix2 r l) : EReal) = (∑ row : Fin 128, (kb (ix4 0 0 r row) : EReal) * qv (ix2 row l)) + (if l.val < 256 then (if r.val ≤ l.val then 0 else ⊥) else o (ix2 0 l)) := by
  pointwise [ownA, k0_pay100, k0_pay97, row256, col256]
  rw [select_iff (word_lt256 l), select_iff (WordCmp.cmpi_sle_ofNat_eq_one_iff (by omega) (by omega))]
  rfl

theorem ownB_raw (qv : FVec Ideal S128x512 .bf16) (kb : FVec Ideal S1x1x256x128 .bf16) (r : Fin 256) (l : Fin 512) :
    (ownB qv kb (ix2 r l) : EReal) = (∑ row : Fin 128, (kb (ix4 0 0 r row) : EReal) * qv (ix2 row l)) + (if 256 ≤ l.val ∧ r.val ≤ l.val - 256 then 0 else ⊥) := by
  pointwise [ownB, k0_pay101, k0_pay99, k0_pay98, k0_pay97, bodyRun.sl.cst_57]
  rw [select_iff (word_after r l)]
  rfl

theorem mxB_raw (s : FVec Ideal S256x512 .f32) (l : Fin 512) : Soft.IsMax (fun r : Fin 256 => (s (ix2 r l) : EReal)) (mxB s (ix2 0 l)) := by
  have e : (mxB s (ix2 0 l) : EReal) = Finset.fold max ⊥ (fun r : Fin 256 => (s (ix2 r l) : EReal)) Finset.univ := by
    pointwise [mxB]
    rw [negInf]
  rw [e]
  exact Soft.fold_max _

section
variable {i : grid0.Coords} {h : Fin 2} {b : Fin 4} {H : Fin 8} {q kk : Spec.SQ.Idx → ℝ} {km : Spec.SM.Idx → ℝ}
  {x3 : FVec Ideal S1x128x512 .f32} {x4 : FVec Ideal S1x16x256x128 .bf16} {x6 : FVec Ideal S1x16x128 .f32}

/-- The attention's score of each key for the point's query `l`. -/
abbrev T (i : grid0.Coords) (b : Fin 4) (H : Fin 8) (q kk : Spec.SQ.Idx → ℝ) (km : Spec.SM.Idx → ℝ) (l : Fin 512) : Fin 4096 → EReal :=
  Soft.score (Spec.Att q km b (pos i l) H) (Spec.qk q kk b (pos i l) H) qs

theorem kblk_at (K : S1x16x256x128.Idx → Elt Ideal .bf16) (j : Fin 16) (r : Fin 256) (row : Fin 128) : kblk (F := Ideal) K j.val (ix4 0 0 r row) = K (ix4 0 j r row) := by
  have e : Fin.ofNat 16 j.val = j := Fin.ext (Nat.mod_eq_of_lt j.isLt)
  show K (ix4 0 (Fin.ofNat 16 j.val) r row) = _
  rw [e]

theorem Blk.dot_k (B : Blk i h b H q kk km x3 x4 x6) (j : Fin 16) (r : Fin 256) (l : Fin 512) :
    ∑ row : Fin 128, (kblk (F := Ideal) x4 j.val (ix4 0 0 r row) : EReal) * (qh h x3 (ix2 row l) : EReal) = ((Spec.qk q kk b (pos i l) H (key j r) * qs : ℝ) : EReal) :=
  B.dot _ (fun d => kk (ix4 b (key j r) H d)) (fun d => by rw [kblk_at]; exact B.hk j r d) l

theorem add_zero_score {A : Fin 4096 → Prop} {x : Fin 4096 → ℝ} {c : ℝ} {k : Fin 4096} {y : EReal} (h1 : A k → y = 0) (h2 : ¬ A k → y = ⊥) :
    ((x k * c : ℝ) : EReal) + y = Soft.score A x c k := by
  by_cases hA : A k
  · rw [h1 hA, add_zero, Soft.score_pos _ _ hA]
  · rw [h2 hA, EReal.add_bot, Soft.score_neg _ _ hA]

/-- A block before the point's own: its stored scores, -/
theorem Blk.past_score (B : Blk i h b H q kk km x3 x4 x6) (j : Fin 16) (r : Fin 256) (l : Fin 512) (hj : j.val < 2 * (i 2).val) :
    (scB (qh h x3) (kblk (F := Ideal) x4 j.val) (brow (F := Ideal) (bias i x3 x6) h j.val) (ix2 r l) : EReal) = T i b H q kk km l (key j r) := by
  have e : Fin.ofNat 16 j.val = j := Fin.ext (Nat.mod_eq_of_lt j.isLt)
  rw [scB_raw, B.dot_k]
  have eb : (brow (F := Ideal) (bias i x3 x6) h j.val (ix3 0 0 l) : EReal) = rounds (k0_pay78 i) (gk h i x3 x6) (ix2 j l) := by
    show (bias i x3 x6 (ix3 h (Fin.ofNat 16 j.val) l) : EReal) = _
    rw [e, bias_raw, if_pos hj]
  rw [eb]
  have hd : (key j r).val / 256 = j.val := by show (j.val * 256 + r.val) / 256 = _; omega
  have hp : (pos i l).val = (i 2).val * 512 + l.val := rfl
  have hk : (key j r).val = j.val * 256 + r.val := rfl
  have hA : Spec.Att q km b (pos i l) H (key j r) ↔ Spec.Sel q km b (pos i l) H j := by
    have hx : (⟨(key j r).val / 256, by omega⟩ : Fin 16) = j := Fin.ext hd
    unfold Spec.Att
    rw [hx]
    constructor
    · rintro ⟨h1 | h1, _⟩
      · exact h1
      · omega
    · exact fun h1 => ⟨Or.inl h1, by omega⟩
  exact add_zero_score (fun h1 => (B.bias_at j l).1 (hA.1 h1)) (fun h1 => (B.bias_at j l).2 fun h2 => h1 (hA.2 h2))

/-- any later block's, which are masked, -/
theorem Blk.late_score (B : Blk i h b H q kk km x3 x4 x6) (j : Fin 16) (r : Fin 256) (l : Fin 512) (hj : ¬ j.val < 2 * (i 2).val) :
    (scB (qh h x3) (kblk (F := Ideal) x4 j.val) (brow (F := Ideal) (bias i x3 x6) h j.val) (ix2 r l) : EReal) = ⊥ := by
  have e : Fin.ofNat 16 j.val = j := Fin.ext (Nat.mod_eq_of_lt j.isLt)
  rw [scB_raw]
  have eb : (brow (F := Ideal) (bias i x3 x6) h j.val (ix3 0 0 l) : EReal) = ⊥ := by
    show (bias i x3 x6 (ix3 h (Fin.ofNat 16 j.val) l) : EReal) = _
    rw [e, bias_raw, if_neg hj]
  rw [eb, EReal.add_bot]

/-- the first own block's, -/
theorem Blk.own0_score (B : Blk i h b H q kk km x3 x4 x6) (r : Fin 256) (l : Fin 512) :
    (own i x3 x4 x6 h 0 (ix2 r l) : EReal) = T i b H q kk km l (key (own0 i) r) := by
  rw [own_eq0, ownA_raw, ob_at]
  have e := B.dot_k (own0 i) r l
  rw [show ((own0 i).val) = 2 * (i 2).val from rfl] at e
  rw [e]
  have hd : (key (own0 i) r).val / 256 = 2 * (i 2).val := by show (2 * (i 2).val * 256 + r.val) / 256 = _; omega
  have hp : (pos i l).val = (i 2).val * 512 + l.val := rfl
  have hk : (key (own0 i) r).val = 2 * (i 2).val * 256 + r.val := rfl
  have hx : ∀ hh, (⟨(key (own0 i) r).val / 256, hh⟩ : Fin 16) = own0 i := fun _ => Fin.ext hd
  have hb := B.bias_at (own0 i) l
  by_cases hl : l.val < 256
  · rw [if_pos hl]
    have hA : Spec.Att q km b (pos i l) H (key (own0 i) r) ↔ r.val ≤ l.val := by
      unfold Spec.Att
      constructor
      · rintro ⟨_, h2⟩
        omega
      · exact fun h1 => ⟨Or.inr (by omega), by omega⟩
    exact add_zero_score (fun h1 => if_pos (hA.1 h1)) (fun h1 => if_neg fun h2 => h1 (hA.2 h2))
  · rw [if_neg hl]
    have hA : Spec.Att q km b (pos i l) H (key (own0 i) r) ↔ Spec.Sel q km b (pos i l) H (own0 i) := by
      unfold Spec.Att
      rw [hx]
      constructor
      · rintro ⟨h1 | h1, _⟩
        · exact h1
        · omega
      · exact fun h1 => ⟨Or.inl h1, by omega⟩
    exact add_zero_score (fun h1 => hb.1 (hA.1 h1)) (fun h1 => hb.2 fun h2 => h1 (hA.2 h2))

/-- and the second own block's. -/
theorem Blk.own1_score (B : Blk i h b H q kk km x3 x4 x6) (r : Fin 256) (l : Fin 512) :
    (own i x3 x4 x6 h 1 (ix2 r l) : EReal) = T i b H q kk km l (key (own1 i) r) := by
  rw [own_eq1, ownB_raw]
  have e := B.dot_k (own1 i) r l
  rw [show ((own1 i).val) = 2 * (i 2).val + 1 from rfl] at e
  rw [e]
  have hd : (key (own1 i) r).val / 256 = 2 * (i 2).val + 1 := by show ((2 * (i 2).val + 1) * 256 + r.val) / 256 = _; omega
  have hp : (pos i l).val = (i 2).val * 512 + l.val := rfl
  have hk : (key (own1 i) r).val = (2 * (i 2).val + 1) * 256 + r.val := rfl
  have hx : ∀ hh, (⟨(key (own1 i) r).val / 256, hh⟩ : Fin 16) = own1 i := fun _ => Fin.ext hd
  have hA : Spec.Att q km b (pos i l) H (key (own1 i) r) ↔ 256 ≤ l.val ∧ r.val ≤ l.val - 256 := by
    unfold Spec.Att
    constructor
    · rintro ⟨_, h2⟩
      omega
    · exact fun h1 => ⟨Or.inr (by omega), by omega⟩
  exact add_zero_score (fun h1 => if_pos (hA.1 h1)) (fun h1 => if_neg fun h2 => h1 (hA.2 h2))

/-- A key after the point's own blocks is not attended. -/
theorem T_late (j : Fin 16) (r : Fin 256) (l : Fin 512) (hj : 2 * (i 2).val + 2 ≤ j.val) : T i b H q kk km l (key j r) = ⊥ := by
  have hp : (pos i l).val = (i 2).val * 512 + l.val := rfl
  have hk : (key j r).val = j.val * 256 + r.val := rfl
  refine Soft.score_neg _ _ fun h1 => ?_
  have := h1.2
  omega

end

end Cert.KernelIdeal.Body

end
-- ==== Proof.KValue.lean ====
/-
  The kernel's output block: each element is the weighted sum of the values over the sum of the weights, over all keys.
-/
module

public import proofs.«01_k».proof.Proof.KSlab

@[expose] public section

set_option maxRecDepth 16384

noncomputable section

namespace Cert.KernelIdeal.Body

open Cert Cert.KernelIdeal Cert.KernelIdeal.Gen
open Idealize.ShloMosaic Idealize.ShloMosaic.TcCoe Idealize.ShloMosaic.Tactic

/-- The maxima after `k` blocks. -/
def mxF (qv : FVec Ideal S128x512 .bf16) (K : S1x16x256x128.Idx → Elt Ideal .bf16) (bb : S2x16x512.Idx → Elt Ideal .f32) (h : Fin 2) (m : FVec Ideal S1x512 .f32) : ℕ → FVec Ideal S1x512 .f32
  | 0 => m
  | k + 1 => maximumf (mxF qv K bb h m k) (mxB (scB qv (kblk K k) (brow bb h k)))

theorem mxN_flat (qv : FVec Ideal S128x512 .bf16) (K : S1x16x256x128.Idx → Elt Ideal .bf16) (bb : S2x16x512.Idx → Elt Ideal .f32) (h : Fin 2) (m : FVec Ideal S1x512 .f32) (n : ℕ) :
    mxN qv K bb h m n = mxF qv K bb h m (4 * n) := by
  induction n with
  | zero => rfl
  | succ n ih =>
    show maximumf (maximumf (maximumf (maximumf (mxN qv K bb h m n) _) _) _) _ = _
    rw [ih]
    rfl

theorem mxF_at (qv : FVec Ideal S128x512 .bf16) (K : S1x16x256x128.Idx → Elt Ideal .bf16) (bb : S2x16x512.Idx → Elt Ideal .f32) (h : Fin 2) (m : FVec Ideal S1x512 .f32) (l : Fin 512) (k : ℕ) (hk : k ≤ 16) :
    ((m (ix2 0 l) : EReal) ≤ mxF qv K bb h m k (ix2 0 l))
      ∧ (∀ (j : Fin 16) (r : Fin 256), j.val < k → (scB qv (kblk (F := Ideal) K j.val) (brow (F := Ideal) bb h j.val) (ix2 r l) : EReal) ≤ mxF qv K bb h m k (ix2 0 l))
      ∧ ((mxF qv K bb h m k (ix2 0 l) : EReal) = m (ix2 0 l) ∨ ∃ (j : Fin 16) (r : Fin 256), j.val < k ∧ (scB qv (kblk (F := Ideal) K j.val) (brow (F := Ideal) bb h j.val) (ix2 r l) : EReal) = mxF qv K bb h m k (ix2 0 l)) := by
  induction k with
  | zero => exact ⟨le_refl _, fun j r hj => absurd hj (Nat.not_lt_zero _), Or.inl rfl⟩
  | succ k ih =>
    obtain ⟨h1, h2, h3⟩ := ih (by omega)
    obtain ⟨hM, r0, hr0⟩ := mxB_raw (scB qv (kblk (F := Ideal) K k) (brow (F := Ideal) bb h k)) l
    have e : (mxF qv K bb h m (k + 1) (ix2 0 l) : EReal) = max (mxF qv K bb h m k (ix2 0 l) : EReal) (mxB (scB qv (kblk (F := Ideal) K k) (brow (F := Ideal) bb h k)) (ix2 0 l)) := rfl
    rw [e]
    refine ⟨h1.trans (le_max_left _ _), fun j r hj => ?_, ?_⟩
    · rcases Nat.lt_succ_iff_lt_or_eq.1 hj with hj | hj
      · exact (h2 j r hj).trans (le_max_left _ _)
      · rw [hj]
        exact (hM r).trans (le_max_right _ _)
    · rcases le_total (mxF qv K bb h m k (ix2 0 l) : EReal) (mxB (scB qv (kblk (F := Ideal) K k) (brow (F := Ideal) bb h k)) (ix2 0 l)) with hle | hle
      · rw [max_eq_right hle]
        exact Or.inr ⟨⟨k, by omega⟩, r0, Nat.lt_succ_self k, hr0⟩
      · rw [max_eq_left hle]
        rcases h3 with h3 | ⟨j, r, hj, hr⟩
        · exact Or.inl h3
        · exact Or.inr ⟨j, r, Nat.lt_succ_of_lt hj, hr⟩

/-- The maxima, by head. -/
def mx (h : Fin 2) (i : grid0.Coords) (x3 : FVec Ideal S1x128x512 .f32) (x4 : FVec Ideal S1x16x256x128 .bf16) (x6 : FVec Ideal S1x16x128 .f32) : FVec Ideal S1x512 .f32 := if h = 0 then mx0 i x3 x4 x6 else mx1 i x3 x4 x6

theorem mx_eq (h : Fin 2) (i : grid0.Coords) (x3 : FVec Ideal S1x128x512 .f32) (x4 : FVec Ideal S1x16x256x128 .bf16) (x6 : FVec Ideal S1x16x128 .f32) :
    mx h i x3 x4 x6 = mxF (qh h x3) x4 (bias i x3 x6) h (maximumf (mxB (own i x3 x4 x6 h 0)) (mxB (own i x3 x4 x6 h 1))) (4 * nT i) := by
  match h with
  | 0 => exact mxN_flat (qh0 x3) x4 (bias i x3 x6) 0 (om0 i x3 x4 x6) (nT i)
  | 1 => exact mxN_flat (qh1 x3) x4 (bias i x3 x6) 1 (om1 i x3 x4 x6) (nT i)

theorem nT_bound (i : grid0.Coords) : 4 * nT i ≤ 16 ∧ 2 * (i 2).val ≤ 4 * nT i := by
  have h : (i 2).val < 8 := (i 2).isLt
  unfold nT
  omega

section
variable {i : grid0.Coords} {h : Fin 2} {b : Fin 4} {H : Fin 8} {q kk : Spec.SQ.Idx → ℝ} {km : Spec.SM.Idx → ℝ}
  {x3 : FVec Ideal S1x128x512 .f32} {x4 : FVec Ideal S1x16x256x128 .bf16} {x6 : FVec Ideal S1x16x128 .f32}

/-- THE MAXIMUM is that of the attention's scores over all keys. -/
theorem Blk.mx_at (B : Blk i h b H q kk km x3 x4 x6) (l : Fin 512) : Soft.IsMax (T i b H q kk km l) (mx h i x3 x4 x6 (ix2 0 l)) := by
  rw [mx_eq]
  obtain ⟨hn, hn2⟩ := nT_bound i
  obtain ⟨h1, h2, h3⟩ := mxF_at (qh h x3) x4 (bias i x3 x6) h (maximumf (mxB (own i x3 x4 x6 h 0)) (mxB (own i x3 x4 x6 h 1))) l (4 * nT i) hn
  generalize mxF (qh h x3) x4 (bias i x3 x6) h (maximumf (mxB (own i x3 x4 x6 h 0)) (mxB (own i x3 x4 x6 h 1))) (4 * nT i) = M at h1 h2 h3 ⊢
  obtain ⟨ha, ra, hra⟩ := mxB_raw (own i x3 x4 x6 h 0) l
  obtain ⟨hb, rb, hrb⟩ := mxB_raw (own i x3 x4 x6 h 1) l
  have e : (maximumf (mxB (own i x3 x4 x6 h 0)) (mxB (own i x3 x4 x6 h 1)) (ix2 0 l) : EReal) = max (mxB (own i x3 x4 x6 h 0) (ix2 0 l) : EReal) (mxB (own i x3 x4 x6 h 1) (ix2 0 l)) := rfl
  rw [e] at h1 h3
  simp only [B.own0_score] at ha hra
  simp only [B.own1_score] at hb hrb
  have hall : ∀ (j : Fin 16) (r : Fin 256), T i b H q kk km l (key j r) ≤ (M (ix2 0 l) : EReal) := by
    intro j r
    by_cases hj : j.val < 2 * (i 2).val
    · rw [← B.past_score j r l hj]
      exact h2 j r (by omega)
    · by_cases hj0 : j = own0 i
      · rw [hj0]
        exact (ha r).trans ((le_max_left _ _).trans h1)
      · by_cases hj1 : j = own1 i
        · rw [hj1]
          exact (hb r).trans ((le_max_right _ _).trans h1)
        · rw [T_late j r l]
          · exact bot_le
          · have hv0 : j.val ≠ 2 * (i 2).val := fun hv => hj0 (Fin.ext hv)
            have hv1 : j.val ≠ 2 * (i 2).val + 1 := fun hv => hj1 (Fin.ext hv)
            omega
  have hkey : ∀ k : Fin 4096, key ⟨k.val / 256, by omega⟩ ⟨k.val % 256, by omega⟩ = k := fun k => Fin.ext (Nat.div_add_mod' k.val 256)
  refine ⟨fun k => hkey k ▸ hall _ _, ?_⟩
  rcases h3 with h3 | ⟨j, r, hj, hr⟩
  · rcases le_total (mxB (own i x3 x4 x6 h 0) (ix2 0 l) : EReal) (mxB (own i x3 x4 x6 h 1) (ix2 0 l)) with hle | hle
    · exact ⟨key (own1 i) rb, hrb.trans ((max_eq_right hle).symm.trans h3.symm)⟩
    · exact ⟨key (own0 i) ra, hra.trans ((max_eq_left hle).symm.trans h3.symm)⟩
  · by_cases hj : j.val < 2 * (i 2).val
    · exact ⟨key j r, (B.past_score j r l hj).symm.trans hr⟩
    · rw [B.late_score j r l hj] at hr
      exact ⟨key j r, le_antisymm (hall j r) (hr ▸ bot_le)⟩

end

/-- The values' row of head `h`. -/
def vrow (h : Fin 2) (a : Fin 80) : Fin 160 := ⟨h.val * 80 + a.val, by omega⟩

/-- One block's values, weighted and summed, by head. -/
def avB (h : Fin 2) (vb : FVec Ideal S1x1x160x256 .bf16) (m : FVec Ideal S1x512 .f32) (sp : FVec Ideal S1x1x256x512 .f32) : FVec Ideal S80x512 .f32 := if h = 0 then avB0 vb m sp else avB1 vb m sp

theorem avB_at (h : Fin 2) (vb : FVec Ideal S1x1x160x256 .bf16) (m : FVec Ideal S1x512 .f32) (sp : FVec Ideal S1x1x256x512 .f32) (a : Fin 80) (l : Fin 512) :
    (avB h vb m sp (ix2 a l) : EReal) = ∑ r : Fin 256, (vb (ix4 0 0 (vrow h a) r) : EReal) * Ideal.exp2 ((sp (ix4 0 0 r l) : EReal) - m (ix2 0 l)) := by
  have e0 : (avB0 vb m sp (ix2 a l) : EReal) = ∑ r : Fin 256, (vb (ix4 0 0 (vrow 0 a) r) : EReal) * Ideal.exp2 ((sp (ix4 0 0 r l) : EReal) - m (ix2 0 l)) := by
    pointwise [avB0, wtB, vrow]
    rfl
  have e1 : (avB1 vb m sp (ix2 a l) : EReal) = ∑ r : Fin 256, (vb (ix4 0 0 (vrow 1 a) r) : EReal) * Ideal.exp2 ((sp (ix4 0 0 r l) : EReal) - m (ix2 0 l)) := by
    pointwise [avB1, wtB, vrow]
    rfl
  match h with
  | 0 => exact e0
  | 1 => exact e1

/-- The weighted values after `k` blocks. -/
def avF (h : Fin 2) (V : S1x16x160x256.Idx → Elt Ideal .bf16) (m : FVec Ideal S1x512 .f32) (s : S2x18x256x512.Idx → Elt Ideal .f32) (a : FVec Ideal S80x512 .f32) : ℕ → FVec Ideal S80x512 .f32
  | 0 => a
  | k + 1 => addf (avF h V m s a k) (avB h (vblk V k) m (sblk s h k))

theorem avN0_flat (V : S1x16x160x256.Idx → Elt Ideal .bf16) (m : FVec Ideal S1x512 .f32) (s : S2x18x256x512.Idx → Elt Ideal .f32) (a : FVec Ideal S80x512 .f32) (n : ℕ) :
    avN0 V m s a n = avF 0 V m s a (4 * n) := by
  induction n with
  | zero => rfl
  | succ n ih =>
    show addf (addf (addf (addf (avN0 V m s a n) _) _) _) _ = _
    rw [ih]
    rfl

theorem avN1_flat (V : S1x16x160x256.Idx → Elt Ideal .bf16) (m : FVec Ideal S1x512 .f32) (s : S2x18x256x512.Idx → Elt Ideal .f32) (a : FVec Ideal S80x512 .f32) (n : ℕ) :
    avN1 V m s a n = avF 1 V m s a (4 * n) := by
  induction n with
  | zero => rfl
  | succ n ih =>
    show addf (addf (addf (addf (avN1 V m s a n) _) _) _) _ = _
    rw [ih]
    rfl

/-- The accumulators after the loop, by head. -/
def acc (h : Fin 2) (i : grid0.Coords) (x3 : FVec Ideal S1x128x512 .f32) (x4 : FVec Ideal S1x16x256x128 .bf16) (x5 : FVec Ideal S1x16x160x256 .bf16) (x6 : FVec Ideal S1x16x128 .f32) : FVec Ideal S80x512 .f32 :=
  if h = 0 then avN0 x5 (mx0 i x3 x4 x6) (scr i x3 x4 x6) (oa0 i x3 x4 x5 x6) (nT i) else avN1 x5 (mx1 i x3 x4 x6) (scr i x3 x4 x6) (oa1 i x3 x4 x5 x6) (nT i)

theorem acc_eq (h : Fin 2) (i : grid0.Coords) (x3 : FVec Ideal S1x128x512 .f32) (x4 : FVec Ideal S1x16x256x128 .bf16) (x5 : FVec Ideal S1x16x160x256 .bf16) (x6 : FVec Ideal S1x16x128 .f32) :
    acc h i x3 x4 x5 x6 = avF h x5 (mx h i x3 x4 x6) (scr i x3 x4 x6)
      (addf (avB h (vblk x5 (2 * (i 2).val)) (mx h i x3 x4 x6) (sblk (scr i x3 x4 x6) h 16)) (avB h (vblk x5 (2 * (i 2).val + 1)) (mx h i x3 x4 x6) (sblk (scr i x3 x4 x6) h 17))) (4 * nT i) := by
  match h with
  | 0 => exact avN0_flat x5 (mx0 i x3 x4 x6) (scr i x3 x4 x6) (oa0 i x3 x4 x5 x6) (nT i)
  | 1 => exact avN1_flat x5 (mx1 i x3 x4 x6) (scr i x3 x4 x6) (oa1 i x3 x4 x5 x6) (nT i)

theorem avF_at (h : Fin 2) (V : S1x16x160x256.Idx → Elt Ideal .bf16) (m : FVec Ideal S1x512 .f32) (s : S2x18x256x512.Idx → Elt Ideal .f32) (y : FVec Ideal S80x512 .f32) (a : Fin 80) (l : Fin 512)
    (C : Fin 16 → EReal) (hC : ∀ j : Fin 16, (avB h (vblk V j.val) m (sblk s h j.val) (ix2 a l) : EReal) = C j) (k : ℕ) (hk : k ≤ 16) :
    (avF h V m s y k (ix2 a l) : EReal) = y (ix2 a l) + ∑ j : Fin 16, if j.val < k then C j else 0 := by
  induction k with
  | zero =>
    simp only [Nat.not_lt_zero, if_false, Finset.sum_const_zero, add_zero]
    rfl
  | succ k ih =>
    have e : (avF h V m s y (k + 1) (ix2 a l) : EReal) = (avF h V m s y k (ix2 a l) : EReal) + avB h (vblk V k) m (sblk s h k) (ix2 a l) := rfl
    have hk' : k < 16 := hk
    have hCk := hC ⟨k, hk'⟩
    rw [e, ih (by omega), hCk, add_assoc]
    have e2 : ∀ j : Fin 16, (if j.val < k + 1 then C j else 0) = (if j.val < k then C j else 0) + if j = ⟨k, hk'⟩ then C j else 0 := by
      intro j
      by_cases h1 : j.val < k
      · rw [if_pos h1, if_pos (by omega), if_neg (fun e => by rw [e] at h1; exact lt_irrefl _ h1), add_zero]
      · rw [if_neg h1, zero_add]
        by_cases h2 : j = ⟨k, hk'⟩
        · rw [if_pos h2, if_pos (by rw [h2]; exact Nat.lt_succ_self k)]
        · rw [if_neg h2, if_neg (fun h3 => h2 (Fin.ext (by show j.val = k; omega)))]
    rw [Finset.sum_congr rfl fun j _ => e2 j, Finset.sum_add_distrib, Finset.sum_ite_eq' Finset.univ, if_pos (Finset.mem_univ _)]

section
variable {i : grid0.Coords} {h : Fin 2} {b : Fin 4} {H : Fin 8} {q kk : Spec.SQ.Idx → ℝ} {km : Spec.SM.Idx → ℝ}
  {x3 : FVec Ideal S1x128x512 .f32} {x4 : FVec Ideal S1x16x256x128 .bf16} {x5 : FVec Ideal S1x16x160x256 .bf16} {x6 : FVec Ideal S1x16x128 .f32}

theorem vblk_at (V : S1x16x160x256.Idx → Elt Ideal .bf16) (j : Fin 16) (a : Fin 160) (r : Fin 256) : vblk (F := Ideal) V j.val (ix4 0 0 a r) = V (ix4 0 j a r) := by
  have e : Fin.ofNat 16 j.val = j := Fin.ext (Nat.mod_eq_of_lt j.isLt)
  show V (ix4 0 (Fin.ofNat 16 j.val) a r) = _
  rw [e]

/-- One block's share of an accumulator. -/
def share (i : grid0.Coords) (h : Fin 2) (b : Fin 4) (H : Fin 8) (q kk : Spec.SQ.Idx → ℝ) (km : Spec.SM.Idx → ℝ) (x5 : FVec Ideal S1x16x160x256 .bf16) (M : EReal) (a : Fin 80) (l : Fin 512) (j : Fin 16) : EReal :=
  ∑ r : Fin 256, (x5 (ix4 0 j (vrow h a) r) : EReal) * Ideal.exp2 (T i b H q kk km l (key j r) - M)

theorem Blk.past_share (B : Blk i h b H q kk km x3 x4 x6) (a : Fin 80) (l : Fin 512) (j : Fin 16) :
    (avB h (vblk x5 j.val) (mx h i x3 x4 x6) (sblk (scr i x3 x4 x6) h j.val) (ix2 a l) : EReal)
      = if j.val < 2 * (i 2).val then share i h b H q kk km x5 (mx h i x3 x4 x6 (ix2 0 l)) a l j else 0 := by
  have es : ∀ r : Fin 256, (sblk (scr i x3 x4 x6) h j.val (ix4 0 0 r l) : EReal) = scB (qh h x3) (kblk (F := Ideal) x4 j.val) (brow (F := Ideal) (bias i x3 x6) h j.val) (ix2 r l) :=
    fun r => scrG_lt (qh0 x3) (qh1 x3) x4 (bias i x3 x6) (own i x3 x4 x6) h j.val j.isLt r l
  rw [avB_at]
  by_cases hj : j.val < 2 * (i 2).val
  · rw [if_pos hj]
    refine Finset.sum_congr rfl fun r _ => ?_
    rw [vblk_at, es, B.past_score j r l hj]
  · rw [if_neg hj]
    refine Finset.sum_eq_zero fun r _ => ?_
    rw [es, B.late_score j r l hj, EReal.bot_sub, Ideal.exp2_bot, mul_zero]

theorem Blk.own0_share (B : Blk i h b H q kk km x3 x4 x6) (a : Fin 80) (l : Fin 512) :
    (avB h (vblk x5 (2 * (i 2).val)) (mx h i x3 x4 x6) (sblk (scr i x3 x4 x6) h 16) (ix2 a l) : EReal)
      = share i h b H q kk km x5 (mx h i x3 x4 x6 (ix2 0 l)) a l (own0 i) := by
  have es : ∀ r : Fin 256, (sblk (scr i x3 x4 x6) h 16 (ix4 0 0 r l) : EReal) = own i x3 x4 x6 h 0 (ix2 r l) := fun r => rfl
  rw [avB_at]
  refine Finset.sum_congr rfl fun r _ => ?_
  rw [es, B.own0_score]
  exact congrArg (fun z : EReal => z * _) (vblk_at x5 (own0 i) (vrow h a) r)

theorem Blk.own1_share (B : Blk i h b H q kk km x3 x4 x6) (a : Fin 80) (l : Fin 512) :
    (avB h (vblk x5 (2 * (i 2).val + 1)) (mx h i x3 x4 x6) (sblk (scr i x3 x4 x6) h 17) (ix2 a l) : EReal)
      = share i h b H q kk km x5 (mx h i x3 x4 x6 (ix2 0 l)) a l (own1 i) := by
  have es : ∀ r : Fin 256, (sblk (scr i x3 x4 x6) h 17 (ix4 0 0 r l) : EReal) = own i x3 x4 x6 h 1 (ix2 r l) := fun r => rfl
  rw [avB_at]
  refine Finset.sum_congr rfl fun r _ => ?_
  rw [es, B.own1_score]
  exact congrArg (fun z : EReal => z * _) (vblk_at x5 (own1 i) (vrow h a) r)

/-- THE ACCUMULATOR holds every key's share. -/
theorem Blk.acc_at (B : Blk i h b H q kk km x3 x4 x6) (a : Fin 80) (l : Fin 512) :
    (acc h i x3 x4 x5 x6 (ix2 a l) : EReal) = ∑ j : Fin 16, share i h b H q kk km x5 (mx h i x3 x4 x6 (ix2 0 l)) a l j := by
  obtain ⟨hn, hn2⟩ := nT_bound i
  rw [acc_eq, avF_at h x5 _ _ _ a l _ (fun j => B.past_share a l j) _ hn]
  have e : (addf (avB h (vblk x5 (2 * (i 2).val)) (mx h i x3 x4 x6) (sblk (scr i x3 x4 x6) h 16)) (avB h (vblk x5 (2 * (i 2).val + 1)) (mx h i x3 x4 x6) (sblk (scr i x3 x4 x6) h 17)) (ix2 a l) : EReal)
      = (avB h (vblk x5 (2 * (i 2).val)) (mx h i x3 x4 x6) (sblk (scr i x3 x4 x6) h 16) (ix2 a l) : EReal) + avB h (vblk x5 (2 * (i 2).val + 1)) (mx h i x3 x4 x6) (sblk (scr i x3 x4 x6) h 17) (ix2 a l) := rfl
  rw [e, B.own0_share, B.own1_share]
  have hlate : ∀ j : Fin 16, 2 * (i 2).val + 2 ≤ j.val → share i h b H q kk km x5 (mx h i x3 x4 x6 (ix2 0 l)) a l j = 0 := by
    intro j hj
    refine Finset.sum_eq_zero fun r _ => ?_
    rw [T_late j r l hj, EReal.bot_sub, Ideal.exp2_bot, mul_zero]
  generalize share i h b H q kk km x5 (mx h i x3 x4 x6 (ix2 0 l)) a l = C at hlate ⊢
  have e2 : ∀ j : Fin 16, C j = (if j = own0 i then C j else 0) + (if j = own1 i then C j else 0) + (if j.val < 4 * nT i then (if j.val < 2 * (i 2).val then C j else 0) else 0) := by
    intro j
    by_cases h0 : j = own0 i
    · have hv : j.val = 2 * (i 2).val := congrArg Fin.val h0
      have h1 : j ≠ own1 i := fun h1 => by
        have hv1 : j.val = 2 * (i 2).val + 1 := congrArg Fin.val h1
        omega
      rw [if_pos h0, if_neg h1, if_neg (show ¬ j.val < 2 * (i 2).val by omega), ite_self, add_zero, add_zero]
    · have hv : j.val ≠ 2 * (i 2).val := fun hv => h0 (Fin.ext hv)
      rw [if_neg h0, zero_add]
      by_cases h1 : j = own1 i
      · have hv1 : j.val = 2 * (i 2).val + 1 := congrArg Fin.val h1
        rw [if_pos h1, if_neg (show ¬ j.val < 2 * (i 2).val by omega), ite_self, add_zero]
      · have hv1 : j.val ≠ 2 * (i 2).val + 1 := fun hv => h1 (Fin.ext hv)
        rw [if_neg h1, zero_add]
        by_cases hj : j.val < 2 * (i 2).val
        · rw [if_pos (show j.val < 4 * nT i by omega), if_pos hj]
        · rw [if_neg hj, ite_self]
          exact hlate j (by omega)
  rw [Finset.sum_congr rfl fun j _ => e2 j, Finset.sum_add_distrib, Finset.sum_add_distrib, Finset.sum_ite_eq' Finset.univ, Finset.sum_ite_eq' Finset.univ, if_pos (Finset.mem_univ _), if_pos (Finset.mem_univ _)]

theorem outP_at (i : grid0.Coords) (h : Fin 2) (x3 : FVec Ideal S1x128x512 .f32) (x4 : FVec Ideal S1x16x256x128 .bf16) (x5 : FVec Ideal S1x16x160x256 .bf16) (x6 : FVec Ideal S1x16x128 .f32) (l : Fin 512) (d : Fin 64) :
    (outP i x3 x4 x5 x6 (ix3 0 l (hrow h d)) : EReal) = Ideal.div (acc h i x3 x4 x5 x6 (ix2 ⟨d.val, by omega⟩ l)) (acc h i x3 x4 x5 x6 (ix2 64 l)) := by
  have key : ∀ (y0 y1 : FVec Ideal S80x512 .f32) (c : Fin 128), (k0_pay7 y0 y1 (ix3 0 l c) : EReal)
      = if hc : c.val < 64 then Ideal.div (y0 (ix2 ⟨c.val, by omega⟩ l)) (y0 (ix2 64 l)) else Ideal.div (y1 (ix2 ⟨c.val - 64, by omega⟩ l)) (y1 (ix2 64 l)) := by
    intro y0 y1 c
    pointwise [k0_pay7]
  have hd := d.isLt
  unfold outP
  match h with
  | 0 =>
    have hc : (hrow 0 d).val = d.val := by show 0 * 64 + d.val = _; omega
    rw [key, dif_pos (by omega)]
    simp only [hc]
    rfl
  | 1 =>
    have hc : (hrow 1 d).val = 64 + d.val := by show 1 * 64 + d.val = _; omega
    rw [key, dif_neg (by omega)]
    simp only [hc, Nat.add_sub_cancel_left]
    rfl

/-- THE OUTPUT BLOCK's element: the values' weighted sum over the weights' sum, over all keys. -/
theorem Blk.out_at (B : Blk i h b H q kk km x3 x4 x6) (l : Fin 512) (d : Fin 64) (v : Fin 4096 → EReal)
    (hv : ∀ (j : Fin 16) (r : Fin 256), (x5 (ix4 0 j (vrow h ⟨d.val, by omega⟩) r) : EReal) = v (key j r))
    (h1 : ∀ (j : Fin 16) (r : Fin 256), (x5 (ix4 0 j (vrow h 64) r) : EReal) = 1) :
    ∃ M : EReal, Soft.IsMax (T i b H q kk km l) M ∧ (outP i x3 x4 x5 x6 (ix3 0 l (hrow h d)) : EReal)
      = Ideal.div (∑ k, v k * Ideal.exp2 (T i b H q kk km l k - M)) (∑ k, 1 * Ideal.exp2 (T i b H q kk km l k - M)) := by
  refine ⟨_, B.mx_at l, ?_⟩
  rw [outP_at, B.acc_at, B.acc_at, Fin.sum_univ_tiles 16 256 rfl (fun k : Fin 4096 => v k * _), Fin.sum_univ_tiles 16 256 rfl (fun k : Fin 4096 => (1 : EReal) * _)]
  unfold share
  simp only [hv, h1]
  rfl

end

end Cert.KernelIdeal.Body

end
-- ==== Proof.Host.lean ====
/-
  What the launch's windows hold at a grid point, in terms of the arguments.
-/
module

public import proofs.«01_k».proof.Proof.Run
public import proofs.«01_k».proof.Proof.KValue

@[expose] public section

set_option maxRecDepth 16384

noncomputable section

namespace Cert.KernelIdeal.Body

open Cert Cert.KernelIdeal Cert.KernelIdeal.Gen
open Idealize.ShloMosaic Idealize.ShloMosaic.TcCoe Idealize.ShloMosaic.Tactic

variable (m : (ℓ : Loc nD τ sig) → Buf (Elt Ideal) ℓ)

/-- The queries as the launch finds them, -/
def hostQ (x : FVec Ideal S4x4096x8x64 .f32) : FVec Ideal S4x512x4096 .f32 :=
  transpose S4x512x4096 [0, 2, 1] (shapeCast S4x4096x512 x shapeCasts_S4x4096x8x64_S4x4096x512) transposes_S4x4096x512_S4x512x4096_0_2_1
/-- the keys, -/
def hostK (x : FVec Ideal S4x4096x8x64 .f32) : FVec Ideal S4x16x256x512 .bf16 :=
  truncf .bf16 (shapeCast S4x16x256x512 x shapeCasts_S4x4096x8x64_S4x16x256x512) bitsLt_bf16_f32
/-- the values with their rows of ones, -/
def hostV (x : FVec Ideal S4x4096x8x64 .f32) : FVec Ideal S4x16x640x256 .bf16 :=
  truncf .bf16 (shapeCast S4x16x640x256 (concatenate S4x16x8x80x256 3
    [⟨S4x16x8x64x256, transpose S4x16x8x64x256 [0, 1, 3, 4, 2] (shapeCast S4x16x256x8x64 x shapeCasts_S4x4096x8x64_S4x16x256x8x64) transposes_S4x16x256x8x64_S4x16x8x64x256_0_1_3_4_2⟩,
      ⟨S4x16x8x16x256, broadcastInDim S4x16x8x16x256 ![] bcast_S_S4x16x8x16x256 (constant S_ .f32 0x3F800000#32)⟩] concatenates_S4x16x8x64x256_S4x16x8x16x256_S4x16x8x80x256_d3) shapeCasts_S4x16x8x80x256_S4x16x640x256) bitsLt_bf16_f32
/-- and the mean keys. -/
def hostM (x : FVec Ideal S4x16x8x64 .f32) : FVec Ideal S4x16x512 .f32 := shapeCast S4x16x512 x shapeCasts_S4x16x8x64_S4x16x512

theorem V_q (c : Dev nD) : V m c main_v1 = hostQ (m ((c : Thread nD τ).loc main_arg0)) := by
  unfold V hostOps0
  after_results_simp <;> rfl

theorem V_k (c : Dev nD) : V m c main_v3 = hostK (m ((c : Thread nD τ).loc main_arg1)) := by
  unfold V hostOps0
  after_results_simp <;> rfl

theorem V_v (c : Dev nD) : V m c main_v9 = hostV (m ((c : Thread nD τ).loc main_arg2)) := by
  unfold V hostOps0
  after_results_simp <;> rfl

theorem V_m (c : Dev nD) : V m c main_v10 = hostM (m ((c : Thread nD τ).loc main_arg3)) := by
  unfold V hostOps0
  after_results_simp <;> rfl

theorem hostQ_at (x : FVec Ideal S4x4096x8x64 .f32) (b : Fin 4) (c : Fin 512) (p : Fin 4096) :
    (hostQ x (ix3 b c p) : EReal) = x (ix4 b p ⟨c.val / 64, by omega⟩ ⟨c.val % 64, by omega⟩) := by
  pointwise [hostQ]

theorem hostK_at (x : FVec Ideal S4x4096x8x64 .f32) (b : Fin 4) (j : Fin 16) (r : Fin 256) (c : Fin 512) :
    (hostK x (ix4 b j r c) : EReal) = x (ix4 b (key j r) ⟨c.val / 64, by omega⟩ ⟨c.val % 64, by omega⟩) := by
  pointwise [hostK, key]

theorem hostM_at (x : FVec Ideal S4x16x8x64 .f32) (b : Fin 4) (j : Fin 16) (c : Fin 512) :
    (hostM x (ix3 b j c) : EReal) = x (ix4 b j ⟨c.val / 64, by omega⟩ ⟨c.val % 64, by omega⟩) := by
  pointwise [hostM]

theorem hostV_up (w : FVec Ideal S4x16x8x80x256 .f32) (b : Fin 4) (j : Fin 16) (a : Fin 640) (r : Fin 256) :
    (truncf .bf16 (shapeCast S4x16x640x256 w shapeCasts_S4x16x8x80x256_S4x16x640x256) bitsLt_bf16_f32 (ix4 b j a r) : EReal) = w (ix5 b j ⟨a.val / 80, by omega⟩ ⟨a.val % 80, by omega⟩ r) := by
  pointwise

theorem hostV_in (x : FVec Ideal S4x4096x8x64 .f32) (b : Fin 4) (j : Fin 16) (H : Fin 8) (a : Fin 64) (r : Fin 256) :
    (transpose S4x16x8x64x256 [0, 1, 3, 4, 2] (shapeCast S4x16x256x8x64 x shapeCasts_S4x4096x8x64_S4x16x256x8x64) transposes_S4x16x256x8x64_S4x16x8x64x256_0_1_3_4_2 (ix5 b j H a r) : EReal) = x (ix4 b (key j r) H a) := by
  pointwise [key]

/-- A row below 64 of a head's 80 holds that coordinate of the values, -/
theorem hostV_val (x : FVec Ideal S4x4096x8x64 .f32) (b : Fin 4) (j : Fin 16) (H : Fin 8) (d : Fin 64) (r : Fin 256) (n : Fin 640)
    (hn : n.val = 80 * H.val + d.val) : (hostV x (ix4 b j n r) : EReal) = x (ix4 b (key j r) H d) := by
  refine (hostV_up _ b j n r).trans ?_
  refine Eq.trans ?_ (hostV_in x b j H d r)
  refine concatenate_pair_apply_left (t := S4x16x8x80x256) (s₁ := S4x16x8x64x256) (s₂ := S4x16x8x16x256) 3 _ _ _ _ rfl (ix5 b j H d r) fun a => ?_
  fin_cases a <;> simp [ix5] <;> omega

/-- and row 64 holds ones. -/
theorem hostV_one (x : FVec Ideal S4x4096x8x64 .f32) (b : Fin 4) (j : Fin 16) (H : Fin 8) (r : Fin 256) (n : Fin 640)
    (hn : n.val = 80 * H.val + 64) : (hostV x (ix4 b j n r) : EReal) = 1 := by
  refine (hostV_up _ b j n r).trans ?_
  refine (concatenate_pair_apply_right (t := S4x16x8x80x256) (s₁ := S4x16x8x64x256) (s₂ := S4x16x8x16x256) 3 _ _ _ _ rfl rfl (ix5 b j H (0 : Fin 16) r) (fun a ha => ?_) ?_).trans ?_
  · fin_cases a <;> simp [ix5] at ha ⊢ <;> omega
  · simp [ix5]; omega
  · show Ideal.ofBits .f32 0x3F800000#32 = 1
    simp [Ideal.ofBits, Ideal.ieee]
    rw [← EReal.coe_mul]; norm_num

theorem idx0 : ∀ t : Fin cfg0.N, win0_0.index t 0 = ((grid0.coords t) 0).val ∧ win0_0.index t 1 = ((grid0.coords t) 1).val ∧ win0_0.index t 2 = ((grid0.coords t) 2).val := by decide +kernel
theorem idx1 : ∀ t : Fin cfg0.N, win0_1.index t 0 = ((grid0.coords t) 0).val ∧ win0_1.index t 1 = 0 ∧ win0_1.index t 2 = 0 ∧ win0_1.index t 3 = ((grid0.coords t) 1).val := by decide +kernel
theorem idx2 : ∀ t : Fin cfg0.N, win0_2.index t 0 = ((grid0.coords t) 0).val ∧ win0_2.index t 1 = 0 ∧ win0_2.index t 2 = ((grid0.coords t) 1).val ∧ win0_2.index t 3 = 0 := by decide +kernel
theorem idx3 : ∀ t : Fin cfg0.N, win0_3.index t 0 = ((grid0.coords t) 0).val ∧ win0_3.index t 1 = 0 ∧ win0_3.index t 2 = ((grid0.coords t) 1).val := by decide +kernel
theorem idx4 : ∀ t : Fin cfg0.N, win0_4.index t 0 = ((grid0.coords t) 0).val ∧ win0_4.index t 1 = ((grid0.coords t) 2).val ∧ win0_4.index t 2 = ((grid0.coords t) 1).val := by decide +kernel

/-- The batch, -/
def bat (t : Fin cfg0.N) : Fin 4 := (grid0.coords t) 0
/-- and the head of a point's pair. -/
def head (t : Fin cfg0.N) (h : Fin 2) : Fin 8 := ⟨((grid0.coords t) 1).val * 2 + h.val, by have : ((grid0.coords t) 1).val < 4 := ((grid0.coords t) 1).isLt; omega⟩

theorem bat_val (t : Fin cfg0.N) : ((grid0.coords t) 0).val = (bat t).val := rfl

theorem col_lt (t : Fin cfg0.N) (k : Fin 128) : ((grid0.coords t) 1).val * 128 + k.val < 512 := by
  have : ((grid0.coords t) 1).val < 4 := ((grid0.coords t) 1).isLt; omega

theorem row_lt (t : Fin cfg0.N) (k : Fin 160) : ((grid0.coords t) 1).val * 160 + k.val < 640 := by
  have : ((grid0.coords t) 1).val < 4 := ((grid0.coords t) 1).isLt; omega

theorem emb0 (t : Fin cfg0.N) (k : Fin 128) (l : Fin 512) :
    ((cfg0.win 0).blk t).view.emb (ix3 0 k l) = (ix3 (bat t) (⟨((grid0.coords t) 1).val * 128 + k.val, col_lt t k⟩ : Fin 512) (pos (grid0.coords t) l) : S4x512x4096.Idx) := by
  obtain ⟨e0, e1, e2⟩ := idx0 t
  funext a; apply Fin.ext
  match a with
  | ⟨0, _⟩ => show win0_0.index t 0 * 1 + 1 * 0 = (bat t).val; rw [e0, bat_val]; omega
  | ⟨1, _⟩ => show win0_0.index t 1 * 128 + 1 * k.val = ((grid0.coords t) 1).val * 128 + k.val; rw [e1]; omega
  | ⟨2, _⟩ => show win0_0.index t 2 * 512 + 1 * l.val = ((grid0.coords t) 2).val * 512 + l.val; rw [e2]; omega

theorem emb1 (t : Fin cfg0.N) (j : Fin 16) (r : Fin 256) (k : Fin 128) :
    ((cfg0.win 1).blk t).view.emb (ix4 0 j r k) = (ix4 (bat t) j r (⟨((grid0.coords t) 1).val * 128 + k.val, col_lt t k⟩ : Fin 512) : S4x16x256x512.Idx) := by
  obtain ⟨e0, e1, e2, e3⟩ := idx1 t
  funext a; apply Fin.ext
  match a with
  | ⟨0, _⟩ => show win0_1.index t 0 * 1 + 1 * 0 = (bat t).val; rw [e0, bat_val]; omega
  | ⟨1, _⟩ => show win0_1.index t 1 * 16 + 1 * j.val = j.val; rw [e1]; omega
  | ⟨2, _⟩ => show win0_1.index t 2 * 256 + 1 * r.val = r.val; rw [e2]; omega
  | ⟨3, _⟩ => show win0_1.index t 3 * 128 + 1 * k.val = ((grid0.coords t) 1).val * 128 + k.val; rw [e3]; omega

theorem emb2 (t : Fin cfg0.N) (j : Fin 16) (k : Fin 160) (r : Fin 256) :
    ((cfg0.win 2).blk t).view.emb (ix4 0 j k r) = (ix4 (bat t) j (⟨((grid0.coords t) 1).val * 160 + k.val, row_lt t k⟩ : Fin 640) r : S4x16x640x256.Idx) := by
  obtain ⟨e0, e1, e2, e3⟩ := idx2 t
  funext a; apply Fin.ext
  match a with
  | ⟨0, _⟩ => show win0_2.index t 0 * 1 + 1 * 0 = (bat t).val; rw [e0, bat_val]; omega
  | ⟨1, _⟩ => show win0_2.index t 1 * 16 + 1 * j.val = j.val; rw [e1]; omega
  | ⟨2, _⟩ => show win0_2.index t 2 * 160 + 1 * k.val = ((grid0.coords t) 1).val * 160 + k.val; rw [e2]; omega
  | ⟨3, _⟩ => show win0_2.index t 3 * 256 + 1 * r.val = r.val; rw [e3]; omega

theorem emb3 (t : Fin cfg0.N) (j : Fin 16) (k : Fin 128) :
    ((cfg0.win 3).blk t).view.emb (ix3 0 j k) = (ix3 (bat t) j (⟨((grid0.coords t) 1).val * 128 + k.val, col_lt t k⟩ : Fin 512) : S4x16x512.Idx) := by
  obtain ⟨e0, e1, e2⟩ := idx3 t
  funext a; apply Fin.ext
  match a with
  | ⟨0, _⟩ => show win0_3.index t 0 * 1 + 1 * 0 = (bat t).val; rw [e0, bat_val]; omega
  | ⟨1, _⟩ => show win0_3.index t 1 * 16 + 1 * j.val = j.val; rw [e1]; omega
  | ⟨2, _⟩ => show win0_3.index t 2 * 128 + 1 * k.val = ((grid0.coords t) 1).val * 128 + k.val; rw [e2]; omega

theorem emb4 (t : Fin cfg0.N) (l : Fin 512) (k : Fin 128) :
    ((cfg0.win 4).blk t).view.emb (ix3 0 l k) = (ix3 (bat t) (pos (grid0.coords t) l) (⟨((grid0.coords t) 1).val * 128 + k.val, col_lt t k⟩ : Fin 512) : S4x4096x512.Idx) := by
  obtain ⟨e0, e1, e2⟩ := idx4 t
  funext a; apply Fin.ext
  match a with
  | ⟨0, _⟩ => show win0_4.index t 0 * 1 + 1 * 0 = (bat t).val; rw [e0, bat_val]; omega
  | ⟨1, _⟩ => show win0_4.index t 1 * 512 + 1 * l.val = ((grid0.coords t) 2).val * 512 + l.val; rw [e1]; omega
  | ⟨2, _⟩ => show win0_4.index t 2 * 128 + 1 * k.val = ((grid0.coords t) 1).val * 128 + k.val; rw [e2]; omega

/-- A column of 512 as head and coordinate. -/
theorem col_head (t : Fin cfg0.N) (h : Fin 2) (d : Fin 64) :
    (((grid0.coords t) 1).val * 128 + (hrow h d).val) / 64 = (head t h).val ∧ (((grid0.coords t) 1).val * 128 + (hrow h d).val) % 64 = d.val := by
  simp only [hrow, head]; omega

theorem blk_q (c : Dev nD) (t : Fin cfg0.N) (h : Fin 2) (d : Fin 64) (l : Fin 512) :
    (iblk m c 0 t (ix3 0 (hrow h d) l) : EReal) = m ((c : Thread nD τ).loc main_arg0) (ix4 (bat t) (pos (grid0.coords t) l) (head t h) d) := by
  show V m c main_v1 (((cfg0.win 0).blk t).view.emb (ix3 0 (hrow h d) l)) = _
  rw [V_q, emb0]
  refine (hostQ_at _ _ _ _).trans ?_
  have e := col_head t h d
  exact congrArg₂ (fun x y => m ((c : Thread nD τ).loc main_arg0) (ix4 (bat t) (pos (grid0.coords t) l) x y)) (Fin.ext e.1) (Fin.ext e.2)

theorem blk_k (c : Dev nD) (t : Fin cfg0.N) (h : Fin 2) (j : Fin 16) (r : Fin 256) (d : Fin 64) :
    (iblk m c 1 t (ix4 0 j r (hrow h d)) : EReal) = m ((c : Thread nD τ).loc main_arg1) (ix4 (bat t) (key j r) (head t h) d) := by
  show V m c main_v3 (((cfg0.win 1).blk t).view.emb (ix4 0 j r (hrow h d))) = _
  rw [V_k, emb1]
  refine (hostK_at _ _ _ _ _).trans ?_
  have e := col_head t h d
  exact congrArg₂ (fun x y => m ((c : Thread nD τ).loc main_arg1) (ix4 (bat t) (key j r) x y)) (Fin.ext e.1) (Fin.ext e.2)

theorem blk_m (c : Dev nD) (t : Fin cfg0.N) (h : Fin 2) (j : Fin 16) (d : Fin 64) :
    (iblk m c 3 t (ix3 0 j (hrow h d)) : EReal) = m ((c : Thread nD τ).loc main_arg3) (ix4 (bat t) j (head t h) d) := by
  show V m c main_v10 (((cfg0.win 3).blk t).view.emb (ix3 0 j (hrow h d))) = _
  rw [V_m, emb3]
  refine (hostM_at _ _ _ _).trans ?_
  have e := col_head t h d
  exact congrArg₂ (fun x y => m ((c : Thread nD τ).loc main_arg3) (ix4 (bat t) j x y)) (Fin.ext e.1) (Fin.ext e.2)

attribute [local irreducible] hostV

theorem blk_v_read (c : Dev nD) (t : Fin cfg0.N) : iblk m c 2 t = (win0_2.blk t).view.read (Elt Ideal) (V m c main_v9) := by
  unfold iblk
  generalize V m c = W
  rfl

theorem read_v (W : FVec Ideal S4x16x640x256 .bf16) (t : Fin cfg0.N) (y : S1x16x160x256.Idx) :
    (win0_2.blk t).view.read (Elt Ideal) W y = W (((cfg0.win 2).blk t).view.emb y) := rfl

theorem blk_v_eq (c : Dev nD) (t : Fin cfg0.N) (j : Fin 16) (k : Fin 160) (r : Fin 256) :
    iblk m c 2 t (ix4 0 j k r) = hostV (m ((c : Thread nD τ).loc main_arg2)) (ix4 (bat t) j (⟨((grid0.coords t) 1).val * 160 + k.val, row_lt t k⟩ : Fin 640) r) := by
  have e : iblk m c 2 t = (win0_2.blk t).view.read (Elt Ideal) (hostV (m ((c : Thread nD τ).loc main_arg2))) :=
    (blk_v_read m c t).trans (congrArg _ (V_v m c))
  rw [e]
  exact (read_v _ t _).trans (congrArg _ (emb2 t j k r))

theorem vrow_val (t : Fin cfg0.N) (h : Fin 2) (a : Fin 80) :
    ((grid0.coords t) 1).val * 160 + (vrow h a).val = 80 * (head t h).val + a.val := by
  simp only [vrow, head]; omega

theorem blk_v (c : Dev nD) (t : Fin cfg0.N) (h : Fin 2) (j : Fin 16) (d : Fin 64) (r : Fin 256) :
    (iblk m c 2 t (ix4 0 j (vrow h ⟨d.val, by omega⟩) r) : EReal) = m ((c : Thread nD τ).loc main_arg2) (ix4 (bat t) (key j r) (head t h) d) :=
  (blk_v_eq m c t j _ r).trans (hostV_val _ (bat t) j (head t h) d r _ (vrow_val t h ⟨d.val, by omega⟩))

theorem blk_one (c : Dev nD) (t : Fin cfg0.N) (h : Fin 2) (j : Fin 16) (r : Fin 256) :
    (iblk m c 2 t (ix4 0 j (vrow h 64) r) : EReal) = (1 : EReal) :=
  (blk_v_eq m c t j _ r).trans (hostV_one _ (bat t) j (head t h) r _ (vrow_val t h 64))

end Cert.KernelIdeal.Body

end
-- ==== Proof.Value.lean ====
/-
  The call's result array: at every index the softmax quotient of the arguments.
-/
module

public import proofs.«01_k».proof.Proof.Host
public import Idealize.ShloMosaic.Lib.Pipeline.Value

@[expose] public section

set_option maxRecDepth 16384

noncomputable section

namespace Cert.KernelIdeal.Body

open Cert Cert.KernelIdeal Cert.KernelIdeal.Gen
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg)

/-- What a point leaves at a row and a head's coordinate. -/
theorem out_value (c : Dev nD) (t : Fin cfg0.N) (h : Fin 2) (l : Fin 512) (d : Fin 64) (q kk : Spec.SQ.Idx → ℝ) (km : Spec.SM.Idx → ℝ)
    (hq : ∀ y, (m ((c : Thread nD τ).loc main_arg0) y : EReal) = (q y : EReal))
    (hk : ∀ y, (m ((c : Thread nD τ).loc main_arg1) y : EReal) = (kk y : EReal))
    (hm : ∀ y, (m ((c : Thread nD τ).loc main_arg3) y : EReal) = (km y : EReal)) (v : Fin 4096 → EReal)
    (hv : ∀ k, m ((c : Thread nD τ).loc main_arg2) (ix4 (bat t) k (head t h) d) = v k) :
    ∃ M, Soft.IsMax (T (grid0.coords t) (bat t) (head t h) q kk km l) M ∧
      (outP (F := Ideal) (grid0.coords t) (iblk m c 0 t) (iblk m c 1 t) (iblk m c 2 t) (iblk m c 3 t) (ix3 0 l (hrow h d)) : EReal)
        = Ideal.div (∑ k, v k * Ideal.exp2 (T (grid0.coords t) (bat t) (head t h) q kk km l k - M))
          (∑ k, 1 * Ideal.exp2 (T (grid0.coords t) (bat t) (head t h) q kk km l k - M)) := by
  have B : Blk (grid0.coords t) h (bat t) (head t h) q kk km (iblk m c 0 t) (iblk m c 1 t) (iblk m c 3 t) :=
    ⟨fun d l => (blk_q m c t h d l).trans (hq _), fun j r d => (blk_k m c t h j r d).trans (hk _), fun j d => (blk_m m c t h j d).trans (hm _)⟩
  exact B.out_at l d v (fun j r => (blk_v m c t h j d r).trans (hv _)) (fun j r => blk_one m c t h j r)

/-- A column of a pair of heads as head and coordinate. -/
theorem hrow_split (k : Fin 128) : k = hrow ⟨k.val / 64, by omega⟩ ⟨k.val % 64, by omega⟩ :=
  Fin.ext (by simp only [hrow]; omega)

theorem cut_read (t : Fin cfg0.N) (X : FVec Ideal S1x512x128 .bf16) (G : FVec Ideal S4x4096x512 .bf16)
    (hG : ∀ y : S1x512x128.Idx, X y = G (((cfg0.win 4).blk t).view.emb y)) :
    (cfg0.win 4).cut (grid0.coords t) X = ((cfg0.win 4).blk t).view.read (Elt Ideal) G :=
  funext fun y => hG y

theorem flushed_eq (c : Dev nD) (G : FVec Ideal S4x4096x512 .bf16)
    (hG : ∀ (t : Fin cfg0.N) (l : Fin 512) (k : Fin 128),
      outP (F := Ideal) (grid0.coords t) (iblk m c 0 t) (iblk m c 1 t) (iblk m c 2 t) (iblk m c 3 t) (ix3 0 l k)
        = G (ix3 (bat t) (pos (grid0.coords t) l) ⟨((grid0.coords t) 1).val * 128 + k.val, col_lt t k⟩)) (t : Fin cfg0.N) :
    (dats m 0 c).flushed 4 t = ((cfg0.win 4).blk t).view.read (Elt Ideal) G := by
  show (cfg0.win 4).cut (grid0.coords t) ((dats m 0 c).after 4 t) = _
  rw [after0_4]
  refine cut_read t _ G fun y => ?_
  have e : y = ix3 (0 : Fin 1) (y 1) (y 2) := by
    funext a
    match a with
    | ⟨0, _⟩ => exact Subsingleton.elim (α := Fin 1) _ _
    | ⟨1, _⟩ => rfl
    | ⟨2, _⟩ => rfl
  rw [e]
  exact (hG t (y 1) (y 2)).trans (congrArg G (emb4 t (y 1) (y 2))).symm

theorem point : ∀ (b h : Fin 4) (j : Fin 8), ∃ t : Fin cfg0.N,
    ((grid0.coords t) 0).val = b.val ∧ ((grid0.coords t) 1).val = h.val ∧ ((grid0.coords t) 2).val = j.val := by decide +kernel

/-- The points' blocks cover the result. -/
theorem cover (i : S4x4096x512.Idx) : ∃ t : Fin cfg0.N, (cfg0.win 4).flush t = true ∧ i ∈ ((cfg0.win 4).blk t).view.set := by
  have h0 : (i 0).val < 4 := (i 0).isLt
  have h1 : (i 1).val < 4096 := (i 1).isLt
  have h2 : (i 2).val < 512 := (i 2).isLt
  obtain ⟨t, e0, e1, e2⟩ := point ⟨(i 0).val, h0⟩ ⟨(i 2).val / 128, by omega⟩ ⟨(i 1).val / 512, by omega⟩
  refine ⟨t, flush0_4 t, ?_⟩
  have h := ((cfg0.win 4).blk t).view.emb_mem_set (ix3 (0 : Fin 1) (⟨(i 1).val % 512, by omega⟩ : Fin 512) (⟨(i 2).val % 128, by omega⟩ : Fin 128))
  rw [emb4] at h
  have e : (ix3 (bat t) (pos (grid0.coords t) ⟨(i 1).val % 512, by omega⟩) (⟨((grid0.coords t) 1).val * 128 + (i 2).val % 128, col_lt t ⟨(i 2).val % 128, by omega⟩⟩ : Fin 512) : S4x4096x512.Idx) = i := by
    funext a; apply Fin.ext
    match a with
    | ⟨0, _⟩ => exact e0
    | ⟨1, _⟩ => show ((grid0.coords t) 2).val * 512 + (i 1).val % 512 = (i 1).val; rw [e2]; dsimp only; omega
    | ⟨2, _⟩ => show ((grid0.coords t) 1).val * 128 + (i 2).val % 128 = (i 2).val; rw [e1]; dsimp only; omega
  rw [← e]; exact h

/-- The run, its result array at a function every point's block agrees with. -/
theorem run_value (G : (c : Dev nD) → FVec Ideal S4x4096x512 .bf16)
    (hG : ∀ (c : Dev nD) (t : Fin cfg0.N) (l : Fin 512) (k : Fin 128),
      outP (F := Ideal) (grid0.coords t) (iblk m c 0 t) (iblk m c 1 t) (iblk m c 2 t) (iblk m c 3 t) (ix3 0 l k)
        = G c (ix3 (bat t) (pos (grid0.coords t) l) ⟨((grid0.coords t) 1).val * 128 + k.val, col_lt t k⟩)) :
    θ_run defs (onTc (τ := τ) (main (F := Ideal))) ⟨m, fun _ => 0, ρ⟩ (fun r => ∀ c : Dev nD,
      r.2.mem ((c.tc : Thread nD τ).loc main_v11) = G c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.2 c).1 4).trans ((dats m 0 c).arrAt_eq_of_cover 4 (G c) (fun t _ => flushed_eq m c (G c) (hG c) t) cover), h.1 c⟩)
    (θ_run_and (unchanged m ρ) (run_main m ρ))

end Cert.KernelIdeal.Body

end
-- ==== Proof.RefSel.lean ====
/-
  The reference's choice of blocks read at an index: a block is attended to where it is past and its gate's rank
  is below three, or where it is the query's own.
-/
module

public import proofs.«01_k».proof.Proof.Spec
public import proofs.«01_k».proof.Proof.Gen.ReferenceIdeal.Run
public import proofs.«01_k».proof.Proof.Gen.ReferenceIdeal.Read
public import proofs.«01_k».proof.Proof.Gen.ReferenceIdeal
public import Idealize.ShloMosaic.Lib.WordCmp

@[expose] public section

set_option maxRecDepth 16384

noncomputable section

namespace Cert.ReferenceIdeal.Read

open Cert.ReferenceIdeal Cert.ReferenceIdeal.Gen Idealize.ShloMosaic Idealize.ShloMosaic.TcCoe Idealize.SL.Sem

/-- The word of a position's block. -/
theorem own_word (p : Fin 4096) : IntOp.divsi .host (BitVec.ofNat 32 p.val) 256#32 = BitVec.ofNat 32 (p.val / 256) := by
  have h : p.val < 4096 := p.isLt
  have e : (BitVec.ofNat 32 p.val).sdiv 256#32 = (BitVec.ofNat 32 p.val).udiv 256#32 := by
    have h1 : (BitVec.ofNat 32 p.val).msb = false := by
      rw [BitVec.msb_eq_false_iff_two_mul_lt, WordCmp.toNat_ofNat_of_lt (by omega)]; omega
    have h2 : (256#32).msb = false := by decide
    unfold BitVec.sdiv
    rw [h1, h2]
  have hc : ¬ IntOp.SDivCorner (BitVec.ofNat 32 p.val) 256#32 := by
    rintro (h' | ⟨_, h'⟩)
    · exact absurd h' (by decide)
    · exact absurd h' (by decide)
  unfold IntOp.divsi
  rw [if_neg hc, e]
  apply BitVec.eq_of_toNat_eq
  rw [BitVec.udiv_eq, BitVec.toNat_udiv, WordCmp.toNat_ofNat_of_lt (a := p.val) (by omega)]
  show p.val / 256 = _
  exact (WordCmp.toNat_ofNat_of_lt (a := p.val / 256) (by omega)).symm

theorem ofBits_negInf : Ideal.ofBits .f32 0xFF800000#32 = ⊥ := by
  simp [Ideal.ofBits, Ideal.ieee]

theorem v10_at (p : Fin 4096) (n : Fin 16) :
    val_main_v10 (F := Ideal) (ix2 p n) = BitVec.ofBool (decide (n.val < p.val / 256)) := by
  pointwise [val_main_v10, val_main_v8, val_main_v9, val_main_v6, val_main_v7, val_main_v3, val_main_v2, val_main_v1, val_main_c, val_main_v0]
  rw [own_word, WordCmp.cmpi_slt_ofNat (by have := n.isLt; omega) (by have := p.isLt; omega)]

theorem v12_at (b : Fin 4) (p : Fin 4096) (H : Fin 8) (n : Fin 16) (q : Spec.SQ.Idx → ℝ) (km : Spec.SM.Idx → ℝ) :
    val_main_v12 (F := Ideal) (Spec.up q) (Spec.up km) (ix4 b p H n) = Spec.gate q km b p H n := by
  pointwise [val_main_v12, val_main_call0_v1, val_main_v11, val_main_v5, val_main_v4, val_main_call0_v2, val_main_call0_v0, val_main_cst, v10_at]
  unfold Spec.gate
  rw [← Spec.sum_up]
  refine if_congr Iff.rfl rfl ?_
  exact ofBits_negInf

theorem fold_ori {ι : Type} (s : Finset ι) (f : ι → BitVec 1) :
    Finset.fold IntOp.ori 0#1 f s = 1#1 ↔ ∃ t ∈ s, f t = 1#1 := by
  classical
  induction s using Finset.induction_on with
  | empty => simp
  | insert a s ha ih =>
    rw [Finset.fold_insert ha]
    have : ∀ x y : BitVec 1, IntOp.ori x y = 1#1 ↔ x = 1#1 ∨ y = 1#1 := by decide
    rw [this, ih]
    simp

theorem cmp_gt (x y : EReal) : (FloatOps.cmpfTotal (F := Ideal) (φ := .f32) .gt x y == 1#1) = true ↔ y < x := by
  rw [beq_iff_eq]
  show BitVec.ofBool (decide (y < x)) = 1#1 ↔ _
  rw [WordCmp.ofBool_decide_eq_one_iff]

/-- The places `topK` returns. -/
def place (x : S4x4096x8x16.Idx → EReal) (b : Fin 4) (p : Fin 4096) (H : Fin 8) (t : Fin 16) : Fin 16 :=
  sortedFrom (fun k k' => FloatOps.cmpfTotal (F := Ideal) (φ := .f32) .gt (x (ix4 b p H k)) (x (ix4 b p H k')) == 1#1) t

theorem along_ix4 (b : Fin 4) (p : Fin 4096) (H : Fin 8) (t k : Fin 16) :
    Shape.Idx.along (s := S4x4096x8x16) (ix4 b p H t) 3 k = ix4 b p H k := by
  funext a
  match a with
  | ⟨0, _⟩ => rfl
  | ⟨1, _⟩ => rfl
  | ⟨2, _⟩ => rfl
  | ⟨3, _⟩ => rfl

theorem topK_at (x : S4x4096x8x16.Idx → EReal) (b : Fin 4) (p : Fin 4096) (H : Fin 8) (t : Fin 3) :
    (Host.topK S4x4096x8x3 3 (FloatOps.cmpfTotal (F := Ideal) (φ := .f32) .gt) x sliceFits_S4x4096x8x16_S4x4096x8x3).2 (ix4 b p H t)
      = BitVec.ofNat 32 (place x b p H ⟨t.val, by omega⟩).val := by
  show (extractStridedSlice S4x4096x8x3 (fun _ => 0) (fun j : S4x4096x8x16.Idx => BitVec.ofNat 32 ((Shape.Idx.along (s := S4x4096x8x16) j 3
    (sortedFrom (fun k k' => FloatOps.cmpfTotal (F := Ideal) (φ := .f32) .gt (x (Shape.Idx.along (s := S4x4096x8x16) j 3 k))
      (x (Shape.Idx.along (s := S4x4096x8x16) j 3 k')) == 1#1) (j 3))) 3).val) sliceFits_S4x4096x8x16_S4x4096x8x3) (ix4 b p H t) = _
  pointwise [along_ix4]
  rfl

theorem v18_at (b : Fin 4) (p : Fin 4096) (H : Fin 8) (n : Fin 16) (q : Spec.SQ.Idx → ℝ) (km : Spec.SM.Idx → ℝ) :
    val_main_v18 (F := Ideal) (Spec.up q) (Spec.up km) (ix4 b p H n) = 1#1 ↔ Pick.rank (Spec.gate q km b p H) n < 3 := by
  pointwise [val_main_v18, val_main_v17, val_main_v15, val_main_v16, val_main_v13, val_main_v14, val_main_v3, val_main_c_0, val_main_indices, topK_at]
  have hpl : place (val_main_v12 (F := Ideal) (Spec.up q) (Spec.up km)) b p H
      = sortedFrom (fun k k' => FloatOps.cmpfTotal (F := Ideal) (φ := .f32) .gt (Spec.gate q km b p H k) (Spec.gate q km b p H k') == 1#1) := by
    funext t
    unfold place
    simp only [v12_at]
  have hr : ∀ t, Pick.rank (Spec.gate q km b p H) (place (val_main_v12 (F := Ideal) (Spec.up q) (Spec.up km)) b p H t) = t := by
    intro t
    rw [hpl]
    exact Pick.rank_sorted _ t fun a b => cmp_gt _ _
  rw [fold_ori]
  constructor
  · rintro ⟨t, _, ht⟩
    rw [WordCmp.cmpi_eq_ofNat_eq_one_iff (by omega) (by omega)] at ht
    have hn : place (val_main_v12 (F := Ideal) (Spec.up q) (Spec.up km)) b p H ⟨t.val, by omega⟩ = n := Fin.ext ht
    rw [← hn, hr]
    exact t.isLt
  · intro h
    have hn : place (val_main_v12 (F := Ideal) (Spec.up q) (Spec.up km)) b p H ⟨Pick.rank (Spec.gate q km b p H) n, by omega⟩ = n :=
      Pick.rank_injective _ (hr _)
    refine ⟨⟨_, h⟩, Finset.mem_univ _, ?_⟩
    rw [WordCmp.cmpi_eq_ofNat_eq_one_iff (by omega) (by omega), hn]

end Cert.ReferenceIdeal.Read

end
-- ==== Proof.RefValue.lean ====
/-
  The reference's result read at an index: a softmax over the attended keys, then the weighted sum of the values.
-/
module

public import proofs.«01_k».proof.Proof.RefSel
public import proofs.«01_k».proof.Proof.Gen.Pre_finite

@[expose] public section

set_option maxRecDepth 16384

noncomputable section

namespace Cert.ReferenceIdeal.Read

open Cert.ReferenceIdeal Cert.ReferenceIdeal.Gen Idealize.ShloMosaic Idealize.ShloMosaic.TcCoe Idealize.SL.Sem

theorem ofBits_eighth : Ideal.ofBits .f32 0x3E000000#32 = ((8⁻¹ : ℝ) : EReal) := by
  simp [Ideal.ofBits, Ideal.ieee]
  rw [← EReal.coe_mul]
  norm_num

theorem v39_at (b : Fin 4) (p : Fin 4096) (H : Fin 8) (k : Fin 4096) (q : Spec.SQ.Idx → ℝ) (km : Spec.SM.Idx → ℝ) :
    val_main_v39 (F := Ideal) (Spec.up q) (Spec.up km) (ix4 b p H k) = 1#1 ↔ Spec.Att q km b p H k := by
  pointwise [val_main_v39, val_main_v36, val_main_v35, val_main_v29, val_main_v26, val_main_v28, val_main_v27, val_main_v23, val_main_v25, val_main_v24, v10_at, val_main_v21, val_main_v22, val_main_v19, val_main_v20, val_main_v2, val_main_v1, val_main_v0, val_main_c, val_main_v3, val_main_v38, val_main_v37, val_main_v34, val_main_v32, val_main_v33, val_main_v30, val_main_v31]
  have hand : ∀ x y : BitVec 1, IntOp.andi x y = 1#1 ↔ x = 1#1 ∧ y = 1#1 := by decide
  have hor : ∀ x y : BitVec 1, IntOp.ori x y = 1#1 ↔ x = 1#1 ∨ y = 1#1 := by decide
  rw [hand, hor, hand, v18_at, own_word, WordCmp.cmpi_sle_ofNat_eq_one_iff (by omega) (by omega),
    WordCmp.cmpi_eq_ofNat_eq_one_iff (by omega) (by omega), WordCmp.ofBool_decide_eq_one_iff]
  unfold Spec.Att Spec.Sel
  rw [and_comm (a := Pick.rank _ _ < 3)]

theorem v43_at (b : Fin 4) (p : Fin 4096) (H : Fin 8) (k : Fin 4096) (q kk : Spec.SQ.Idx → ℝ) :
    val_main_v43 (F := Ideal) (Spec.up q) (Spec.up kk) (ix4 b p H k) = ((Spec.qk q kk b p H k * 8⁻¹ : ℝ) : EReal) := by
  pointwise [val_main_v43, val_main_v41, val_main_v42, val_main_cst_1, val_main_v40]
  rw [ofBits_eighth, EReal.coe_mul]
  unfold Spec.qk
  rw [← Spec.sum_up]
  rfl

theorem v44_at (b : Fin 4) (p : Fin 4096) (H : Fin 8) (k : Fin 4096) (q kk : Spec.SQ.Idx → ℝ) (km : Spec.SM.Idx → ℝ) :
    val_main_v44 (F := Ideal) (Spec.up q) (Spec.up kk) (Spec.up km) (ix4 b p H k)
      = Soft.score (Spec.Att q km b p H) (Spec.qk q kk b p H) 8⁻¹ k := by
  pointwise [val_main_v44, val_main_call1_v1, val_main_call1_v0, val_main_cst_2, v43_at]
  by_cases h : Spec.Att q km b p H k
  · rw [(v39_at b p H k q km).2 h, Soft.score_pos _ _ h]
    rfl
  · rw [Soft.score_neg _ _ h]
    unfold Scalar.select
    refine (if_neg (fun e => h ((v39_at b p H k q km).1 e))).trans ?_
    exact ofBits_negInf

theorem v45_max (b : Fin 4) (p : Fin 4096) (H : Fin 8) (w : (⟨S4x4096x8x4096, .f32⟩ : BufTy).Contents (Elt Ideal)) :
    Soft.IsMax (fun k => w (ix4 b p H k)) (Host.reduce (FloatOps.maximumf (F := Ideal) (φ := .f32)) w (val_main_cst_3 (F := Ideal)) reducesTo_S4x4096x8x4096_S4x4096x8_d3 h_S_ (ix3 b p H)) := by
  pointwise [val_main_cst_3]
  rw [ofBits_negInf]
  exact Soft.fold_max _

theorem v47_max (b : Fin 4) (p : Fin 4096) (H : Fin 8) (x0 x1 : (⟨S4x4096x8x64, .f32⟩ : BufTy).Contents (Elt Ideal)) (x3 : (⟨S4x16x8x64, .f32⟩ : BufTy).Contents (Elt Ideal)) :
    Soft.IsMax (fun k => val_main_v44 (F := Ideal) x0 x1 x3 (ix4 b p H k)) (val_main_v47 (F := Ideal) x0 x1 x3 (ix3 b p H)) := by
  have e : val_main_v46 (F := Ideal) (ix3 b p H) = (⊥ : EReal) := by
    pointwise [val_main_v46, val_main_cst_4]
    exact ofBits_negInf
  rw [val_main_v47_apply, e]
  unfold val_main_v45
  have h := v45_max b p H (val_main_v44 (F := Ideal) x0 x1 x3)
  rw [← max_eq_right (a := (⊥ : EReal)) (b := Host.reduce _ _ _ _ _ _) bot_le] at h
  exact h

theorem v47_at (b : Fin 4) (p : Fin 4096) (H : Fin 8) (q kk : Spec.SQ.Idx → ℝ) (km : Spec.SM.Idx → ℝ) :
    Soft.IsMax (Soft.score (Spec.Att q km b p H) (Spec.qk q kk b p H) 8⁻¹)
      (val_main_v47 (F := Ideal) (Spec.up q) (Spec.up kk) (Spec.up km) (ix3 b p H)) := by
  have h := v47_max b p H (Spec.up q) (Spec.up kk) (Spec.up km)
  rw [funext fun k => v44_at b p H k q kk km] at h
  exact h

theorem v49_ix (b : Fin 4) (p : Fin 4096) (H : Fin 8) (k : Fin 4096) : idx_main_v48 (idx_main_v49 (ix4 b p H k)) = ix3 b p H := by
  idx_ext

theorem v51_at (b : Fin 4) (p : Fin 4096) (H : Fin 8) (k : Fin 4096) (x0 x1 : (⟨S4x4096x8x64, .f32⟩ : BufTy).Contents (Elt Ideal)) (x3 : (⟨S4x16x8x64, .f32⟩ : BufTy).Contents (Elt Ideal)) :
    val_main_v51 (F := Ideal) x0 x1 x3 (ix4 b p H k)
      = Ideal.exp (val_main_v44 (F := Ideal) x0 x1 x3 (ix4 b p H k) - val_main_v47 (F := Ideal) x0 x1 x3 (ix3 b p H)) := by
  rw [val_main_v51_apply, val_main_v50_apply, val_main_v49_apply, val_main_v48_apply, v49_ix]
  rfl

theorem v52_at (b : Fin 4) (p : Fin 4096) (H : Fin 8) (x0 x1 : (⟨S4x4096x8x64, .f32⟩ : BufTy).Contents (Elt Ideal)) (x3 : (⟨S4x16x8x64, .f32⟩ : BufTy).Contents (Elt Ideal)) :
    val_main_v52 (F := Ideal) x0 x1 x3 (ix3 b p H) = ∑ k : Fin 4096, val_main_v51 (F := Ideal) x0 x1 x3 (ix4 b p H k) := by
  pointwise [val_main_v52, val_main_cst_5]

theorem v55_at (b : Fin 4) (p : Fin 4096) (H : Fin 8) (k : Fin 4096) (x0 x1 : (⟨S4x4096x8x64, .f32⟩ : BufTy).Contents (Elt Ideal)) (x3 : (⟨S4x16x8x64, .f32⟩ : BufTy).Contents (Elt Ideal)) :
    val_main_v55 (F := Ideal) x0 x1 x3 (ix4 b p H k)
      = Ideal.div (val_main_v51 (F := Ideal) x0 x1 x3 (ix4 b p H k)) (∑ k' : Fin 4096, val_main_v51 (F := Ideal) x0 x1 x3 (ix4 b p H k')) := by
  pointwise [val_main_v55, val_main_v54, val_main_v53, v52_at]

theorem v57_at (b : Fin 4) (p : Fin 4096) (H : Fin 8) (d : Fin 64) (x0 x1 x2 : (⟨S4x4096x8x64, .f32⟩ : BufTy).Contents (Elt Ideal)) (x3 : (⟨S4x16x8x64, .f32⟩ : BufTy).Contents (Elt Ideal)) :
    val_main_v57 (F := Ideal) x0 x1 x2 x3 (ix4 b p H d)
      = ∑ k : Fin 4096, x2 (ix4 b k H d) * val_main_v55 (F := Ideal) x0 x1 x3 (ix4 b p H k) := by
  pointwise [val_main_v57, val_main_v56]

theorem v59_at (b : Fin 4) (p : Fin 4096) (c : Fin 512) (x0 x1 x2 : (⟨S4x4096x8x64, .f32⟩ : BufTy).Contents (Elt Ideal)) (x3 : (⟨S4x16x8x64, .f32⟩ : BufTy).Contents (Elt Ideal)) :
    val_main_v59 (F := Ideal) x0 x1 x2 x3 (ix3 b p c)
      = val_main_v57 (F := Ideal) x0 x1 x2 x3 (ix4 b p ⟨c.val / 64, by omega⟩ ⟨c.val % 64, by omega⟩) := by
  pointwise [val_main_v59, val_main_v58]

/-- THE REFERENCE'S RESULT at batch `b`, position `p`, column `c`. -/
theorem result_at (b : Fin 4) (p : Fin 4096) (c : Fin 512) (q kk : Spec.SQ.Idx → ℝ) (v : Spec.SQ.Idx → EReal) (km : Spec.SM.Idx → ℝ) :
    ∃ M : EReal, Soft.IsMax (Soft.score (Spec.Att q km b p ⟨c.val / 64, by omega⟩) (Spec.qk q kk b p ⟨c.val / 64, by omega⟩) 8⁻¹) M
      ∧ val_main_v59 (F := Ideal) (Spec.up q) (Spec.up kk) v (Spec.up km) (ix3 b p c)
        = ∑ k : Fin 4096, v (ix4 b k ⟨c.val / 64, by omega⟩ ⟨c.val % 64, by omega⟩)
          * Ideal.div (Ideal.exp (Soft.score (Spec.Att q km b p ⟨c.val / 64, by omega⟩) (Spec.qk q kk b p ⟨c.val / 64, by omega⟩) 8⁻¹ k - M))
            (∑ k' : Fin 4096, Ideal.exp (Soft.score (Spec.Att q km b p ⟨c.val / 64, by omega⟩) (Spec.qk q kk b p ⟨c.val / 64, by omega⟩) 8⁻¹ k' - M)) := by
  refine ⟨_, v47_at b p ⟨c.val / 64, by omega⟩ q kk km, ?_⟩
  rw [v59_at, v57_at]
  refine Finset.sum_congr rfl fun k _ => congrArg (v _ * ·) ?_
  rw [v55_at]
  simp only [v51_at, v44_at]

end Cert.ReferenceIdeal.Read

end
-- ==== Proof.Algebraic.lean ====
/-
  The value claim: the attention's result is the reference's, on finite queries, keys and mean keys.
-/
module

public import proofs.«01_k».proof.Defs
public import proofs.«01_k».proof.Proof.Value
public import proofs.«01_k».proof.Proof.RefValue
public import proofs.«01_k».proof.Proof.Gen.ReferenceIdeal.Run
public import proofs.«01_k».proof.Proof.Gen.Pre_finite
public import Idealize.ShloMosaic.Lib.ReduceAll

@[expose] public section

set_option maxRecDepth 16384

noncomputable section

namespace Cert.Pre_finite

open Idealize.ShloMosaic Idealize.ShloMosaic.Tactic

theorem and_one (a b : BitVec 1) (h : a &&& b = 1#1) : a = 1#1 ∧ b = 1#1 := by
  revert h; revert a b; decide

/-- A number whose absolute value is below infinity is real. -/
theorem real_of_lt (x : EReal) (h : Ideal.cmp .olt (max x (-x)) (Ideal.ofBits .f32 0x7F800000#32) = 1#1) : ((x.toReal : ℝ) : EReal) = x := by
  have e : Ideal.ofBits .f32 0x7F800000#32 = ⊤ := by simp [Ideal.ofBits, Ideal.ieee]
  rw [e] at h
  have h' : max x (-x) < ⊤ := by
    by_contra hc
    simp [Ideal.cmp, hc] at h
  rw [max_lt_iff] at h'
  refine EReal.coe_toReal h'.1.ne fun hb => ?_
  rw [hb] at h'
  exact absurd h'.2 (by simp)

instance : Subsingleton S_.Idx := ⟨fun a b => funext fun i => i.elim0⟩

/-- The precondition says every query, key and mean key is a real number. -/
theorem real_of_fn (x0 x1 x2 : FVec Ideal S4x4096x8x64 .f32) (x3 : FVec Ideal S4x16x8x64 .f32)
    (h : fn (F := Ideal) x0 x1 x2 x3 = fun _ => 1#1) :
    (∀ i, (((x0 i : EReal).toReal : ℝ) : EReal) = x0 i) ∧ (∀ i, (((x1 i : EReal).toReal : ℝ) : EReal) = x1 i) ∧ (∀ i, (((x3 i : EReal).toReal : ℝ) : EReal) = x3 i) := by
  have h0 := congrFun h (fun i => i.elim0)
  unfold fn at h0
  obtain ⟨h1, h2⟩ := and_one _ _ h0
  obtain ⟨h3, h4⟩ := and_one _ _ h1
  exact ⟨fun i => real_of_lt _ (Host.reduce_andi_all _ _ _ _ _ h3 i), fun i => real_of_lt _ (Host.reduce_andi_all _ _ _ _ _ h4 i),
    fun i => real_of_lt _ (Host.reduce_andi_all _ _ _ _ _ h2 i)⟩

end Cert.Pre_finite

namespace Cert.Proof

open Idealize.ShloMosaic Idealize.ShloMosaic.TcCoe Idealize.ShloMosaic.Tactic Idealize.SL.Sem

/-- A head and its coordinate from the column. -/
theorem col_split (t : Fin KernelIdeal.cfg0.N) (h : Fin 2) (d : Fin 64) (cc : Fin 512)
    (e : cc.val = ((KernelIdeal.grid0.coords t) 1).val * 128 + (KernelIdeal.Body.hrow h d).val) :
    (⟨cc.val / 64, by omega⟩ : Fin 8) = KernelIdeal.Body.head t h ∧ (⟨cc.val % 64, by omega⟩ : Fin 64) = d := by
  have := KernelIdeal.Body.col_head t h d
  exact ⟨Fin.ext (by rw [← this.1, ← e]), Fin.ext (by rw [← this.2, ← e])⟩

/-- The reference's value at a head and a coordinate. -/
theorem ref_at (b : Fin 4) (p : Fin 4096) (cc : Fin 512) (H : Fin 8) (d : Fin 64) (e : (⟨cc.val / 64, by omega⟩ : Fin 8) = H ∧ (⟨cc.val % 64, by omega⟩ : Fin 64) = d)
    (q kk : Spec.SQ.Idx → ℝ) (v : Spec.SQ.Idx → EReal) (km : Spec.SM.Idx → ℝ) :
    ∃ M, Soft.IsMax (Soft.score (Spec.Att q km b p H) (Spec.qk q kk b p H) 8⁻¹) M ∧
      ReferenceIdeal.Read.val_main_v59 (F := Ideal) (Spec.up q) (Spec.up kk) v (Spec.up km) (ix3 b p cc)
        = ∑ k, v (ix4 b k H d) * Ideal.div (Ideal.exp (Soft.score (Spec.Att q km b p H) (Spec.qk q kk b p H) 8⁻¹ k - M))
          (∑ k', Ideal.exp (Soft.score (Spec.Att q km b p H) (Spec.qk q kk b p H) 8⁻¹ k' - M)) := by
  obtain ⟨rfl, rfl⟩ := e
  exact ReferenceIdeal.Read.result_at b p cc q kk v km

variable (m : (ℓ : Loc KernelIdeal.nD KernelIdeal.τ KernelIdeal.sig) → Buf (Elt Ideal) ℓ)

/-- What a point leaves is the reference's value of the arguments. -/
theorem point_value (c : Dev KernelIdeal.nD) (q kk : Spec.SQ.Idx → ℝ) (v : Spec.SQ.Idx → EReal) (km : Spec.SM.Idx → ℝ)
    (hq : m ((c : Thread KernelIdeal.nD KernelIdeal.τ).loc KernelIdeal.main_arg0) = Spec.up q)
    (hk : m ((c : Thread KernelIdeal.nD KernelIdeal.τ).loc KernelIdeal.main_arg1) = Spec.up kk)
    (hv : m ((c : Thread KernelIdeal.nD KernelIdeal.τ).loc KernelIdeal.main_arg2) = v)
    (hm : m ((c : Thread KernelIdeal.nD KernelIdeal.τ).loc KernelIdeal.main_arg3) = Spec.up km)
    (t : Fin KernelIdeal.cfg0.N) (l : Fin 512) (k : Fin 128) :
    KernelIdeal.Body.outP (F := Ideal) (KernelIdeal.grid0.coords t) (KernelIdeal.Gen.iblk m c 0 t) (KernelIdeal.Gen.iblk m c 1 t) (KernelIdeal.Gen.iblk m c 2 t) (KernelIdeal.Gen.iblk m c 3 t) (ix3 0 l k)
      = ReferenceIdeal.Read.val_main_v59 (F := Ideal) (Spec.up q) (Spec.up kk) v (Spec.up km)
        (ix3 (KernelIdeal.Body.bat t) (KernelIdeal.Body.pos (KernelIdeal.grid0.coords t) l) ⟨((KernelIdeal.grid0.coords t) 1).val * 128 + k.val, KernelIdeal.Body.col_lt t k⟩) := by
  have hs := KernelIdeal.Body.hrow_split k
  generalize (⟨k.val / 64, by omega⟩ : Fin 2) = h at hs
  generalize (⟨k.val % 64, by omega⟩ : Fin 64) = d at hs
  subst hs
  obtain ⟨M, hM, e⟩ := KernelIdeal.Body.out_value m c t h l d q kk km (fun y => congrFun hq y) (fun y => congrFun hk y) (fun y => congrFun hm y)
    (fun k => v (ix4 (KernelIdeal.Body.bat t) k (KernelIdeal.Body.head t h) d)) (fun k => congrFun hv _)
  obtain ⟨M', hM', e'⟩ := ref_at (KernelIdeal.Body.bat t) (KernelIdeal.Body.pos (KernelIdeal.grid0.coords t) l) _ _ _ (col_split t h d ⟨_, KernelIdeal.Body.col_lt t (KernelIdeal.Body.hrow h d)⟩ rfl) q kk v km
  exact e.trans ((Soft.softmax _ _ _ (Spec.att_self q km _ _ _) hM hM').trans e'.symm)

theorem algebraic : algebraic_KernelIdeal_ReferenceIdeal_pre_finite := by
  intro m g m' g' hpre hargs
  refine ⟨fun c => ReferenceIdeal.Read.val_main_v59 (F := Ideal) (m ((c : Thread KernelIdeal.nD KernelIdeal.τ).loc KernelIdeal.main_arg0)) (m ((c : Thread KernelIdeal.nD KernelIdeal.τ).loc KernelIdeal.main_arg1)) (m ((c : Thread KernelIdeal.nD KernelIdeal.τ).loc KernelIdeal.main_arg2)) (m ((c : Thread KernelIdeal.nD KernelIdeal.τ).loc KernelIdeal.main_arg3)), ?_, ?_⟩
  · refine KernelIdeal.Body.run_value m g _ fun c t l k => ?_
    obtain ⟨h0, h1, h3⟩ := Pre_finite.real_of_fn _ _ _ _ (hpre c)
    have e0 : m ((c : Thread KernelIdeal.nD KernelIdeal.τ).loc KernelIdeal.main_arg0) = Spec.up (fun i => (m ((c : Thread KernelIdeal.nD KernelIdeal.τ).loc KernelIdeal.main_arg0) i : EReal).toReal) := funext fun i => (h0 i).symm
    have e1 : m ((c : Thread KernelIdeal.nD KernelIdeal.τ).loc KernelIdeal.main_arg1) = Spec.up (fun i => (m ((c : Thread KernelIdeal.nD KernelIdeal.τ).loc KernelIdeal.main_arg1) i : EReal).toReal) := funext fun i => (h1 i).symm
    have e3 : m ((c : Thread KernelIdeal.nD KernelIdeal.τ).loc KernelIdeal.main_arg3) = Spec.up (fun i => (m ((c : Thread KernelIdeal.nD KernelIdeal.τ).loc KernelIdeal.main_arg3) i : EReal).toReal) := funext fun i => (h3 i).symm
    have hp := point_value m c _ _ _ _ e0 e1 rfl e3 t l k
    rw [← e0, ← e1, ← e3] at hp
    exact hp
  · refine (θ_run ReferenceIdeal.defs _ _).mono (fun r h c => ⟨(h c).1.trans ?_, (h c).2⟩) (ReferenceIdeal.Value.run m' g')
    obtain ⟨a0, a1, a2, a3⟩ := hargs c
    rw [ReferenceIdeal.Read.val_main_v59_eq, a0, a1, a2, a3]

end Cert.Proof

end
-- ==== Proof.Rows.lean ====
/-
  The mathematics of a row in the feed-forward and the merge: the root-mean-square norm, a column of a product, a gated
  pair of columns.
-/
module

public import proofs.«01_k».proof.Defs
public import Idealize.ShloMosaic.Lib.Pointwise

@[expose] public section

noncomputable section

namespace Cert.Rows

open Idealize.ShloMosaic

/-- An index of a matrix. -/
abbrev Mat (a b : Nat) := (⟨2, ![a, b]⟩ : Shape).Idx → EReal

/-- The root mean square norm of a row with its gain. -/
def norm (x g : Fin 1024 → EReal) (k : Fin 1024) : EReal :=
  x k * Ideal.rsqrt (Ideal.div (∑ k, x k * x k) (Ideal.ofBits .f32 0x44800000#32) + Ideal.ofBits .f32 0x358637BD#32) * g k

/-- A row against a column. -/
def dot {n : Nat} (h w : Fin n → EReal) : EReal := ∑ k, h k * w k

/-- The first product through its sigmoid, times the second product. -/
def glu (h w1 w3 : Fin 1024 → EReal) : EReal := dot h w1 * Ideal.logistic (dot h w1) * dot h w3

/-- A sum over the hidden columns is the sum of its two halves. -/
theorem halves (f : Fin 2816 → EReal) (g g' : Fin 1408 → EReal) (hg : ∀ k : Fin 1408, g k = f ⟨k.val, by omega⟩)
    (hg' : ∀ k : Fin 1408, g' k = f ⟨1408 + k.val, by omega⟩) : ∑ k, f k = ∑ k, g k + ∑ k, g' k := by
  rw [Fin.sum_univ_add (a := 1408) (b := 1408) f]
  exact congrArg₂ _ (Finset.sum_congr rfl fun k _ => (hg k).symm) (Finset.sum_congr rfl fun k _ => (hg' k).symm)

end Cert.Rows

end
-- ==== Proof.Ffn.lean ====
/-
  The feed-forward call: what its case terms are, read at an index.
-/
module

public import proofs.«01_k».proof.Defs
public import proofs.«01_k».proof.Proof.Rows
public import proofs.«01_k».proof.Proof.Gen.Kernel2.Value
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

namespace Cert.Kernel2Ideal.Body

open Cert Cert.Kernel2Ideal Cert.Kernel2Ideal.Gen
open Idealize.ShloMosaic Idealize.ShloMosaic.TcCoe Idealize.ShloMosaic.Tactic Idealize.SL.Sem

theorem hz : (![0, 0] : Fin 2 → Nat) = fun _ => 0 := funext fun a => by fin_cases a <;> rfl

section
variable {F : FTy → Type} [FloatOps F]

theorem outB (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1408x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1024 .f32) (harg9 : arg9.IsWhole) (hc0 : ¬cond0_0 i) (hc1 : cond0_1 i)
    (x0 : Vec F S512x1024 .f32) (x1 : Vec F S1x1024 .f32) (x2 : Vec F S1024x1408 .bf16) (x3 : Vec F S1024x1408 .bf16) (x4 : Vec F S1408x1024 .bf16) (xs0 : Vec F S512x1024 .bf16) (xs1 : Vec F S512x1024 .f32) :
    out0_B_5 c i arg2 harg2 arg3 harg3 arg4 harg4 arg5 harg5 arg6 harg6 arg7 harg7 arg8 harg8 arg9 harg9 hc0 hc1 x0 x1 x2 x3 x4 xs0 xs1 = k0_pay3 xs0 x2 x3 xs1 x4 := by
  unfold out0_B_5
  rw [View.read_writes_junk_eq_canon]
  unfold kernelRun0_B
  dsimp only
  sl_unfold_words
  rw [View.canon_unit_zero hz, View.readCov_unit_zero (S := S512x1024) _ hz]
  simp only [View.readAt_eq_ld, harg4.read_unread, harg5.read_unread, harg6.read_unread, harg8.read_unread, harg9.read_unread, View.ld_unit_zero (S := S512x1024) hz, View.ld_unit_zero (S := S1024x1408) hz, View.ld_unit_zero (S := S1408x1024) hz]

theorem normA (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1408x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1024 .f32) (harg9 : arg9.IsWhole) (hc0 : cond0_0 i) (hc1 : ¬cond0_1 i)
    (x0 : Vec F S512x1024 .f32) (x1 : Vec F S1x1024 .f32) (x2 : Vec F S1024x1408 .bf16) (x3 : Vec F S1024x1408 .bf16) (x4 : Vec F S1408x1024 .bf16) :
    sout0_A_0 c i arg2 harg2 arg3 harg3 arg4 harg4 arg5 harg5 arg6 harg6 arg7 harg7 arg8 harg8 arg9 harg9 hc0 hc1 x0 x1 x2 x3 x4 = k0_pay1 x0 x1 := by
  unfold sout0_A_0
  rw [View.read_writes_junk_eq_canon]
  unfold kernelRun0_A
  dsimp only
  sl_unfold_words
  rw [View.canon_unit_zero hz]
  simp only [View.readAt_eq_ld, harg2.read_unread, harg3.read_unread, View.ld_unit_zero (S := S512x1024) hz, View.ld_unit_zero (S := S1x1024) hz]

theorem accA (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1408x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1024 .f32) (harg9 : arg9.IsWhole) (hc0 : cond0_0 i) (hc1 : ¬cond0_1 i)
    (x0 : Vec F S512x1024 .f32) (x1 : Vec F S1x1024 .f32) (x2 : Vec F S1024x1408 .bf16) (x3 : Vec F S1024x1408 .bf16) (x4 : Vec F S1408x1024 .bf16) :
    sout0_A_1 c i arg2 harg2 arg3 harg3 arg4 harg4 arg5 harg5 arg6 harg6 arg7 harg7 arg8 harg8 arg9 harg9 hc0 hc1 x0 x1 x2 x3 x4 = k0_pay3 (k0_pay1 x0 x1) x2 x3 (k0_pay2 x0) x4 := by
  unfold sout0_A_1
  rw [View.read_writes_junk_eq_canon]
  unfold kernelRun0_A
  dsimp only
  sl_unfold_words
  rw [View.canon_cons_unit_zero (S := S512x1024) hz, View.readCov_unit_zero (S := S512x1024) _ hz, View.readCov_unit_zero (S := S512x1024) _ hz]
  simp only [View.readAt_eq_ld, harg2.read_unread, harg3.read_unread, harg4.read_unread, harg5.read_unread, harg6.read_unread, View.ld_unit_zero (S := S512x1024) hz, View.ld_unit_zero (S := S1x1024) hz, View.ld_unit_zero (S := S1024x1408) hz, View.ld_unit_zero (S := S1408x1024) hz]

end

theorem pay1_at (x : FVec Ideal S512x1024 .f32) (g : FVec Ideal S1x1024 .f32) (l : Fin 512) (k : Fin 1024) :
    k0_pay1 (F := Ideal) x g (ix2 l k) = Rows.norm (fun k => x (ix2 l k)) (fun k => g (ix2 0 k)) k := by
  pointwise [k0_pay1, Rows.norm]

theorem pay2_at (x : FVec Ideal S512x1024 .f32) : k0_pay2 (F := Ideal) x = x := by
  unfold k0_pay2
  simp only [shapeCast_self]

theorem pay3_at (h : FVec Ideal S512x1024 .bf16) (w1 w3 : FVec Ideal S1024x1408 .bf16) (a : FVec Ideal S512x1024 .f32) (w2 : FVec Ideal S1408x1024 .bf16) (l : Fin 512) (j : Fin 1024) :
    (k0_pay3 (F := Ideal) h w1 w3 a w2 (ix2 l j) : EReal) = a (ix2 l j) + ∑ r : Fin 1408, Rows.glu (fun k => h (ix2 l k)) (fun k => w1 (ix2 k r)) (fun k => w3 (ix2 k r)) * w2 (ix2 r j) := by
  pointwise [k0_pay3, Rows.glu, Rows.dot]

end Cert.Kernel2Ideal.Body

namespace Cert.Reference2Ideal.Read

open Cert Idealize.ShloMosaic Idealize.ShloMosaic.Tactic

theorem norm_at (x : FVec Ideal S16384x1024 .f32) (g : FVec Ideal S1x1024 .f32) (p : Fin 16384) (k : Fin 1024) :
    val_main_v16 (F := Ideal) x g (ix2 p k) = Rows.norm (fun k => x (ix2 p k)) (fun k => g (ix2 0 k)) k := by
  unfold Rows.norm
  pointwise [val_main_v16, val_main_v15, val_main_v14, val_main_v3, val_main_v13, val_main_v12, val_main_v11, val_main_v10, val_main_v9, val_main_cst_1, val_main_v8, val_main_v7, val_main_cst_0, val_main_v6, val_main_v5, val_main_v4, val_main_cst]

theorem glu_at (x : FVec Ideal S16384x1024 .f32) (g : FVec Ideal S1x1024 .f32) (w1 w3 : FVec Ideal S1024x2816 .bf16) (p : Fin 16384) (r : Fin 2816) :
    val_main_v20 (F := Ideal) x g w1 w3 (ix2 p r) = Rows.glu (Rows.norm (fun k => x (ix2 p k)) (fun k => g (ix2 0 k))) (fun k => w1 (ix2 k r)) (fun k => w3 (ix2 k r)) := by
  unfold Rows.glu Rows.dot
  pointwise [val_main_v20, val_main_v19, val_main_v18, val_main_v17, val_main_v1, val_main_v0, val_main_call0_v5, val_main_call0_v4, val_main_call0_cst_0, val_main_call0_v3, val_main_call0_v2, val_main_call0_cst, val_main_call0_v1, val_main_call0_v0, norm_at]
  rfl

theorem ffn_at (x : FVec Ideal S16384x1024 .f32) (g : FVec Ideal S1x1024 .f32) (w1 w3 : FVec Ideal S1024x2816 .bf16) (w2 : FVec Ideal S2816x1024 .bf16) (p : Fin 16384) (j : Fin 1024) :
    (val_main_v22 (F := Ideal) x g w1 w3 w2 (ix2 p j) : EReal) = x (ix2 p j) + ∑ r : Fin 2816, Rows.glu (Rows.norm (fun k => x (ix2 p k)) (fun k => g (ix2 0 k))) (fun k => w1 (ix2 k r)) (fun k => w3 (ix2 k r)) * w2 (ix2 r j) := by
  pointwise [val_main_v22, val_main_v21, val_main_v2, glu_at]

end Cert.Reference2Ideal.Read

end
-- ==== Proof.FfnValue.lean ====
/-
  The feed-forward call: its runs, and its result array as the reference's value.
-/
module

public import proofs.«01_k».proof.Proof.Ffn

@[expose] public section

set_option maxRecDepth 16384

noncomputable section

namespace Cert.Kernel2Ideal.Body

open Cert Cert.Kernel2Ideal Cert.Kernel2Ideal.Gen
open Idealize.ShloMosaic Idealize.ShloMosaic.TcCoe Idealize.ShloMosaic.Tactic Idealize.SL.Sem

variable (m : (ℓ : Loc nD τ sig) → Buf (Elt Ideal) ℓ)

theorem idx0 : ∀ t : Fin cfg0.N, win0_0.index t 0 = t.val / 2 ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = 0 ∧ win0_2.index t 1 = t.val % 2 := by decide +kernel
theorem idx3 : ∀ t : Fin cfg0.N, win0_3.index t 0 = 0 ∧ win0_3.index t 1 = t.val % 2 := by decide +kernel
theorem idx4 : ∀ t : Fin cfg0.N, win0_4.index t 0 = t.val % 2 ∧ win0_4.index t 1 = 0 := by decide +kernel

theorem lt64 (t : Fin cfg0.N) : t.val < 64 := lt_of_lt_of_eq t.isLt (show cfg0.N = 64 from N_0)

/-- A row of a point's tile, as a row of the whole, -/
def row (t : Fin cfg0.N) (l : Fin 512) : Fin 16384 := ⟨t.val / 2 * 512 + l.val, by have := lt64 t; omega⟩
/-- and a hidden column of a point's half. -/
def hid (t : Fin cfg0.N) (r : Fin 1408) : Fin 2816 := ⟨t.val % 2 * 1408 + r.val, by omega⟩

theorem blk_x (c : Dev nD) (t : Fin cfg0.N) (l : Fin 512) (k : Fin 1024) :
    (iblk m c 0 t (ix2 l k) : EReal) = m ((c : Thread nD τ).loc main_arg0) (ix2 (row t l) k) := by
  show V m c main_arg0 (((cfg0.win 0).blk t).view.emb (ix2 l k)) = _
  obtain ⟨e0, e1⟩ := idx0 t
  refine congrArg (m ((c : Thread nD τ).loc main_arg0)) (funext fun a => Fin.ext ?_)
  match a with
  | ⟨0, _⟩ => show win0_0.index t 0 * 512 + 1 * l.val = t.val / 2 * 512 + l.val; rw [e0]; omega
  | ⟨1, _⟩ => show win0_0.index t 1 * 1024 + 1 * k.val = k.val; rw [e1]; omega

theorem blk_g (c : Dev nD) (t : Fin cfg0.N) (k : Fin 1024) :
    (iblk m c 1 t (ix2 0 k) : EReal) = m ((c : Thread nD τ).loc main_arg1) (ix2 0 k) := by
  show V m c main_arg1 (((cfg0.win 1).blk t).view.emb (ix2 0 k)) = _
  obtain ⟨e0, e1⟩ := idx1 t
  refine congrArg (m ((c : Thread nD τ).loc main_arg1)) (funext fun a => Fin.ext ?_)
  match a with
  | ⟨0, _⟩ => show win0_1.index t 0 * 1 + 1 * 0 = 0; rw [e0]
  | ⟨1, _⟩ => show win0_1.index t 1 * 1024 + 1 * k.val = k.val; rw [e1]; omega

theorem blk_w1 (c : Dev nD) (t : Fin cfg0.N) (k : Fin 1024) (r : Fin 1408) :
    (iblk m c 2 t (ix2 k r) : EReal) = m ((c : Thread nD τ).loc main_arg2) (ix2 k (hid t r)) := by
  show V m c main_arg2 (((cfg0.win 2).blk t).view.emb (ix2 k r)) = _
  obtain ⟨e0, e1⟩ := idx2 t
  refine congrArg (m ((c : Thread nD τ).loc main_arg2)) (funext fun a => Fin.ext ?_)
  match a with
  | ⟨0, _⟩ => show win0_2.index t 0 * 1024 + 1 * k.val = k.val; rw [e0]; omega
  | ⟨1, _⟩ => show win0_2.index t 1 * 1408 + 1 * r.val = t.val % 2 * 1408 + r.val; rw [e1]; omega

theorem blk_w3 (c : Dev nD) (t : Fin cfg0.N) (k : Fin 1024) (r : Fin 1408) :
    (iblk m c 3 t (ix2 k r) : EReal) = m ((c : Thread nD τ).loc main_arg3) (ix2 k (hid t r)) := by
  show V m c main_arg3 (((cfg0.win 3).blk t).view.emb (ix2 k r)) = _
  obtain ⟨e0, e1⟩ := idx3 t
  refine congrArg (m ((c : Thread nD τ).loc main_arg3)) (funext fun a => Fin.ext ?_)
  match a with
  | ⟨0, _⟩ => show win0_3.index t 0 * 1024 + 1 * k.val = k.val; rw [e0]; omega
  | ⟨1, _⟩ => show win0_3.index t 1 * 1408 + 1 * r.val = t.val % 2 * 1408 + r.val; rw [e1]; omega

theorem blk_w2 (c : Dev nD) (t : Fin cfg0.N) (r : Fin 1408) (j : Fin 1024) :
    (iblk m c 4 t (ix2 r j) : EReal) = m ((c : Thread nD τ).loc main_arg4) (ix2 (hid t r) j) := by
  show V m c main_arg4 (((cfg0.win 4).blk t).view.emb (ix2 r j)) = _
  obtain ⟨e0, e1⟩ := idx4 t
  refine congrArg (m ((c : Thread nD τ).loc main_arg4)) (funext fun a => Fin.ext ?_)
  match a with
  | ⟨0, _⟩ => show win0_4.index t 0 * 1408 + 1 * r.val = t.val % 2 * 1408 + r.val; rw [e0]; omega
  | ⟨1, _⟩ => show win0_4.index t 1 * 1024 + 1 * j.val = j.val; rw [e1]; omega

/-- The normed tile the first half leaves, -/
theorem norm_at (c : Dev nD) (t : Fin cfg0.N) (l : Fin 512) :
    (fun k => (k0_pay1 (F := Ideal) (iblk m c 0 t) (iblk m c 1 t) (ix2 l k) : EReal))
      = Rows.norm (fun k => m ((c : Thread nD τ).loc main_arg0) (ix2 (row t l) k)) (fun k => m ((c : Thread nD τ).loc main_arg1) (ix2 0 k)) :=
  funext fun k => (pay1_at _ _ l k).trans
    (congrArg₂ (fun x g => Rows.norm x g k) (funext fun k => blk_x m c t l k) (funext fun k => blk_g m c t k))

/-- and what a half adds to a row's column. -/
theorem half_at (c : Dev nD) (t : Fin cfg0.N) (h : FVec Ideal S512x1024 .bf16) (a : FVec Ideal S512x1024 .f32) (l : Fin 512) (j : Fin 1024) :
    (k0_pay3 (F := Ideal) h (iblk m c 2 t) (iblk m c 3 t) a (iblk m c 4 t) (ix2 l j) : EReal)
      = a (ix2 l j) + ∑ r : Fin 1408, Rows.glu (fun k => h (ix2 l k)) (fun k => m ((c : Thread nD τ).loc main_arg2) (ix2 k (hid t r))) (fun k => m ((c : Thread nD τ).loc main_arg3) (ix2 k (hid t r)))
          * (m ((c : Thread nD τ).loc main_arg4) (ix2 (hid t r) j) : EReal) :=
  (pay3_at h _ _ a _ l j).trans (congrArg (_ + ·) (Finset.sum_congr rfl fun r _ =>
    congrArg₂ (· * ·) (congrArg₂ (Rows.glu _) (funext fun k => blk_w1 m c t k r) (funext fun k => blk_w3 m c t k r)) (blk_w2 m c t r j)))

/-- What the second half of a tile leaves is the reference's value. -/
theorem tile_at (c : Dev nD) (t : Fin cfg0.N) (h0 : ¬t.val % 2 = 0) (h1 : t.val % 2 = 1) (l : Fin 512) (j : Fin 1024) :
    (outsAt0 m c t.val t.isLt).1 (ix2 l j)
      = Reference2Ideal.Read.val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row t l) j) := by
  have hs : t.val - 1 < cfg0.N := Nat.lt_of_le_of_lt (Nat.sub_le _ _) t.isLt
  have g0 : (⟨t.val - 1, hs⟩ : Fin cfg0.N).val % 2 = 0 := by dsimp only; omega
  have g1 : ¬(⟨t.val - 1, hs⟩ : Fin cfg0.N).val % 2 = 1 := by dsimp only; omega
  have e := outsAt0_A m c ⟨t.val - 1, hs⟩ g0 g1
  dsimp only at e
  rw [outsAt0_B m c t h0 h1]
  dsimp only
  rw [outB, e]
  dsimp only
  rw [normA, accA, pay2_at]
  have er : row (⟨t.val - 1, hs⟩ : Fin cfg0.N) l = row t l := Fin.ext (by simp only [row]; omega)
  refine (half_at m c t _ _ l j).trans ?_
  rw [half_at, norm_at, blk_x, er]
  refine Eq.trans ?_ (Reference2Ideal.Read.ffn_at _ _ _ _ _ (row t l) j).symm
  rw [add_assoc]
  refine congrArg₂ (fun x y : EReal => x + y) rfl (Rows.halves _ _ _ (fun k => ?_) (fun k => ?_)).symm
  · have eh : hid (⟨t.val - 1, hs⟩ : Fin cfg0.N) k = ⟨k.val, by omega⟩ := Fin.ext (by simp only [hid]; omega)
    rw [eh]
  · have eh : hid t k = ⟨1408 + k.val, by omega⟩ := Fin.ext (by simp only [hid]; omega)
    rw [eh]

theorem result (c : Dev nD) : Value.G5 m c
    = Reference2Ideal.Read.val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  funext i
  have hi0 : (i 0).val < 16384 := (i 0).isLt
  have hi1 : (i 1).val < 1024 := (i 1).isLt
  have hp : Value.pt5Of i = 2 * ((i 0).val / 512) + 1 := by
    show 2 * (1 * ((i 0).val / 512 - 0) + 1 * ((i 1).val / 1024 - 0)) + 1 = _
    omega
  have ht : Value.pt5Of i < cfg0.N := lt_of_lt_of_eq (by omega) (show cfg0.N = 64 from N_0).symm
  unfold Value.G5
  rw [dif_pos ht, ← Value.outsAt0_sweep m c _ ht]
  have el : Value.loc5Of i = ix2 (⟨(i 0).val % 512, by omega⟩ : Fin 512) (⟨(i 1).val, hi1⟩ : Fin 1024) := by
    funext a; apply Fin.ext
    match a with
    | ⟨0, _⟩ => rfl
    | ⟨1, _⟩ => exact Nat.mod_eq_of_lt hi1
  rw [el]
  refine (tile_at m c ⟨Value.pt5Of i, ht⟩ (by dsimp only; omega) (by dsimp only; omega) _ _).trans ?_
  refine congrArg _ (funext fun a => Fin.ext ?_)
  match a with
  | ⟨0, _⟩ => show Value.pt5Of i / 2 * 512 + (i 0).val % 512 = (i 0).val; rw [hp]; omega
  | ⟨1, _⟩ => rfl

end Cert.Kernel2Ideal.Body

namespace Cert.Proof

open Idealize.ShloMosaic Idealize.ShloMosaic.TcCoe Idealize.SL.Sem

theorem frame_kernel2 : Cert.quiescent_Kernel2 (hKernel2 := Cert.Kernel2.Gen.facts) := fun m g _ =>
  Cert.Kernel2.Gen.frame (F := Bits) m g

theorem frame_kernel2Ideal : Cert.quiescent_Kernel2Ideal (hKernel2Ideal := Cert.Kernel2Ideal.Gen.facts) := fun m g _ =>
  Cert.Kernel2Ideal.Gen.frame (F := Ideal) m g

theorem frame_reference2 : Cert.quiescent_Reference2Ideal (hReference2Ideal := Cert.Reference2Ideal.Gen.facts) := fun m g _ =>
  (θ_run Cert.Reference2Ideal.defs _ _).mono (fun r h => ⟨fun c => (h c).2, sem_eq_zero_of_no_sems (by decide) r.2⟩)
    (Cert.Reference2Ideal.Value.run (F := Ideal) m g)

theorem algebraic2 : algebraic_Kernel2Ideal_Reference2Ideal := by
  intro m g m' g' _ hargs
  refine ⟨fun c => Reference2Ideal.Read.val_main_v22 (F := Ideal) (m ((c : Thread Kernel2Ideal.nD Kernel2Ideal.τ).loc Kernel2Ideal.main_arg0)) (m ((c : Thread Kernel2Ideal.nD Kernel2Ideal.τ).loc Kernel2Ideal.main_arg1)) (m ((c : Thread Kernel2Ideal.nD Kernel2Ideal.τ).loc Kernel2Ideal.main_arg2)) (m ((c : Thread Kernel2Ideal.nD Kernel2Ideal.τ).loc Kernel2Ideal.main_arg3)) (m ((c : Thread Kernel2Ideal.nD Kernel2Ideal.τ).loc Kernel2Ideal.main_arg4)), ?_, ?_⟩
  · exact (θ_run Kernel2Ideal.defs _ _).mono (fun r h c => ⟨(h c).1.trans (Kernel2Ideal.Body.result m c), (h c).2⟩) (Kernel2Ideal.Value.run m g)
  · refine (θ_run Reference2Ideal.defs _ _).mono (fun r h c => ⟨(h c).1.trans ?_, (h c).2⟩) (Reference2Ideal.Value.run m' g')
    obtain ⟨a0, a1, a2, a3, a4⟩ := hargs c
    rw [Reference2Ideal.Read.val_main_v22_eq, a0, a1, a2, a3, a4]

end Cert.Proof

end
-- ==== Proof.Merge.lean ====
/-
  The merge call: its runs, and its result array as the reference's value.
-/
module

public import proofs.«01_k».proof.Defs
public import proofs.«01_k».proof.Proof.Rows
public import proofs.«01_k».proof.Proof.Gen.Kernel3.Value
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

namespace Cert.Rows

open Idealize.ShloMosaic

/-- A row's merged column: each branch's product through its half of the gates. -/
def merged (n : Fin 1024 → EReal) (oa ob : Fin 512 → EReal) (wg : Fin 1024 → Fin 2048 → EReal) (wa wb : Fin 512 → Fin 1024 → EReal) (k : Fin 1024) : EReal :=
  Ideal.logistic (∑ r, n r * wg r ⟨k.val, by omega⟩) * (∑ r, oa r * wa r k) + Ideal.logistic (∑ r, n r * wg r ⟨1024 + k.val, by omega⟩) * (∑ r, ob r * wb r k)

end Cert.Rows

namespace Cert.Kernel3Ideal.Body

open Cert Cert.Kernel3Ideal Cert.Kernel3Ideal.Gen
open Idealize.ShloMosaic Idealize.ShloMosaic.TcCoe Idealize.ShloMosaic.Tactic Idealize.SL.Sem

theorem hz : (![0, 0] : Fin 2 → Nat) = fun _ => 0 := funext fun a => by fin_cases a <;> rfl

theorem out_eq (x : FVec Ideal S512x1024 .f32) (g : FVec Ideal S1x1024 .f32) (wg : FVec Ideal S1024x2048 .bf16) (oa ob : FVec Ideal S512x512 .bf16) (wa wb : FVec Ideal S512x1024 .bf16) (wo : FVec Ideal S1024x1024 .bf16) :
    out0_8 (F := Ideal) x g wg oa ob wa wb wo = k0_pay1 (F := Ideal) x g wg oa wa ob wb wo := by
  unfold out0_8 r0_0 r0_1 r0_2 r0_3 r0_4
  rw [View.canon_unit_zero hz]
  simp only [View.ld_unit_zero (S := S512x1024) hz, View.ld_unit_zero (S := S1x1024) hz, View.ld_unit_zero (S := S1024x2048) hz, View.ld_unit_zero (S := S512x512) hz, View.ld_unit_zero (S := S1024x1024) hz]

theorem pay_at (x : FVec Ideal S512x1024 .f32) (g : FVec Ideal S1x1024 .f32) (wg : FVec Ideal S1024x2048 .bf16) (oa ob : FVec Ideal S512x512 .bf16) (wa wb : FVec Ideal S512x1024 .bf16) (wo : FVec Ideal S1024x1024 .bf16) (l : Fin 512) (j : Fin 1024) :
    (k0_pay1 (F := Ideal) x g wg oa wa ob wb wo (ix2 l j) : EReal) = x (ix2 l j) + ∑ k : Fin 1024,
      Rows.merged (Rows.norm (fun k => x (ix2 l k)) (fun k => g (ix2 0 k))) (fun k => oa (ix2 l k)) (fun k => ob (ix2 l k)) (fun k j => wg (ix2 k j)) (fun k j => wa (ix2 k j)) (fun k j => wb (ix2 k j)) k * wo (ix2 k j) := by
  pointwise [k0_pay1, Rows.merged, Rows.norm]

variable (m : (ℓ : Loc nD τ sig) → Buf (Elt Ideal) ℓ)

theorem idx0 : ∀ t : Fin cfg0.N, win0_0.index t 0 = t.val ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = 0 ∧ win0_2.index t 1 = 0 := by decide +kernel
theorem idx3 : ∀ t : Fin cfg0.N, win0_3.index t 0 = t.val ∧ win0_3.index t 1 = 0 := by decide +kernel
theorem idx4 : ∀ t : Fin cfg0.N, win0_4.index t 0 = t.val ∧ win0_4.index t 1 = 0 := by decide +kernel
theorem idx5 : ∀ t : Fin cfg0.N, win0_5.index t 0 = 0 ∧ win0_5.index t 1 = 0 := by decide +kernel
theorem idx6 : ∀ t : Fin cfg0.N, win0_6.index t 0 = 0 ∧ win0_6.index t 1 = 0 := by decide +kernel
theorem idx7 : ∀ t : Fin cfg0.N, win0_7.index t 0 = 0 ∧ win0_7.index t 1 = 0 := by decide +kernel
theorem idx8 : ∀ t : Fin cfg0.N, win0_8.index t 0 = t.val ∧ win0_8.index t 1 = 0 := by decide +kernel

theorem lt32 (t : Fin cfg0.N) : t.val < 32 := lt_of_lt_of_eq t.isLt (show cfg0.N = 32 from N_0)

/-- A row of a point's tile, as a row of the whole. -/
def row (t : Fin cfg0.N) (l : Fin 512) : Fin 16384 := ⟨t.val * 512 + l.val, by have := lt32 t; omega⟩

theorem blk_x (c : Dev nD) (t : Fin cfg0.N) (l : Fin 512) (k : Fin 1024) :
    (iblk m c 0 t (ix2 l k) : EReal) = m ((c : Thread nD τ).loc main_arg0) (ix2 (row t l) k) := by
  show V m c main_arg0 (((cfg0.win 0).blk t).view.emb (ix2 l k)) = _
  obtain ⟨e0, e1⟩ := idx0 t
  refine congrArg (m ((c : Thread nD τ).loc main_arg0)) (funext fun a => Fin.ext ?_)
  match a with
  | ⟨0, _⟩ => show win0_0.index t 0 * 512 + 1 * l.val = t.val * 512 + l.val; rw [e0]; omega
  | ⟨1, _⟩ => show win0_0.index t 1 * 1024 + 1 * k.val = k.val; rw [e1]; omega

theorem blk_g (c : Dev nD) (t : Fin cfg0.N) (k : Fin 1024) :
    (iblk m c 1 t (ix2 0 k) : EReal) = m ((c : Thread nD τ).loc main_arg1) (ix2 0 k) := by
  show V m c main_arg1 (((cfg0.win 1).blk t).view.emb (ix2 0 k)) = _
  obtain ⟨e0, e1⟩ := idx1 t
  refine congrArg (m ((c : Thread nD τ).loc main_arg1)) (funext fun a => Fin.ext ?_)
  match a with
  | ⟨0, _⟩ => show win0_1.index t 0 * 1 + 1 * 0 = 0; rw [e0]
  | ⟨1, _⟩ => show win0_1.index t 1 * 1024 + 1 * k.val = k.val; rw [e1]; omega

theorem blk_wg (c : Dev nD) (t : Fin cfg0.N) (k : Fin 1024) (j : Fin 2048) :
    (iblk m c 2 t (ix2 k j) : EReal) = m ((c : Thread nD τ).loc main_arg2) (ix2 k j) := by
  show V m c main_arg2 (((cfg0.win 2).blk t).view.emb (ix2 k j)) = _
  obtain ⟨e0, e1⟩ := idx2 t
  refine congrArg (m ((c : Thread nD τ).loc main_arg2)) (funext fun a => Fin.ext ?_)
  match a with
  | ⟨0, _⟩ => show win0_2.index t 0 * 1024 + 1 * k.val = k.val; rw [e0]; omega
  | ⟨1, _⟩ => show win0_2.index t 1 * 2048 + 1 * j.val = j.val; rw [e1]; omega

theorem blk_oa (c : Dev nD) (t : Fin cfg0.N) (l : Fin 512) (k : Fin 512) :
    (iblk m c 3 t (ix2 l k) : EReal) = m ((c : Thread nD τ).loc main_arg3) (ix2 (row t l) k) := by
  show V m c main_arg3 (((cfg0.win 3).blk t).view.emb (ix2 l k)) = _
  obtain ⟨e0, e1⟩ := idx3 t
  refine congrArg (m ((c : Thread nD τ).loc main_arg3)) (funext fun a => Fin.ext ?_)
  match a with
  | ⟨0, _⟩ => show win0_3.index t 0 * 512 + 1 * l.val = t.val * 512 + l.val; rw [e0]; omega
  | ⟨1, _⟩ => show win0_3.index t 1 * 512 + 1 * k.val = k.val; rw [e1]; omega

theorem blk_ob (c : Dev nD) (t : Fin cfg0.N) (l : Fin 512) (k : Fin 512) :
    (iblk m c 4 t (ix2 l k) : EReal) = m ((c : Thread nD τ).loc main_arg4) (ix2 (row t l) k) := by
  show V m c main_arg4 (((cfg0.win 4).blk t).view.emb (ix2 l k)) = _
  obtain ⟨e0, e1⟩ := idx4 t
  refine congrArg (m ((c : Thread nD τ).loc main_arg4)) (funext fun a => Fin.ext ?_)
  match a with
  | ⟨0, _⟩ => show win0_4.index t 0 * 512 + 1 * l.val = t.val * 512 + l.val; rw [e0]; omega
  | ⟨1, _⟩ => show win0_4.index t 1 * 512 + 1 * k.val = k.val; rw [e1]; omega

theorem blk_wa (c : Dev nD) (t : Fin cfg0.N) (k : Fin 512) (j : Fin 1024) :
    (iblk m c 5 t (ix2 k j) : EReal) = m ((c : Thread nD τ).loc main_arg5) (ix2 k j) := by
  show V m c main_arg5 (((cfg0.win 5).blk t).view.emb (ix2 k j)) = _
  obtain ⟨e0, e1⟩ := idx5 t
  refine congrArg (m ((c : Thread nD τ).loc main_arg5)) (funext fun a => Fin.ext ?_)
  match a with
  | ⟨0, _⟩ => show win0_5.index t 0 * 512 + 1 * k.val = k.val; rw [e0]; omega
  | ⟨1, _⟩ => show win0_5.index t 1 * 1024 + 1 * j.val = j.val; rw [e1]; omega

theorem blk_wb (c : Dev nD) (t : Fin cfg0.N) (k : Fin 512) (j : Fin 1024) :
    (iblk m c 6 t (ix2 k j) : EReal) = m ((c : Thread nD τ).loc main_arg6) (ix2 k j) := by
  show V m c main_arg6 (((cfg0.win 6).blk t).view.emb (ix2 k j)) = _
  obtain ⟨e0, e1⟩ := idx6 t
  refine congrArg (m ((c : Thread nD τ).loc main_arg6)) (funext fun a => Fin.ext ?_)
  match a with
  | ⟨0, _⟩ => show win0_6.index t 0 * 512 + 1 * k.val = k.val; rw [e0]; omega
  | ⟨1, _⟩ => show win0_6.index t 1 * 1024 + 1 * j.val = j.val; rw [e1]; omega

theorem blk_wo (c : Dev nD) (t : Fin cfg0.N) (k : Fin 1024) (j : Fin 1024) :
    (iblk m c 7 t (ix2 k j) : EReal) = m ((c : Thread nD τ).loc main_arg7) (ix2 k j) := by
  show V m c main_arg7 (((cfg0.win 7).blk t).view.emb (ix2 k j)) = _
  obtain ⟨e0, e1⟩ := idx7 t
  refine congrArg (m ((c : Thread nD τ).loc main_arg7)) (funext fun a => Fin.ext ?_)
  match a with
  | ⟨0, _⟩ => show win0_7.index t 0 * 1024 + 1 * k.val = k.val; rw [e0]; omega
  | ⟨1, _⟩ => show win0_7.index t 1 * 1024 + 1 * j.val = j.val; rw [e1]; omega

end Cert.Kernel3Ideal.Body

namespace Cert.Reference3Ideal.Read

open Cert Idealize.ShloMosaic Idealize.ShloMosaic.Tactic

theorem norm_at (x : FVec Ideal S16384x1024 .f32) (g : FVec Ideal S1x1024 .f32) (p : Fin 16384) (k : Fin 1024) :
    val_main_v19 (F := Ideal) x g (ix2 p k) = Rows.norm (fun k => x (ix2 p k)) (fun k => g (ix2 0 k)) k := by
  unfold Rows.norm
  pointwise [val_main_v19, val_main_v18, val_main_v17, val_main_v6, val_main_v16, val_main_v15, val_main_v14, val_main_v13, val_main_v12, val_main_cst_1, val_main_v11, val_main_v10, val_main_cst_0, val_main_v9, val_main_v8, val_main_v7, val_main_cst]

theorem gates_at (x : FVec Ideal S16384x1024 .f32) (g : FVec Ideal S1x1024 .f32) (wg : FVec Ideal S1024x2048 .bf16) (p : Fin 16384) (j : Fin 2048) :
    val_main_v28 (F := Ideal) x g wg (ix2 p j) = Ideal.logistic (∑ k : Fin 1024, Rows.norm (fun k => x (ix2 p k)) (fun k => g (ix2 0 k)) k * wg (ix2 k j)) := by
  pointwise [val_main_v28, val_main_v27, val_main_cst_3, val_main_v26, val_main_v25, val_main_cst_2, val_main_v24, val_main_v23, val_main_v20, val_main_v0, norm_at]
  rfl

theorem merged_at (x : FVec Ideal S16384x1024 .f32) (g : FVec Ideal S1x1024 .f32) (wg : FVec Ideal S1024x2048 .bf16) (oa ob : FVec Ideal S16384x512 .bf16) (wa wb : FVec Ideal S512x1024 .bf16) (p : Fin 16384) (k : Fin 1024) :
    val_main_v33 (F := Ideal) x g wg oa ob wa wb (ix2 p k)
      = Rows.merged (Rows.norm (fun k => x (ix2 p k)) (fun k => g (ix2 0 k))) (fun k => oa (ix2 p k)) (fun k => ob (ix2 p k)) (fun k j => wg (ix2 k j)) (fun k j => wa (ix2 k j)) (fun k j => wb (ix2 k j)) k := by
  unfold Rows.merged
  pointwise [val_main_v33, val_main_v32, val_main_v31, val_main_v30, val_main_v29, val_main_v22, val_main_v21, val_main_v4, val_main_v3, val_main_v2, val_main_v1, gates_at]

theorem merge_at (x : FVec Ideal S16384x1024 .f32) (g : FVec Ideal S1x1024 .f32) (wg : FVec Ideal S1024x2048 .bf16) (oa ob : FVec Ideal S16384x512 .bf16) (wa wb : FVec Ideal S512x1024 .bf16) (wo : FVec Ideal S1024x1024 .bf16) (p : Fin 16384) (j : Fin 1024) :
    (val_main_v35 (F := Ideal) x g wg oa ob wa wb wo (ix2 p j) : EReal) = x (ix2 p j) + ∑ k : Fin 1024,
      Rows.merged (Rows.norm (fun k => x (ix2 p k)) (fun k => g (ix2 0 k))) (fun k => oa (ix2 p k)) (fun k => ob (ix2 p k)) (fun k j => wg (ix2 k j)) (fun k j => wa (ix2 k j)) (fun k j => wb (ix2 k j)) k * wo (ix2 k j) := by
  pointwise [val_main_v35, val_main_v34, val_main_v5, merged_at]

end Cert.Reference3Ideal.Read

namespace Cert.Kernel3Ideal.Body

open Cert Cert.Kernel3Ideal Cert.Kernel3Ideal.Gen
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg)

/-- The reference's value of the arguments. -/
def val (c : Dev nD) : FVec Ideal S16384x1024 .f32 :=
  Reference3Ideal.Read.val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

theorem tile_at (c : Dev nD) (t : Fin cfg0.N) (l : Fin 512) (j : Fin 1024) :
    out0_8 (F := Ideal) (iblk m c 0 t) (iblk m c 1 t) (iblk m c 2 t) (iblk m c 3 t) (iblk m c 4 t) (iblk m c 5 t) (iblk m c 6 t) (iblk m c 7 t) (ix2 l j) = val m c (ix2 (row t l) j) := by
  rw [out_eq]
  refine (pay_at _ _ _ _ _ _ _ _ l j).trans (Eq.trans ?_ (Reference3Ideal.Read.merge_at _ _ _ _ _ _ _ _ (row t l) j).symm)
  simp only [blk_x, blk_g, blk_wg, blk_oa, blk_ob, blk_wa, blk_wb, blk_wo]

theorem emb8 (t : Fin cfg0.N) (l : Fin 512) (k : Fin 1024) :
    ((cfg0.win 8).blk t).view.emb (ix2 l k) = (ix2 (row t l) k : S16384x1024.Idx) := by
  obtain ⟨e0, e1⟩ := idx8 t
  funext a; apply Fin.ext
  match a with
  | ⟨0, _⟩ => show win0_8.index t 0 * 512 + 1 * l.val = t.val * 512 + l.val; rw [e0]; omega
  | ⟨1, _⟩ => show win0_8.index t 1 * 1024 + 1 * k.val = k.val; rw [e1]; omega

theorem cut_read (t : Fin cfg0.N) (X : FVec Ideal S512x1024 .f32) (G : FVec Ideal S16384x1024 .f32)
    (hG : ∀ y : S512x1024.Idx, X y = G (((cfg0.win 8).blk t).view.emb y)) :
    (cfg0.win 8).cut (grid0.coords t) X = ((cfg0.win 8).blk t).view.read (Elt Ideal) G :=
  funext fun y => hG y

theorem flushed_eq (c : Dev nD) (t : Fin cfg0.N) :
    (dats m 0 c).flushed 8 t = ((cfg0.win 8).blk t).view.read (Elt Ideal) (val m c) := by
  rw [Value.flushed8]
  refine cut_read t _ (val m c) fun y => ?_
  have e : y = ix2 (y 0) (y 1) := by
    funext a
    match a with
    | ⟨0, _⟩ => rfl
    | ⟨1, _⟩ => rfl
  rw [e]
  exact (tile_at m c t (y 0) (y 1)).trans (congrArg (val m c) (emb8 t (y 0) (y 1))).symm

theorem flush8 : ∀ t : Fin cfg0.N, (cfg0.win 8).flush t = true := by decide +kernel

theorem cover (i : S16384x1024.Idx) : ∃ t : Fin cfg0.N, (cfg0.win 8).flush t = true ∧ i ∈ ((cfg0.win 8).blk t).view.set := by
  have h0 : (i 0).val < 16384 := (i 0).isLt
  have h1 : (i 1).val < 1024 := (i 1).isLt
  obtain ⟨t, ht⟩ : ∃ t : Fin cfg0.N, t.val = (i 0).val / 512 := ⟨⟨(i 0).val / 512, lt_of_lt_of_eq (by omega) (show cfg0.N = 32 from N_0).symm⟩, rfl⟩
  refine ⟨t, flush8 t, ?_⟩
  have h := ((cfg0.win 8).blk t).view.emb_mem_set (ix2 (⟨(i 0).val % 512, by omega⟩ : Fin 512) (⟨(i 1).val, h1⟩ : Fin 1024))
  rw [emb8] at h
  have e : (ix2 (row t ⟨(i 0).val % 512, by omega⟩) (⟨(i 1).val, h1⟩ : Fin 1024) : S16384x1024.Idx) = i := by
    funext a; apply Fin.ext
    match a with
    | ⟨0, _⟩ => show t.val * 512 + (i 0).val % 512 = (i 0).val; rw [ht]; omega
    | ⟨1, _⟩ => rfl
  rw [← e]; exact h

theorem result (c : Dev nD) : (dats m 0 c).arrAt 8 cfg0.N = val m c :=
  (dats m 0 c).arrAt_eq_of_cover 8 (val m c) (fun t _ => flushed_eq m c t) cover

end Cert.Kernel3Ideal.Body

namespace Cert.Proof

open Idealize.ShloMosaic Idealize.ShloMosaic.TcCoe Idealize.SL.Sem

theorem frame_kernel3 : Cert.quiescent_Kernel3 (hKernel3 := Cert.Kernel3.Gen.facts) := fun m g _ =>
  Cert.Kernel3.Gen.frame (F := Bits) m g

theorem frame_kernel3Ideal : Cert.quiescent_Kernel3Ideal (hKernel3Ideal := Cert.Kernel3Ideal.Gen.facts) := fun m g _ =>
  Cert.Kernel3Ideal.Gen.frame (F := Ideal) m g

theorem frame_reference3 : Cert.quiescent_Reference3Ideal (hReference3Ideal := Cert.Reference3Ideal.Gen.facts) := fun m g _ =>
  (θ_run Cert.Reference3Ideal.defs _ _).mono (fun r h => ⟨fun c => (h c).2, sem_eq_zero_of_no_sems (by decide) r.2⟩)
    (Cert.Reference3Ideal.Value.run (F := Ideal) m g)

theorem algebraic3 : algebraic_Kernel3Ideal_Reference3Ideal := by
  intro m g m' g' _ hargs
  refine ⟨fun c => Kernel3Ideal.Body.val m c, ?_, ?_⟩
  · exact (θ_run Kernel3Ideal.defs _ _).mono (fun r h c => ⟨(h c).1.trans (Kernel3Ideal.Body.result m c), (h c).2⟩) (Kernel3Ideal.Value.run_blocks m g)
  · refine (θ_run Reference3Ideal.defs _ _).mono (fun r h c => ⟨(h c).1.trans ?_, (h c).2⟩) (Reference3Ideal.Value.run m' g')
    obtain ⟨a0, a1, a2, a3, a4, a5, a6, a7⟩ := hargs c
    rw [Reference3Ideal.Read.val_main_v35_eq, a0, a1, a2, a3, a4, a5, a6, a7]
    rfl

end Cert.Proof

end
-- ==== Proof.Proj.lean ====
/-
  The projection call: what its body leaves in each result's tile, and the reference's results, at an index.
-/
module

public import proofs.«01_k».proof.Defs
public import proofs.«01_k».proof.Proof.Rows
public import proofs.«01_k».proof.Proof.Gen.Kernel4.Value
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

namespace Cert.Kernel4Ideal.Body

open Cert Cert.Kernel4Ideal Cert.Kernel4Ideal.Gen
open Idealize.ShloMosaic Idealize.ShloMosaic.TcCoe Idealize.ShloMosaic.Tactic Idealize.SL.Sem

theorem hz : (![0, 0] : Fin 2 → Nat) = fun _ => 0 := funext fun a => by fin_cases a <;> rfl
theorem hz3 : (![0, 0, 0] : Fin 3 → Nat) = fun _ => 0 := funext fun a => by fin_cases a <;> rfl

variable (x : FVec Ideal S512x1024 .f32) (g : FVec Ideal S1x1024 .f32) (w : FVec Ideal S1024x1536 .bf16) (wr : FVec Ideal S1024x1536 .bf16) (wl : FVec Ideal S1024x384 .bf16)

/-- The tile's normed row. -/
abbrev nrm (l : Fin 512) (k : Fin 1024) : EReal := Rows.norm (fun k => x (ix2 l k)) (fun k => g (ix2 0 k)) k

theorem pay4_at (w' : FVec Ideal S1024x512 .bf16) (l : Fin 512) (j : Fin 512) :
    (k0_pay4 (F := Ideal) x g w' (ix2 l j) : EReal) = ∑ k : Fin 1024, nrm x g l k * w' (ix2 k j) := by
  pointwise [k0_pay4, k0_pay2, nrm, Rows.norm]

theorem pay5_at (w' : FVec Ideal S1024x512 .bf16) (l : Fin 512) (j : Fin 512) :
    (k0_pay5 (F := Ideal) x g w' (ix2 l j) : EReal) = ∑ k : Fin 1024, nrm x g l k * w' (ix2 k j) := by
  pointwise [k0_pay5, k0_pay2, nrm, Rows.norm]

theorem pay6_at (l : Fin 512) (j : Fin 1536) :
    (k0_pay6 (F := Ideal) x g wr (ix2 l j) : EReal) = ∑ k : Fin 1024, nrm x g l k * wr (ix2 k j) := by
  pointwise [k0_pay6, k0_pay2, nrm, Rows.norm]

theorem pay7_at (l : Fin 512) (j : Fin 384) :
    (k0_pay7 (F := Ideal) (k0_pay2 (F := Ideal) x g) wl (ix2 l j) : EReal) = ∑ k : Fin 1024, nrm x g l k * wl (ix2 k j) := by
  pointwise [k0_pay7, k0_pay2, nrm, Rows.norm]

theorem cut_at (o : Nat) (ho : o + 512 ≤ 1536) (inb : ∀ a, (![0, o] : Fin 2 → Nat) a + S1024x512.size a ≤ S1024x1536.size a) (k : Fin 1024) (j : Fin 512) :
    View.ld (S := S1024x1536) (Val := Elt Ideal) (e' := .bf16) w (Rect.unit (s := S1024x1536) ![0, o] S1024x512.size inb) (ix2 k j) = w (ix2 k ⟨o + j.val, by omega⟩) := by
  refine congrArg w (funext fun a => Fin.ext ?_)
  match a with
  | ⟨0, _⟩ => show 0 + 1 * k.val = k.val; omega
  | ⟨1, _⟩ => show o + 1 * j.val = o + j.val; omega

/-- The keys' tile, -/
theorem out8_at (l : Fin 512) (j : Fin 512) :
    (out0_8 (F := Ideal) x g w wr wl (ix2 l j) : EReal) = ∑ k : Fin 1024, nrm x g l k * w (ix2 k ⟨512 + j.val, by omega⟩) := by
  unfold out0_8
  rw [View.canon_unit_zero hz]
  simp only [View.ld_unit_zero (S := S512x1024) hz, View.ld_unit_zero (S := S1x1024) hz]
  refine (pay4_at x g _ l j).trans (Finset.sum_congr rfl fun k _ => ?_)
  rw [cut_at w 512 (by omega)]

/-- its copy in bf16, -/
theorem out6_at (l : Fin 512) (j : Fin 512) :
    (out0_6 (F := Ideal) x g w wr wl (ix2 l j) : EReal) = ∑ k : Fin 1024, nrm x g l k * w (ix2 k ⟨512 + j.val, by omega⟩) := by
  unfold out0_6
  rw [View.canon_unit_zero hz]
  simp only [View.ld_unit_zero (S := S512x1024) hz, View.ld_unit_zero (S := S1x1024) hz]
  refine (show _ = (k0_pay4 (F := Ideal) x g _ (ix2 l j) : EReal) from rfl).trans ((pay4_at x g _ l j).trans (Finset.sum_congr rfl fun k _ => ?_))
  rw [cut_at w 512 (by omega)]

/-- the values' tile, -/
theorem vals_at (l : Fin 512) (j : Fin 512) :
    (k0_pay13 (F := Ideal) x g w wr wl (ix2 l j) : EReal) = ∑ k : Fin 1024, nrm x g l k * w (ix2 k ⟨1024 + j.val, by omega⟩) := by
  unfold k0_pay13
  simp only [View.ld_unit_zero (S := S512x1024) hz, View.ld_unit_zero (S := S1x1024) hz]
  refine (pay5_at x g _ l j).trans (Finset.sum_congr rfl fun k _ => ?_)
  rw [cut_at w 1024 (by omega)]

theorem out9_at (l : Fin 512) (j : Fin 512) :
    (out0_9 (F := Ideal) x g w wr wl (ix2 l j) : EReal) = ∑ k : Fin 1024, nrm x g l k * w (ix2 k ⟨1024 + j.val, by omega⟩) := by
  unfold out0_9
  rw [View.canon_unit_zero hz]
  exact vals_at x g w wr wl l j

/-- the time mixing's three, -/
theorem out10_at (l : Fin 512) (j : Fin 1536) :
    (out0_10 (F := Ideal) x g w wr wl (ix2 l j) : EReal) = ∑ k : Fin 1024, nrm x g l k * wr (ix2 k j) := by
  unfold out0_10
  rw [View.canon_unit_zero hz]
  simp only [View.ld_unit_zero (S := S512x1024) hz, View.ld_unit_zero (S := S1x1024) hz, View.ld_unit_zero (S := S1024x1536) hz]
  exact pay6_at x g wr l j

/-- its low-rank ones, -/
theorem out11_at (l : Fin 512) (j : Fin 384) :
    (out0_11 (F := Ideal) x g w wr wl (ix2 l j) : EReal) = ∑ k : Fin 1024, nrm x g l k * wl (ix2 k j) := by
  unfold out0_11
  rw [View.canon_unit_zero hz]
  simp only [View.ld_unit_zero (S := S512x1024) hz, View.ld_unit_zero (S := S1x1024) hz, View.ld_unit_zero (S := S1024x384) hz]
  exact pay7_at x g wl l j

/-- the scaled queries', transposed. -/
theorem pay3_at (w' : FVec Ideal S1024x512 .bf16) (l : Fin 512) (j : Fin 512) :
    (k0_pay8 (F := Ideal) (k0_pay3 (F := Ideal) x g w') (ix3 0 j l) : EReal) = (∑ k : Fin 1024, nrm x g l k * w' (ix2 k j)) * ((8⁻¹ * (Real.log 2)⁻¹ : ℝ) : EReal) := by
  have h : (k0_pay8 (F := Ideal) (k0_pay3 (F := Ideal) x g w') (ix3 0 j l) : EReal) = k0_pay3 (F := Ideal) x g w' (ix2 l j) := by
    pointwise [k0_pay8]
  rw [h]
  have h' : (k0_pay3 (F := Ideal) x g w' (ix2 l j) : EReal) = (k0_pay4 (F := Ideal) x g w' (ix2 l j) : EReal) * ((8⁻¹ * (Real.log 2)⁻¹ : ℝ) : EReal) := rfl
  rw [h', pay4_at]

theorem out5_at (l : Fin 512) (j : Fin 512) :
    (out0_5 (F := Ideal) x g w wr wl (ix3 0 j l) : EReal) = (∑ k : Fin 1024, nrm x g l k * w (ix2 k ⟨0 + j.val, by omega⟩)) * ((8⁻¹ * (Real.log 2)⁻¹ : ℝ) : EReal) := by
  unfold out0_5
  rw [View.canon_unit_zero hz3]
  simp only [View.ld_unit_zero (S := S512x1024) hz, View.ld_unit_zero (S := S1x1024) hz]
  refine (pay3_at x g _ l j).trans (congrArg (fun y : EReal => y * _) (Finset.sum_congr rfl fun k _ => ?_))
  rw [cut_at w 0 (by omega)]

end Cert.Kernel4Ideal.Body

namespace Cert.Reference4Ideal.Read

open Cert Idealize.ShloMosaic Idealize.ShloMosaic.Tactic

variable (x : FVec Ideal S16384x1024 .f32) (g : FVec Ideal S1x1024 .f32) (w : FVec Ideal S1024x1536 .bf16) (wr : FVec Ideal S1024x1536 .bf16) (wl : FVec Ideal S1024x384 .bf16)

abbrev nrm (p : Fin 16384) (k : Fin 1024) : EReal := Rows.norm (fun k => x (ix2 p k)) (fun k => g (ix2 0 k)) k

theorem norm_at (p : Fin 16384) (k : Fin 1024) :
    val_main_v16 (F := Ideal) x g (ix2 p k) = nrm x g p k := by
  unfold nrm Rows.norm
  pointwise [val_main_v16, val_main_v15, val_main_v14, val_main_v3, val_main_v13, val_main_v12, val_main_v11, val_main_v10, val_main_v9, val_main_cst_1, val_main_v8, val_main_v7, val_main_cst_0, val_main_v6, val_main_v5, val_main_v4, val_main_cst]

theorem q_at (p : Fin 16384) (j : Fin 512) :
    (val_main_v18 (F := Ideal) x g w (ix2 p j) : EReal) = ∑ k : Fin 1024, nrm x g p k * w (ix2 k ⟨0 + j.val, by omega⟩) := by
  pointwise [val_main_v18, val_main_v17, val_main_v0, norm_at]

theorem k_at (p : Fin 16384) (j : Fin 512) :
    (val_main_v20 (F := Ideal) x g w (ix2 p j) : EReal) = ∑ k : Fin 1024, nrm x g p k * w (ix2 k ⟨512 + j.val, by omega⟩) := by
  pointwise [val_main_v20, val_main_v19, val_main_v0, norm_at]

theorem v_at (p : Fin 16384) (j : Fin 512) :
    (val_main_v22 (F := Ideal) x g w (ix2 p j) : EReal) = ∑ k : Fin 1024, nrm x g p k * w (ix2 k ⟨1024 + j.val, by omega⟩) := by
  pointwise [val_main_v22, val_main_v21, val_main_v0, norm_at]

theorem rkv_at (p : Fin 16384) (j : Fin 1536) :
    (val_main_v23 (F := Ideal) x g wr (ix2 p j) : EReal) = ∑ k : Fin 1024, nrm x g p k * wr (ix2 k j) := by
  pointwise [val_main_v23, val_main_v1, norm_at]

theorem lora_at (p : Fin 16384) (j : Fin 384) :
    (val_main_v24 (F := Ideal) x g wl (ix2 p j) : EReal) = ∑ k : Fin 1024, nrm x g p k * wl (ix2 k j) := by
  pointwise [val_main_v24, val_main_v2, norm_at]

end Cert.Reference4Ideal.Read

end
-- ==== Proof.ProjVals.lean ====
/-
  The projection call's values for the attention: transposed by blocks of keys, 16 rows of ones after each head's 64.
-/
module

public import proofs.«01_k».proof.Proof.Proj

@[expose] public section

set_option maxRecDepth 16384

noncomputable section

namespace Cert.Rows

open Idealize.ShloMosaic

/-- Row `n` of the heads' values with ones after each head's 64 rows, from the heads' columns `y`. -/
def aug (y : Fin 512 → EReal) (n : Fin 640) : EReal :=
  if h : n.val % 80 < 64 then y ⟨n.val / 80 * 64 + n.val % 80, by omega⟩ else Ideal.ofBits .f32 0x3F800000#32

end Cert.Rows

namespace Cert.Kernel4Ideal.Body

open Cert Cert.Kernel4Ideal Cert.Kernel4Ideal.Gen
open Idealize.ShloMosaic Idealize.ShloMosaic.TcCoe Idealize.ShloMosaic.Tactic Idealize.SL.Sem

/-- The pieces joined: each head's, with the ones after it. -/
def pieces (o : S16x256.Idx → EReal) : List (S64x256.Idx → EReal) → List ((s : Shape) × (s.Idx → EReal))
  | [] => []
  | y :: ys => ⟨S64x256, y⟩ :: ⟨S16x256, o⟩ :: pieces o ys

theorem first_lt (j : S640x256.Idx) (x : S64x256.Idx → EReal) (q : (s : Shape) × (s.Idx → EReal)) (xs : List ((s : Shape) × (s.Idx → EReal)))
    (hs : ∀ s' ∈ (⟨S64x256, x⟩ :: q :: xs : List ((s : Shape) × (s.Idx → EReal))).map (·.1), s'.FitsOff S640x256 0) (c : Nat)
    (hc : c < (axisSizes S640x256 0 (⟨S64x256, x⟩ :: q :: xs)).sum) (h : c < 64) :
    concatenateAt S640x256 0 j (⟨S64x256, x⟩ :: q :: xs) hs c hc = x (ix2 ⟨c, h⟩ (j 1)) := by
  rw [concatenateAt_cons]
  refine (dif_pos h).trans (congrArg x (funext fun b => Fin.ext ?_))
  match b with
  | ⟨0, _⟩ => rfl
  | ⟨1, _⟩ => rfl

theorem second (o : S16x256.Idx → EReal) (o0 : EReal) (ho : ∀ i, o i = o0) (j : S640x256.Idx) (xs : List ((s : Shape) × (s.Idx → EReal)))
    (hs : ∀ s' ∈ (⟨S16x256, o⟩ :: xs : List ((s : Shape) × (s.Idx → EReal))).map (·.1), s'.FitsOff S640x256 0) (c : Nat)
    (hc : c < (axisSizes S640x256 0 (⟨S16x256, o⟩ :: xs)).sum) (h : c < 16) :
    concatenateAt S640x256 0 j (⟨S16x256, o⟩ :: xs) hs c hc = o0 := by
  match xs with
  | [] => rw [concatenateAt_singleton]; exact ho _
  | q :: xs => rw [concatenateAt_cons]; exact (dif_pos h).trans (ho _)

theorem congr_at (j : S640x256.Idx) (L : List ((s : Shape) × (s.Idx → EReal))) (hs : ∀ s' ∈ L.map (·.1), s'.FitsOff S640x256 0) (c c' : Nat)
    (hc : c < (axisSizes S640x256 0 L).sum) (hc' : c' < (axisSizes S640x256 0 L).sum) (e : c = c') :
    concatenateAt S640x256 0 j L hs c hc = concatenateAt S640x256 0 j L hs c' hc' := by
  subst e; rfl

theorem pieces_at (o : S16x256.Idx → EReal) (o0 : EReal) (ho : ∀ i, o i = o0) (j : S640x256.Idx) :
    ∀ (ys : List (S64x256.Idx → EReal)) (hs : ∀ s' ∈ (pieces o ys).map (·.1), s'.FitsOff S640x256 0) (c : Nat)
      (hc : c < (axisSizes S640x256 0 (pieces o ys)).sum) (k : Nat) (hk : k < ys.length) (d : Nat) (_ : c = 80 * k + d),
      (∀ hd : d < 64, concatenateAt S640x256 0 j (pieces o ys) hs c hc = ys[k] (ix2 ⟨d, hd⟩ (j 1)))
      ∧ (64 ≤ d → d < 80 → concatenateAt S640x256 0 j (pieces o ys) hs c hc = o0)
  | [], _, _, _, k, hk, _, _ => absurd hk (Nat.not_lt_zero k)
  | y :: ys, hs, c, hc, 0, hk, d, e => by
    have e' : c = d := by omega
    subst e'
    refine ⟨fun hd => first_lt j y _ _ hs c hc hd, fun h1 h2 => ?_⟩
    show concatenateAt S640x256 0 j (⟨S64x256, y⟩ :: ⟨S16x256, o⟩ :: pieces o ys) hs c hc = o0
    refine (concatenateAt_cons (t := S640x256) (s := S64x256) 0 j y ⟨S16x256, o⟩ (pieces o ys) hs c hc).trans ?_
    refine (dif_neg (show ¬ c < 64 by omega)).trans (second o o0 ho j _ _ _ _ (show c - 64 < 16 by omega))
  | y :: [], _, _, _, k + 1, hk, _, _ => absurd hk (by simp)
  | y :: y' :: ys, hs, c, hc, k + 1, hk, d, e => by
    have step : ∃ hs' hc', concatenateAt S640x256 0 j (pieces o (y :: y' :: ys)) hs c hc = concatenateAt S640x256 0 j (pieces o (y' :: ys)) hs' (c - 80) hc' := by
      have hs1 : ∀ s' ∈ (⟨S16x256, o⟩ :: pieces o (y' :: ys) : List ((s : Shape) × (s.Idx → EReal))).map (·.1), s'.FitsOff S640x256 0 := fun s' h => hs s' (List.mem_cons_of_mem _ h)
      have hs2 : ∀ s' ∈ (pieces o (y' :: ys)).map (·.1), s'.FitsOff S640x256 0 := fun s' h => hs1 s' (List.mem_cons_of_mem _ h)
      have hsum : (axisSizes S640x256 0 (pieces o (y :: y' :: ys))).sum = 64 + (16 + (axisSizes S640x256 0 (pieces o (y' :: ys))).sum) := by
        show (axisSizes S640x256 0 (⟨S64x256, y⟩ :: ⟨S16x256, o⟩ :: pieces o (y' :: ys))).sum = _
        rw [axisSizes_cons S640x256 0 _ _ (hs S64x256 List.mem_cons_self), axisSizes_cons S640x256 0 _ _ (hs1 S16x256 List.mem_cons_self), List.sum_cons, List.sum_cons]
        rfl
      refine ⟨hs2, by omega, ?_⟩
      show concatenateAt S640x256 0 j (⟨S64x256, y⟩ :: ⟨S16x256, o⟩ :: ⟨S64x256, y'⟩ :: ⟨S16x256, o⟩ :: pieces o ys) hs c hc = _
      refine (concatenateAt_cons (t := S640x256) (s := S64x256) 0 j y ⟨S16x256, o⟩ (⟨S64x256, y'⟩ :: ⟨S16x256, o⟩ :: pieces o ys) hs c hc).trans ?_
      refine (dif_neg (show ¬ c < 64 by omega)).trans ?_
      refine (concatenateAt_cons (t := S640x256) (s := S16x256) 0 j o ⟨S64x256, y'⟩ (⟨S16x256, o⟩ :: pieces o ys) hs1 (c - 64) _).trans ?_
      refine (dif_neg (show ¬ c - 64 < 16 by omega)).trans ?_
      exact congr_at j _ _ _ _ _ _ (show c - 64 - 16 = c - 80 by omega)
    obtain ⟨hs', hc', st⟩ := step
    have ih := pieces_at o o0 ho j (y' :: ys) hs' (c - 80) hc' k (by simpa using hk) d (by omega)
    rw [st]
    exact ih

/-- A head's piece of the transposed values. -/
abbrev part (y : FVec Ideal S512x256 .f32) (k : Fin 8) : S64x256.Idx → EReal := fun i => y (ix2 ⟨k.val * 64 + (i 0).val, by have := (i 0).isLt; simp at this; omega⟩ (i 1))

theorem cat_at (y : FVec Ideal S512x256 .f32) (h : Shape.Concatenates ((pieces (k0_pay10 (F := Ideal)) [part y 0, part y 1, part y 2, part y 3, part y 4, part y 5, part y 6, part y 7]).map (·.1)) S640x256 0) (n : Fin 640) (r : Fin 256) :
    concatenate S640x256 0 (pieces (k0_pay10 (F := Ideal)) [part y 0, part y 1, part y 2, part y 3, part y 4, part y 5, part y 6, part y 7]) h (ix2 n r) = Rows.aug (fun c => y (ix2 c r)) n := by
  rw [concatenate_apply]
  have hk : n.val / 80 < 8 := by omega
  have H := pieces_at (k0_pay10 (F := Ideal)) (Ideal.ofBits .f32 0x3F800000#32) (fun _ => rfl) (ix2 n r) [part y 0, part y 1, part y 2, part y 3, part y 4, part y 5, part y 6, part y 7] h.2.1 n.val
    (by rw [h.2.2]; exact n.isLt) (n.val / 80) hk (n.val % 80) (by omega)
  unfold Rows.aug
  by_cases hd : n.val % 80 < 64
  · rw [dif_pos hd]
    refine (H.1 hd).trans ?_
    have hp : ∀ (k : Nat) (hk : k < 8), [part y 0, part y 1, part y 2, part y 3, part y 4, part y 5, part y 6, part y 7][k]'hk = part y ⟨k, hk⟩ := by
      intro k hk
      interval_cases k <;> rfl
    rw [hp _ hk]
    rfl
  · rw [dif_neg hd]
    exact H.2 (by omega) (by omega)

theorem cat_eq (y : FVec Ideal S512x256 .f32) (L : List ((s : Shape) × (s.Idx → EReal))) (h : Shape.Concatenates (L.map (·.1)) S640x256 0)
    (hL : L = pieces (k0_pay10 (F := Ideal)) [part y 0, part y 1, part y 2, part y 3, part y 4, part y 5, part y 6, part y 7]) (n : Fin 640) (r : Fin 256) :
    concatenate S640x256 0 L h (ix2 n r) = Rows.aug (fun c => y (ix2 c r)) n := by
  subst hL
  exact cat_at y h n r

theorem slice_part (y : FVec Ideal S512x256 .f32) (k : Fin 8) (o : Nat) (h) (e : o = k.val * 64) :
    extractStridedSlice S64x256 ![o, 0] y h = part y k := by
  subst e
  funext i
  refine congrArg y (funext fun b => Fin.ext ?_)
  match b with
  | ⟨0, _⟩ => rfl
  | ⟨1, _⟩ => exact Nat.zero_add _

theorem up_at (u : FVec Ideal S640x256 .f32) (n : Fin 640) (r : Fin 256) :
    (shapeCast S1x1x640x256 (truncf .bf16 u bitsLt_bf16_f32) shapeCasts_S640x256_S1x1x640x256 (ix4 0 0 n r) : EReal) = u (ix2 n r) := by
  pointwise

/-- The first block of keys of a tile, -/
theorem pay11_at (v : FVec Ideal S512x512 .f32) (n : Fin 640) (r : Fin 256) :
    (k0_pay11 (F := Ideal) v (ix4 0 0 n r) : EReal) = Rows.aug (fun j => v (ix2 ⟨0 + r.val, by omega⟩ j)) n := by
  unfold k0_pay11
  dsimp only
  refine (up_at _ n r).trans ((cat_eq (transpose S512x256 [1, 0] (extractStridedSlice S256x512 ![0, 0] v slices_S512x512_o0_0_S256x512) transposes_S256x512_p1_0_S512x256) _ _ ?_ n r).trans (congrArg (fun f => Rows.aug f n) (funext fun j => ?_)))
  · rw [slice_part _ 0 0 _ rfl, slice_part _ 1 64 _ rfl, slice_part _ 2 128 _ rfl, slice_part _ 3 192 _ rfl, slice_part _ 4 256 _ rfl, slice_part _ 5 320 _ rfl, slice_part _ 6 384 _ rfl, slice_part _ 7 448 _ rfl]
    rfl
  · pointwise

/-- and the second. -/
theorem pay12_at (v : FVec Ideal S512x512 .f32) (n : Fin 640) (r : Fin 256) :
    (k0_pay1 (F := Ideal) (k0_pay12 (F := Ideal) v) (ix4 0 0 n r) : EReal) = Rows.aug (fun j => v (ix2 ⟨256 + r.val, by omega⟩ j)) n := by
  unfold k0_pay1 k0_pay12
  dsimp only
  refine (up_at _ n r).trans ((cat_eq (transpose S512x256 [1, 0] (extractStridedSlice S256x512 ![256, 0] v slices_S512x512_o256_0_S256x512) transposes_S256x512_p1_0_S512x256) _ _ ?_ n r).trans (congrArg (fun f => Rows.aug f n) (funext fun j => ?_)))
  · rw [slice_part _ 0 0 _ rfl, slice_part _ 1 64 _ rfl, slice_part _ 2 128 _ rfl, slice_part _ 3 192 _ rfl, slice_part _ 4 256 _ rfl, slice_part _ 5 320 _ rfl, slice_part _ 6 384 _ rfl, slice_part _ 7 448 _ rfl]
    rfl
  · pointwise

end Cert.Kernel4Ideal.Body

namespace Cert.Reference4Ideal.Read

open Cert Cert.Reference4Ideal.Gen Idealize.ShloMosaic Idealize.ShloMosaic.Tactic

variable (x : FVec Ideal S16384x1024 .f32) (g : FVec Ideal S1x1024 .f32) (w : FVec Ideal S1024x1536 .bf16)

theorem up_at (u : FVec Ideal S4x16x8x80x256 .f32) (b : Fin 4) (j : Fin 16) (n : Fin 640) (r : Fin 256) :
    (truncf .bf16 (shapeCast S4x16x640x256 u shapeCasts_S4x16x8x80x256_S4x16x640x256) bitsLt_bf16_f32 (ix4 b j n r) : EReal) = u (ix5 b j ⟨n.val / 80, by omega⟩ ⟨n.val % 80, by omega⟩ r) := by
  pointwise

theorem in_at (v : FVec Ideal S16384x512 .f32) (b : Fin 4) (j : Fin 16) (H : Fin 8) (d : Fin 64) (r : Fin 256) :
    (transpose S4x16x8x64x256 [0, 1, 3, 4, 2] (shapeCast S4x16x256x8x64 v shapeCasts_S16384x512_S4x16x256x8x64) transposes_S4x16x256x8x64_S4x16x8x64x256_0_1_3_4_2 (ix5 b j H d r) : EReal)
      = v (ix2 ⟨b.val * 4096 + j.val * 256 + r.val, by omega⟩ ⟨H.val * 64 + d.val, by omega⟩) := by
  pointwise

/-- The values as the attention takes them. -/
theorem vb_at (b : Fin 4) (j : Fin 16) (n : Fin 640) (r : Fin 256) :
    (val_main_v39 (F := Ideal) x g w (ix4 b j n r) : EReal) = Rows.aug (fun c => val_main_v22 (F := Ideal) x g w (ix2 ⟨b.val * 4096 + j.val * 256 + r.val, by omega⟩ c)) n := by
  unfold val_main_v39 val_main_v36 val_main_v35
  refine (up_at _ b j n r).trans ?_
  unfold Rows.aug
  by_cases hd : n.val % 80 < 64
  · rw [dif_pos hd]
    refine Eq.trans ?_ (in_at (val_main_v22 (F := Ideal) x g w) b j ⟨n.val / 80, by omega⟩ ⟨n.val % 80, hd⟩ r)
    refine concatenate_pair_apply_left (t := S4x16x8x80x256) (s₁ := S4x16x8x64x256) (s₂ := S4x16x8x16x256) 3 _ _ _ _ rfl (ix5 b j ⟨n.val / 80, by omega⟩ ⟨n.val % 80, hd⟩ r) fun a => ?_
    fin_cases a <;> rfl
  · rw [dif_neg hd]
    refine (concatenate_pair_apply_right (t := S4x16x8x80x256) (s₁ := S4x16x8x64x256) (s₂ := S4x16x8x16x256) 3 _ _ _ _ rfl rfl (ix5 b j ⟨n.val / 80, by omega⟩ (⟨n.val % 80 - 64, by omega⟩ : Fin 16) r) (fun a ha => ?_) ?_).trans ?_
    · fin_cases a <;> first | rfl | exact absurd rfl ha
    · show n.val % 80 - 64 + 64 = n.val % 80; omega
    · rfl

/-- The queries as the attention takes them. -/
theorem qt_at (b : Fin 4) (j : Fin 512) (s : Fin 4096) :
    (val_main_v37 (F := Ideal) x g w (ix3 b j s) : EReal) = val_main_v18 (F := Ideal) x g w (ix2 ⟨b.val * 4096 + s.val, by omega⟩ j) * ((8⁻¹ * (Real.log 2)⁻¹ : ℝ) : EReal) := by
  have h : (val_main_v37 (F := Ideal) x g w (ix3 b j s) : EReal) = val_main_v29 (F := Ideal) x g w (ix2 ⟨b.val * 4096 + s.val, by omega⟩ j) := by
    unfold val_main_v37 val_main_v31 val_main_v30
    pointwise
  rw [h]
  have h8 : Ideal.ofBits .f32 0x3E000000#32 = ((8⁻¹ : ℝ) : EReal) := by
    simp [Ideal.ofBits, Ideal.ieee]
    rw [← EReal.coe_mul]; norm_num
  have h2 : Ideal.ofBits .f32 0x40000000#32 = ((2 : ℝ) : EReal) := by
    simp [Ideal.ofBits, Ideal.ieee]
    rw [← EReal.coe_mul]; norm_num
  have hl : Real.log 2 ≠ 0 := (Real.log_pos (by norm_num)).ne'
  show Ideal.div ((val_main_v18 (F := Ideal) x g w (ix2 ⟨b.val * 4096 + s.val, by omega⟩ j) : EReal) * Ideal.ofBits .f32 0x3E000000#32) (Ideal.log (Ideal.ofBits .f32 0x40000000#32)) = _
  rw [h8, h2, Ideal.log_coe, if_neg (by norm_num), Ideal.div_coe hl, mul_assoc, ← EReal.coe_mul, one_div]

end Cert.Reference4Ideal.Read

end
-- ==== Proof.ProjValue.lean ====
/-
  The projection call: its runs, and its seven result arrays as the reference's values.
-/
module

public import proofs.«01_k».proof.Proof.ProjVals

@[expose] public section

set_option maxRecDepth 16384

noncomputable section

namespace Cert.Kernel4Ideal.Body

open Cert Cert.Kernel4Ideal Cert.Kernel4Ideal.Gen
open Idealize.ShloMosaic Idealize.ShloMosaic.TcCoe Idealize.ShloMosaic.Tactic Idealize.SL.Sem
open Idealize.ShloMosaic.Pipeline (Dat)

section Tile

variable (x : FVec Ideal S512x1024 .f32) (g : FVec Ideal S1x1024 .f32) (w : FVec Ideal S1024x1536 .bf16) (wr : FVec Ideal S1024x1536 .bf16) (wl : FVec Ideal S1024x384 .bf16)

/-- What the two stores of values leave, at an index of the tile. -/
def tileV (y : S1x2x640x256.Idx) : EReal :=
  Rows.aug (fun j => k0_pay13 (F := Ideal) x g w wr wl (ix2 ⟨(y 1).val * 256 + (y 3).val, by have h1 : (y 1).val < 2 := (y 1).isLt; have h3 : (y 3).val < 256 := (y 3).isLt; omega⟩ j)) (y 2)

theorem out7_eq (y : S1x2x640x256.Idx) : (out0_7 (F := Ideal) x g w wr wl y : EReal) = tileV x g w wr wl y := by
  unfold out0_7
  have hi : ∀ z : S1x1x640x256.Idx, z = ix4 0 0 (z 2) (z 3) := by
    intro z
    funext a
    match a with
    | ⟨0, _⟩ => exact Subsingleton.elim (α := Fin 1) _ _
    | ⟨1, _⟩ => exact Subsingleton.elim (α := Fin 1) _ _
    | ⟨2, _⟩ => rfl
    | ⟨3, _⟩ => rfl
  refine View.canon_apply_of_pieces (Val := Elt Ideal) (e := .bf16) (tileV x g w wr wl) _ (fun p hp => ?_) y ?_
  · rcases List.mem_cons.1 hp with rfl | hp
    · intro z
      rw [hi z]
      refine (pay12_at _ (z 2) (z 3)).trans ?_
      unfold tileV
      refine congr (congrArg Rows.aug (funext fun j => congrArg (k0_pay13 (F := Ideal) x g w wr wl) (funext fun a => Fin.ext ?_))) (Fin.ext ?_)
      · match a with
        | ⟨0, _⟩ => show 256 + (z 3).val = (1 + 1 * 0) * 256 + (0 + 1 * (z 3).val); omega
        | ⟨1, _⟩ => rfl
      · show (z 2).val = 0 + 1 * (z 2).val; omega
    · obtain rfl := List.mem_singleton.1 hp
      intro z
      rw [hi z]
      refine (pay11_at _ (z 2) (z 3)).trans ?_
      unfold tileV
      refine congr (congrArg Rows.aug (funext fun j => congrArg (k0_pay13 (F := Ideal) x g w wr wl) (funext fun a => Fin.ext ?_))) (Fin.ext ?_)
      · match a with
        | ⟨0, _⟩ => show 0 + (z 3).val = (0 + 1 * 0) * 256 + (0 + 1 * (z 3).val); omega
        | ⟨1, _⟩ => rfl
      · show (z 2).val = 0 + 1 * (z 2).val; omega
  · have h1 : (y 1).val < 2 := (y 1).isLt
    have h0 : (y 0).val < 1 := (y 0).isLt
    have h2 : (y 2).val < 640 := (y 2).isLt
    have h3 : (y 3).val < 256 := (y 3).isLt
    by_cases hu : (y 1).val = 0
    · refine ⟨_, List.mem_cons_of_mem _ List.mem_cons_self, ?_⟩
      show y ∈ r0_11.set
      unfold r0_11
      refine Rect.mem_set_unit.2 fun a => ?_
      match a with
      | ⟨0, _⟩ => show 0 ≤ (y 0).val ∧ (y 0).val < 0 + 1; omega
      | ⟨1, _⟩ => show 0 ≤ (y 1).val ∧ (y 1).val < 0 + 1; omega
      | ⟨2, _⟩ => show 0 ≤ (y 2).val ∧ (y 2).val < 0 + 640; omega
      | ⟨3, _⟩ => show 0 ≤ (y 3).val ∧ (y 3).val < 0 + 256; omega
    · refine ⟨_, List.mem_cons_self, ?_⟩
      show y ∈ r0_12.set
      unfold r0_12
      refine Rect.mem_set_unit.2 fun a => ?_
      match a with
      | ⟨0, _⟩ => show 0 ≤ (y 0).val ∧ (y 0).val < 0 + 1; omega
      | ⟨1, _⟩ => show 1 ≤ (y 1).val ∧ (y 1).val < 1 + 1; omega
      | ⟨2, _⟩ => show 0 ≤ (y 2).val ∧ (y 2).val < 0 + 640; omega
      | ⟨3, _⟩ => show 0 ≤ (y 3).val ∧ (y 3).val < 0 + 256; omega

end Tile

variable (m : (ℓ : Loc nD τ sig) → Buf (Elt Ideal) ℓ) (ρ : Dev nD → PrngReg)

theorem idx0 : ∀ t : Fin cfg0.N, win0_0.index t 0 = t.val ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = 0 ∧ win0_2.index t 1 = 0 := by decide +kernel
theorem idx3 : ∀ t : Fin cfg0.N, win0_3.index t 0 = 0 ∧ win0_3.index t 1 = 0 := by decide +kernel
theorem idx4 : ∀ t : Fin cfg0.N, win0_4.index t 0 = 0 ∧ win0_4.index t 1 = 0 := by decide +kernel
theorem idx5 : ∀ t : Fin cfg0.N, win0_5.index t 0 = t.val / 8 ∧ win0_5.index t 1 = 0 ∧ win0_5.index t 2 = t.val % 8 := by decide +kernel
theorem idx7 : ∀ t : Fin cfg0.N, win0_7.index t 0 = t.val / 8 ∧ win0_7.index t 1 = t.val % 8 ∧ win0_7.index t 2 = 0 ∧ win0_7.index t 3 = 0 := by decide +kernel

theorem lt32 (t : Fin cfg0.N) : t.val < 32 := lt_of_lt_of_eq t.isLt (show cfg0.N = 32 from N_0)

/-- A row of a point's tile, as a row of the whole. -/
def row (t : Fin cfg0.N) (l : Fin 512) : Fin 16384 := ⟨t.val * 512 + l.val, by have := lt32 t; omega⟩

theorem point (n : Nat) (h : n < 32) : ∃ t : Fin cfg0.N, t.val = n := ⟨⟨n, lt_of_lt_of_eq h (show cfg0.N = 32 from N_0).symm⟩, rfl⟩

theorem blk_x (c : Dev nD) (t : Fin cfg0.N) (l : Fin 512) (k : Fin 1024) :
    (iblk m c 0 t (ix2 l k) : EReal) = m ((c : Thread nD τ).loc main_arg0) (ix2 (row t l) k) := by
  show V m c main_arg0 (((cfg0.win 0).blk t).view.emb (ix2 l k)) = _
  obtain ⟨e0, e1⟩ := idx0 t
  refine congrArg (m ((c : Thread nD τ).loc main_arg0)) (funext fun a => Fin.ext ?_)
  match a with
  | ⟨0, _⟩ => show win0_0.index t 0 * 512 + 1 * l.val = t.val * 512 + l.val; rw [e0]; omega
  | ⟨1, _⟩ => show win0_0.index t 1 * 1024 + 1 * k.val = k.val; rw [e1]; omega

theorem blk_g (c : Dev nD) (t : Fin cfg0.N) (k : Fin 1024) :
    (iblk m c 1 t (ix2 0 k) : EReal) = m ((c : Thread nD τ).loc main_arg1) (ix2 0 k) := by
  show V m c main_arg1 (((cfg0.win 1).blk t).view.emb (ix2 0 k)) = _
  obtain ⟨e0, e1⟩ := idx1 t
  refine congrArg (m ((c : Thread nD τ).loc main_arg1)) (funext fun a => Fin.ext ?_)
  match a with
  | ⟨0, _⟩ => show win0_1.index t 0 * 1 + 1 * 0 = 0; rw [e0]
  | ⟨1, _⟩ => show win0_1.index t 1 * 1024 + 1 * k.val = k.val; rw [e1]; omega

theorem blk_w (c : Dev nD) (t : Fin cfg0.N) (k : Fin 1024) (j : Fin 1536) :
    (iblk m c 2 t (ix2 k j) : EReal) = m ((c : Thread nD τ).loc main_arg2) (ix2 k j) := by
  show V m c main_arg2 (((cfg0.win 2).blk t).view.emb (ix2 k j)) = _
  obtain ⟨e0, e1⟩ := idx2 t
  refine congrArg (m ((c : Thread nD τ).loc main_arg2)) (funext fun a => Fin.ext ?_)
  match a with
  | ⟨0, _⟩ => show win0_2.index t 0 * 1024 + 1 * k.val = k.val; rw [e0]; omega
  | ⟨1, _⟩ => show win0_2.index t 1 * 1536 + 1 * j.val = j.val; rw [e1]; omega

theorem blk_wr (c : Dev nD) (t : Fin cfg0.N) (k : Fin 1024) (j : Fin 1536) :
    (iblk m c 3 t (ix2 k j) : EReal) = m ((c : Thread nD τ).loc main_arg3) (ix2 k j) := by
  show V m c main_arg3 (((cfg0.win 3).blk t).view.emb (ix2 k j)) = _
  obtain ⟨e0, e1⟩ := idx3 t
  refine congrArg (m ((c : Thread nD τ).loc main_arg3)) (funext fun a => Fin.ext ?_)
  match a with
  | ⟨0, _⟩ => show win0_3.index t 0 * 1024 + 1 * k.val = k.val; rw [e0]; omega
  | ⟨1, _⟩ => show win0_3.index t 1 * 1536 + 1 * j.val = j.val; rw [e1]; omega

theorem blk_wl (c : Dev nD) (t : Fin cfg0.N) (k : Fin 1024) (j : Fin 384) :
    (iblk m c 4 t (ix2 k j) : EReal) = m ((c : Thread nD τ).loc main_arg4) (ix2 k j) := by
  show V m c main_arg4 (((cfg0.win 4).blk t).view.emb (ix2 k j)) = _
  obtain ⟨e0, e1⟩ := idx4 t
  refine congrArg (m ((c : Thread nD τ).loc main_arg4)) (funext fun a => Fin.ext ?_)
  match a with
  | ⟨0, _⟩ => show win0_4.index t 0 * 1024 + 1 * k.val = k.val; rw [e0]; omega
  | ⟨1, _⟩ => show win0_4.index t 1 * 384 + 1 * j.val = j.val; rw [e1]; omega

/-- The reference's value of result 1. -/
def val6 (c : Dev nD) : FVec Ideal S16384x512 .bf16 :=
  Reference4Ideal.Read.val_main_v38 (F := Ideal) (m ((c : Thread nD τ).loc main_arg0)) (m ((c : Thread nD τ).loc main_arg1)) (m ((c : Thread nD τ).loc main_arg2))

theorem idx6 : ∀ t : Fin cfg0.N, win0_6.index t 0 = t.val ∧ win0_6.index t 1 = 0 := by decide +kernel

theorem tile6 (c : Dev nD) (t : Fin cfg0.N) (l : Fin 512) (j : Fin 512) :
    (out0_6 (F := Ideal) (iblk m c 0 t) (iblk m c 1 t) (iblk m c 2 t) (iblk m c 3 t) (iblk m c 4 t) (ix2 l j) : EReal) = val6 m c (ix2 (row t l) j) := by
  refine (out6_at _ _ _ _ _ l j).trans (Eq.trans ?_ (Reference4Ideal.Read.k_at _ _ _ (row t l) j).symm)
  simp only [nrm, Reference4Ideal.Read.nrm, blk_x, blk_g, blk_w, blk_wr, blk_wl]

theorem emb6 (t : Fin cfg0.N) (l : Fin 512) (k : Fin 512) :
    ((cfg0.win 6).blk t).view.emb (ix2 l k) = (ix2 (row t l) k : S16384x512.Idx) := by
  obtain ⟨e0, e1⟩ := idx6 t
  funext a; apply Fin.ext
  match a with
  | ⟨0, _⟩ => show win0_6.index t 0 * 512 + 1 * l.val = t.val * 512 + l.val; rw [e0]; omega
  | ⟨1, _⟩ => show win0_6.index t 1 * 512 + 1 * k.val = k.val; rw [e1]; omega

theorem cut6 (t : Fin cfg0.N) (X : FVec Ideal S512x512 .bf16) (G : FVec Ideal S16384x512 .bf16)
    (hG : ∀ y : S512x512.Idx, X y = G (((cfg0.win 6).blk t).view.emb y)) :
    (cfg0.win 6).cut (grid0.coords t) X = ((cfg0.win 6).blk t).view.read (Elt Ideal) G :=
  funext fun y => hG y

theorem flushed6 (c : Dev nD) (t : Fin cfg0.N) :
    (dats m 0 c).flushed 6 t = ((cfg0.win 6).blk t).view.read (Elt Ideal) (val6 m c) := by
  rw [Value.flushed6]
  refine cut6 t _ (val6 m c) fun y => ?_
  have e : y = ix2 (y 0) (y 1) := by
    funext a
    match a with
    | ⟨0, _⟩ => rfl
    | ⟨1, _⟩ => rfl
  rw [e]
  exact (tile6 m c t (y 0) (y 1)).trans (congrArg (val6 m c) (emb6 t (y 0) (y 1))).symm

theorem flush6 : ∀ t : Fin cfg0.N, (cfg0.win 6).flush t = true := by decide +kernel

theorem cover6 (i : S16384x512.Idx) : ∃ t : Fin cfg0.N, (cfg0.win 6).flush t = true ∧ i ∈ ((cfg0.win 6).blk t).view.set := by
  have h0 : (i 0).val < 16384 := (i 0).isLt
  have h1 : (i 1).val < 512 := (i 1).isLt
  obtain ⟨t, ht⟩ := point ((i 0).val / 512) (by omega)
  refine ⟨t, flush6 t, ?_⟩
  have h := ((cfg0.win 6).blk t).view.emb_mem_set (ix2 (⟨(i 0).val % 512, by omega⟩ : Fin 512) (⟨(i 1).val, h1⟩ : Fin 512))
  rw [emb6] at h
  have e : (ix2 (row t ⟨(i 0).val % 512, by omega⟩) (⟨(i 1).val, h1⟩ : Fin 512) : S16384x512.Idx) = i := by
    funext a; apply Fin.ext
    match a with
    | ⟨0, _⟩ => show t.val * 512 + (i 0).val % 512 = (i 0).val; rw [ht]; omega
    | ⟨1, _⟩ => rfl
  rw [← e]; exact h

theorem result6 (c : Dev nD) : (dats m 0 c).arrAt 6 cfg0.N = val6 m c :=
  (dats m 0 c).arrAt_eq_of_cover 6 (val6 m c) (fun t _ => flushed6 m c t) (cover6)

/-- The reference's value of result 3. -/
def val8 (c : Dev nD) : FVec Ideal S16384x512 .f32 :=
  Reference4Ideal.Read.val_main_v20 (F := Ideal) (m ((c : Thread nD τ).loc main_arg0)) (m ((c : Thread nD τ).loc main_arg1)) (m ((c : Thread nD τ).loc main_arg2))

theorem idx8 : ∀ t : Fin cfg0.N, win0_8.index t 0 = t.val ∧ win0_8.index t 1 = 0 := by decide +kernel

theorem tile8 (c : Dev nD) (t : Fin cfg0.N) (l : Fin 512) (j : Fin 512) :
    (out0_8 (F := Ideal) (iblk m c 0 t) (iblk m c 1 t) (iblk m c 2 t) (iblk m c 3 t) (iblk m c 4 t) (ix2 l j) : EReal) = val8 m c (ix2 (row t l) j) := by
  refine (out8_at _ _ _ _ _ l j).trans (Eq.trans ?_ (Reference4Ideal.Read.k_at _ _ _ (row t l) j).symm)
  simp only [nrm, Reference4Ideal.Read.nrm, blk_x, blk_g, blk_w, blk_wr, blk_wl]

theorem emb8 (t : Fin cfg0.N) (l : Fin 512) (k : Fin 512) :
    ((cfg0.win 8).blk t).view.emb (ix2 l k) = (ix2 (row t l) k : S16384x512.Idx) := by
  obtain ⟨e0, e1⟩ := idx8 t
  funext a; apply Fin.ext
  match a with
  | ⟨0, _⟩ => show win0_8.index t 0 * 512 + 1 * l.val = t.val * 512 + l.val; rw [e0]; omega
  | ⟨1, _⟩ => show win0_8.index t 1 * 512 + 1 * k.val = k.val; rw [e1]; omega

theorem cut8 (t : Fin cfg0.N) (X : FVec Ideal S512x512 .f32) (G : FVec Ideal S16384x512 .f32)
    (hG : ∀ y : S512x512.Idx, X y = G (((cfg0.win 8).blk t).view.emb y)) :
    (cfg0.win 8).cut (grid0.coords t) X = ((cfg0.win 8).blk t).view.read (Elt Ideal) G :=
  funext fun y => hG y

theorem flushed8 (c : Dev nD) (t : Fin cfg0.N) :
    (dats m 0 c).flushed 8 t = ((cfg0.win 8).blk t).view.read (Elt Ideal) (val8 m c) := by
  rw [Value.flushed8]
  refine cut8 t _ (val8 m c) fun y => ?_
  have e : y = ix2 (y 0) (y 1) := by
    funext a
    match a with
    | ⟨0, _⟩ => rfl
    | ⟨1, _⟩ => rfl
  rw [e]
  exact (tile8 m c t (y 0) (y 1)).trans (congrArg (val8 m c) (emb8 t (y 0) (y 1))).symm

theorem flush8 : ∀ t : Fin cfg0.N, (cfg0.win 8).flush t = true := by decide +kernel

theorem cover8 (i : S16384x512.Idx) : ∃ t : Fin cfg0.N, (cfg0.win 8).flush t = true ∧ i ∈ ((cfg0.win 8).blk t).view.set := by
  have h0 : (i 0).val < 16384 := (i 0).isLt
  have h1 : (i 1).val < 512 := (i 1).isLt
  obtain ⟨t, ht⟩ := point ((i 0).val / 512) (by omega)
  refine ⟨t, flush8 t, ?_⟩
  have h := ((cfg0.win 8).blk t).view.emb_mem_set (ix2 (⟨(i 0).val % 512, by omega⟩ : Fin 512) (⟨(i 1).val, h1⟩ : Fin 512))
  rw [emb8] at h
  have e : (ix2 (row t ⟨(i 0).val % 512, by omega⟩) (⟨(i 1).val, h1⟩ : Fin 512) : S16384x512.Idx) = i := by
    funext a; apply Fin.ext
    match a with
    | ⟨0, _⟩ => show t.val * 512 + (i 0).val % 512 = (i 0).val; rw [ht]; omega
    | ⟨1, _⟩ => rfl
  rw [← e]; exact h

theorem result8 (c : Dev nD) : (dats m 0 c).arrAt 8 cfg0.N = val8 m c :=
  (dats m 0 c).arrAt_eq_of_cover 8 (val8 m c) (fun t _ => flushed8 m c t) (cover8)

/-- The reference's value of result 4. -/
def val9 (c : Dev nD) : FVec Ideal S16384x512 .f32 :=
  Reference4Ideal.Read.val_main_v22 (F := Ideal) (m ((c : Thread nD τ).loc main_arg0)) (m ((c : Thread nD τ).loc main_arg1)) (m ((c : Thread nD τ).loc main_arg2))

theorem idx9 : ∀ t : Fin cfg0.N, win0_9.index t 0 = t.val ∧ win0_9.index t 1 = 0 := by decide +kernel

theorem tile9 (c : Dev nD) (t : Fin cfg0.N) (l : Fin 512) (j : Fin 512) :
    (out0_9 (F := Ideal) (iblk m c 0 t) (iblk m c 1 t) (iblk m c 2 t) (iblk m c 3 t) (iblk m c 4 t) (ix2 l j) : EReal) = val9 m c (ix2 (row t l) j) := by
  refine (out9_at _ _ _ _ _ l j).trans (Eq.trans ?_ (Reference4Ideal.Read.v_at _ _ _ (row t l) j).symm)
  simp only [nrm, Reference4Ideal.Read.nrm, blk_x, blk_g, blk_w, blk_wr, blk_wl]

theorem emb9 (t : Fin cfg0.N) (l : Fin 512) (k : Fin 512) :
    ((cfg0.win 9).blk t).view.emb (ix2 l k) = (ix2 (row t l) k : S16384x512.Idx) := by
  obtain ⟨e0, e1⟩ := idx9 t
  funext a; apply Fin.ext
  match a with
  | ⟨0, _⟩ => show win0_9.index t 0 * 512 + 1 * l.val = t.val * 512 + l.val; rw [e0]; omega
  | ⟨1, _⟩ => show win0_9.index t 1 * 512 + 1 * k.val = k.val; rw [e1]; omega

theorem cut9 (t : Fin cfg0.N) (X : FVec Ideal S512x512 .f32) (G : FVec Ideal S16384x512 .f32)
    (hG : ∀ y : S512x512.Idx, X y = G (((cfg0.win 9).blk t).view.emb y)) :
    (cfg0.win 9).cut (grid0.coords t) X = ((cfg0.win 9).blk t).view.read (Elt Ideal) G :=
  funext fun y => hG y

theorem flushed9 (c : Dev nD) (t : Fin cfg0.N) :
    (dats m 0 c).flushed 9 t = ((cfg0.win 9).blk t).view.read (Elt Ideal) (val9 m c) := by
  rw [Value.flushed9]
  refine cut9 t _ (val9 m c) fun y => ?_
  have e : y = ix2 (y 0) (y 1) := by
    funext a
    match a with
    | ⟨0, _⟩ => rfl
    | ⟨1, _⟩ => rfl
  rw [e]
  exact (tile9 m c t (y 0) (y 1)).trans (congrArg (val9 m c) (emb9 t (y 0) (y 1))).symm

theorem flush9 : ∀ t : Fin cfg0.N, (cfg0.win 9).flush t = true := by decide +kernel

theorem cover9 (i : S16384x512.Idx) : ∃ t : Fin cfg0.N, (cfg0.win 9).flush t = true ∧ i ∈ ((cfg0.win 9).blk t).view.set := by
  have h0 : (i 0).val < 16384 := (i 0).isLt
  have h1 : (i 1).val < 512 := (i 1).isLt
  obtain ⟨t, ht⟩ := point ((i 0).val / 512) (by omega)
  refine ⟨t, flush9 t, ?_⟩
  have h := ((cfg0.win 9).blk t).view.emb_mem_set (ix2 (⟨(i 0).val % 512, by omega⟩ : Fin 512) (⟨(i 1).val, h1⟩ : Fin 512))
  rw [emb9] at h
  have e : (ix2 (row t ⟨(i 0).val % 512, by omega⟩) (⟨(i 1).val, h1⟩ : Fin 512) : S16384x512.Idx) = i := by
    funext a; apply Fin.ext
    match a with
    | ⟨0, _⟩ => show t.val * 512 + (i 0).val % 512 = (i 0).val; rw [ht]; omega
    | ⟨1, _⟩ => rfl
  rw [← e]; exact h

theorem result9 (c : Dev nD) : (dats m 0 c).arrAt 9 cfg0.N = val9 m c :=
  (dats m 0 c).arrAt_eq_of_cover 9 (val9 m c) (fun t _ => flushed9 m c t) (cover9)

/-- The reference's value of result 5. -/
def val10 (c : Dev nD) : FVec Ideal S16384x1536 .f32 :=
  Reference4Ideal.Read.val_main_v23 (F := Ideal) (m ((c : Thread nD τ).loc main_arg0)) (m ((c : Thread nD τ).loc main_arg1)) (m ((c : Thread nD τ).loc main_arg3))

theorem idx10 : ∀ t : Fin cfg0.N, win0_10.index t 0 = t.val ∧ win0_10.index t 1 = 0 := by decide +kernel

theorem tile10 (c : Dev nD) (t : Fin cfg0.N) (l : Fin 512) (j : Fin 1536) :
    (out0_10 (F := Ideal) (iblk m c 0 t) (iblk m c 1 t) (iblk m c 2 t) (iblk m c 3 t) (iblk m c 4 t) (ix2 l j) : EReal) = val10 m c (ix2 (row t l) j) := by
  refine (out10_at _ _ _ _ _ l j).trans (Eq.trans ?_ (Reference4Ideal.Read.rkv_at _ _ _ (row t l) j).symm)
  simp only [nrm, Reference4Ideal.Read.nrm, blk_x, blk_g, blk_w, blk_wr, blk_wl]

theorem emb10 (t : Fin cfg0.N) (l : Fin 512) (k : Fin 1536) :
    ((cfg0.win 10).blk t).view.emb (ix2 l k) = (ix2 (row t l) k : S16384x1536.Idx) := by
  obtain ⟨e0, e1⟩ := idx10 t
  funext a; apply Fin.ext
  match a with
  | ⟨0, _⟩ => show win0_10.index t 0 * 512 + 1 * l.val = t.val * 512 + l.val; rw [e0]; omega
  | ⟨1, _⟩ => show win0_10.index t 1 * 1536 + 1 * k.val = k.val; rw [e1]; omega

theorem cut10 (t : Fin cfg0.N) (X : FVec Ideal S512x1536 .f32) (G : FVec Ideal S16384x1536 .f32)
    (hG : ∀ y : S512x1536.Idx, X y = G (((cfg0.win 10).blk t).view.emb y)) :
    (cfg0.win 10).cut (grid0.coords t) X = ((cfg0.win 10).blk t).view.read (Elt Ideal) G :=
  funext fun y => hG y

theorem flushed10 (c : Dev nD) (t : Fin cfg0.N) :
    (dats m 0 c).flushed 10 t = ((cfg0.win 10).blk t).view.read (Elt Ideal) (val10 m c) := by
  rw [Value.flushed10]
  refine cut10 t _ (val10 m c) fun y => ?_
  have e : y = ix2 (y 0) (y 1) := by
    funext a
    match a with
    | ⟨0, _⟩ => rfl
    | ⟨1, _⟩ => rfl
  rw [e]
  exact (tile10 m c t (y 0) (y 1)).trans (congrArg (val10 m c) (emb10 t (y 0) (y 1))).symm

theorem flush10 : ∀ t : Fin cfg0.N, (cfg0.win 10).flush t = true := by decide +kernel

theorem cover10 (i : S16384x1536.Idx) : ∃ t : Fin cfg0.N, (cfg0.win 10).flush t = true ∧ i ∈ ((cfg0.win 10).blk t).view.set := by
  have h0 : (i 0).val < 16384 := (i 0).isLt
  have h1 : (i 1).val < 1536 := (i 1).isLt
  obtain ⟨t, ht⟩ := point ((i 0).val / 512) (by omega)
  refine ⟨t, flush10 t, ?_⟩
  have h := ((cfg0.win 10).blk t).view.emb_mem_set (ix2 (⟨(i 0).val % 512, by omega⟩ : Fin 512) (⟨(i 1).val, h1⟩ : Fin 1536))
  rw [emb10] at h
  have e : (ix2 (row t ⟨(i 0).val % 512, by omega⟩) (⟨(i 1).val, h1⟩ : Fin 1536) : S16384x1536.Idx) = i := by
    funext a; apply Fin.ext
    match a with
    | ⟨0, _⟩ => show t.val * 512 + (i 0).val % 512 = (i 0).val; rw [ht]; omega
    | ⟨1, _⟩ => rfl
  rw [← e]; exact h

theorem result10 (c : Dev nD) : (dats m 0 c).arrAt 10 cfg0.N = val10 m c :=
  (dats m 0 c).arrAt_eq_of_cover 10 (val10 m c) (fun t _ => flushed10 m c t) (cover10)

/-- The reference's value of result 6. -/
def val11 (c : Dev nD) : FVec Ideal S16384x384 .f32 :=
  Reference4Ideal.Read.val_main_v24 (F := Ideal) (m ((c : Thread nD τ).loc main_arg0)) (m ((c : Thread nD τ).loc main_arg1)) (m ((c : Thread nD τ).loc main_arg4))

theorem idx11 : ∀ t : Fin cfg0.N, win0_11.index t 0 = t.val ∧ win0_11.index t 1 = 0 := by decide +kernel

theorem tile11 (c : Dev nD) (t : Fin cfg0.N) (l : Fin 512) (j : Fin 384) :
    (out0_11 (F := Ideal) (iblk m c 0 t) (iblk m c 1 t) (iblk m c 2 t) (iblk m c 3 t) (iblk m c 4 t) (ix2 l j) : EReal) = val11 m c (ix2 (row t l) j) := by
  refine (out11_at _ _ _ _ _ l j).trans (Eq.trans ?_ (Reference4Ideal.Read.lora_at _ _ _ (row t l) j).symm)
  simp only [nrm, Reference4Ideal.Read.nrm, blk_x, blk_g, blk_w, blk_wr, blk_wl]

theorem emb11 (t : Fin cfg0.N) (l : Fin 512) (k : Fin 384) :
    ((cfg0.win 11).blk t).view.emb (ix2 l k) = (ix2 (row t l) k : S16384x384.Idx) := by
  obtain ⟨e0, e1⟩ := idx11 t
  funext a; apply Fin.ext
  match a with
  | ⟨0, _⟩ => show win0_11.index t 0 * 512 + 1 * l.val = t.val * 512 + l.val; rw [e0]; omega
  | ⟨1, _⟩ => show win0_11.index t 1 * 384 + 1 * k.val = k.val; rw [e1]; omega

theorem cut11 (t : Fin cfg0.N) (X : FVec Ideal S512x384 .f32) (G : FVec Ideal S16384x384 .f32)
    (hG : ∀ y : S512x384.Idx, X y = G (((cfg0.win 11).blk t).view.emb y)) :
    (cfg0.win 11).cut (grid0.coords t) X = ((cfg0.win 11).blk t).view.read (Elt Ideal) G :=
  funext fun y => hG y

theorem flushed11 (c : Dev nD) (t : Fin cfg0.N) :
    (dats m 0 c).flushed 11 t = ((cfg0.win 11).blk t).view.read (Elt Ideal) (val11 m c) := by
  rw [Value.flushed11]
  refine cut11 t _ (val11 m c) fun y => ?_
  have e : y = ix2 (y 0) (y 1) := by
    funext a
    match a with
    | ⟨0, _⟩ => rfl
    | ⟨1, _⟩ => rfl
  rw [e]
  exact (tile11 m c t (y 0) (y 1)).trans (congrArg (val11 m c) (emb11 t (y 0) (y 1))).symm

theorem flush11 : ∀ t : Fin cfg0.N, (cfg0.win 11).flush t = true := by decide +kernel

theorem cover11 (i : S16384x384.Idx) : ∃ t : Fin cfg0.N, (cfg0.win 11).flush t = true ∧ i ∈ ((cfg0.win 11).blk t).view.set := by
  have h0 : (i 0).val < 16384 := (i 0).isLt
  have h1 : (i 1).val < 384 := (i 1).isLt
  obtain ⟨t, ht⟩ := point ((i 0).val / 512) (by omega)
  refine ⟨t, flush11 t, ?_⟩
  have h := ((cfg0.win 11).blk t).view.emb_mem_set (ix2 (⟨(i 0).val % 512, by omega⟩ : Fin 512) (⟨(i 1).val, h1⟩ : Fin 384))
  rw [emb11] at h
  have e : (ix2 (row t ⟨(i 0).val % 512, by omega⟩) (⟨(i 1).val, h1⟩ : Fin 384) : S16384x384.Idx) = i := by
    funext a; apply Fin.ext
    match a with
    | ⟨0, _⟩ => show t.val * 512 + (i 0).val % 512 = (i 0).val; rw [ht]; omega
    | ⟨1, _⟩ => rfl
  rw [← e]; exact h

theorem result11 (c : Dev nD) : (dats m 0 c).arrAt 11 cfg0.N = val11 m c :=
  (dats m 0 c).arrAt_eq_of_cover 11 (val11 m c) (fun t _ => flushed11 m c t) (cover11)

/-- The reference's value of result 0, -/
def val5 (c : Dev nD) : FVec Ideal S4x512x4096 .bf16 :=
  Reference4Ideal.Read.val_main_v37 (F := Ideal) (m ((c : Thread nD τ).loc main_arg0)) (m ((c : Thread nD τ).loc main_arg1)) (m ((c : Thread nD τ).loc main_arg2))

/-- A point's batch, -/
def bat (t : Fin cfg0.N) : Fin 4 := ⟨t.val / 8, by have := lt32 t; omega⟩

/-- the position of a row of its tile, -/
def pos (t : Fin cfg0.N) (l : Fin 512) : Fin 4096 := ⟨t.val % 8 * 512 + l.val, by omega⟩

/-- and the block of keys of a half of it. -/
def kblk (t : Fin cfg0.N) (u : Fin 2) : Fin 16 := ⟨t.val % 8 * 2 + u.val, by omega⟩

theorem tile5 (c : Dev nD) (t : Fin cfg0.N) (j l : Fin 512) :
    (out0_5 (F := Ideal) (iblk m c 0 t) (iblk m c 1 t) (iblk m c 2 t) (iblk m c 3 t) (iblk m c 4 t) (ix3 0 j l) : EReal) = val5 m c (ix3 (bat t) j (pos t l)) := by
  refine (out5_at _ _ _ _ _ l j).trans (Eq.trans ?_ (Reference4Ideal.Read.qt_at _ _ _ (bat t) j (pos t l)).symm)
  rw [Reference4Ideal.Read.q_at]
  have e : (⟨(bat t).val * 4096 + (pos t l).val, by omega⟩ : Fin 16384) = row t l := by
    apply Fin.ext
    show t.val / 8 * 4096 + (t.val % 8 * 512 + l.val) = t.val * 512 + l.val
    omega
  rw [e]
  simp only [nrm, Reference4Ideal.Read.nrm, blk_x, blk_g, blk_w]

theorem emb5 (t : Fin cfg0.N) (j l : Fin 512) :
    ((cfg0.win 5).blk t).view.emb (ix3 0 j l) = (ix3 (bat t) j (pos t l) : S4x512x4096.Idx) := by
  obtain ⟨e0, e1, e2⟩ := idx5 t
  funext a; apply Fin.ext
  match a with
  | ⟨0, _⟩ => show win0_5.index t 0 * 1 + 1 * 0 = t.val / 8; rw [e0]; omega
  | ⟨1, _⟩ => show win0_5.index t 1 * 512 + 1 * j.val = j.val; rw [e1]; omega
  | ⟨2, _⟩ => show win0_5.index t 2 * 512 + 1 * l.val = t.val % 8 * 512 + l.val; rw [e2]; omega

theorem cut5 (t : Fin cfg0.N) (X : FVec Ideal S1x512x512 .bf16) (G : FVec Ideal S4x512x4096 .bf16)
    (hG : ∀ y : S1x512x512.Idx, X y = G (((cfg0.win 5).blk t).view.emb y)) :
    (cfg0.win 5).cut (grid0.coords t) X = ((cfg0.win 5).blk t).view.read (Elt Ideal) G :=
  funext fun y => hG y

theorem flushed5 (c : Dev nD) (t : Fin cfg0.N) :
    (dats m 0 c).flushed 5 t = ((cfg0.win 5).blk t).view.read (Elt Ideal) (val5 m c) := by
  rw [Value.flushed5]
  refine cut5 t _ (val5 m c) fun y => ?_
  have e : y = ix3 0 (y 1) (y 2) := by
    funext a
    match a with
    | ⟨0, _⟩ => exact Subsingleton.elim (α := Fin 1) _ _
    | ⟨1, _⟩ => rfl
    | ⟨2, _⟩ => rfl
  rw [e]
  exact (tile5 m c t (y 1) (y 2)).trans (congrArg (val5 m c) (emb5 t (y 1) (y 2))).symm

theorem flush5 : ∀ t : Fin cfg0.N, (cfg0.win 5).flush t = true := by decide +kernel

theorem cover5 (i : S4x512x4096.Idx) : ∃ t : Fin cfg0.N, (cfg0.win 5).flush t = true ∧ i ∈ ((cfg0.win 5).blk t).view.set := by
  have h0 : (i 0).val < 4 := (i 0).isLt
  have h2 : (i 2).val < 4096 := (i 2).isLt
  obtain ⟨t, ht⟩ := point ((i 0).val * 8 + (i 2).val / 512) (by omega)
  refine ⟨t, flush5 t, ?_⟩
  have h := ((cfg0.win 5).blk t).view.emb_mem_set (ix3 (0 : Fin 1) (⟨(i 1).val, (i 1).isLt⟩ : Fin 512) (⟨(i 2).val % 512, by omega⟩ : Fin 512))
  rw [emb5] at h
  have e : (ix3 (bat t) (⟨(i 1).val, (i 1).isLt⟩ : Fin 512) (pos t ⟨(i 2).val % 512, by omega⟩) : S4x512x4096.Idx) = i := by
    funext a; apply Fin.ext
    match a with
    | ⟨0, _⟩ => show t.val / 8 = (i 0).val; rw [ht]; omega
    | ⟨1, _⟩ => rfl
    | ⟨2, _⟩ => show t.val % 8 * 512 + (i 2).val % 512 = (i 2).val; rw [ht]; omega
  rw [← e]; exact h

theorem result5 (c : Dev nD) : (dats m 0 c).arrAt 5 cfg0.N = val5 m c :=
  (dats m 0 c).arrAt_eq_of_cover 5 (val5 m c) (fun t _ => flushed5 m c t) cover5

/-- The reference's value of result 2. -/
def val7 (c : Dev nD) : FVec Ideal S4x16x640x256 .bf16 :=
  Reference4Ideal.Read.val_main_v39 (F := Ideal) (m ((c : Thread nD τ).loc main_arg0)) (m ((c : Thread nD τ).loc main_arg1)) (m ((c : Thread nD τ).loc main_arg2))

theorem tile7 (c : Dev nD) (t : Fin cfg0.N) (u : Fin 2) (n : Fin 640) (r : Fin 256) :
    (out0_7 (F := Ideal) (iblk m c 0 t) (iblk m c 1 t) (iblk m c 2 t) (iblk m c 3 t) (iblk m c 4 t) (ix4 0 u n r) : EReal) = val7 m c (ix4 (bat t) (kblk t u) n r) := by
  refine (out7_eq _ _ _ _ _ _).trans (Eq.trans ?_ (Reference4Ideal.Read.vb_at _ _ _ (bat t) (kblk t u) n r).symm)
  unfold tileV
  refine congrArg (fun f => Rows.aug f n) (funext fun j => ?_)
  refine (vals_at _ _ _ _ _ ⟨u.val * 256 + r.val, by omega⟩ j).trans ?_
  rw [Reference4Ideal.Read.v_at]
  have e : (⟨(bat t).val * 4096 + (kblk t u).val * 256 + r.val, by omega⟩ : Fin 16384) = row t ⟨u.val * 256 + r.val, by omega⟩ := by
    apply Fin.ext
    show t.val / 8 * 4096 + (t.val % 8 * 2 + u.val) * 256 + r.val = t.val * 512 + (u.val * 256 + r.val)
    omega
  rw [e]
  simp only [nrm, Reference4Ideal.Read.nrm, blk_x, blk_g, blk_w]

theorem emb7 (t : Fin cfg0.N) (u : Fin 2) (n : Fin 640) (r : Fin 256) :
    ((cfg0.win 7).blk t).view.emb (ix4 0 u n r) = (ix4 (bat t) (kblk t u) n r : S4x16x640x256.Idx) := by
  obtain ⟨e0, e1, e2, e3⟩ := idx7 t
  funext a; apply Fin.ext
  match a with
  | ⟨0, _⟩ => show win0_7.index t 0 * 1 + 1 * 0 = t.val / 8; rw [e0]; omega
  | ⟨1, _⟩ => show win0_7.index t 1 * 2 + 1 * u.val = t.val % 8 * 2 + u.val; rw [e1]; omega
  | ⟨2, _⟩ => show win0_7.index t 2 * 640 + 1 * n.val = n.val; rw [e2]; omega
  | ⟨3, _⟩ => show win0_7.index t 3 * 256 + 1 * r.val = r.val; rw [e3]; omega

theorem cut7 (t : Fin cfg0.N) (X : FVec Ideal S1x2x640x256 .bf16) (G : FVec Ideal S4x16x640x256 .bf16)
    (hG : ∀ y : S1x2x640x256.Idx, X y = G (((cfg0.win 7).blk t).view.emb y)) :
    (cfg0.win 7).cut (grid0.coords t) X = ((cfg0.win 7).blk t).view.read (Elt Ideal) G :=
  funext fun y => hG y

theorem flushed7 (c : Dev nD) (t : Fin cfg0.N) :
    (dats m 0 c).flushed 7 t = ((cfg0.win 7).blk t).view.read (Elt Ideal) (val7 m c) := by
  rw [Value.flushed7]
  refine cut7 t _ (val7 m c) fun y => ?_
  have e : y = ix4 0 (y 1) (y 2) (y 3) := by
    funext a
    match a with
    | ⟨0, _⟩ => exact Subsingleton.elim (α := Fin 1) _ _
    | ⟨1, _⟩ => rfl
    | ⟨2, _⟩ => rfl
    | ⟨3, _⟩ => rfl
  rw [e]
  exact (tile7 m c t (y 1) (y 2) (y 3)).trans (congrArg (val7 m c) (emb7 t (y 1) (y 2) (y 3))).symm

theorem flush7 : ∀ t : Fin cfg0.N, (cfg0.win 7).flush t = true := by decide +kernel

theorem cover7 (i : S4x16x640x256.Idx) : ∃ t : Fin cfg0.N, (cfg0.win 7).flush t = true ∧ i ∈ ((cfg0.win 7).blk t).view.set := by
  have h0 : (i 0).val < 4 := (i 0).isLt
  have h1 : (i 1).val < 16 := (i 1).isLt
  obtain ⟨t, ht⟩ := point ((i 0).val * 8 + (i 1).val / 2) (by omega)
  refine ⟨t, flush7 t, ?_⟩
  have h := ((cfg0.win 7).blk t).view.emb_mem_set (ix4 (0 : Fin 1) (⟨(i 1).val % 2, by omega⟩ : Fin 2) (⟨(i 2).val, (i 2).isLt⟩ : Fin 640) (⟨(i 3).val, (i 3).isLt⟩ : Fin 256))
  rw [emb7] at h
  have e : (ix4 (bat t) (kblk t ⟨(i 1).val % 2, by omega⟩) (⟨(i 2).val, (i 2).isLt⟩ : Fin 640) (⟨(i 3).val, (i 3).isLt⟩ : Fin 256) : S4x16x640x256.Idx) = i := by
    funext a; apply Fin.ext
    match a with
    | ⟨0, _⟩ => show t.val / 8 = (i 0).val; rw [ht]; omega
    | ⟨1, _⟩ => show t.val % 8 * 2 + (i 1).val % 2 = (i 1).val; rw [ht]; omega
    | ⟨2, _⟩ => rfl
    | ⟨3, _⟩ => rfl
  rw [← e]; exact h

theorem result7 (c : Dev nD) : (dats m 0 c).arrAt 7 cfg0.N = val7 m c :=
  (dats m 0 c).arrAt_eq_of_cover 7 (val7 m c) (fun t _ => flushed7 m c t) cover7

end Cert.Kernel4Ideal.Body

namespace Cert.Proof

open Idealize.ShloMosaic Idealize.ShloMosaic.TcCoe Idealize.SL.Sem

theorem frame_kernel4 : Cert.quiescent_Kernel4 (hKernel4 := Cert.Kernel4.Gen.facts) := fun m g _ =>
  Cert.Kernel4.Gen.frame (F := Bits) m g

theorem frame_kernel4Ideal : Cert.quiescent_Kernel4Ideal (hKernel4Ideal := Cert.Kernel4Ideal.Gen.facts) := fun m g _ =>
  Cert.Kernel4Ideal.Gen.frame (F := Ideal) m g

theorem frame_reference4 : Cert.quiescent_Reference4Ideal (hReference4Ideal := Cert.Reference4Ideal.Gen.facts) := fun m g _ =>
  (θ_run Cert.Reference4Ideal.defs _ _).mono (fun r h => ⟨fun c => (h c).2.2.2.2.2.2.2, sem_eq_zero_of_no_sems (by decide) r.2⟩)
    (Cert.Reference4Ideal.Value.run (F := Ideal) m g)

theorem preserves4 : Cert.preserves_Kernel4_Kernel4Ideal :=
  IdealRules.named_const.statement Cert.Kernel4Ideal.κ "q_scale" .f32 0x3E38AA3B#32 ((8⁻¹ * (Real.log 2)⁻¹ : ℝ) : EReal) rfl

theorem algebraic4 : algebraic_Kernel4Ideal_Reference4Ideal := by
  intro m g m' g' _ hargs
  refine ⟨Kernel4Ideal.Body.val5 m, Kernel4Ideal.Body.val6 m, Kernel4Ideal.Body.val7 m, Kernel4Ideal.Body.val8 m, Kernel4Ideal.Body.val9 m, Kernel4Ideal.Body.val10 m, Kernel4Ideal.Body.val11 m, ?_, ?_⟩
  · refine (θ_run Kernel4Ideal.defs _ _).mono (fun r h c => ?_) (Kernel4Ideal.Value.run_blocks m g)
    obtain ⟨h5, h6, h7, h8, h9, h10, h11, hk⟩ := h c
    exact ⟨h5.trans (Kernel4Ideal.Body.result5 m c), h6.trans (Kernel4Ideal.Body.result6 m c), h7.trans (Kernel4Ideal.Body.result7 m c), h8.trans (Kernel4Ideal.Body.result8 m c), h9.trans (Kernel4Ideal.Body.result9 m c), h10.trans (Kernel4Ideal.Body.result10 m c), h11.trans (Kernel4Ideal.Body.result11 m c), hk⟩
  · refine (θ_run Reference4Ideal.defs _ _).mono (fun r h c => ?_) (Reference4Ideal.Value.run m' g')
    obtain ⟨h5, h6, h7, h8, h9, h10, h11, hk⟩ := h c
    obtain ⟨a0, a1, a2, a3, a4⟩ := hargs c
    refine ⟨h5.trans ?_, h6.trans ?_, h7.trans ?_, h8.trans ?_, h9.trans ?_, h10.trans ?_, h11.trans ?_, hk⟩
    · rw [Reference4Ideal.Read.val_main_v37_eq, a0, a1, a2]; rfl
    · rw [Reference4Ideal.Read.val_main_v38_eq, a0, a1, a2]; rfl
    · rw [Reference4Ideal.Read.val_main_v39_eq, a0, a1, a2]; rfl
    · rw [Reference4Ideal.Read.val_main_v20_eq, a0, a1, a2]; rfl
    · rw [Reference4Ideal.Read.val_main_v22_eq, a0, a1, a2]; rfl
    · rw [Reference4Ideal.Read.val_main_v23_eq, a0, a1, a3]; rfl
    · rw [Reference4Ideal.Read.val_main_v24_eq, a0, a1, a4]; rfl

end Cert.Proof

end
-- ==== Proof.Combine.lean ====
/-
  The combining call: its runs, and its result array as the reference's value.
-/
module

public import proofs.«01_k».proof.Proof.Rows
public import proofs.«01_k».proof.Proof.Gen.Kernel5.Value
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

namespace Cert.Rows

/-- A token's row with its two experts' rows, each times its gate. -/
def comb (x y0 y1 : Fin 1024 → EReal) (r : Fin 8 → EReal) (k : Fin 1024) : EReal := x k + r 2 * y0 k + r 3 * y1 k

end Cert.Rows

namespace Cert.Kernel5Ideal.Body

open Cert Cert.Kernel5Ideal Cert.Kernel5Ideal.Gen
open Idealize.ShloMosaic Idealize.ShloMosaic.TcCoe Idealize.ShloMosaic.Tactic Idealize.SL.Sem

theorem hz : (![0, 0] : Fin 2 → Nat) = fun _ => 0 := funext fun a => by fin_cases a <;> rfl

theorem out_eq (x y0 y1 : FVec Ideal S512x1024 .f32) (r : FVec Ideal S512x8 .f32) (g : FVec Ideal S1x1024 .f32) :
    out0_5 (F := Ideal) x y0 y1 r g = k0_pay1 (F := Ideal) r x y0 y1 g := by
  unfold out0_5 r0_0 r0_1 r0_2
  rw [View.canon_unit_zero hz]
  simp only [View.ld_unit_zero (S := S512x1024) hz, View.ld_unit_zero (S := S1x1024) hz, View.ld_unit_zero (S := S512x8) hz]

theorem pay_at (x y0 y1 : FVec Ideal S512x1024 .f32) (r : FVec Ideal S512x8 .f32) (g : FVec Ideal S1x1024 .f32) (l : Fin 512) (j : Fin 1024) :
    (k0_pay1 (F := Ideal) r x y0 y1 g (ix2 l j) : EReal)
      = Rows.norm (Rows.comb (fun k => x (ix2 l k)) (fun k => y0 (ix2 l k)) (fun k => y1 (ix2 l k)) (fun k => r (ix2 l k))) (fun k => g (ix2 0 k)) j := by
  pointwise [k0_pay1, Rows.comb, Rows.norm]

variable (m : (ℓ : Loc nD τ sig) → Buf (Elt Ideal) ℓ)

theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx2 : ∀ t : Fin cfg0.N, win0_2.index t 0 = t.val ∧ win0_2.index t 1 = 0 := by decide +kernel
theorem idx3 : ∀ t : Fin cfg0.N, win0_3.index t 0 = t.val ∧ win0_3.index t 1 = 0 := by decide +kernel
theorem idx4 : ∀ t : Fin cfg0.N, win0_4.index t 0 = 0 ∧ win0_4.index t 1 = 0 := by decide +kernel
theorem idx5 : ∀ t : Fin cfg0.N, win0_5.index t 0 = t.val ∧ win0_5.index t 1 = 0 := by decide +kernel

theorem lt32 (t : Fin cfg0.N) : t.val < 32 := lt_of_lt_of_eq t.isLt (show cfg0.N = 32 from N_0)

/-- A row of a point's tile, as a row of the whole. -/
def row (t : Fin cfg0.N) (l : Fin 512) : Fin 16384 := ⟨t.val * 512 + l.val, by have := lt32 t; omega⟩

theorem blk_x (c : Dev nD) (t : Fin cfg0.N) (l : Fin 512) (k : Fin 1024) :
    (iblk m c 0 t (ix2 l k) : EReal) = m ((c : Thread nD τ).loc main_arg0) (ix2 (row t l) k) := by
  show V m c main_arg0 (((cfg0.win 0).blk t).view.emb (ix2 l k)) = _
  obtain ⟨e0, e1⟩ := idx0 t
  refine congrArg (m ((c : Thread nD τ).loc main_arg0)) (funext fun a => Fin.ext ?_)
  match a with
  | ⟨0, _⟩ => show win0_0.index t 0 * 512 + 1 * l.val = t.val * 512 + l.val; rw [e0]; omega
  | ⟨1, _⟩ => show win0_0.index t 1 * 1024 + 1 * k.val = k.val; rw [e1]; omega

theorem blk_y0 (c : Dev nD) (t : Fin cfg0.N) (l : Fin 512) (k : Fin 1024) :
    (iblk m c 1 t (ix2 l k) : EReal) = m ((c : Thread nD τ).loc main_arg1) (ix2 (row t l) k) := by
  show V m c main_arg1 (((cfg0.win 1).blk t).view.emb (ix2 l k)) = _
  obtain ⟨e0, e1⟩ := idx1 t
  refine congrArg (m ((c : Thread nD τ).loc main_arg1)) (funext fun a => Fin.ext ?_)
  match a with
  | ⟨0, _⟩ => show win0_1.index t 0 * 512 + 1 * l.val = t.val * 512 + l.val; rw [e0]; omega
  | ⟨1, _⟩ => show win0_1.index t 1 * 1024 + 1 * k.val = k.val; rw [e1]; omega

theorem blk_y1 (c : Dev nD) (t : Fin cfg0.N) (l : Fin 512) (k : Fin 1024) :
    (iblk m c 2 t (ix2 l k) : EReal) = m ((c : Thread nD τ).loc main_arg2) (ix2 (row t l) k) := by
  show V m c main_arg2 (((cfg0.win 2).blk t).view.emb (ix2 l k)) = _
  obtain ⟨e0, e1⟩ := idx2 t
  refine congrArg (m ((c : Thread nD τ).loc main_arg2)) (funext fun a => Fin.ext ?_)
  match a with
  | ⟨0, _⟩ => show win0_2.index t 0 * 512 + 1 * l.val = t.val * 512 + l.val; rw [e0]; omega
  | ⟨1, _⟩ => show win0_2.index t 1 * 1024 + 1 * k.val = k.val; rw [e1]; omega

theorem blk_r (c : Dev nD) (t : Fin cfg0.N) (l : Fin 512) (k : Fin 8) :
    (iblk m c 3 t (ix2 l k) : EReal) = m ((c : Thread nD τ).loc main_arg3) (ix2 (row t l) k) := by
  show V m c main_arg3 (((cfg0.win 3).blk t).view.emb (ix2 l k)) = _
  obtain ⟨e0, e1⟩ := idx3 t
  refine congrArg (m ((c : Thread nD τ).loc main_arg3)) (funext fun a => Fin.ext ?_)
  match a with
  | ⟨0, _⟩ => show win0_3.index t 0 * 512 + 1 * l.val = t.val * 512 + l.val; rw [e0]; omega
  | ⟨1, _⟩ => show win0_3.index t 1 * 8 + 1 * k.val = k.val; rw [e1]; omega

theorem blk_g (c : Dev nD) (t : Fin cfg0.N) (k : Fin 1024) :
    (iblk m c 4 t (ix2 0 k) : EReal) = m ((c : Thread nD τ).loc main_arg4) (ix2 0 k) := by
  show V m c main_arg4 (((cfg0.win 4).blk t).view.emb (ix2 0 k)) = _
  obtain ⟨e0, e1⟩ := idx4 t
  refine congrArg (m ((c : Thread nD τ).loc main_arg4)) (funext fun a => Fin.ext ?_)
  match a with
  | ⟨0, _⟩ => show win0_4.index t 0 * 1 + 1 * 0 = 0; rw [e0]
  | ⟨1, _⟩ => show win0_4.index t 1 * 1024 + 1 * k.val = k.val; rw [e1]; omega

end Cert.Kernel5Ideal.Body

namespace Cert.Reference5Ideal.Read

open Cert Idealize.ShloMosaic Idealize.ShloMosaic.Tactic

theorem sum_at (x y0 y1 : FVec Ideal S16384x1024 .f32) (r : FVec Ideal S16384x8 .f32) (p : Fin 16384) (k : Fin 1024) :
    (val_main_v8 (F := Ideal) x y0 y1 r (ix2 p k) : EReal) = x (ix2 p k) + (y0 (ix2 p k) * r (ix2 p 2) + y1 (ix2 p k) * r (ix2 p 3)) := by
  pointwise [val_main_v8, val_main_v7, val_main_v6, val_main_v5, val_main_v4, val_main_v3, val_main_v2, val_main_v1, val_main_v0]

theorem comb_at (x y0 y1 : FVec Ideal S16384x1024 .f32) (r : FVec Ideal S16384x8 .f32) (p : Fin 16384) (k : Fin 1024) :
    (val_main_v8 (F := Ideal) x y0 y1 r (ix2 p k) : EReal)
      = Rows.comb (fun k => x (ix2 p k)) (fun k => y0 (ix2 p k)) (fun k => y1 (ix2 p k)) (fun k => r (ix2 p k)) k := by
  rw [sum_at]
  unfold Rows.comb
  rw [add_assoc, mul_comm (y0 (ix2 p k) : EReal), mul_comm (y1 (ix2 p k) : EReal)]

theorem out_at (x y0 y1 : FVec Ideal S16384x1024 .f32) (r : FVec Ideal S16384x8 .f32) (g : FVec Ideal S1x1024 .f32) (p : Fin 16384) (k : Fin 1024) :
    (val_main_v22 (F := Ideal) x y0 y1 r g (ix2 p k) : EReal)
      = Rows.norm (Rows.comb (fun k => x (ix2 p k)) (fun k => y0 (ix2 p k)) (fun k => y1 (ix2 p k)) (fun k => r (ix2 p k))) (fun k => g (ix2 0 k)) k := by
  unfold Rows.norm
  pointwise [val_main_v22, val_main_v21, val_main_v20, val_main_v9, val_main_v19, val_main_v18, val_main_v17, val_main_v16, val_main_v15, val_main_cst_1, val_main_v14, val_main_v13, val_main_cst_0, val_main_v12, val_main_v11, val_main_cst, val_main_v10, comb_at]

end Cert.Reference5Ideal.Read

namespace Cert.Kernel5Ideal.Body

open Cert Cert.Kernel5Ideal Cert.Kernel5Ideal.Gen
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg)

/-- The reference's value of the arguments. -/
def val (c : Dev nD) : FVec Ideal S16384x1024 .f32 :=
  Reference5Ideal.Read.val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4))

theorem tile_at (c : Dev nD) (t : Fin cfg0.N) (l : Fin 512) (j : Fin 1024) :
    out0_5 (F := Ideal) (iblk m c 0 t) (iblk m c 1 t) (iblk m c 2 t) (iblk m c 3 t) (iblk m c 4 t) (ix2 l j) = val m c (ix2 (row t l) j) := by
  rw [out_eq]
  refine (pay_at _ _ _ _ _ l j).trans (Eq.trans ?_ (Reference5Ideal.Read.out_at _ _ _ _ _ (row t l) j).symm)
  simp only [blk_x, blk_y0, blk_y1, blk_r, blk_g]

theorem emb5 (t : Fin cfg0.N) (l : Fin 512) (k : Fin 1024) :
    ((cfg0.win 5).blk t).view.emb (ix2 l k) = (ix2 (row t l) k : S16384x1024.Idx) := by
  obtain ⟨e0, e1⟩ := idx5 t
  funext a; apply Fin.ext
  match a with
  | ⟨0, _⟩ => show win0_5.index t 0 * 512 + 1 * l.val = t.val * 512 + l.val; rw [e0]; omega
  | ⟨1, _⟩ => show win0_5.index t 1 * 1024 + 1 * k.val = k.val; rw [e1]; omega

theorem cut_read (t : Fin cfg0.N) (X : FVec Ideal S512x1024 .f32) (G : FVec Ideal S16384x1024 .f32)
    (hG : ∀ y : S512x1024.Idx, X y = G (((cfg0.win 5).blk t).view.emb y)) :
    (cfg0.win 5).cut (grid0.coords t) X = ((cfg0.win 5).blk t).view.read (Elt Ideal) G :=
  funext fun y => hG y

theorem flushed_eq (c : Dev nD) (t : Fin cfg0.N) :
    (dats m 0 c).flushed 5 t = ((cfg0.win 5).blk t).view.read (Elt Ideal) (val m c) := by
  rw [Value.flushed5]
  refine cut_read t _ (val m c) fun y => ?_
  have e : y = ix2 (y 0) (y 1) := by
    funext a
    match a with
    | ⟨0, _⟩ => rfl
    | ⟨1, _⟩ => rfl
  rw [e]
  exact (tile_at m c t (y 0) (y 1)).trans (congrArg (val m c) (emb5 t (y 0) (y 1))).symm

theorem flush5 : ∀ t : Fin cfg0.N, (cfg0.win 5).flush t = true := by decide +kernel

theorem cover (i : S16384x1024.Idx) : ∃ t : Fin cfg0.N, (cfg0.win 5).flush t = true ∧ i ∈ ((cfg0.win 5).blk t).view.set := by
  have h0 : (i 0).val < 16384 := (i 0).isLt
  have h1 : (i 1).val < 1024 := (i 1).isLt
  obtain ⟨t, ht⟩ : ∃ t : Fin cfg0.N, t.val = (i 0).val / 512 := ⟨⟨(i 0).val / 512, lt_of_lt_of_eq (by omega) (show cfg0.N = 32 from N_0).symm⟩, rfl⟩
  refine ⟨t, flush5 t, ?_⟩
  have h := ((cfg0.win 5).blk t).view.emb_mem_set (ix2 (⟨(i 0).val % 512, by omega⟩ : Fin 512) (⟨(i 1).val, h1⟩ : Fin 1024))
  rw [emb5] at h
  have e : (ix2 (row t ⟨(i 0).val % 512, by omega⟩) (⟨(i 1).val, h1⟩ : Fin 1024) : S16384x1024.Idx) = i := by
    funext a; apply Fin.ext
    match a with
    | ⟨0, _⟩ => show t.val * 512 + (i 0).val % 512 = (i 0).val; rw [ht]; omega
    | ⟨1, _⟩ => rfl
  rw [← e]; exact h

theorem result (c : Dev nD) : (dats m 0 c).arrAt 5 cfg0.N = val m c :=
  (dats m 0 c).arrAt_eq_of_cover 5 (val m c) (fun t _ => flushed_eq m c t) cover

end Cert.Kernel5Ideal.Body

namespace Cert.Proof

open Idealize.ShloMosaic Idealize.ShloMosaic.TcCoe Idealize.SL.Sem

theorem frame_kernel5 : Cert.quiescent_Kernel5 (hKernel5 := Cert.Kernel5.Gen.facts) := fun m g _ =>
  Cert.Kernel5.Gen.frame (F := Bits) m g

theorem frame_kernel5Ideal : Cert.quiescent_Kernel5Ideal (hKernel5Ideal := Cert.Kernel5Ideal.Gen.facts) := fun m g _ =>
  Cert.Kernel5Ideal.Gen.frame (F := Ideal) m g

theorem frame_reference5 : Cert.quiescent_Reference5Ideal (hReference5Ideal := Cert.Reference5Ideal.Gen.facts) := fun m g _ =>
  (θ_run Cert.Reference5Ideal.defs _ _).mono (fun r h => ⟨fun c => (h c).2, sem_eq_zero_of_no_sems (by decide) r.2⟩)
    (Cert.Reference5Ideal.Value.run (F := Ideal) m g)

theorem algebraic5 : algebraic_Kernel5Ideal_Reference5Ideal := by
  intro m g m' g' _ hargs
  refine ⟨fun c => Kernel5Ideal.Body.val m c, ?_, ?_⟩
  · exact (θ_run Kernel5Ideal.defs _ _).mono (fun r h c => ⟨(h c).1.trans (Kernel5Ideal.Body.result m c), (h c).2⟩) (Kernel5Ideal.Value.run_blocks m g)
  · refine (θ_run Reference5Ideal.defs _ _).mono (fun r h c => ⟨(h c).1.trans ?_, (h c).2⟩) (Reference5Ideal.Value.run m' g')
    obtain ⟨a0, a1, a2, a3, a4⟩ := hargs c
    rw [Reference5Ideal.Read.val_main_v22_eq, a0, a1, a2, a3, a4]
    rfl

end Cert.Proof

end
-- ==== Proof.ProjSample.lean ====
/-
  The sample group's projection call: its runs, and its five result arrays as the reference's values.
-/
module

public import proofs.«01_k».proof.Proof.Rows
public import proofs.«01_k».proof.Proof.Gen.Kernel6.Value
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

namespace Cert.Kernel6Ideal.Body

open Cert Cert.Kernel6Ideal Cert.Kernel6Ideal.Gen
open Idealize.ShloMosaic Idealize.ShloMosaic.TcCoe Idealize.ShloMosaic.Tactic Idealize.SL.Sem
open Idealize.ShloMosaic.Pipeline (Dat)

theorem hz : (![0, 0] : Fin 2 → Nat) = fun _ => 0 := funext fun a => by fin_cases a <;> rfl

section Tile

variable (x : FVec Ideal S32x1024 .f32) (g : FVec Ideal S1x1024 .f32) (w : FVec Ideal S1024x1536 .f32) (wr : FVec Ideal S1024x1536 .f32) (wl : FVec Ideal S1024x384 .f32)

/-- The tile's normed row. -/
abbrev nrm (l : Fin 32) (k : Fin 1024) : EReal := Rows.norm (fun k => x (ix2 l k)) (fun k => g (ix2 0 k)) k

theorem cut_at (o : Nat) (ho : o + 512 ≤ 1536) (inb : ∀ a, (![0, o] : Fin 2 → Nat) a + S1024x512.size a ≤ S1024x1536.size a) (k : Fin 1024) (j : Fin 512) :
    View.ld (S := S1024x1536) (Val := Elt Ideal) (e' := .f32) w (Rect.unit (s := S1024x1536) ![0, o] S1024x512.size inb) (ix2 k j) = w (ix2 k ⟨o + j.val, by omega⟩) := by
  refine congrArg w (funext fun a => Fin.ext ?_)
  match a with
  | ⟨0, _⟩ => show 0 + 1 * k.val = k.val; omega
  | ⟨1, _⟩ => show o + 1 * j.val = o + j.val; omega

theorem pay4_at (w' : FVec Ideal S1024x512 .f32) (l : Fin 32) (j : Fin 512) :
    (k0_pay4 (F := Ideal) x g w' (ix2 l j) : EReal) = ∑ k : Fin 1024, nrm x g l k * w' (ix2 k j) := by
  pointwise [k0_pay4, k0_pay2, nrm, Rows.norm]

theorem pay5_at (w' : FVec Ideal S1024x512 .f32) (l : Fin 32) (j : Fin 512) :
    (k0_pay5 (F := Ideal) x g w' (ix2 l j) : EReal) = ∑ k : Fin 1024, nrm x g l k * w' (ix2 k j) := by
  pointwise [k0_pay5, k0_pay2, nrm, Rows.norm]

theorem pay3_at (w' : FVec Ideal S1024x512 .f32) (l : Fin 32) (j : Fin 512) :
    (k0_pay3 (F := Ideal) x g w' (ix2 l j) : EReal) = (∑ k : Fin 1024, nrm x g l k * w' (ix2 k j)) * ((8⁻¹ * (Real.log 2)⁻¹ : ℝ) : EReal) := by
  have h' : (k0_pay3 (F := Ideal) x g w' (ix2 l j) : EReal) = (k0_pay4 (F := Ideal) x g w' (ix2 l j) : EReal) * ((8⁻¹ * (Real.log 2)⁻¹ : ℝ) : EReal) := rfl
  rw [h', pay4_at]

theorem pay6_at (l : Fin 32) (j : Fin 1536) :
    (k0_pay6 (F := Ideal) x g wr (ix2 l j) : EReal) = ∑ k : Fin 1024, nrm x g l k * wr (ix2 k j) := by
  pointwise [k0_pay6, k0_pay2, nrm, Rows.norm]

theorem pay1_at (l : Fin 32) (j : Fin 384) :
    (k0_pay1 (F := Ideal) (k0_pay2 (F := Ideal) x g) wl (ix2 l j) : EReal) = ∑ k : Fin 1024, nrm x g l k * wl (ix2 k j) := by
  pointwise [k0_pay1, k0_pay2, nrm, Rows.norm]

theorem out5_at (l : Fin 32) (j : Fin 512) :
    (out0_5 (F := Ideal) x g w wr wl (ix2 l j) : EReal) = (∑ k : Fin 1024, nrm x g l k * w (ix2 k ⟨0 + j.val, by omega⟩)) * ((8⁻¹ * (Real.log 2)⁻¹ : ℝ) : EReal) := by
  unfold out0_5
  rw [View.canon_unit_zero hz]
  simp only [View.ld_unit_zero (S := S32x1024) hz, View.ld_unit_zero (S := S1x1024) hz]
  refine (pay3_at x g _ l j).trans (congrArg (fun y : EReal => y * _) (Finset.sum_congr rfl fun k _ => ?_))
  rw [cut_at w 0 (by omega)]

theorem out6_at (l : Fin 32) (j : Fin 512) :
    (out0_6 (F := Ideal) x g w wr wl (ix2 l j) : EReal) = ∑ k : Fin 1024, nrm x g l k * w (ix2 k ⟨512 + j.val, by omega⟩) := by
  unfold out0_6
  rw [View.canon_unit_zero hz]
  simp only [View.ld_unit_zero (S := S32x1024) hz, View.ld_unit_zero (S := S1x1024) hz]
  refine (pay4_at x g _ l j).trans (Finset.sum_congr rfl fun k _ => ?_)
  rw [cut_at w 512 (by omega)]

theorem out7_at (l : Fin 32) (j : Fin 512) :
    (out0_7 (F := Ideal) x g w wr wl (ix2 l j) : EReal) = ∑ k : Fin 1024, nrm x g l k * w (ix2 k ⟨1024 + j.val, by omega⟩) := by
  unfold out0_7
  rw [View.canon_unit_zero hz]
  simp only [View.ld_unit_zero (S := S32x1024) hz, View.ld_unit_zero (S := S1x1024) hz]
  refine (pay5_at x g _ l j).trans (Finset.sum_congr rfl fun k _ => ?_)
  rw [cut_at w 1024 (by omega)]

theorem out8_at (l : Fin 32) (j : Fin 1536) :
    (out0_8 (F := Ideal) x g w wr wl (ix2 l j) : EReal) = ∑ k : Fin 1024, nrm x g l k * wr (ix2 k j) := by
  unfold out0_8
  rw [View.canon_unit_zero hz]
  simp only [View.ld_unit_zero (S := S32x1024) hz, View.ld_unit_zero (S := S1x1024) hz, View.ld_unit_zero (S := S1024x1536) hz]
  exact pay6_at x g wr l j

theorem out9_at (l : Fin 32) (j : Fin 384) :
    (out0_9 (F := Ideal) x g w wr wl (ix2 l j) : EReal) = ∑ k : Fin 1024, nrm x g l k * wl (ix2 k j) := by
  unfold out0_9
  rw [View.canon_unit_zero hz]
  simp only [View.ld_unit_zero (S := S32x1024) hz, View.ld_unit_zero (S := S1x1024) hz, View.ld_unit_zero (S := S1024x384) hz]
  exact pay1_at x g wl l j

end Tile

end Cert.Kernel6Ideal.Body

namespace Cert.Reference6Ideal.Read

open Cert Idealize.ShloMosaic Idealize.ShloMosaic.Tactic

variable (x : FVec Ideal S32x1024 .f32) (g : FVec Ideal S1x1024 .f32) (w : FVec Ideal S1024x1536 .f32) (wr : FVec Ideal S1024x1536 .f32) (wl : FVec Ideal S1024x384 .f32)

abbrev nrm (p : Fin 32) (k : Fin 1024) : EReal := Rows.norm (fun k => x (ix2 p k)) (fun k => g (ix2 0 k)) k

theorem norm_at (p : Fin 32) (k : Fin 1024) :
    val_main_v13 (F := Ideal) x g (ix2 p k) = nrm x g p k := by
  unfold nrm Rows.norm
  pointwise [val_main_v13, val_main_v12, val_main_v11, val_main_v0, val_main_v10, val_main_v9, val_main_v8, val_main_v7, val_main_v6, val_main_cst_1, val_main_v5, val_main_v4, val_main_cst_0, val_main_v3, val_main_v2, val_main_v1, val_main_cst]

theorem q0_at (p : Fin 32) (j : Fin 512) :
    (val_main_v15 (F := Ideal) x g w (ix2 p j) : EReal) = ∑ k : Fin 1024, nrm x g p k * w (ix2 k ⟨0 + j.val, by omega⟩) := by
  pointwise [val_main_v15, val_main_v14, norm_at]

theorem k_at (p : Fin 32) (j : Fin 512) :
    (val_main_v17 (F := Ideal) x g w (ix2 p j) : EReal) = ∑ k : Fin 1024, nrm x g p k * w (ix2 k ⟨512 + j.val, by omega⟩) := by
  pointwise [val_main_v17, val_main_v16, norm_at]

theorem v_at (p : Fin 32) (j : Fin 512) :
    (val_main_v19 (F := Ideal) x g w (ix2 p j) : EReal) = ∑ k : Fin 1024, nrm x g p k * w (ix2 k ⟨1024 + j.val, by omega⟩) := by
  pointwise [val_main_v19, val_main_v18, norm_at]

theorem rkv_at (p : Fin 32) (j : Fin 1536) :
    (val_main_v25 (F := Ideal) x g wr (ix2 p j) : EReal) = ∑ k : Fin 1024, nrm x g p k * wr (ix2 k j) := by
  pointwise [val_main_v25, norm_at]

theorem lora_at (p : Fin 32) (j : Fin 384) :
    (val_main_v26 (F := Ideal) x g wl (ix2 p j) : EReal) = ∑ k : Fin 1024, nrm x g p k * wl (ix2 k j) := by
  pointwise [val_main_v26, norm_at]

theorem q_at (p : Fin 32) (j : Fin 512) :
    (val_main_v24 (F := Ideal) x g w (ix2 p j) : EReal) = (∑ k : Fin 1024, nrm x g p k * w (ix2 k ⟨0 + j.val, by omega⟩)) * ((8⁻¹ * (Real.log 2)⁻¹ : ℝ) : EReal) := by
  rw [← q0_at]
  have h8 : Ideal.ofBits .f32 0x3E000000#32 = ((8⁻¹ : ℝ) : EReal) := by
    simp [Ideal.ofBits, Ideal.ieee]
    rw [← EReal.coe_mul]; norm_num
  have h2 : Ideal.ofBits .f32 0x40000000#32 = ((2 : ℝ) : EReal) := by
    simp [Ideal.ofBits, Ideal.ieee]
    rw [← EReal.coe_mul]; norm_num
  have hl : Real.log 2 ≠ 0 := (Real.log_pos (by norm_num)).ne'
  show Ideal.div ((val_main_v15 (F := Ideal) x g w (ix2 p j) : EReal) * Ideal.ofBits .f32 0x3E000000#32) (Ideal.log (Ideal.ofBits .f32 0x40000000#32)) = _
  rw [h8, h2, Ideal.log_coe, if_neg (by norm_num), Ideal.div_coe hl, mul_assoc, ← EReal.coe_mul, one_div]

end Cert.Reference6Ideal.Read

namespace Cert.Kernel6Ideal.Body

open Cert Cert.Kernel6Ideal Cert.Kernel6Ideal.Gen
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg)

theorem idx0 : ∀ t : Fin cfg0.N, win0_0.index t 0 = t.val ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = 0 ∧ win0_2.index t 1 = 0 := by decide +kernel
theorem idx3 : ∀ t : Fin cfg0.N, win0_3.index t 0 = 0 ∧ win0_3.index t 1 = 0 := by decide +kernel
theorem idx4 : ∀ t : Fin cfg0.N, win0_4.index t 0 = 0 ∧ win0_4.index t 1 = 0 := by decide +kernel
theorem lt1 (t : Fin cfg0.N) : t.val < 1 := lt_of_lt_of_eq t.isLt (show cfg0.N = 1 from N_0)

/-- A row of a point's tile, as a row of the whole. -/
def row (t : Fin cfg0.N) (l : Fin 32) : Fin 32 := ⟨t.val * 32 + l.val, by have := lt1 t; omega⟩

theorem point (n : Nat) (h : n < 1) : ∃ t : Fin cfg0.N, t.val = n := ⟨⟨n, lt_of_lt_of_eq h (show cfg0.N = 1 from N_0).symm⟩, rfl⟩

theorem blk_x (c : Dev nD) (t : Fin cfg0.N) (l : Fin 32) (k : Fin 1024) :
    (iblk m c 0 t (ix2 l k) : EReal) = m ((c : Thread nD τ).loc main_arg0) (ix2 (row t l) k) := by
  show V m c main_arg0 (((cfg0.win 0).blk t).view.emb (ix2 l k)) = _
  obtain ⟨e0, e1⟩ := idx0 t
  refine congrArg (m ((c : Thread nD τ).loc main_arg0)) (funext fun a => Fin.ext ?_)
  match a with
  | ⟨0, _⟩ => show win0_0.index t 0 * 32 + 1 * l.val = t.val * 32 + l.val; rw [e0]; omega
  | ⟨1, _⟩ => show win0_0.index t 1 * 1024 + 1 * k.val = k.val; rw [e1]; omega

theorem blk_g (c : Dev nD) (t : Fin cfg0.N) (k : Fin 1024) :
    (iblk m c 1 t (ix2 0 k) : EReal) = m ((c : Thread nD τ).loc main_arg1) (ix2 0 k) := by
  show V m c main_arg1 (((cfg0.win 1).blk t).view.emb (ix2 0 k)) = _
  obtain ⟨e0, e1⟩ := idx1 t
  refine congrArg (m ((c : Thread nD τ).loc main_arg1)) (funext fun a => Fin.ext ?_)
  match a with
  | ⟨0, _⟩ => show win0_1.index t 0 * 1 + 1 * 0 = 0; rw [e0]
  | ⟨1, _⟩ => show win0_1.index t 1 * 1024 + 1 * k.val = k.val; rw [e1]; omega

theorem blk_w (c : Dev nD) (t : Fin cfg0.N) (k : Fin 1024) (j : Fin 1536) :
    (iblk m c 2 t (ix2 k j) : EReal) = m ((c : Thread nD τ).loc main_arg2) (ix2 k j) := by
  show V m c main_arg2 (((cfg0.win 2).blk t).view.emb (ix2 k j)) = _
  obtain ⟨e0, e1⟩ := idx2 t
  refine congrArg (m ((c : Thread nD τ).loc main_arg2)) (funext fun a => Fin.ext ?_)
  match a with
  | ⟨0, _⟩ => show win0_2.index t 0 * 1024 + 1 * k.val = k.val; rw [e0]; omega
  | ⟨1, _⟩ => show win0_2.index t 1 * 1536 + 1 * j.val = j.val; rw [e1]; omega

theorem blk_wr (c : Dev nD) (t : Fin cfg0.N) (k : Fin 1024) (j : Fin 1536) :
    (iblk m c 3 t (ix2 k j) : EReal) = m ((c : Thread nD τ).loc main_arg3) (ix2 k j) := by
  show V m c main_arg3 (((cfg0.win 3).blk t).view.emb (ix2 k j)) = _
  obtain ⟨e0, e1⟩ := idx3 t
  refine congrArg (m ((c : Thread nD τ).loc main_arg3)) (funext fun a => Fin.ext ?_)
  match a with
  | ⟨0, _⟩ => show win0_3.index t 0 * 1024 + 1 * k.val = k.val; rw [e0]; omega
  | ⟨1, _⟩ => show win0_3.index t 1 * 1536 + 1 * j.val = j.val; rw [e1]; omega

theorem blk_wl (c : Dev nD) (t : Fin cfg0.N) (k : Fin 1024) (j : Fin 384) :
    (iblk m c 4 t (ix2 k j) : EReal) = m ((c : Thread nD τ).loc main_arg4) (ix2 k j) := by
  show V m c main_arg4 (((cfg0.win 4).blk t).view.emb (ix2 k j)) = _
  obtain ⟨e0, e1⟩ := idx4 t
  refine congrArg (m ((c : Thread nD τ).loc main_arg4)) (funext fun a => Fin.ext ?_)
  match a with
  | ⟨0, _⟩ => show win0_4.index t 0 * 1024 + 1 * k.val = k.val; rw [e0]; omega
  | ⟨1, _⟩ => show win0_4.index t 1 * 384 + 1 * j.val = j.val; rw [e1]; omega

/-- The reference's value of result 0. -/
def val5 (c : Dev nD) : FVec Ideal S32x512 .f32 :=
  Reference6Ideal.Read.val_main_v24 (F := Ideal) (m ((c : Thread nD τ).loc main_arg0)) (m ((c : Thread nD τ).loc main_arg1)) (m ((c : Thread nD τ).loc main_arg2))

theorem idx5 : ∀ t : Fin cfg0.N, win0_5.index t 0 = t.val ∧ win0_5.index t 1 = 0 := by decide +kernel

theorem tile5 (c : Dev nD) (t : Fin cfg0.N) (l : Fin 32) (j : Fin 512) :
    (out0_5 (F := Ideal) (iblk m c 0 t) (iblk m c 1 t) (iblk m c 2 t) (iblk m c 3 t) (iblk m c 4 t) (ix2 l j) : EReal) = val5 m c (ix2 (row t l) j) := by
  refine (out5_at _ _ _ _ _ l j).trans (Eq.trans ?_ (Reference6Ideal.Read.q_at _ _ _ (row t l) j).symm)
  simp only [nrm, Reference6Ideal.Read.nrm, blk_x, blk_g, blk_w, blk_wr, blk_wl]

theorem emb5 (t : Fin cfg0.N) (l : Fin 32) (k : Fin 512) :
    ((cfg0.win 5).blk t).view.emb (ix2 l k) = (ix2 (row t l) k : S32x512.Idx) := by
  obtain ⟨e0, e1⟩ := idx5 t
  funext a; apply Fin.ext
  match a with
  | ⟨0, _⟩ => show win0_5.index t 0 * 32 + 1 * l.val = t.val * 32 + l.val; rw [e0]; omega
  | ⟨1, _⟩ => show win0_5.index t 1 * 512 + 1 * k.val = k.val; rw [e1]; omega

theorem cut5 (t : Fin cfg0.N) (X : FVec Ideal S32x512 .f32) (G : FVec Ideal S32x512 .f32)
    (hG : ∀ y : S32x512.Idx, X y = G (((cfg0.win 5).blk t).view.emb y)) :
    (cfg0.win 5).cut (grid0.coords t) X = ((cfg0.win 5).blk t).view.read (Elt Ideal) G :=
  funext fun y => hG y

theorem flushed5 (c : Dev nD) (t : Fin cfg0.N) :
    (dats m 0 c).flushed 5 t = ((cfg0.win 5).blk t).view.read (Elt Ideal) (val5 m c) := by
  rw [Value.flushed5]
  refine cut5 t _ (val5 m c) fun y => ?_
  have e : y = ix2 (y 0) (y 1) := by
    funext a
    match a with
    | ⟨0, _⟩ => rfl
    | ⟨1, _⟩ => rfl
  rw [e]
  exact (tile5 m c t (y 0) (y 1)).trans (congrArg (val5 m c) (emb5 t (y 0) (y 1))).symm

theorem flush5 : ∀ t : Fin cfg0.N, (cfg0.win 5).flush t = true := by decide +kernel

theorem cover5 (i : S32x512.Idx) : ∃ t : Fin cfg0.N, (cfg0.win 5).flush t = true ∧ i ∈ ((cfg0.win 5).blk t).view.set := by
  have h0 : (i 0).val < 32 := (i 0).isLt
  have h1 : (i 1).val < 512 := (i 1).isLt
  obtain ⟨t, ht⟩ := point 0 (by omega)
  refine ⟨t, flush5 t, ?_⟩
  have h := ((cfg0.win 5).blk t).view.emb_mem_set (ix2 (⟨(i 0).val, h0⟩ : Fin 32) (⟨(i 1).val, h1⟩ : Fin 512))
  rw [emb5] at h
  have e : (ix2 (row t ⟨(i 0).val, h0⟩) (⟨(i 1).val, h1⟩ : Fin 512) : S32x512.Idx) = i := by
    funext a; apply Fin.ext
    match a with
    | ⟨0, _⟩ => show t.val * 32 + (i 0).val = (i 0).val; rw [ht]; omega
    | ⟨1, _⟩ => rfl
  rw [← e]; exact h

theorem result5 (c : Dev nD) : (dats m 0 c).arrAt 5 cfg0.N = val5 m c :=
  (dats m 0 c).arrAt_eq_of_cover 5 (val5 m c) (fun t _ => flushed5 m c t) (cover5)

/-- The reference's value of result 1. -/
def val6 (c : Dev nD) : FVec Ideal S32x512 .f32 :=
  Reference6Ideal.Read.val_main_v17 (F := Ideal) (m ((c : Thread nD τ).loc main_arg0)) (m ((c : Thread nD τ).loc main_arg1)) (m ((c : Thread nD τ).loc main_arg2))

theorem idx6 : ∀ t : Fin cfg0.N, win0_6.index t 0 = t.val ∧ win0_6.index t 1 = 0 := by decide +kernel

theorem tile6 (c : Dev nD) (t : Fin cfg0.N) (l : Fin 32) (j : Fin 512) :
    (out0_6 (F := Ideal) (iblk m c 0 t) (iblk m c 1 t) (iblk m c 2 t) (iblk m c 3 t) (iblk m c 4 t) (ix2 l j) : EReal) = val6 m c (ix2 (row t l) j) := by
  refine (out6_at _ _ _ _ _ l j).trans (Eq.trans ?_ (Reference6Ideal.Read.k_at _ _ _ (row t l) j).symm)
  simp only [nrm, Reference6Ideal.Read.nrm, blk_x, blk_g, blk_w, blk_wr, blk_wl]

theorem emb6 (t : Fin cfg0.N) (l : Fin 32) (k : Fin 512) :
    ((cfg0.win 6).blk t).view.emb (ix2 l k) = (ix2 (row t l) k : S32x512.Idx) := by
  obtain ⟨e0, e1⟩ := idx6 t
  funext a; apply Fin.ext
  match a with
  | ⟨0, _⟩ => show win0_6.index t 0 * 32 + 1 * l.val = t.val * 32 + l.val; rw [e0]; omega
  | ⟨1, _⟩ => show win0_6.index t 1 * 512 + 1 * k.val = k.val; rw [e1]; omega

theorem cut6 (t : Fin cfg0.N) (X : FVec Ideal S32x512 .f32) (G : FVec Ideal S32x512 .f32)
    (hG : ∀ y : S32x512.Idx, X y = G (((cfg0.win 6).blk t).view.emb y)) :
    (cfg0.win 6).cut (grid0.coords t) X = ((cfg0.win 6).blk t).view.read (Elt Ideal) G :=
  funext fun y => hG y

theorem flushed6 (c : Dev nD) (t : Fin cfg0.N) :
    (dats m 0 c).flushed 6 t = ((cfg0.win 6).blk t).view.read (Elt Ideal) (val6 m c) := by
  rw [Value.flushed6]
  refine cut6 t _ (val6 m c) fun y => ?_
  have e : y = ix2 (y 0) (y 1) := by
    funext a
    match a with
    | ⟨0, _⟩ => rfl
    | ⟨1, _⟩ => rfl
  rw [e]
  exact (tile6 m c t (y 0) (y 1)).trans (congrArg (val6 m c) (emb6 t (y 0) (y 1))).symm

theorem flush6 : ∀ t : Fin cfg0.N, (cfg0.win 6).flush t = true := by decide +kernel

theorem cover6 (i : S32x512.Idx) : ∃ t : Fin cfg0.N, (cfg0.win 6).flush t = true ∧ i ∈ ((cfg0.win 6).blk t).view.set := by
  have h0 : (i 0).val < 32 := (i 0).isLt
  have h1 : (i 1).val < 512 := (i 1).isLt
  obtain ⟨t, ht⟩ := point 0 (by omega)
  refine ⟨t, flush6 t, ?_⟩
  have h := ((cfg0.win 6).blk t).view.emb_mem_set (ix2 (⟨(i 0).val, h0⟩ : Fin 32) (⟨(i 1).val, h1⟩ : Fin 512))
  rw [emb6] at h
  have e : (ix2 (row t ⟨(i 0).val, h0⟩) (⟨(i 1).val, h1⟩ : Fin 512) : S32x512.Idx) = i := by
    funext a; apply Fin.ext
    match a with
    | ⟨0, _⟩ => show t.val * 32 + (i 0).val = (i 0).val; rw [ht]; omega
    | ⟨1, _⟩ => rfl
  rw [← e]; exact h

theorem result6 (c : Dev nD) : (dats m 0 c).arrAt 6 cfg0.N = val6 m c :=
  (dats m 0 c).arrAt_eq_of_cover 6 (val6 m c) (fun t _ => flushed6 m c t) (cover6)

/-- The reference's value of result 2. -/
def val7 (c : Dev nD) : FVec Ideal S32x512 .f32 :=
  Reference6Ideal.Read.val_main_v19 (F := Ideal) (m ((c : Thread nD τ).loc main_arg0)) (m ((c : Thread nD τ).loc main_arg1)) (m ((c : Thread nD τ).loc main_arg2))

theorem idx7 : ∀ t : Fin cfg0.N, win0_7.index t 0 = t.val ∧ win0_7.index t 1 = 0 := by decide +kernel

theorem tile7 (c : Dev nD) (t : Fin cfg0.N) (l : Fin 32) (j : Fin 512) :
    (out0_7 (F := Ideal) (iblk m c 0 t) (iblk m c 1 t) (iblk m c 2 t) (iblk m c 3 t) (iblk m c 4 t) (ix2 l j) : EReal) = val7 m c (ix2 (row t l) j) := by
  refine (out7_at _ _ _ _ _ l j).trans (Eq.trans ?_ (Reference6Ideal.Read.v_at _ _ _ (row t l) j).symm)
  simp only [nrm, Reference6Ideal.Read.nrm, blk_x, blk_g, blk_w, blk_wr, blk_wl]

theorem emb7 (t : Fin cfg0.N) (l : Fin 32) (k : Fin 512) :
    ((cfg0.win 7).blk t).view.emb (ix2 l k) = (ix2 (row t l) k : S32x512.Idx) := by
  obtain ⟨e0, e1⟩ := idx7 t
  funext a; apply Fin.ext
  match a with
  | ⟨0, _⟩ => show win0_7.index t 0 * 32 + 1 * l.val = t.val * 32 + l.val; rw [e0]; omega
  | ⟨1, _⟩ => show win0_7.index t 1 * 512 + 1 * k.val = k.val; rw [e1]; omega

theorem cut7 (t : Fin cfg0.N) (X : FVec Ideal S32x512 .f32) (G : FVec Ideal S32x512 .f32)
    (hG : ∀ y : S32x512.Idx, X y = G (((cfg0.win 7).blk t).view.emb y)) :
    (cfg0.win 7).cut (grid0.coords t) X = ((cfg0.win 7).blk t).view.read (Elt Ideal) G :=
  funext fun y => hG y

theorem flushed7 (c : Dev nD) (t : Fin cfg0.N) :
    (dats m 0 c).flushed 7 t = ((cfg0.win 7).blk t).view.read (Elt Ideal) (val7 m c) := by
  rw [Value.flushed7]
  refine cut7 t _ (val7 m c) fun y => ?_
  have e : y = ix2 (y 0) (y 1) := by
    funext a
    match a with
    | ⟨0, _⟩ => rfl
    | ⟨1, _⟩ => rfl
  rw [e]
  exact (tile7 m c t (y 0) (y 1)).trans (congrArg (val7 m c) (emb7 t (y 0) (y 1))).symm

theorem flush7 : ∀ t : Fin cfg0.N, (cfg0.win 7).flush t = true := by decide +kernel

theorem cover7 (i : S32x512.Idx) : ∃ t : Fin cfg0.N, (cfg0.win 7).flush t = true ∧ i ∈ ((cfg0.win 7).blk t).view.set := by
  have h0 : (i 0).val < 32 := (i 0).isLt
  have h1 : (i 1).val < 512 := (i 1).isLt
  obtain ⟨t, ht⟩ := point 0 (by omega)
  refine ⟨t, flush7 t, ?_⟩
  have h := ((cfg0.win 7).blk t).view.emb_mem_set (ix2 (⟨(i 0).val, h0⟩ : Fin 32) (⟨(i 1).val, h1⟩ : Fin 512))
  rw [emb7] at h
  have e : (ix2 (row t ⟨(i 0).val, h0⟩) (⟨(i 1).val, h1⟩ : Fin 512) : S32x512.Idx) = i := by
    funext a; apply Fin.ext
    match a with
    | ⟨0, _⟩ => show t.val * 32 + (i 0).val = (i 0).val; rw [ht]; omega
    | ⟨1, _⟩ => rfl
  rw [← e]; exact h

theorem result7 (c : Dev nD) : (dats m 0 c).arrAt 7 cfg0.N = val7 m c :=
  (dats m 0 c).arrAt_eq_of_cover 7 (val7 m c) (fun t _ => flushed7 m c t) (cover7)

/-- The reference's value of result 3. -/
def val8 (c : Dev nD) : FVec Ideal S32x1536 .f32 :=
  Reference6Ideal.Read.val_main_v25 (F := Ideal) (m ((c : Thread nD τ).loc main_arg0)) (m ((c : Thread nD τ).loc main_arg1)) (m ((c : Thread nD τ).loc main_arg3))

theorem idx8 : ∀ t : Fin cfg0.N, win0_8.index t 0 = t.val ∧ win0_8.index t 1 = 0 := by decide +kernel

theorem tile8 (c : Dev nD) (t : Fin cfg0.N) (l : Fin 32) (j : Fin 1536) :
    (out0_8 (F := Ideal) (iblk m c 0 t) (iblk m c 1 t) (iblk m c 2 t) (iblk m c 3 t) (iblk m c 4 t) (ix2 l j) : EReal) = val8 m c (ix2 (row t l) j) := by
  refine (out8_at _ _ _ _ _ l j).trans (Eq.trans ?_ (Reference6Ideal.Read.rkv_at _ _ _ (row t l) j).symm)
  simp only [nrm, Reference6Ideal.Read.nrm, blk_x, blk_g, blk_w, blk_wr, blk_wl]

theorem emb8 (t : Fin cfg0.N) (l : Fin 32) (k : Fin 1536) :
    ((cfg0.win 8).blk t).view.emb (ix2 l k) = (ix2 (row t l) k : S32x1536.Idx) := by
  obtain ⟨e0, e1⟩ := idx8 t
  funext a; apply Fin.ext
  match a with
  | ⟨0, _⟩ => show win0_8.index t 0 * 32 + 1 * l.val = t.val * 32 + l.val; rw [e0]; omega
  | ⟨1, _⟩ => show win0_8.index t 1 * 1536 + 1 * k.val = k.val; rw [e1]; omega

theorem cut8 (t : Fin cfg0.N) (X : FVec Ideal S32x1536 .f32) (G : FVec Ideal S32x1536 .f32)
    (hG : ∀ y : S32x1536.Idx, X y = G (((cfg0.win 8).blk t).view.emb y)) :
    (cfg0.win 8).cut (grid0.coords t) X = ((cfg0.win 8).blk t).view.read (Elt Ideal) G :=
  funext fun y => hG y

theorem flushed8 (c : Dev nD) (t : Fin cfg0.N) :
    (dats m 0 c).flushed 8 t = ((cfg0.win 8).blk t).view.read (Elt Ideal) (val8 m c) := by
  rw [Value.flushed8]
  refine cut8 t _ (val8 m c) fun y => ?_
  have e : y = ix2 (y 0) (y 1) := by
    funext a
    match a with
    | ⟨0, _⟩ => rfl
    | ⟨1, _⟩ => rfl
  rw [e]
  exact (tile8 m c t (y 0) (y 1)).trans (congrArg (val8 m c) (emb8 t (y 0) (y 1))).symm

theorem flush8 : ∀ t : Fin cfg0.N, (cfg0.win 8).flush t = true := by decide +kernel

theorem cover8 (i : S32x1536.Idx) : ∃ t : Fin cfg0.N, (cfg0.win 8).flush t = true ∧ i ∈ ((cfg0.win 8).blk t).view.set := by
  have h0 : (i 0).val < 32 := (i 0).isLt
  have h1 : (i 1).val < 1536 := (i 1).isLt
  obtain ⟨t, ht⟩ := point 0 (by omega)
  refine ⟨t, flush8 t, ?_⟩
  have h := ((cfg0.win 8).blk t).view.emb_mem_set (ix2 (⟨(i 0).val, h0⟩ : Fin 32) (⟨(i 1).val, h1⟩ : Fin 1536))
  rw [emb8] at h
  have e : (ix2 (row t ⟨(i 0).val, h0⟩) (⟨(i 1).val, h1⟩ : Fin 1536) : S32x1536.Idx) = i := by
    funext a; apply Fin.ext
    match a with
    | ⟨0, _⟩ => show t.val * 32 + (i 0).val = (i 0).val; rw [ht]; omega
    | ⟨1, _⟩ => rfl
  rw [← e]; exact h

theorem result8 (c : Dev nD) : (dats m 0 c).arrAt 8 cfg0.N = val8 m c :=
  (dats m 0 c).arrAt_eq_of_cover 8 (val8 m c) (fun t _ => flushed8 m c t) (cover8)

/-- The reference's value of result 4. -/
def val9 (c : Dev nD) : FVec Ideal S32x384 .f32 :=
  Reference6Ideal.Read.val_main_v26 (F := Ideal) (m ((c : Thread nD τ).loc main_arg0)) (m ((c : Thread nD τ).loc main_arg1)) (m ((c : Thread nD τ).loc main_arg4))

theorem idx9 : ∀ t : Fin cfg0.N, win0_9.index t 0 = t.val ∧ win0_9.index t 1 = 0 := by decide +kernel

theorem tile9 (c : Dev nD) (t : Fin cfg0.N) (l : Fin 32) (j : Fin 384) :
    (out0_9 (F := Ideal) (iblk m c 0 t) (iblk m c 1 t) (iblk m c 2 t) (iblk m c 3 t) (iblk m c 4 t) (ix2 l j) : EReal) = val9 m c (ix2 (row t l) j) := by
  refine (out9_at _ _ _ _ _ l j).trans (Eq.trans ?_ (Reference6Ideal.Read.lora_at _ _ _ (row t l) j).symm)
  simp only [nrm, Reference6Ideal.Read.nrm, blk_x, blk_g, blk_w, blk_wr, blk_wl]

theorem emb9 (t : Fin cfg0.N) (l : Fin 32) (k : Fin 384) :
    ((cfg0.win 9).blk t).view.emb (ix2 l k) = (ix2 (row t l) k : S32x384.Idx) := by
  obtain ⟨e0, e1⟩ := idx9 t
  funext a; apply Fin.ext
  match a with
  | ⟨0, _⟩ => show win0_9.index t 0 * 32 + 1 * l.val = t.val * 32 + l.val; rw [e0]; omega
  | ⟨1, _⟩ => show win0_9.index t 1 * 384 + 1 * k.val = k.val; rw [e1]; omega

theorem cut9 (t : Fin cfg0.N) (X : FVec Ideal S32x384 .f32) (G : FVec Ideal S32x384 .f32)
    (hG : ∀ y : S32x384.Idx, X y = G (((cfg0.win 9).blk t).view.emb y)) :
    (cfg0.win 9).cut (grid0.coords t) X = ((cfg0.win 9).blk t).view.read (Elt Ideal) G :=
  funext fun y => hG y

theorem flushed9 (c : Dev nD) (t : Fin cfg0.N) :
    (dats m 0 c).flushed 9 t = ((cfg0.win 9).blk t).view.read (Elt Ideal) (val9 m c) := by
  rw [Value.flushed9]
  refine cut9 t _ (val9 m c) fun y => ?_
  have e : y = ix2 (y 0) (y 1) := by
    funext a
    match a with
    | ⟨0, _⟩ => rfl
    | ⟨1, _⟩ => rfl
  rw [e]
  exact (tile9 m c t (y 0) (y 1)).trans (congrArg (val9 m c) (emb9 t (y 0) (y 1))).symm

theorem flush9 : ∀ t : Fin cfg0.N, (cfg0.win 9).flush t = true := by decide +kernel

theorem cover9 (i : S32x384.Idx) : ∃ t : Fin cfg0.N, (cfg0.win 9).flush t = true ∧ i ∈ ((cfg0.win 9).blk t).view.set := by
  have h0 : (i 0).val < 32 := (i 0).isLt
  have h1 : (i 1).val < 384 := (i 1).isLt
  obtain ⟨t, ht⟩ := point 0 (by omega)
  refine ⟨t, flush9 t, ?_⟩
  have h := ((cfg0.win 9).blk t).view.emb_mem_set (ix2 (⟨(i 0).val, h0⟩ : Fin 32) (⟨(i 1).val, h1⟩ : Fin 384))
  rw [emb9] at h
  have e : (ix2 (row t ⟨(i 0).val, h0⟩) (⟨(i 1).val, h1⟩ : Fin 384) : S32x384.Idx) = i := by
    funext a; apply Fin.ext
    match a with
    | ⟨0, _⟩ => show t.val * 32 + (i 0).val = (i 0).val; rw [ht]; omega
    | ⟨1, _⟩ => rfl
  rw [← e]; exact h

theorem result9 (c : Dev nD) : (dats m 0 c).arrAt 9 cfg0.N = val9 m c :=
  (dats m 0 c).arrAt_eq_of_cover 9 (val9 m c) (fun t _ => flushed9 m c t) (cover9)

end Cert.Kernel6Ideal.Body

namespace Cert.Proof

open Idealize.ShloMosaic Idealize.ShloMosaic.TcCoe Idealize.SL.Sem

theorem frame_kernel6 : Cert.quiescent_Kernel6 (hKernel6 := Cert.Kernel6.Gen.facts) := fun m g _ =>
  Cert.Kernel6.Gen.frame (F := Bits) m g

theorem frame_kernel6Ideal : Cert.quiescent_Kernel6Ideal (hKernel6Ideal := Cert.Kernel6Ideal.Gen.facts) := fun m g _ =>
  Cert.Kernel6Ideal.Gen.frame (F := Ideal) m g

theorem frame_reference6 : Cert.quiescent_Reference6Ideal (hReference6Ideal := Cert.Reference6Ideal.Gen.facts) := fun m g _ =>
  (θ_run Cert.Reference6Ideal.defs _ _).mono (fun r h => ⟨fun c => (h c).2.2.2.2.2, sem_eq_zero_of_no_sems (by decide) r.2⟩)
    (Cert.Reference6Ideal.Value.run (F := Ideal) m g)

theorem preserves6 : Cert.preserves_Kernel6_Kernel6Ideal :=
  IdealRules.named_const.statement Cert.Kernel6Ideal.κ "q_scale" .f32 0x3E38AA3B#32 ((8⁻¹ * (Real.log 2)⁻¹ : ℝ) : EReal) rfl

theorem algebraic6 : algebraic_Kernel6Ideal_Reference6Ideal := by
  intro m g m' g' _ hargs
  refine ⟨Kernel6Ideal.Body.val5 m, Kernel6Ideal.Body.val6 m, Kernel6Ideal.Body.val7 m, Kernel6Ideal.Body.val8 m, Kernel6Ideal.Body.val9 m, ?_, ?_⟩
  · refine (θ_run Kernel6Ideal.defs _ _).mono (fun r h c => ?_) (Kernel6Ideal.Value.run_blocks m g)
    obtain ⟨h5, h6, h7, h8, h9, hk⟩ := h c
    exact ⟨h5.trans (Kernel6Ideal.Body.result5 m c), h6.trans (Kernel6Ideal.Body.result6 m c), h7.trans (Kernel6Ideal.Body.result7 m c), h8.trans (Kernel6Ideal.Body.result8 m c), h9.trans (Kernel6Ideal.Body.result9 m c), hk⟩
  · refine (θ_run Reference6Ideal.defs _ _).mono (fun r h c => ?_) (Reference6Ideal.Value.run m' g')
    obtain ⟨h5, h6, h7, h8, h9, hk⟩ := h c
    obtain ⟨a0, a1, a2, a3, a4⟩ := hargs c
    refine ⟨h5.trans ?_, h6.trans ?_, h7.trans ?_, h8.trans ?_, h9.trans ?_, hk⟩
    · rw [Reference6Ideal.Read.val_main_v24_eq, a0, a1, a2]; rfl
    · rw [Reference6Ideal.Read.val_main_v17_eq, a0, a1, a2]; rfl
    · rw [Reference6Ideal.Read.val_main_v19_eq, a0, a1, a2]; rfl
    · rw [Reference6Ideal.Read.val_main_v25_eq, a0, a1, a3]; rfl
    · rw [Reference6Ideal.Read.val_main_v26_eq, a0, a1, a4]; rfl

end Cert.Proof

end
-- ==== Proof.CombineSample.lean ====
/-
  The sample group's combining call: its runs, and its result array as the reference's value.
-/
module

public import proofs.«01_k».proof.Proof.Combine
public import proofs.«01_k».proof.Proof.Gen.Kernel7.Value
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

namespace Cert.Kernel7Ideal.Body

open Cert Cert.Kernel7Ideal Cert.Kernel7Ideal.Gen
open Idealize.ShloMosaic Idealize.ShloMosaic.TcCoe Idealize.ShloMosaic.Tactic Idealize.SL.Sem

theorem hz : (![0, 0] : Fin 2 → Nat) = fun _ => 0 := funext fun a => by fin_cases a <;> rfl

theorem out_eq (x y0 y1 : FVec Ideal S32x1024 .f32) (r : FVec Ideal S32x8 .f32) (g : FVec Ideal S1x1024 .f32) :
    out0_5 (F := Ideal) x y0 y1 r g = k0_pay1 (F := Ideal) r x y0 y1 g := by
  unfold out0_5 r0_0 r0_1 r0_2
  rw [View.canon_unit_zero hz]
  simp only [View.ld_unit_zero (S := S32x1024) hz, View.ld_unit_zero (S := S1x1024) hz, View.ld_unit_zero (S := S32x8) hz]

theorem pay_at (x y0 y1 : FVec Ideal S32x1024 .f32) (r : FVec Ideal S32x8 .f32) (g : FVec Ideal S1x1024 .f32) (l : Fin 32) (j : Fin 1024) :
    (k0_pay1 (F := Ideal) r x y0 y1 g (ix2 l j) : EReal)
      = Rows.norm (Rows.comb (fun k => x (ix2 l k)) (fun k => y0 (ix2 l k)) (fun k => y1 (ix2 l k)) (fun k => r (ix2 l k))) (fun k => g (ix2 0 k)) j := by
  pointwise [k0_pay1, Rows.comb, Rows.norm]

variable (m : (ℓ : Loc nD τ sig) → Buf (Elt Ideal) ℓ)

theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx2 : ∀ t : Fin cfg0.N, win0_2.index t 0 = t.val ∧ win0_2.index t 1 = 0 := by decide +kernel
theorem idx3 : ∀ t : Fin cfg0.N, win0_3.index t 0 = t.val ∧ win0_3.index t 1 = 0 := by decide +kernel
theorem idx4 : ∀ t : Fin cfg0.N, win0_4.index t 0 = 0 ∧ win0_4.index t 1 = 0 := by decide +kernel
theorem idx5 : ∀ t : Fin cfg0.N, win0_5.index t 0 = t.val ∧ win0_5.index t 1 = 0 := by decide +kernel

theorem lt1 (t : Fin cfg0.N) : t.val < 1 := lt_of_lt_of_eq t.isLt (show cfg0.N = 1 from N_0)

/-- A row of a point's tile, as a row of the whole. -/
def row (t : Fin cfg0.N) (l : Fin 32) : Fin 32 := ⟨t.val * 32 + l.val, by have := lt1 t; omega⟩

theorem blk_x (c : Dev nD) (t : Fin cfg0.N) (l : Fin 32) (k : Fin 1024) :
    (iblk m c 0 t (ix2 l k) : EReal) = m ((c : Thread nD τ).loc main_arg0) (ix2 (row t l) k) := by
  show V m c main_arg0 (((cfg0.win 0).blk t).view.emb (ix2 l k)) = _
  obtain ⟨e0, e1⟩ := idx0 t
  refine congrArg (m ((c : Thread nD τ).loc main_arg0)) (funext fun a => Fin.ext ?_)
  match a with
  | ⟨0, _⟩ => show win0_0.index t 0 * 32 + 1 * l.val = t.val * 32 + l.val; rw [e0]; omega
  | ⟨1, _⟩ => show win0_0.index t 1 * 1024 + 1 * k.val = k.val; rw [e1]; omega

theorem blk_y0 (c : Dev nD) (t : Fin cfg0.N) (l : Fin 32) (k : Fin 1024) :
    (iblk m c 1 t (ix2 l k) : EReal) = m ((c : Thread nD τ).loc main_arg1) (ix2 (row t l) k) := by
  show V m c main_arg1 (((cfg0.win 1).blk t).view.emb (ix2 l k)) = _
  obtain ⟨e0, e1⟩ := idx1 t
  refine congrArg (m ((c : Thread nD τ).loc main_arg1)) (funext fun a => Fin.ext ?_)
  match a with
  | ⟨0, _⟩ => show win0_1.index t 0 * 32 + 1 * l.val = t.val * 32 + l.val; rw [e0]; omega
  | ⟨1, _⟩ => show win0_1.index t 1 * 1024 + 1 * k.val = k.val; rw [e1]; omega

theorem blk_y1 (c : Dev nD) (t : Fin cfg0.N) (l : Fin 32) (k : Fin 1024) :
    (iblk m c 2 t (ix2 l k) : EReal) = m ((c : Thread nD τ).loc main_arg2) (ix2 (row t l) k) := by
  show V m c main_arg2 (((cfg0.win 2).blk t).view.emb (ix2 l k)) = _
  obtain ⟨e0, e1⟩ := idx2 t
  refine congrArg (m ((c : Thread nD τ).loc main_arg2)) (funext fun a => Fin.ext ?_)
  match a with
  | ⟨0, _⟩ => show win0_2.index t 0 * 32 + 1 * l.val = t.val * 32 + l.val; rw [e0]; omega
  | ⟨1, _⟩ => show win0_2.index t 1 * 1024 + 1 * k.val = k.val; rw [e1]; omega

theorem blk_r (c : Dev nD) (t : Fin cfg0.N) (l : Fin 32) (k : Fin 8) :
    (iblk m c 3 t (ix2 l k) : EReal) = m ((c : Thread nD τ).loc main_arg3) (ix2 (row t l) k) := by
  show V m c main_arg3 (((cfg0.win 3).blk t).view.emb (ix2 l k)) = _
  obtain ⟨e0, e1⟩ := idx3 t
  refine congrArg (m ((c : Thread nD τ).loc main_arg3)) (funext fun a => Fin.ext ?_)
  match a with
  | ⟨0, _⟩ => show win0_3.index t 0 * 32 + 1 * l.val = t.val * 32 + l.val; rw [e0]; omega
  | ⟨1, _⟩ => show win0_3.index t 1 * 8 + 1 * k.val = k.val; rw [e1]; omega

theorem blk_g (c : Dev nD) (t : Fin cfg0.N) (k : Fin 1024) :
    (iblk m c 4 t (ix2 0 k) : EReal) = m ((c : Thread nD τ).loc main_arg4) (ix2 0 k) := by
  show V m c main_arg4 (((cfg0.win 4).blk t).view.emb (ix2 0 k)) = _
  obtain ⟨e0, e1⟩ := idx4 t
  refine congrArg (m ((c : Thread nD τ).loc main_arg4)) (funext fun a => Fin.ext ?_)
  match a with
  | ⟨0, _⟩ => show win0_4.index t 0 * 1 + 1 * 0 = 0; rw [e0]
  | ⟨1, _⟩ => show win0_4.index t 1 * 1024 + 1 * k.val = k.val; rw [e1]; omega

end Cert.Kernel7Ideal.Body

namespace Cert.Reference7Ideal.Read

open Cert Idealize.ShloMosaic Idealize.ShloMosaic.Tactic

theorem sum_at (x y0 y1 : FVec Ideal S32x1024 .f32) (r : FVec Ideal S32x8 .f32) (p : Fin 32) (k : Fin 1024) :
    (val_main_v8 (F := Ideal) x y0 y1 r (ix2 p k) : EReal) = x (ix2 p k) + (y0 (ix2 p k) * r (ix2 p 2) + y1 (ix2 p k) * r (ix2 p 3)) := by
  pointwise [val_main_v8, val_main_v7, val_main_v6, val_main_v5, val_main_v4, val_main_v3, val_main_v2, val_main_v1, val_main_v0]

theorem comb_at (x y0 y1 : FVec Ideal S32x1024 .f32) (r : FVec Ideal S32x8 .f32) (p : Fin 32) (k : Fin 1024) :
    (val_main_v8 (F := Ideal) x y0 y1 r (ix2 p k) : EReal)
      = Rows.comb (fun k => x (ix2 p k)) (fun k => y0 (ix2 p k)) (fun k => y1 (ix2 p k)) (fun k => r (ix2 p k)) k := by
  rw [sum_at]
  unfold Rows.comb
  rw [add_assoc, mul_comm (y0 (ix2 p k) : EReal), mul_comm (y1 (ix2 p k) : EReal)]

theorem out_at (x y0 y1 : FVec Ideal S32x1024 .f32) (r : FVec Ideal S32x8 .f32) (g : FVec Ideal S1x1024 .f32) (p : Fin 32) (k : Fin 1024) :
    (val_main_v22 (F := Ideal) x y0 y1 r g (ix2 p k) : EReal)
      = Rows.norm (Rows.comb (fun k => x (ix2 p k)) (fun k => y0 (ix2 p k)) (fun k => y1 (ix2 p k)) (fun k => r (ix2 p k))) (fun k => g (ix2 0 k)) k := by
  unfold Rows.norm
  pointwise [val_main_v22, val_main_v21, val_main_v20, val_main_v9, val_main_v19, val_main_v18, val_main_v17, val_main_v16, val_main_v15, val_main_cst_1, val_main_v14, val_main_v13, val_main_cst_0, val_main_v12, val_main_v11, val_main_cst, val_main_v10, comb_at]

end Cert.Reference7Ideal.Read

namespace Cert.Kernel7Ideal.Body

open Cert Cert.Kernel7Ideal Cert.Kernel7Ideal.Gen
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg)

/-- The reference's value of the arguments. -/
def val (c : Dev nD) : FVec Ideal S32x1024 .f32 :=
  Reference7Ideal.Read.val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4))

theorem tile_at (c : Dev nD) (t : Fin cfg0.N) (l : Fin 32) (j : Fin 1024) :
    out0_5 (F := Ideal) (iblk m c 0 t) (iblk m c 1 t) (iblk m c 2 t) (iblk m c 3 t) (iblk m c 4 t) (ix2 l j) = val m c (ix2 (row t l) j) := by
  rw [out_eq]
  refine (pay_at _ _ _ _ _ l j).trans (Eq.trans ?_ (Reference7Ideal.Read.out_at _ _ _ _ _ (row t l) j).symm)
  simp only [blk_x, blk_y0, blk_y1, blk_r, blk_g]

theorem emb5 (t : Fin cfg0.N) (l : Fin 32) (k : Fin 1024) :
    ((cfg0.win 5).blk t).view.emb (ix2 l k) = (ix2 (row t l) k : S32x1024.Idx) := by
  obtain ⟨e0, e1⟩ := idx5 t
  funext a; apply Fin.ext
  match a with
  | ⟨0, _⟩ => show win0_5.index t 0 * 32 + 1 * l.val = t.val * 32 + l.val; rw [e0]; omega
  | ⟨1, _⟩ => show win0_5.index t 1 * 1024 + 1 * k.val = k.val; rw [e1]; omega

theorem cut_read (t : Fin cfg0.N) (X : FVec Ideal S32x1024 .f32) (G : FVec Ideal S32x1024 .f32)
    (hG : ∀ y : S32x1024.Idx, X y = G (((cfg0.win 5).blk t).view.emb y)) :
    (cfg0.win 5).cut (grid0.coords t) X = ((cfg0.win 5).blk t).view.read (Elt Ideal) G :=
  funext fun y => hG y

theorem flushed_eq (c : Dev nD) (t : Fin cfg0.N) :
    (dats m 0 c).flushed 5 t = ((cfg0.win 5).blk t).view.read (Elt Ideal) (val m c) := by
  rw [Value.flushed5]
  refine cut_read t _ (val m c) fun y => ?_
  have e : y = ix2 (y 0) (y 1) := by
    funext a
    match a with
    | ⟨0, _⟩ => rfl
    | ⟨1, _⟩ => rfl
  rw [e]
  exact (tile_at m c t (y 0) (y 1)).trans (congrArg (val m c) (emb5 t (y 0) (y 1))).symm

theorem flush5 : ∀ t : Fin cfg0.N, (cfg0.win 5).flush t = true := by decide +kernel

theorem cover (i : S32x1024.Idx) : ∃ t : Fin cfg0.N, (cfg0.win 5).flush t = true ∧ i ∈ ((cfg0.win 5).blk t).view.set := by
  have h0 : (i 0).val < 32 := (i 0).isLt
  have h1 : (i 1).val < 1024 := (i 1).isLt
  obtain ⟨t, ht⟩ : ∃ t : Fin cfg0.N, t.val = (i 0).val / 32 := ⟨⟨(i 0).val / 32, lt_of_lt_of_eq (by omega) (show cfg0.N = 1 from N_0).symm⟩, rfl⟩
  refine ⟨t, flush5 t, ?_⟩
  have h := ((cfg0.win 5).blk t).view.emb_mem_set (ix2 (⟨(i 0).val % 32, by omega⟩ : Fin 32) (⟨(i 1).val, h1⟩ : Fin 1024))
  rw [emb5] at h
  have e : (ix2 (row t ⟨(i 0).val % 32, by omega⟩) (⟨(i 1).val, h1⟩ : Fin 1024) : S32x1024.Idx) = i := by
    funext a; apply Fin.ext
    match a with
    | ⟨0, _⟩ => show t.val * 32 + (i 0).val % 32 = (i 0).val; rw [ht]; omega
    | ⟨1, _⟩ => rfl
  rw [← e]; exact h

theorem result (c : Dev nD) : (dats m 0 c).arrAt 5 cfg0.N = val m c :=
  (dats m 0 c).arrAt_eq_of_cover 5 (val m c) (fun t _ => flushed_eq m c t) cover

end Cert.Kernel7Ideal.Body

namespace Cert.Proof

open Idealize.ShloMosaic Idealize.ShloMosaic.TcCoe Idealize.SL.Sem

theorem frame_kernel7 : Cert.quiescent_Kernel7 (hKernel7 := Cert.Kernel7.Gen.facts) := fun m g _ =>
  Cert.Kernel7.Gen.frame (F := Bits) m g

theorem frame_kernel7Ideal : Cert.quiescent_Kernel7Ideal (hKernel7Ideal := Cert.Kernel7Ideal.Gen.facts) := fun m g _ =>
  Cert.Kernel7Ideal.Gen.frame (F := Ideal) m g

theorem frame_reference7 : Cert.quiescent_Reference7Ideal (hReference7Ideal := Cert.Reference7Ideal.Gen.facts) := fun m g _ =>
  (θ_run Cert.Reference7Ideal.defs _ _).mono (fun r h => ⟨fun c => (h c).2, sem_eq_zero_of_no_sems (by decide) r.2⟩)
    (Cert.Reference7Ideal.Value.run (F := Ideal) m g)

theorem algebraic7 : algebraic_Kernel7Ideal_Reference7Ideal := by
  intro m g m' g' _ hargs
  refine ⟨fun c => Kernel7Ideal.Body.val m c, ?_, ?_⟩
  · exact (θ_run Kernel7Ideal.defs _ _).mono (fun r h c => ⟨(h c).1.trans (Kernel7Ideal.Body.result m c), (h c).2⟩) (Kernel7Ideal.Value.run_blocks m g)
  · refine (θ_run Reference7Ideal.defs _ _).mono (fun r h c => ⟨(h c).1.trans ?_, (h c).2⟩) (Reference7Ideal.Value.run m' g')
    obtain ⟨a0, a1, a2, a3, a4⟩ := hargs c
    rw [Reference7Ideal.Read.val_main_v22_eq, a0, a1, a2, a3, a4]
    rfl

end Cert.Proof

end
-- ==== Proof.lean ====
/-
  The certificate's claim.
-/
module

public import proofs.«01_k».proof.Defs
public import proofs.«01_k».proof.Proof.Frames
public import proofs.«01_k».proof.Proof.Algebraic
public import proofs.«01_k».proof.Proof.FfnValue
public import proofs.«01_k».proof.Proof.Merge
public import proofs.«01_k».proof.Proof.ProjValue
public import proofs.«01_k».proof.Proof.Combine
public import proofs.«01_k».proof.Proof.ProjSample
public import proofs.«01_k».proof.Proof.CombineSample

@[expose] public section

noncomputable section

namespace Cert.Proof

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Kernel7.Gen.facts, Cert.Kernel7Ideal.Gen.facts, Cert.Reference7Ideal.Gen.facts, Cert.Pre_finite.Gen.facts,
  frame_kernel, frame_kernelIdeal, fun m g _ => frame_kernelIdeal m g trivial, frame_reference, fun m g _ => frame_reference m g trivial,
  frame_kernel2, frame_kernel2Ideal, frame_reference2, frame_kernel3, frame_kernel3Ideal, frame_reference3, frame_kernel4, frame_kernel4Ideal, frame_reference4, frame_kernel5, frame_kernel5Ideal, frame_reference5,
  frame_kernel6, frame_kernel6Ideal, frame_reference6, frame_kernel7, frame_kernel7Ideal, frame_reference7,
  preserves, algebraic, trivial, algebraic2, trivial, algebraic3, preserves4, algebraic4, trivial, algebraic5, preserves6, algebraic6, trivial, algebraic7⟩

end Cert.Proof

end
